-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxReferenceIdeal (m : (ℓ : Loc Cert.InProjDxReferenceIdeal.nD Cert.InProjDxReferenceIdeal.τ Cert.InProjDxReferenceIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwReferenceIdeal (m : (ℓ : Loc Cert.InProjDwReferenceIdeal.nD Cert.InProjDwReferenceIdeal.τ Cert.InProjDwReferenceIdeal.sig) → Buf (Elt Ideal) ℓ) : Prop :=
  True

def Pre_GateProjDx (m : (ℓ : Loc Cert.GateProjDx.nD Cert.GateProjDx.τ Cert.GateProjDx.sig) → Buf (Elt Bits) ℓ) : Prop :=
  True

def Pre_GateProjDxIdeal (m : (ℓ : Loc Cert.GateProjDxIdeal.nD Cert.GateProjDxIdeal.τ Cert.GateProjDxIdeal.sig) → Buf (Elt Ideal) ℓ) : Prop :=
  True

def Pre_GateProjDxReferenceIdeal (m : (ℓ : Loc Cert.GateProjDxReferenceIdeal.nD Cert.GateProjDxReferenceIdeal.τ Cert.GateProjDxReferenceIdeal.sig) → Buf (Elt Ideal) ℓ) : Prop :=
  True

def Pre_GateProjDw (m : (ℓ : Loc Cert.GateProjDw.nD Cert.GateProjDw.τ Cert.GateProjDw.sig) → Buf (Elt Bits) ℓ) : Prop :=
  True

def Pre_GateProjDwIdeal (m : (ℓ : Loc Cert.GateProjDwIdeal.nD Cert.GateProjDwIdeal.τ Cert.GateProjDwIdeal.sig) → Buf (Elt Ideal) ℓ) : Prop :=
  True

def Pre_GateProjDwReferenceIdeal (m : (ℓ : Loc Cert.GateProjDwReferenceIdeal.nD Cert.GateProjDwReferenceIdeal.τ Cert.GateProjDwReferenceIdeal.sig) → Buf (Elt Ideal) ℓ) : Prop :=
  True

def Pre_BranchProjDx (m : (ℓ : Loc Cert.BranchProjDx.nD Cert.BranchProjDx.τ Cert.BranchProjDx.sig) → Buf (Elt Bits) ℓ) : Prop :=
  True

def Pre_BranchProjDxIdeal (m : (ℓ : Loc Cert.BranchProjDxIdeal.nD Cert.BranchProjDxIdeal.τ Cert.BranchProjDxIdeal.sig) → Buf (Elt Ideal) ℓ) : Prop :=
  True

def Pre_BranchProjDxReferenceIdeal (m : (ℓ : Loc Cert.BranchProjDxReferenceIdeal.nD Cert.BranchProjDxReferenceIdeal.τ Cert.BranchProjDxReferenceIdeal.sig) → Buf (Elt Ideal) ℓ) : Prop :=
  True

def Pre_BranchProjDw (m : (ℓ : Loc Cert.BranchProjDw.nD Cert.BranchProjDw.τ Cert.BranchProjDw.sig) → Buf (Elt Bits) ℓ) : Prop :=
  True

def Pre_BranchProjDwIdeal (m : (ℓ : Loc Cert.BranchProjDwIdeal.nD Cert.BranchProjDwIdeal.τ Cert.BranchProjDwIdeal.sig) → Buf (Elt Ideal) ℓ) : Prop :=
  True

def Pre_BranchProjDwReferenceIdeal (m : (ℓ : Loc Cert.BranchProjDwReferenceIdeal.nD Cert.BranchProjDwReferenceIdeal.τ Cert.BranchProjDwReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjReferenceIdeal (m : (ℓ : Loc Cert.GateProjReferenceIdeal.nD Cert.GateProjReferenceIdeal.τ Cert.GateProjReferenceIdeal.sig) → Buf (Elt Ideal) ℓ) : Prop :=
  True

def Pre_BranchProj (m : (ℓ : Loc Cert.BranchProj.nD Cert.BranchProj.τ Cert.BranchProj.sig) → Buf (Elt Bits) ℓ) : Prop :=
  True

def Pre_BranchProjIdeal (m : (ℓ : Loc Cert.BranchProjIdeal.nD Cert.BranchProjIdeal.τ Cert.BranchProjIdeal.sig) → Buf (Elt Ideal) ℓ) : Prop :=
  True

def Pre_BranchProjReferenceIdeal (m : (ℓ : Loc Cert.BranchProjReferenceIdeal.nD Cert.BranchProjReferenceIdeal.τ Cert.BranchProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_scores [hPre_finite_scores : Cert.Pre_finite_scores.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_scores.fn (F := Ideal) (m ((c.tc : Thread Cert.SbFwdIdeal.nD Cert.SbFwdIdeal.τ).loc Cert.SbFwdIdeal.main_arg0))) = (fun _ => 1#1)

def Pre_SbFwdReferenceIdeal (m : (ℓ : Loc Cert.SbFwdReferenceIdeal.nD Cert.SbFwdReferenceIdeal.τ Cert.SbFwdReferenceIdeal.sig) → Buf (Elt Ideal) ℓ) : Prop :=
  True

def Pre_SbFwdReferenceIdeal_finite_scores [hPre_finite_scores : Cert.Pre_finite_scores.Facts] (m : (ℓ : Loc Cert.SbFwdReferenceIdeal.nD Cert.SbFwdReferenceIdeal.τ Cert.SbFwdReferenceIdeal.sig) → Buf (Elt Ideal) ℓ) : Prop :=
  ∀ c : Dev Cert.SbFwdReferenceIdeal.nD,
    (Cert.Pre_finite_scores.fn (F := Ideal) (m ((c.tc : Thread Cert.SbFwdReferenceIdeal.nD Cert.SbFwdReferenceIdeal.τ).loc Cert.SbFwdReferenceIdeal.main_arg0))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_DilGateBwd (m : (ℓ : Loc Cert.DilGateBwd.nD Cert.DilGateBwd.τ Cert.DilGateBwd.sig) → Buf (Elt Bits) ℓ) : Prop :=
  True

def Pre_DilGateBwdIdeal (m : (ℓ : Loc Cert.DilGateBwdIdeal.nD Cert.DilGateBwdIdeal.τ Cert.DilGateBwdIdeal.sig) → Buf (Elt Ideal) ℓ) : Prop :=
  True

def Pre_DilGateBwdIdeal_finite_gated [hPre_finite_gated : Cert.Pre_finite_gated.Facts] (m : (ℓ : Loc Cert.DilGateBwdIdeal.nD Cert.DilGateBwdIdeal.τ Cert.DilGateBwdIdeal.sig) → Buf (Elt Ideal) ℓ) : Prop :=
  ∀ c : Dev Cert.DilGateBwdIdeal.nD,
    (Cert.Pre_finite_gated.fn (F := Ideal) (m ((c.tc : Thread Cert.DilGateBwdIdeal.nD Cert.DilGateBwdIdeal.τ).loc Cert.DilGateBwdIdeal.main_arg0)) (m ((c.tc : Thread Cert.DilGateBwdIdeal.nD Cert.DilGateBwdIdeal.τ).loc Cert.DilGateBwdIdeal.main_arg1)) (m ((c.tc : Thread Cert.DilGateBwdIdeal.nD Cert.DilGateBwdIdeal.τ).loc Cert.DilGateBwdIdeal.main_arg2))) = (fun _ => 1#1)

def Pre_DilGateBwdReferenceIdeal (m : (ℓ : Loc Cert.DilGateBwdReferenceIdeal.nD Cert.DilGateBwdReferenceIdeal.τ Cert.DilGateBwdReferenceIdeal.sig) → Buf (Elt Ideal) ℓ) : Prop :=
  True

def Pre_DilGateBwdReferenceIdeal_finite_gated [hPre_finite_gated : Cert.Pre_finite_gated.Facts] (m : (ℓ : Loc Cert.DilGateBwdReferenceIdeal.nD Cert.DilGateBwdReferenceIdeal.τ Cert.DilGateBwdReferenceIdeal.sig) → Buf (Elt Ideal) ℓ) : Prop :=
  ∀ c : Dev Cert.DilGateBwdReferenceIdeal.nD,
    (Cert.Pre_finite_gated.fn (F := Ideal) (m ((c.tc : Thread Cert.DilGateBwdReferenceIdeal.nD Cert.DilGateBwdReferenceIdeal.τ).loc Cert.DilGateBwdReferenceIdeal.main_arg0)) (m ((c.tc : Thread Cert.DilGateBwdReferenceIdeal.nD Cert.DilGateBwdReferenceIdeal.τ).loc Cert.DilGateBwdReferenceIdeal.main_arg1)) (m ((c.tc : Thread Cert.DilGateBwdReferenceIdeal.nD Cert.DilGateBwdReferenceIdeal.τ).loc Cert.DilGateBwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ r.2.sem = fun _ => 0)

def quiescent_InProjDxReferenceIdeal [hInProjDxReferenceIdeal : Cert.InProjDxReferenceIdeal.Facts] : Prop :=
  ∀ (m : (ℓ : Loc Cert.InProjDxReferenceIdeal.nD Cert.InProjDxReferenceIdeal.τ Cert.InProjDxReferenceIdeal.sig) → Buf (Elt Ideal) ℓ) (g : Dev Cert.InProjDxReferenceIdeal.nD → PrngReg), Pre_InProjDxReferenceIdeal m →
    θ_run (Cert.InProjDxReferenceIdeal.defs (F := Ideal)) (onTc (τ := Cert.InProjDxReferenceIdeal.τ) (Cert.InProjDxReferenceIdeal.main (F := Ideal))) ⟨m, fun _ => 0, g⟩ (fun r => (∀ c : Dev Cert.InProjDxReferenceIdeal.nD,
      r.2.mem ((c.tc : Thread Cert.InProjDxReferenceIdeal.nD Cert.InProjDxReferenceIdeal.τ).loc Cert.InProjDxReferenceIdeal.main_arg0) = m ((c.tc : Thread Cert.InProjDxReferenceIdeal.nD Cert.InProjDxReferenceIdeal.τ).loc Cert.InProjDxReferenceIdeal.main_arg0)
      ∧ r.2.mem ((c.tc : Thread Cert.InProjDxReferenceIdeal.nD Cert.InProjDxReferenceIdeal.τ).loc Cert.InProjDxReferenceIdeal.main_arg1) = m ((c.tc : Thread Cert.InProjDxReferenceIdeal.nD Cert.InProjDxReferenceIdeal.τ).loc Cert.InProjDxReferenceIdeal.main_arg1)
      ∧ r.2.mem ((c.tc : Thread Cert.InProjDxReferenceIdeal.nD Cert.InProjDxReferenceIdeal.τ).loc Cert.InProjDxReferenceIdeal.main_arg2) = m ((c.tc : Thread Cert.InProjDxReferenceIdeal.nD Cert.InProjDxReferenceIdeal.τ).loc Cert.InProjDxReferenceIdeal.main_arg2))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwReferenceIdeal [hInProjDwReferenceIdeal : Cert.InProjDwReferenceIdeal.Facts] : Prop :=
  ∀ (m : (ℓ : Loc Cert.InProjDwReferenceIdeal.nD Cert.InProjDwReferenceIdeal.τ Cert.InProjDwReferenceIdeal.sig) → Buf (Elt Ideal) ℓ) (g : Dev Cert.InProjDwReferenceIdeal.nD → PrngReg), Pre_InProjDwReferenceIdeal m →
    θ_run (Cert.InProjDwReferenceIdeal.defs (F := Ideal)) (onTc (τ := Cert.InProjDwReferenceIdeal.τ) (Cert.InProjDwReferenceIdeal.main (F := Ideal))) ⟨m, fun _ => 0, g⟩ (fun r => (∀ c : Dev Cert.InProjDwReferenceIdeal.nD,
      r.2.mem ((c.tc : Thread Cert.InProjDwReferenceIdeal.nD Cert.InProjDwReferenceIdeal.τ).loc Cert.InProjDwReferenceIdeal.main_arg0) = m ((c.tc : Thread Cert.InProjDwReferenceIdeal.nD Cert.InProjDwReferenceIdeal.τ).loc Cert.InProjDwReferenceIdeal.main_arg0)
      ∧ r.2.mem ((c.tc : Thread Cert.InProjDwReferenceIdeal.nD Cert.InProjDwReferenceIdeal.τ).loc Cert.InProjDwReferenceIdeal.main_arg1) = m ((c.tc : Thread Cert.InProjDwReferenceIdeal.nD Cert.InProjDwReferenceIdeal.τ).loc Cert.InProjDwReferenceIdeal.main_arg1))
      ∧ r.2.sem = fun _ => 0)

def quiescent_GateProjDx [hGateProjDx : Cert.GateProjDx.Facts] : Prop :=
  ∀ (m : (ℓ : Loc Cert.GateProjDx.nD Cert.GateProjDx.τ Cert.GateProjDx.sig) → Buf (Elt Bits) ℓ) (g : Dev Cert.GateProjDx.nD → PrngReg), Pre_GateProjDx m →
    θ_run (Cert.GateProjDx.defs (F := Bits)) (onTc (τ := Cert.GateProjDx.τ) (Cert.GateProjDx.main (F := Bits))) ⟨m, fun _ => 0, g⟩ (fun r => (∀ c : Dev Cert.GateProjDx.nD,
      r.2.mem ((c.tc : Thread Cert.GateProjDx.nD Cert.GateProjDx.τ).loc Cert.GateProjDx.main_arg0) = m ((c.tc : Thread Cert.GateProjDx.nD Cert.GateProjDx.τ).loc Cert.GateProjDx.main_arg0)
      ∧ r.2.mem ((c.tc : Thread Cert.GateProjDx.nD Cert.GateProjDx.τ).loc Cert.GateProjDx.main_arg1) = m ((c.tc : Thread Cert.GateProjDx.nD Cert.GateProjDx.τ).loc Cert.GateProjDx.main_arg1))
      ∧ r.2.sem = fun _ => 0)

def quiescent_GateProjDxIdeal [hGateProjDxIdeal : Cert.GateProjDxIdeal.Facts] : Prop :=
  ∀ (m : (ℓ : Loc Cert.GateProjDxIdeal.nD Cert.GateProjDxIdeal.τ Cert.GateProjDxIdeal.sig) → Buf (Elt Ideal) ℓ) (g : Dev Cert.GateProjDxIdeal.nD → PrngReg), Pre_GateProjDxIdeal m →
    θ_run (Cert.GateProjDxIdeal.defs (F := Ideal)) (onTc (τ := Cert.GateProjDxIdeal.τ) (Cert.GateProjDxIdeal.main (F := Ideal))) ⟨m, fun _ => 0, g⟩ (fun r => (∀ c : Dev Cert.GateProjDxIdeal.nD,
      r.2.mem ((c.tc : Thread Cert.GateProjDxIdeal.nD Cert.GateProjDxIdeal.τ).loc Cert.GateProjDxIdeal.main_arg0) = m ((c.tc : Thread Cert.GateProjDxIdeal.nD Cert.GateProjDxIdeal.τ).loc Cert.GateProjDxIdeal.main_arg0)
      ∧ r.2.mem ((c.tc : Thread Cert.GateProjDxIdeal.nD Cert.GateProjDxIdeal.τ).loc Cert.GateProjDxIdeal.main_arg1) = m ((c.tc : Thread Cert.GateProjDxIdeal.nD Cert.GateProjDxIdeal.τ).loc Cert.GateProjDxIdeal.main_arg1))
      ∧ r.2.sem = fun _ => 0)

def quiescent_GateProjDxReferenceIdeal [hGateProjDxReferenceIdeal : Cert.GateProjDxReferenceIdeal.Facts] : Prop :=
  ∀ (m : (ℓ : Loc Cert.GateProjDxReferenceIdeal.nD Cert.GateProjDxReferenceIdeal.τ Cert.GateProjDxReferenceIdeal.sig) → Buf (Elt Ideal) ℓ) (g : Dev Cert.GateProjDxReferenceIdeal.nD → PrngReg), Pre_GateProjDxReferenceIdeal m →
    θ_run (Cert.GateProjDxReferenceIdeal.defs (F := Ideal)) (onTc (τ := Cert.GateProjDxReferenceIdeal.τ) (Cert.GateProjDxReferenceIdeal.main (F := Ideal))) ⟨m, fun _ => 0, g⟩ (fun r => (∀ c : Dev Cert.GateProjDxReferenceIdeal.nD,
      r.2.mem ((c.tc : Thread Cert.GateProjDxReferenceIdeal.nD Cert.GateProjDxReferenceIdeal.τ).loc Cert.GateProjDxReferenceIdeal.main_arg0) = m ((c.tc : Thread Cert.GateProjDxReferenceIdeal.nD Cert.GateProjDxReferenceIdeal.τ).loc Cert.GateProjDxReferenceIdeal.main_arg0)
      ∧ r.2.mem ((c.tc : Thread Cert.GateProjDxReferenceIdeal.nD Cert.GateProjDxReferenceIdeal.τ).loc Cert.GateProjDxReferenceIdeal.main_arg1) = m ((c.tc : Thread Cert.GateProjDxReferenceIdeal.nD Cert.GateProjDxReferenceIdeal.τ).loc Cert.GateProjDxReferenceIdeal.main_arg1))
      ∧ r.2.sem = fun _ => 0)

def quiescent_GateProjDw [hGateProjDw : Cert.GateProjDw.Facts] : Prop :=
  ∀ (m : (ℓ : Loc Cert.GateProjDw.nD Cert.GateProjDw.τ Cert.GateProjDw.sig) → Buf (Elt Bits) ℓ) (g : Dev Cert.GateProjDw.nD → PrngReg), Pre_GateProjDw m →
    θ_run (Cert.GateProjDw.defs (F := Bits)) (onTc (τ := Cert.GateProjDw.τ) (Cert.GateProjDw.main (F := Bits))) ⟨m, fun _ => 0, g⟩ (fun r => (∀ c : Dev Cert.GateProjDw.nD,
      r.2.mem ((c.tc : Thread Cert.GateProjDw.nD Cert.GateProjDw.τ).loc Cert.GateProjDw.main_arg0) = m ((c.tc : Thread Cert.GateProjDw.nD Cert.GateProjDw.τ).loc Cert.GateProjDw.main_arg0)
      ∧ r.2.mem ((c.tc : Thread Cert.GateProjDw.nD Cert.GateProjDw.τ).loc Cert.GateProjDw.main_arg1) = m ((c.tc : Thread Cert.GateProjDw.nD Cert.GateProjDw.τ).loc Cert.GateProjDw.main_arg1))
      ∧ r.2.sem = fun _ => 0)

def quiescent_GateProjDwIdeal [hGateProjDwIdeal : Cert.GateProjDwIdeal.Facts] : Prop :=
  ∀ (m : (ℓ : Loc Cert.GateProjDwIdeal.nD Cert.GateProjDwIdeal.τ Cert.GateProjDwIdeal.sig) → Buf (Elt Ideal) ℓ) (g : Dev Cert.GateProjDwIdeal.nD → PrngReg), Pre_GateProjDwIdeal m →
    θ_run (Cert.GateProjDwIdeal.defs (F := Ideal)) (onTc (τ := Cert.GateProjDwIdeal.τ) (Cert.GateProjDwIdeal.main (F := Ideal))) ⟨m, fun _ => 0, g⟩ (fun r => (∀ c : Dev Cert.GateProjDwIdeal.nD,
      r.2.mem ((c.tc : Thread Cert.GateProjDwIdeal.nD Cert.GateProjDwIdeal.τ).loc Cert.GateProjDwIdeal.main_arg0) = m ((c.tc : Thread Cert.GateProjDwIdeal.nD Cert.GateProjDwIdeal.τ).loc Cert.GateProjDwIdeal.main_arg0)
      ∧ r.2.mem ((c.tc : Thread Cert.GateProjDwIdeal.nD Cert.GateProjDwIdeal.τ).loc Cert.GateProjDwIdeal.main_arg1) = m ((c.tc : Thread Cert.GateProjDwIdeal.nD Cert.GateProjDwIdeal.τ).loc Cert.GateProjDwIdeal.main_arg1))
      ∧ r.2.sem = fun _ => 0)

def quiescent_GateProjDwReferenceIdeal [hGateProjDwReferenceIdeal : Cert.GateProjDwReferenceIdeal.Facts] : Prop :=
  ∀ (m : (ℓ : Loc Cert.GateProjDwReferenceIdeal.nD Cert.GateProjDwReferenceIdeal.τ Cert.GateProjDwReferenceIdeal.sig) → Buf (Elt Ideal) ℓ) (g : Dev Cert.GateProjDwReferenceIdeal.nD → PrngReg), Pre_GateProjDwReferenceIdeal m →
    θ_run (Cert.GateProjDwReferenceIdeal.defs (F := Ideal)) (onTc (τ := Cert.GateProjDwReferenceIdeal.τ) (Cert.GateProjDwReferenceIdeal.main (F := Ideal))) ⟨m, fun _ => 0, g⟩ (fun r => (∀ c : Dev Cert.GateProjDwReferenceIdeal.nD,
      r.2.mem ((c.tc : Thread Cert.GateProjDwReferenceIdeal.nD Cert.GateProjDwReferenceIdeal.τ).loc Cert.GateProjDwReferenceIdeal.main_arg0) = m ((c.tc : Thread Cert.GateProjDwReferenceIdeal.nD Cert.GateProjDwReferenceIdeal.τ).loc Cert.GateProjDwReferenceIdeal.main_arg0)
      ∧ r.2.mem ((c.tc : Thread Cert.GateProjDwReferenceIdeal.nD Cert.GateProjDwReferenceIdeal.τ).loc Cert.GateProjDwReferenceIdeal.main_arg1) = m ((c.tc : Thread Cert.GateProjDwReferenceIdeal.nD Cert.GateProjDwReferenceIdeal.τ).loc Cert.GateProjDwReferenceIdeal.main_arg1))
      ∧ r.2.sem = fun _ => 0)

def quiescent_BranchProjDx [hBranchProjDx : Cert.BranchProjDx.Facts] : Prop :=
  ∀ (m : (ℓ : Loc Cert.BranchProjDx.nD Cert.BranchProjDx.τ Cert.BranchProjDx.sig) → Buf (Elt Bits) ℓ) (g : Dev Cert.BranchProjDx.nD → PrngReg), Pre_BranchProjDx m →
    θ_run (Cert.BranchProjDx.defs (F := Bits)) (onTc (τ := Cert.BranchProjDx.τ) (Cert.BranchProjDx.main (F := Bits))) ⟨m, fun _ => 0, g⟩ (fun r => (∀ c : Dev Cert.BranchProjDx.nD,
      r.2.mem ((c.tc : Thread Cert.BranchProjDx.nD Cert.BranchProjDx.τ).loc Cert.BranchProjDx.main_arg0) = m ((c.tc : Thread Cert.BranchProjDx.nD Cert.BranchProjDx.τ).loc Cert.BranchProjDx.main_arg0)
      ∧ r.2.mem ((c.tc : Thread Cert.BranchProjDx.nD Cert.BranchProjDx.τ).loc Cert.BranchProjDx.main_arg1) = m ((c.tc : Thread Cert.BranchProjDx.nD Cert.BranchProjDx.τ).loc Cert.BranchProjDx.main_arg1))
      ∧ r.2.sem = fun _ => 0)

def quiescent_BranchProjDxIdeal [hBranchProjDxIdeal : Cert.BranchProjDxIdeal.Facts] : Prop :=
  ∀ (m : (ℓ : Loc Cert.BranchProjDxIdeal.nD Cert.BranchProjDxIdeal.τ Cert.BranchProjDxIdeal.sig) → Buf (Elt Ideal) ℓ) (g : Dev Cert.BranchProjDxIdeal.nD → PrngReg), Pre_BranchProjDxIdeal m →
    θ_run (Cert.BranchProjDxIdeal.defs (F := Ideal)) (onTc (τ := Cert.BranchProjDxIdeal.τ) (Cert.BranchProjDxIdeal.main (F := Ideal))) ⟨m, fun _ => 0, g⟩ (fun r => (∀ c : Dev Cert.BranchProjDxIdeal.nD,
      r.2.mem ((c.tc : Thread Cert.BranchProjDxIdeal.nD Cert.BranchProjDxIdeal.τ).loc Cert.BranchProjDxIdeal.main_arg0) = m ((c.tc : Thread Cert.BranchProjDxIdeal.nD Cert.BranchProjDxIdeal.τ).loc Cert.BranchProjDxIdeal.main_arg0)
      ∧ r.2.mem ((c.tc : Thread Cert.BranchProjDxIdeal.nD Cert.BranchProjDxIdeal.τ).loc Cert.BranchProjDxIdeal.main_arg1) = m ((c.tc : Thread Cert.BranchProjDxIdeal.nD Cert.BranchProjDxIdeal.τ).loc Cert.BranchProjDxIdeal.main_arg1))
      ∧ r.2.sem = fun _ => 0)

def quiescent_BranchProjDxReferenceIdeal [hBranchProjDxReferenceIdeal : Cert.BranchProjDxReferenceIdeal.Facts] : Prop :=
  ∀ (m : (ℓ : Loc Cert.BranchProjDxReferenceIdeal.nD Cert.BranchProjDxReferenceIdeal.τ Cert.BranchProjDxReferenceIdeal.sig) → Buf (Elt Ideal) ℓ) (g : Dev Cert.BranchProjDxReferenceIdeal.nD → PrngReg), Pre_BranchProjDxReferenceIdeal m →
    θ_run (Cert.BranchProjDxReferenceIdeal.defs (F := Ideal)) (onTc (τ := Cert.BranchProjDxReferenceIdeal.τ) (Cert.BranchProjDxReferenceIdeal.main (F := Ideal))) ⟨m, fun _ => 0, g⟩ (fun r => (∀ c : Dev Cert.BranchProjDxReferenceIdeal.nD,
      r.2.mem ((c.tc : Thread Cert.BranchProjDxReferenceIdeal.nD Cert.BranchProjDxReferenceIdeal.τ).loc Cert.BranchProjDxReferenceIdeal.main_arg0) = m ((c.tc : Thread Cert.BranchProjDxReferenceIdeal.nD Cert.BranchProjDxReferenceIdeal.τ).loc Cert.BranchProjDxReferenceIdeal.main_arg0)
      ∧ r.2.mem ((c.tc : Thread Cert.BranchProjDxReferenceIdeal.nD Cert.BranchProjDxReferenceIdeal.τ).loc Cert.BranchProjDxReferenceIdeal.main_arg1) = m ((c.tc : Thread Cert.BranchProjDxReferenceIdeal.nD Cert.BranchProjDxReferenceIdeal.τ).loc Cert.BranchProjDxReferenceIdeal.main_arg1))
      ∧ r.2.sem = fun _ => 0)

def quiescent_BranchProjDw [hBranchProjDw : Cert.BranchProjDw.Facts] : Prop :=
  ∀ (m : (ℓ : Loc Cert.BranchProjDw.nD Cert.BranchProjDw.τ Cert.BranchProjDw.sig) → Buf (Elt Bits) ℓ) (g : Dev Cert.BranchProjDw.nD → PrngReg), Pre_BranchProjDw m →
    θ_run (Cert.BranchProjDw.defs (F := Bits)) (onTc (τ := Cert.BranchProjDw.τ) (Cert.BranchProjDw.main (F := Bits))) ⟨m, fun _ => 0, g⟩ (fun r => (∀ c : Dev Cert.BranchProjDw.nD,
      r.2.mem ((c.tc : Thread Cert.BranchProjDw.nD Cert.BranchProjDw.τ).loc Cert.BranchProjDw.main_arg0) = m ((c.tc : Thread Cert.BranchProjDw.nD Cert.BranchProjDw.τ).loc Cert.BranchProjDw.main_arg0)
      ∧ r.2.mem ((c.tc : Thread Cert.BranchProjDw.nD Cert.BranchProjDw.τ).loc Cert.BranchProjDw.main_arg1) = m ((c.tc : Thread Cert.BranchProjDw.nD Cert.BranchProjDw.τ).loc Cert.BranchProjDw.main_arg1))
      ∧ r.2.sem = fun _ => 0)

def quiescent_BranchProjDwIdeal [hBranchProjDwIdeal : Cert.BranchProjDwIdeal.Facts] : Prop :=
  ∀ (m : (ℓ : Loc Cert.BranchProjDwIdeal.nD Cert.BranchProjDwIdeal.τ Cert.BranchProjDwIdeal.sig) → Buf (Elt Ideal) ℓ) (g : Dev Cert.BranchProjDwIdeal.nD → PrngReg), Pre_BranchProjDwIdeal m →
    θ_run (Cert.BranchProjDwIdeal.defs (F := Ideal)) (onTc (τ := Cert.BranchProjDwIdeal.τ) (Cert.BranchProjDwIdeal.main (F := Ideal))) ⟨m, fun _ => 0, g⟩ (fun r => (∀ c : Dev Cert.BranchProjDwIdeal.nD,
      r.2.mem ((c.tc : Thread Cert.BranchProjDwIdeal.nD Cert.BranchProjDwIdeal.τ).loc Cert.BranchProjDwIdeal.main_arg0) = m ((c.tc : Thread Cert.BranchProjDwIdeal.nD Cert.BranchProjDwIdeal.τ).loc Cert.BranchProjDwIdeal.main_arg0)
      ∧ r.2.mem ((c.tc : Thread Cert.BranchProjDwIdeal.nD Cert.BranchProjDwIdeal.τ).loc Cert.BranchProjDwIdeal.main_arg1) = m ((c.tc : Thread Cert.BranchProjDwIdeal.nD Cert.BranchProjDwIdeal.τ).loc Cert.BranchProjDwIdeal.main_arg1))
      ∧ r.2.sem = fun _ => 0)

def quiescent_BranchProjDwReferenceIdeal [hBranchProjDwReferenceIdeal : Cert.BranchProjDwReferenceIdeal.Facts] : Prop :=
  ∀ (m : (ℓ : Loc Cert.BranchProjDwReferenceIdeal.nD Cert.BranchProjDwReferenceIdeal.τ Cert.BranchProjDwReferenceIdeal.sig) → Buf (Elt Ideal) ℓ) (g : Dev Cert.BranchProjDwReferenceIdeal.nD → PrngReg), Pre_BranchProjDwReferenceIdeal m →
    θ_run (Cert.BranchProjDwReferenceIdeal.defs (F := Ideal)) (onTc (τ := Cert.BranchProjDwReferenceIdeal.τ) (Cert.BranchProjDwReferenceIdeal.main (F := Ideal))) ⟨m, fun _ => 0, g⟩ (fun r => (∀ c : Dev Cert.BranchProjDwReferenceIdeal.nD,
      r.2.mem ((c.tc : Thread Cert.BranchProjDwReferenceIdeal.nD Cert.BranchProjDwReferenceIdeal.τ).loc Cert.BranchProjDwReferenceIdeal.main_arg0) = m ((c.tc : Thread Cert.BranchProjDwReferenceIdeal.nD Cert.BranchProjDwReferenceIdeal.τ).loc Cert.BranchProjDwReferenceIdeal.main_arg0)
      ∧ r.2.mem ((c.tc : Thread Cert.BranchProjDwReferenceIdeal.nD Cert.BranchProjDwReferenceIdeal.τ).loc Cert.BranchProjDwReferenceIdeal.main_arg1) = m ((c.tc : Thread Cert.BranchProjDwReferenceIdeal.nD Cert.BranchProjDwReferenceIdeal.τ).loc Cert.BranchProjDwReferenceIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1)
      ∧ r.2.mem ((c.tc : Thread Cert.GateProj.nD Cert.GateProj.τ).loc Cert.GateProj.main_arg2) = m ((c.tc : Thread Cert.GateProj.nD Cert.GateProj.τ).loc Cert.GateProj.main_arg2))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
      ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ r.2.sem = fun _ => 0)

def quiescent_GateProjReferenceIdeal [hGateProjReferenceIdeal : Cert.GateProjReferenceIdeal.Facts] : Prop :=
  ∀ (m : (ℓ : Loc Cert.GateProjReferenceIdeal.nD Cert.GateProjReferenceIdeal.τ Cert.GateProjReferenceIdeal.sig) → Buf (Elt Ideal) ℓ) (g : Dev Cert.GateProjReferenceIdeal.nD → PrngReg), Pre_GateProjReferenceIdeal m →
    θ_run (Cert.GateProjReferenceIdeal.defs (F := Ideal)) (onTc (τ := Cert.GateProjReferenceIdeal.τ) (Cert.GateProjReferenceIdeal.main (F := Ideal))) ⟨m, fun _ => 0, g⟩ (fun r => (∀ c : Dev Cert.GateProjReferenceIdeal.nD,
      r.2.mem ((c.tc : Thread Cert.GateProjReferenceIdeal.nD Cert.GateProjReferenceIdeal.τ).loc Cert.GateProjReferenceIdeal.main_arg0) = m ((c.tc : Thread Cert.GateProjReferenceIdeal.nD Cert.GateProjReferenceIdeal.τ).loc Cert.GateProjReferenceIdeal.main_arg0)
      ∧ r.2.mem ((c.tc : Thread Cert.GateProjReferenceIdeal.nD Cert.GateProjReferenceIdeal.τ).loc Cert.GateProjReferenceIdeal.main_arg1) = m ((c.tc : Thread Cert.GateProjReferenceIdeal.nD Cert.GateProjReferenceIdeal.τ).loc Cert.GateProjReferenceIdeal.main_arg1)
      ∧ r.2.mem ((c.tc : Thread Cert.GateProjReferenceIdeal.nD Cert.GateProjReferenceIdeal.τ).loc Cert.GateProjReferenceIdeal.main_arg2) = m ((c.tc : Thread Cert.GateProjReferenceIdeal.nD Cert.GateProjReferenceIdeal.τ).loc Cert.GateProjReferenceIdeal.main_arg2))
      ∧ r.2.sem = fun _ => 0)

def quiescent_BranchProj [hBranchProj : Cert.BranchProj.Facts] : Prop :=
  ∀ (m : (ℓ : Loc Cert.BranchProj.nD Cert.BranchProj.τ Cert.BranchProj.sig) → Buf (Elt Bits) ℓ) (g : Dev Cert.BranchProj.nD → PrngReg), Pre_BranchProj m →
    θ_run (Cert.BranchProj.defs (F := Bits)) (onTc (τ := Cert.BranchProj.τ) (Cert.BranchProj.main (F := Bits))) ⟨m, fun _ => 0, g⟩ (fun r => (∀ c : Dev Cert.BranchProj.nD,
      r.2.mem ((c.tc : Thread Cert.BranchProj.nD Cert.BranchProj.τ).loc Cert.BranchProj.main_arg0) = m ((c.tc : Thread Cert.BranchProj.nD Cert.BranchProj.τ).loc Cert.BranchProj.main_arg0)
      ∧ r.2.mem ((c.tc : Thread Cert.BranchProj.nD Cert.BranchProj.τ).loc Cert.BranchProj.main_arg1) = m ((c.tc : Thread Cert.BranchProj.nD Cert.BranchProj.τ).loc Cert.BranchProj.main_arg1))
      ∧ r.2.sem = fun _ => 0)

def quiescent_BranchProjIdeal [hBranchProjIdeal : Cert.BranchProjIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg), Pre_BranchProjIdeal m →
    θ_run (Cert.BranchProjIdeal.defs (F := Ideal)) (onTc (τ := Cert.BranchProjIdeal.τ) (Cert.BranchProjIdeal.main (F := Ideal))) ⟨m, fun _ => 0, g⟩ (fun r => (∀ c : Dev Cert.BranchProjIdeal.nD,
      r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
      ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ r.2.sem = fun _ => 0)

def quiescent_BranchProjReferenceIdeal [hBranchProjReferenceIdeal : Cert.BranchProjReferenceIdeal.Facts] : Prop :=
  ∀ (m : (ℓ : Loc Cert.BranchProjReferenceIdeal.nD Cert.BranchProjReferenceIdeal.τ Cert.BranchProjReferenceIdeal.sig) → Buf (Elt Ideal) ℓ) (g : Dev Cert.BranchProjReferenceIdeal.nD → PrngReg), Pre_BranchProjReferenceIdeal m →
    θ_run (Cert.BranchProjReferenceIdeal.defs (F := Ideal)) (onTc (τ := Cert.BranchProjReferenceIdeal.τ) (Cert.BranchProjReferenceIdeal.main (F := Ideal))) ⟨m, fun _ => 0, g⟩ (fun r => (∀ c : Dev Cert.BranchProjReferenceIdeal.nD,
      r.2.mem ((c.tc : Thread Cert.BranchProjReferenceIdeal.nD Cert.BranchProjReferenceIdeal.τ).loc Cert.BranchProjReferenceIdeal.main_arg0) = m ((c.tc : Thread Cert.BranchProjReferenceIdeal.nD Cert.BranchProjReferenceIdeal.τ).loc Cert.BranchProjReferenceIdeal.main_arg0)
      ∧ r.2.mem ((c.tc : Thread Cert.BranchProjReferenceIdeal.nD Cert.BranchProjReferenceIdeal.τ).loc Cert.BranchProjReferenceIdeal.main_arg1) = m ((c.tc : Thread Cert.BranchProjReferenceIdeal.nD Cert.BranchProjReferenceIdeal.τ).loc Cert.BranchProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_finite_scores [hSbFwdIdeal : Cert.SbFwdIdeal.Facts] [hPre_finite_scores : Cert.Pre_finite_scores.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_scores m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdReferenceIdeal [hSbFwdReferenceIdeal : Cert.SbFwdReferenceIdeal.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0))
      ∧ r.2.sem = fun _ => 0)

def quiescent_SbFwdReferenceIdeal_pre_finite_scores [hSbFwdReferenceIdeal : Cert.SbFwdReferenceIdeal.Facts] [hPre_finite_scores : Cert.Pre_finite_scores.Facts] : Prop :=
  ∀ (m : (ℓ : Loc Cert.SbFwdReferenceIdeal.nD Cert.SbFwdReferenceIdeal.τ Cert.SbFwdReferenceIdeal.sig) → Buf (Elt Ideal) ℓ) (g : Dev Cert.SbFwdReferenceIdeal.nD → PrngReg), Pre_SbFwdReferenceIdeal_finite_scores m →
    θ_run (Cert.SbFwdReferenceIdeal.defs (F := Ideal)) (onTc (τ := Cert.SbFwdReferenceIdeal.τ) (Cert.SbFwdReferenceIdeal.main (F := Ideal))) ⟨m, fun _ => 0, g⟩ (fun r => (∀ c : Dev Cert.SbFwdReferenceIdeal.nD,
      r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_DilGateBwd [hDilGateBwd : Cert.DilGateBwd.Facts] : Prop :=
  ∀ (m : (ℓ : Loc Cert.DilGateBwd.nD Cert.DilGateBwd.τ Cert.DilGateBwd.sig) → Buf (Elt Bits) ℓ) (g : Dev Cert.DilGateBwd.nD → PrngReg), Pre_DilGateBwd m →
    θ_run (Cert.DilGateBwd.defs (F := Bits)) (onTc (τ := Cert.DilGateBwd.τ) (Cert.DilGateBwd.main (F := Bits))) ⟨m, fun _ => 0, g⟩ (fun r => (∀ c : Dev Cert.DilGateBwd.nD,
      r.2.mem ((c.tc : Thread Cert.DilGateBwd.nD Cert.DilGateBwd.τ).loc Cert.DilGateBwd.main_arg0) = m ((c.tc : Thread Cert.DilGateBwd.nD Cert.DilGateBwd.τ).loc Cert.DilGateBwd.main_arg0)
      ∧ r.2.mem ((c.tc : Thread Cert.DilGateBwd.nD Cert.DilGateBwd.τ).loc Cert.DilGateBwd.main_arg1) = m ((c.tc : Thread Cert.DilGateBwd.nD Cert.DilGateBwd.τ).loc Cert.DilGateBwd.main_arg1)
      ∧ r.2.mem ((c.tc : Thread Cert.DilGateBwd.nD Cert.DilGateBwd.τ).loc Cert.DilGateBwd.main_arg2) = m ((c.tc : Thread Cert.DilGateBwd.nD Cert.DilGateBwd.τ).loc Cert.DilGateBwd.main_arg2))
      ∧ r.2.sem = fun _ => 0)

def quiescent_DilGateBwdIdeal [hDilGateBwdIdeal : Cert.DilGateBwdIdeal.Facts] : Prop :=
  ∀ (m : (ℓ : Loc Cert.DilGateBwdIdeal.nD Cert.DilGateBwdIdeal.τ Cert.DilGateBwdIdeal.sig) → Buf (Elt Ideal) ℓ) (g : Dev Cert.DilGateBwdIdeal.nD → PrngReg), Pre_DilGateBwdIdeal m →
    θ_run (Cert.DilGateBwdIdeal.defs (F := Ideal)) (onTc (τ := Cert.DilGateBwdIdeal.τ) (Cert.DilGateBwdIdeal.main (F := Ideal))) ⟨m, fun _ => 0, g⟩ (fun r => (∀ c : Dev Cert.DilGateBwdIdeal.nD,
      r.2.mem ((c.tc : Thread Cert.DilGateBwdIdeal.nD Cert.DilGateBwdIdeal.τ).loc Cert.DilGateBwdIdeal.main_arg0) = m ((c.tc : Thread Cert.DilGateBwdIdeal.nD Cert.DilGateBwdIdeal.τ).loc Cert.DilGateBwdIdeal.main_arg0)
      ∧ r.2.mem ((c.tc : Thread Cert.DilGateBwdIdeal.nD Cert.DilGateBwdIdeal.τ).loc Cert.DilGateBwdIdeal.main_arg1) = m ((c.tc : Thread Cert.DilGateBwdIdeal.nD Cert.DilGateBwdIdeal.τ).loc Cert.DilGateBwdIdeal.main_arg1)
      ∧ r.2.mem ((c.tc : Thread Cert.DilGateBwdIdeal.nD Cert.DilGateBwdIdeal.τ).loc Cert.DilGateBwdIdeal.main_arg2) = m ((c.tc : Thread Cert.DilGateBwdIdeal.nD Cert.DilGateBwdIdeal.τ).loc Cert.DilGateBwdIdeal.main_arg2))
      ∧ r.2.sem = fun _ => 0)

def quiescent_DilGateBwdIdeal_pre_finite_gated [hDilGateBwdIdeal : Cert.DilGateBwdIdeal.Facts] [hPre_finite_gated : Cert.Pre_finite_gated.Facts] : Prop :=
  ∀ (m : (ℓ : Loc Cert.DilGateBwdIdeal.nD Cert.DilGateBwdIdeal.τ Cert.DilGateBwdIdeal.sig) → Buf (Elt Ideal) ℓ) (g : Dev Cert.DilGateBwdIdeal.nD → PrngReg), Pre_DilGateBwdIdeal_finite_gated m →
    θ_run (Cert.DilGateBwdIdeal.defs (F := Ideal)) (onTc (τ := Cert.DilGateBwdIdeal.τ) (Cert.DilGateBwdIdeal.main (F := Ideal))) ⟨m, fun _ => 0, g⟩ (fun r => (∀ c : Dev Cert.DilGateBwdIdeal.nD,
      r.2.mem ((c.tc : Thread Cert.DilGateBwdIdeal.nD Cert.DilGateBwdIdeal.τ).loc Cert.DilGateBwdIdeal.main_arg0) = m ((c.tc : Thread Cert.DilGateBwdIdeal.nD Cert.DilGateBwdIdeal.τ).loc Cert.DilGateBwdIdeal.main_arg0)
      ∧ r.2.mem ((c.tc : Thread Cert.DilGateBwdIdeal.nD Cert.DilGateBwdIdeal.τ).loc Cert.DilGateBwdIdeal.main_arg1) = m ((c.tc : Thread Cert.DilGateBwdIdeal.nD Cert.DilGateBwdIdeal.τ).loc Cert.DilGateBwdIdeal.main_arg1)
      ∧ r.2.mem ((c.tc : Thread Cert.DilGateBwdIdeal.nD Cert.DilGateBwdIdeal.τ).loc Cert.DilGateBwdIdeal.main_arg2) = m ((c.tc : Thread Cert.DilGateBwdIdeal.nD Cert.DilGateBwdIdeal.τ).loc Cert.DilGateBwdIdeal.main_arg2))
      ∧ r.2.sem = fun _ => 0)

def quiescent_DilGateBwdReferenceIdeal [hDilGateBwdReferenceIdeal : Cert.DilGateBwdReferenceIdeal.Facts] : Prop :=
  ∀ (m : (ℓ : Loc Cert.DilGateBwdReferenceIdeal.nD Cert.DilGateBwdReferenceIdeal.τ Cert.DilGateBwdReferenceIdeal.sig) → Buf (Elt Ideal) ℓ) (g : Dev Cert.DilGateBwdReferenceIdeal.nD → PrngReg), Pre_DilGateBwdReferenceIdeal m →
    θ_run (Cert.DilGateBwdReferenceIdeal.defs (F := Ideal)) (onTc (τ := Cert.DilGateBwdReferenceIdeal.τ) (Cert.DilGateBwdReferenceIdeal.main (F := Ideal))) ⟨m, fun _ => 0, g⟩ (fun r => (∀ c : Dev Cert.DilGateBwdReferenceIdeal.nD,
      r.2.mem ((c.tc : Thread Cert.DilGateBwdReferenceIdeal.nD Cert.DilGateBwdReferenceIdeal.τ).loc Cert.DilGateBwdReferenceIdeal.main_arg0) = m ((c.tc : Thread Cert.DilGateBwdReferenceIdeal.nD Cert.DilGateBwdReferenceIdeal.τ).loc Cert.DilGateBwdReferenceIdeal.main_arg0)
      ∧ r.2.mem ((c.tc : Thread Cert.DilGateBwdReferenceIdeal.nD Cert.DilGateBwdReferenceIdeal.τ).loc Cert.DilGateBwdReferenceIdeal.main_arg1) = m ((c.tc : Thread Cert.DilGateBwdReferenceIdeal.nD Cert.DilGateBwdReferenceIdeal.τ).loc Cert.DilGateBwdReferenceIdeal.main_arg1)
      ∧ r.2.mem ((c.tc : Thread Cert.DilGateBwdReferenceIdeal.nD Cert.DilGateBwdReferenceIdeal.τ).loc Cert.DilGateBwdReferenceIdeal.main_arg2) = m ((c.tc : Thread Cert.DilGateBwdReferenceIdeal.nD Cert.DilGateBwdReferenceIdeal.τ).loc Cert.DilGateBwdReferenceIdeal.main_arg2))
      ∧ r.2.sem = fun _ => 0)

def quiescent_DilGateBwdReferenceIdeal_pre_finite_gated [hDilGateBwdReferenceIdeal : Cert.DilGateBwdReferenceIdeal.Facts] [hPre_finite_gated : Cert.Pre_finite_gated.Facts] : Prop :=
  ∀ (m : (ℓ : Loc Cert.DilGateBwdReferenceIdeal.nD Cert.DilGateBwdReferenceIdeal.τ Cert.DilGateBwdReferenceIdeal.sig) → Buf (Elt Ideal) ℓ) (g : Dev Cert.DilGateBwdReferenceIdeal.nD → PrngReg), Pre_DilGateBwdReferenceIdeal_finite_gated m →
    θ_run (Cert.DilGateBwdReferenceIdeal.defs (F := Ideal)) (onTc (τ := Cert.DilGateBwdReferenceIdeal.τ) (Cert.DilGateBwdReferenceIdeal.main (F := Ideal))) ⟨m, fun _ => 0, g⟩ (fun r => (∀ c : Dev Cert.DilGateBwdReferenceIdeal.nD,
      r.2.mem ((c.tc : Thread Cert.DilGateBwdReferenceIdeal.nD Cert.DilGateBwdReferenceIdeal.τ).loc Cert.DilGateBwdReferenceIdeal.main_arg0) = m ((c.tc : Thread Cert.DilGateBwdReferenceIdeal.nD Cert.DilGateBwdReferenceIdeal.τ).loc Cert.DilGateBwdReferenceIdeal.main_arg0)
      ∧ r.2.mem ((c.tc : Thread Cert.DilGateBwdReferenceIdeal.nD Cert.DilGateBwdReferenceIdeal.τ).loc Cert.DilGateBwdReferenceIdeal.main_arg1) = m ((c.tc : Thread Cert.DilGateBwdReferenceIdeal.nD Cert.DilGateBwdReferenceIdeal.τ).loc Cert.DilGateBwdReferenceIdeal.main_arg1)
      ∧ r.2.mem ((c.tc : Thread Cert.DilGateBwdReferenceIdeal.nD Cert.DilGateBwdReferenceIdeal.τ).loc Cert.DilGateBwdReferenceIdeal.main_arg2) = m ((c.tc : Thread Cert.DilGateBwdReferenceIdeal.nD Cert.DilGateBwdReferenceIdeal.τ).loc Cert.DilGateBwdReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProjDx_InProjDxIdeal : Prop :=
  True

def algebraic_InProjDxIdeal_InProjDxReferenceIdeal [hInProjDxIdeal : Cert.InProjDxIdeal.Facts] [hInProjDxReferenceIdeal : Cert.InProjDxReferenceIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxReferenceIdeal.nD Cert.InProjDxReferenceIdeal.τ Cert.InProjDxReferenceIdeal.sig) → Buf (Elt Ideal) ℓ) (g' : Dev Cert.InProjDxReferenceIdeal.nD → PrngReg), Pre_InProjDxIdeal m →
    (∀ c : Dev Cert.InProjDxIdeal.nD,
      m' ((c.tc : Thread Cert.InProjDxReferenceIdeal.nD Cert.InProjDxReferenceIdeal.τ).loc Cert.InProjDxReferenceIdeal.main_arg0) = m ((c.tc : Thread Cert.InProjDxIdeal.nD Cert.InProjDxIdeal.τ).loc Cert.InProjDxIdeal.main_arg0)
      ∧ m' ((c.tc : Thread Cert.InProjDxReferenceIdeal.nD Cert.InProjDxReferenceIdeal.τ).loc Cert.InProjDxReferenceIdeal.main_arg1) = m ((c.tc : Thread Cert.InProjDxIdeal.nD Cert.InProjDxIdeal.τ).loc Cert.InProjDxIdeal.main_arg1)
      ∧ m' ((c.tc : Thread Cert.InProjDxReferenceIdeal.nD Cert.InProjDxReferenceIdeal.τ).loc Cert.InProjDxReferenceIdeal.main_arg2) = m ((c.tc : Thread Cert.InProjDxIdeal.nD Cert.InProjDxIdeal.τ).loc Cert.InProjDxIdeal.main_arg2)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ θ_run (Cert.InProjDxReferenceIdeal.defs (F := Ideal)) (onTc (τ := Cert.InProjDxReferenceIdeal.τ) (Cert.InProjDxReferenceIdeal.main (F := Ideal))) ⟨m', fun _ => 0, g'⟩ (fun r => ∀ c : Dev Cert.InProjDxReferenceIdeal.nD,
          r.2.mem ((c.tc : Thread Cert.InProjDxReferenceIdeal.nD Cert.InProjDxReferenceIdeal.τ).loc Cert.InProjDxReferenceIdeal.main_v5) = v0 c
          ∧ r.2.mem ((c.tc : Thread Cert.InProjDxReferenceIdeal.nD Cert.InProjDxReferenceIdeal.τ).loc Cert.InProjDxReferenceIdeal.main_arg0) = m' ((c.tc : Thread Cert.InProjDxReferenceIdeal.nD Cert.InProjDxReferenceIdeal.τ).loc Cert.InProjDxReferenceIdeal.main_arg0)
          ∧ r.2.mem ((c.tc : Thread Cert.InProjDxReferenceIdeal.nD Cert.InProjDxReferenceIdeal.τ).loc Cert.InProjDxReferenceIdeal.main_arg1) = m' ((c.tc : Thread Cert.InProjDxReferenceIdeal.nD Cert.InProjDxReferenceIdeal.τ).loc Cert.InProjDxReferenceIdeal.main_arg1)
          ∧ r.2.mem ((c.tc : Thread Cert.InProjDxReferenceIdeal.nD Cert.InProjDxReferenceIdeal.τ).loc Cert.InProjDxReferenceIdeal.main_arg2) = m' ((c.tc : Thread Cert.InProjDxReferenceIdeal.nD Cert.InProjDxReferenceIdeal.τ).loc Cert.InProjDxReferenceIdeal.main_arg2))

def preserves_InProjDw_InProjDwIdeal : Prop :=
  True

def algebraic_InProjDwIdeal_InProjDwReferenceIdeal [hInProjDwIdeal : Cert.InProjDwIdeal.Facts] [hInProjDwReferenceIdeal : Cert.InProjDwReferenceIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwReferenceIdeal.nD Cert.InProjDwReferenceIdeal.τ Cert.InProjDwReferenceIdeal.sig) → Buf (Elt Ideal) ℓ) (g' : Dev Cert.InProjDwReferenceIdeal.nD → PrngReg), Pre_InProjDwIdeal m →
    (∀ c : Dev Cert.InProjDwIdeal.nD,
      m' ((c.tc : Thread Cert.InProjDwReferenceIdeal.nD Cert.InProjDwReferenceIdeal.τ).loc Cert.InProjDwReferenceIdeal.main_arg0) = m ((c.tc : Thread Cert.InProjDwIdeal.nD Cert.InProjDwIdeal.τ).loc Cert.InProjDwIdeal.main_arg0)
      ∧ m' ((c.tc : Thread Cert.InProjDwReferenceIdeal.nD Cert.InProjDwReferenceIdeal.τ).loc Cert.InProjDwReferenceIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwReferenceIdeal.defs (F := Ideal)) (onTc (τ := Cert.InProjDwReferenceIdeal.τ) (Cert.InProjDwReferenceIdeal.main (F := Ideal))) ⟨m', fun _ => 0, g'⟩ (fun r => ∀ c : Dev Cert.InProjDwReferenceIdeal.nD,
          r.2.mem ((c.tc : Thread Cert.InProjDwReferenceIdeal.nD Cert.InProjDwReferenceIdeal.τ).loc Cert.InProjDwReferenceIdeal.main_v5) = v0 c
          ∧ r.2.mem ((c.tc : Thread Cert.InProjDwReferenceIdeal.nD Cert.InProjDwReferenceIdeal.τ).loc Cert.InProjDwReferenceIdeal.main_arg0) = m' ((c.tc : Thread Cert.InProjDwReferenceIdeal.nD Cert.InProjDwReferenceIdeal.τ).loc Cert.InProjDwReferenceIdeal.main_arg0)
          ∧ r.2.mem ((c.tc : Thread Cert.InProjDwReferenceIdeal.nD Cert.InProjDwReferenceIdeal.τ).loc Cert.InProjDwReferenceIdeal.main_arg1) = m' ((c.tc : Thread Cert.InProjDwReferenceIdeal.nD Cert.InProjDwReferenceIdeal.τ).loc Cert.InProjDwReferenceIdeal.main_arg1))

def preserves_GateProjDx_GateProjDxIdeal : Prop :=
  True

def algebraic_GateProjDxIdeal_GateProjDxReferenceIdeal [hGateProjDxIdeal : Cert.GateProjDxIdeal.Facts] [hGateProjDxReferenceIdeal : Cert.GateProjDxReferenceIdeal.Facts] : Prop :=
  ∀ (m : (ℓ : Loc Cert.GateProjDxIdeal.nD Cert.GateProjDxIdeal.τ Cert.GateProjDxIdeal.sig) → Buf (Elt Ideal) ℓ) (g : Dev Cert.GateProjDxIdeal.nD → PrngReg)
    (m' : (ℓ : Loc Cert.GateProjDxReferenceIdeal.nD Cert.GateProjDxReferenceIdeal.τ Cert.GateProjDxReferenceIdeal.sig) → Buf (Elt Ideal) ℓ) (g' : Dev Cert.GateProjDxReferenceIdeal.nD → PrngReg), Pre_GateProjDxIdeal m →
    (∀ c : Dev Cert.GateProjDxIdeal.nD,
      m' ((c.tc : Thread Cert.GateProjDxReferenceIdeal.nD Cert.GateProjDxReferenceIdeal.τ).loc Cert.GateProjDxReferenceIdeal.main_arg0) = m ((c.tc : Thread Cert.GateProjDxIdeal.nD Cert.GateProjDxIdeal.τ).loc Cert.GateProjDxIdeal.main_arg0)
      ∧ m' ((c.tc : Thread Cert.GateProjDxReferenceIdeal.nD Cert.GateProjDxReferenceIdeal.τ).loc Cert.GateProjDxReferenceIdeal.main_arg1) = m ((c.tc : Thread Cert.GateProjDxIdeal.nD Cert.GateProjDxIdeal.τ).loc Cert.GateProjDxIdeal.main_arg1)) →
    ∃ (v0 : (c : Dev Cert.GateProjDxIdeal.nD) → Buf (Elt Ideal) ((c.tc : Thread Cert.GateProjDxIdeal.nD Cert.GateProjDxIdeal.τ).loc Cert.GateProjDxIdeal.main_v0)),
      θ_run (Cert.GateProjDxIdeal.defs (F := Ideal)) (onTc (τ := Cert.GateProjDxIdeal.τ) (Cert.GateProjDxIdeal.main (F := Ideal))) ⟨m, fun _ => 0, g⟩ (fun r => ∀ c : Dev Cert.GateProjDxIdeal.nD,
          r.2.mem ((c.tc : Thread Cert.GateProjDxIdeal.nD Cert.GateProjDxIdeal.τ).loc Cert.GateProjDxIdeal.main_v0) = v0 c
          ∧ r.2.mem ((c.tc : Thread Cert.GateProjDxIdeal.nD Cert.GateProjDxIdeal.τ).loc Cert.GateProjDxIdeal.main_arg0) = m ((c.tc : Thread Cert.GateProjDxIdeal.nD Cert.GateProjDxIdeal.τ).loc Cert.GateProjDxIdeal.main_arg0)
          ∧ r.2.mem ((c.tc : Thread Cert.GateProjDxIdeal.nD Cert.GateProjDxIdeal.τ).loc Cert.GateProjDxIdeal.main_arg1) = m ((c.tc : Thread Cert.GateProjDxIdeal.nD Cert.GateProjDxIdeal.τ).loc Cert.GateProjDxIdeal.main_arg1))
      ∧ θ_run (Cert.GateProjDxReferenceIdeal.defs (F := Ideal)) (onTc (τ := Cert.GateProjDxReferenceIdeal.τ) (Cert.GateProjDxReferenceIdeal.main (F := Ideal))) ⟨m', fun _ => 0, g'⟩ (fun r => ∀ c : Dev Cert.GateProjDxReferenceIdeal.nD,
          r.2.mem ((c.tc : Thread Cert.GateProjDxReferenceIdeal.nD Cert.GateProjDxReferenceIdeal.τ).loc Cert.GateProjDxReferenceIdeal.main_v4) = v0 c
          ∧ r.2.mem ((c.tc : Thread Cert.GateProjDxReferenceIdeal.nD Cert.GateProjDxReferenceIdeal.τ).loc Cert.GateProjDxReferenceIdeal.main_arg0) = m' ((c.tc : Thread Cert.GateProjDxReferenceIdeal.nD Cert.GateProjDxReferenceIdeal.τ).loc Cert.GateProjDxReferenceIdeal.main_arg0)
          ∧ r.2.mem ((c.tc : Thread Cert.GateProjDxReferenceIdeal.nD Cert.GateProjDxReferenceIdeal.τ).loc Cert.GateProjDxReferenceIdeal.main_arg1) = m' ((c.tc : Thread Cert.GateProjDxReferenceIdeal.nD Cert.GateProjDxReferenceIdeal.τ).loc Cert.GateProjDxReferenceIdeal.main_arg1))

def preserves_GateProjDw_GateProjDwIdeal : Prop :=
  True

def algebraic_GateProjDwIdeal_GateProjDwReferenceIdeal [hGateProjDwIdeal : Cert.GateProjDwIdeal.Facts] [hGateProjDwReferenceIdeal : Cert.GateProjDwReferenceIdeal.Facts] : Prop :=
  ∀ (m : (ℓ : Loc Cert.GateProjDwIdeal.nD Cert.GateProjDwIdeal.τ Cert.GateProjDwIdeal.sig) → Buf (Elt Ideal) ℓ) (g : Dev Cert.GateProjDwIdeal.nD → PrngReg)
    (m' : (ℓ : Loc Cert.GateProjDwReferenceIdeal.nD Cert.GateProjDwReferenceIdeal.τ Cert.GateProjDwReferenceIdeal.sig) → Buf (Elt Ideal) ℓ) (g' : Dev Cert.GateProjDwReferenceIdeal.nD → PrngReg), Pre_GateProjDwIdeal m →
    (∀ c : Dev Cert.GateProjDwIdeal.nD,
      m' ((c.tc : Thread Cert.GateProjDwReferenceIdeal.nD Cert.GateProjDwReferenceIdeal.τ).loc Cert.GateProjDwReferenceIdeal.main_arg0) = m ((c.tc : Thread Cert.GateProjDwIdeal.nD Cert.GateProjDwIdeal.τ).loc Cert.GateProjDwIdeal.main_arg0)
      ∧ m' ((c.tc : Thread Cert.GateProjDwReferenceIdeal.nD Cert.GateProjDwReferenceIdeal.τ).loc Cert.GateProjDwReferenceIdeal.main_arg1) = m ((c.tc : Thread Cert.GateProjDwIdeal.nD Cert.GateProjDwIdeal.τ).loc Cert.GateProjDwIdeal.main_arg1)) →
    ∃ (v0 : (c : Dev Cert.GateProjDwIdeal.nD) → Buf (Elt Ideal) ((c.tc : Thread Cert.GateProjDwIdeal.nD Cert.GateProjDwIdeal.τ).loc Cert.GateProjDwIdeal.main_v0)),
      θ_run (Cert.GateProjDwIdeal.defs (F := Ideal)) (onTc (τ := Cert.GateProjDwIdeal.τ) (Cert.GateProjDwIdeal.main (F := Ideal))) ⟨m, fun _ => 0, g⟩ (fun r => ∀ c : Dev Cert.GateProjDwIdeal.nD,
          r.2.mem ((c.tc : Thread Cert.GateProjDwIdeal.nD Cert.GateProjDwIdeal.τ).loc Cert.GateProjDwIdeal.main_v0) = v0 c
          ∧ r.2.mem ((c.tc : Thread Cert.GateProjDwIdeal.nD Cert.GateProjDwIdeal.τ).loc Cert.GateProjDwIdeal.main_arg0) = m ((c.tc : Thread Cert.GateProjDwIdeal.nD Cert.GateProjDwIdeal.τ).loc Cert.GateProjDwIdeal.main_arg0)
          ∧ r.2.mem ((c.tc : Thread Cert.GateProjDwIdeal.nD Cert.GateProjDwIdeal.τ).loc Cert.GateProjDwIdeal.main_arg1) = m ((c.tc : Thread Cert.GateProjDwIdeal.nD Cert.GateProjDwIdeal.τ).loc Cert.GateProjDwIdeal.main_arg1))
      ∧ θ_run (Cert.GateProjDwReferenceIdeal.defs (F := Ideal)) (onTc (τ := Cert.GateProjDwReferenceIdeal.τ) (Cert.GateProjDwReferenceIdeal.main (F := Ideal))) ⟨m', fun _ => 0, g'⟩ (fun r => ∀ c : Dev Cert.GateProjDwReferenceIdeal.nD,
          r.2.mem ((c.tc : Thread Cert.GateProjDwReferenceIdeal.nD Cert.GateProjDwReferenceIdeal.τ).loc Cert.GateProjDwReferenceIdeal.main_v5) = v0 c
          ∧ r.2.mem ((c.tc : Thread Cert.GateProjDwReferenceIdeal.nD Cert.GateProjDwReferenceIdeal.τ).loc Cert.GateProjDwReferenceIdeal.main_arg0) = m' ((c.tc : Thread Cert.GateProjDwReferenceIdeal.nD Cert.GateProjDwReferenceIdeal.τ).loc Cert.GateProjDwReferenceIdeal.main_arg0)
          ∧ r.2.mem ((c.tc : Thread Cert.GateProjDwReferenceIdeal.nD Cert.GateProjDwReferenceIdeal.τ).loc Cert.GateProjDwReferenceIdeal.main_arg1) = m' ((c.tc : Thread Cert.GateProjDwReferenceIdeal.nD Cert.GateProjDwReferenceIdeal.τ).loc Cert.GateProjDwReferenceIdeal.main_arg1))

def preserves_BranchProjDx_BranchProjDxIdeal : Prop :=
  True

def algebraic_BranchProjDxIdeal_BranchProjDxReferenceIdeal [hBranchProjDxIdeal : Cert.BranchProjDxIdeal.Facts] [hBranchProjDxReferenceIdeal : Cert.BranchProjDxReferenceIdeal.Facts] : Prop :=
  ∀ (m : (ℓ : Loc Cert.BranchProjDxIdeal.nD Cert.BranchProjDxIdeal.τ Cert.BranchProjDxIdeal.sig) → Buf (Elt Ideal) ℓ) (g : Dev Cert.BranchProjDxIdeal.nD → PrngReg)
    (m' : (ℓ : Loc Cert.BranchProjDxReferenceIdeal.nD Cert.BranchProjDxReferenceIdeal.τ Cert.BranchProjDxReferenceIdeal.sig) → Buf (Elt Ideal) ℓ) (g' : Dev Cert.BranchProjDxReferenceIdeal.nD → PrngReg), Pre_BranchProjDxIdeal m →
    (∀ c : Dev Cert.BranchProjDxIdeal.nD,
      m' ((c.tc : Thread Cert.BranchProjDxReferenceIdeal.nD Cert.BranchProjDxReferenceIdeal.τ).loc Cert.BranchProjDxReferenceIdeal.main_arg0) = m ((c.tc : Thread Cert.BranchProjDxIdeal.nD Cert.BranchProjDxIdeal.τ).loc Cert.BranchProjDxIdeal.main_arg0)
      ∧ m' ((c.tc : Thread Cert.BranchProjDxReferenceIdeal.nD Cert.BranchProjDxReferenceIdeal.τ).loc Cert.BranchProjDxReferenceIdeal.main_arg1) = m ((c.tc : Thread Cert.BranchProjDxIdeal.nD Cert.BranchProjDxIdeal.τ).loc Cert.BranchProjDxIdeal.main_arg1)) →
    ∃ (v0 : (c : Dev Cert.BranchProjDxIdeal.nD) → Buf (Elt Ideal) ((c.tc : Thread Cert.BranchProjDxIdeal.nD Cert.BranchProjDxIdeal.τ).loc Cert.BranchProjDxIdeal.main_v0)),
      θ_run (Cert.BranchProjDxIdeal.defs (F := Ideal)) (onTc (τ := Cert.BranchProjDxIdeal.τ) (Cert.BranchProjDxIdeal.main (F := Ideal))) ⟨m, fun _ => 0, g⟩ (fun r => ∀ c : Dev Cert.BranchProjDxIdeal.nD,
          r.2.mem ((c.tc : Thread Cert.BranchProjDxIdeal.nD Cert.BranchProjDxIdeal.τ).loc Cert.BranchProjDxIdeal.main_v0) = v0 c
          ∧ r.2.mem ((c.tc : Thread Cert.BranchProjDxIdeal.nD Cert.BranchProjDxIdeal.τ).loc Cert.BranchProjDxIdeal.main_arg0) = m ((c.tc : Thread Cert.BranchProjDxIdeal.nD Cert.BranchProjDxIdeal.τ).loc Cert.BranchProjDxIdeal.main_arg0)
          ∧ r.2.mem ((c.tc : Thread Cert.BranchProjDxIdeal.nD Cert.BranchProjDxIdeal.τ).loc Cert.BranchProjDxIdeal.main_arg1) = m ((c.tc : Thread Cert.BranchProjDxIdeal.nD Cert.BranchProjDxIdeal.τ).loc Cert.BranchProjDxIdeal.main_arg1))
      ∧ θ_run (Cert.BranchProjDxReferenceIdeal.defs (F := Ideal)) (onTc (τ := Cert.BranchProjDxReferenceIdeal.τ) (Cert.BranchProjDxReferenceIdeal.main (F := Ideal))) ⟨m', fun _ => 0, g'⟩ (fun r => ∀ c : Dev Cert.BranchProjDxReferenceIdeal.nD,
          r.2.mem ((c.tc : Thread Cert.BranchProjDxReferenceIdeal.nD Cert.BranchProjDxReferenceIdeal.τ).loc Cert.BranchProjDxReferenceIdeal.main_v12) = v0 c
          ∧ r.2.mem ((c.tc : Thread Cert.BranchProjDxReferenceIdeal.nD Cert.BranchProjDxReferenceIdeal.τ).loc Cert.BranchProjDxReferenceIdeal.main_arg0) = m' ((c.tc : Thread Cert.BranchProjDxReferenceIdeal.nD Cert.BranchProjDxReferenceIdeal.τ).loc Cert.BranchProjDxReferenceIdeal.main_arg0)
          ∧ r.2.mem ((c.tc : Thread Cert.BranchProjDxReferenceIdeal.nD Cert.BranchProjDxReferenceIdeal.τ).loc Cert.BranchProjDxReferenceIdeal.main_arg1) = m' ((c.tc : Thread Cert.BranchProjDxReferenceIdeal.nD Cert.BranchProjDxReferenceIdeal.τ).loc Cert.BranchProjDxReferenceIdeal.main_arg1))

def preserves_BranchProjDw_BranchProjDwIdeal : Prop :=
  True

def algebraic_BranchProjDwIdeal_BranchProjDwReferenceIdeal [hBranchProjDwIdeal : Cert.BranchProjDwIdeal.Facts] [hBranchProjDwReferenceIdeal : Cert.BranchProjDwReferenceIdeal.Facts] : Prop :=
  ∀ (m : (ℓ : Loc Cert.BranchProjDwIdeal.nD Cert.BranchProjDwIdeal.τ Cert.BranchProjDwIdeal.sig) → Buf (Elt Ideal) ℓ) (g : Dev Cert.BranchProjDwIdeal.nD → PrngReg)
    (m' : (ℓ : Loc Cert.BranchProjDwReferenceIdeal.nD Cert.BranchProjDwReferenceIdeal.τ Cert.BranchProjDwReferenceIdeal.sig) → Buf (Elt Ideal) ℓ) (g' : Dev Cert.BranchProjDwReferenceIdeal.nD → PrngReg), Pre_BranchProjDwIdeal m →
    (∀ c : Dev Cert.BranchProjDwIdeal.nD,
      m' ((c.tc : Thread Cert.BranchProjDwReferenceIdeal.nD Cert.BranchProjDwReferenceIdeal.τ).loc Cert.BranchProjDwReferenceIdeal.main_arg0) = m ((c.tc : Thread Cert.BranchProjDwIdeal.nD Cert.BranchProjDwIdeal.τ).loc Cert.BranchProjDwIdeal.main_arg0)
      ∧ m' ((c.tc : Thread Cert.BranchProjDwReferenceIdeal.nD Cert.BranchProjDwReferenceIdeal.τ).loc Cert.BranchProjDwReferenceIdeal.main_arg1) = m ((c.tc : Thread Cert.BranchProjDwIdeal.nD Cert.BranchProjDwIdeal.τ).loc Cert.BranchProjDwIdeal.main_arg1)) →
    ∃ (v0 : (c : Dev Cert.BranchProjDwIdeal.nD) → Buf (Elt Ideal) ((c.tc : Thread Cert.BranchProjDwIdeal.nD Cert.BranchProjDwIdeal.τ).loc Cert.BranchProjDwIdeal.main_v0)),
      θ_run (Cert.BranchProjDwIdeal.defs (F := Ideal)) (onTc (τ := Cert.BranchProjDwIdeal.τ) (Cert.BranchProjDwIdeal.main (F := Ideal))) ⟨m, fun _ => 0, g⟩ (fun r => ∀ c : Dev Cert.BranchProjDwIdeal.nD,
          r.2.mem ((c.tc : Thread Cert.BranchProjDwIdeal.nD Cert.BranchProjDwIdeal.τ).loc Cert.BranchProjDwIdeal.main_v0) = v0 c
          ∧ r.2.mem ((c.tc : Thread Cert.BranchProjDwIdeal.nD Cert.BranchProjDwIdeal.τ).loc Cert.BranchProjDwIdeal.main_arg0) = m ((c.tc : Thread Cert.BranchProjDwIdeal.nD Cert.BranchProjDwIdeal.τ).loc Cert.BranchProjDwIdeal.main_arg0)
          ∧ r.2.mem ((c.tc : Thread Cert.BranchProjDwIdeal.nD Cert.BranchProjDwIdeal.τ).loc Cert.BranchProjDwIdeal.main_arg1) = m ((c.tc : Thread Cert.BranchProjDwIdeal.nD Cert.BranchProjDwIdeal.τ).loc Cert.BranchProjDwIdeal.main_arg1))
      ∧ θ_run (Cert.BranchProjDwReferenceIdeal.defs (F := Ideal)) (onTc (τ := Cert.BranchProjDwReferenceIdeal.τ) (Cert.BranchProjDwReferenceIdeal.main (F := Ideal))) ⟨m', fun _ => 0, g'⟩ (fun r => ∀ c : Dev Cert.BranchProjDwReferenceIdeal.nD,
          r.2.mem ((c.tc : Thread Cert.BranchProjDwReferenceIdeal.nD Cert.BranchProjDwReferenceIdeal.τ).loc Cert.BranchProjDwReferenceIdeal.main_v12) = v0 c
          ∧ r.2.mem ((c.tc : Thread Cert.BranchProjDwReferenceIdeal.nD Cert.BranchProjDwReferenceIdeal.τ).loc Cert.BranchProjDwReferenceIdeal.main_arg0) = m' ((c.tc : Thread Cert.BranchProjDwReferenceIdeal.nD Cert.BranchProjDwReferenceIdeal.τ).loc Cert.BranchProjDwReferenceIdeal.main_arg0)
          ∧ r.2.mem ((c.tc : Thread Cert.BranchProjDwReferenceIdeal.nD Cert.BranchProjDwReferenceIdeal.τ).loc Cert.BranchProjDwReferenceIdeal.main_arg1) = m' ((c.tc : Thread Cert.BranchProjDwReferenceIdeal.nD Cert.BranchProjDwReferenceIdeal.τ).loc Cert.BranchProjDwReferenceIdeal.main_arg1))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v3) = v0 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v4) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_GateProj_GateProjIdeal : Prop :=
  True

def algebraic_GateProjIdeal_GateProjReferenceIdeal [hGateProjIdeal : Cert.GateProjIdeal.Facts] [hGateProjReferenceIdeal : Cert.GateProjReferenceIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjReferenceIdeal.nD Cert.GateProjReferenceIdeal.τ Cert.GateProjReferenceIdeal.sig) → Buf (Elt Ideal) ℓ) (g' : Dev Cert.GateProjReferenceIdeal.nD → PrngReg), Pre_GateProjIdeal m →
    (∀ c : Dev Cert.GateProjIdeal.nD,
      m' ((c.tc : Thread Cert.GateProjReferenceIdeal.nD Cert.GateProjReferenceIdeal.τ).loc Cert.GateProjReferenceIdeal.main_arg0) = m ((c.tc : Thread Cert.GateProjIdeal.nD Cert.GateProjIdeal.τ).loc Cert.GateProjIdeal.main_arg0)
      ∧ m' ((c.tc : Thread Cert.GateProjReferenceIdeal.nD Cert.GateProjReferenceIdeal.τ).loc Cert.GateProjReferenceIdeal.main_arg1) = m ((c.tc : Thread Cert.GateProjIdeal.nD Cert.GateProjIdeal.τ).loc Cert.GateProjIdeal.main_arg1)
      ∧ m' ((c.tc : Thread Cert.GateProjReferenceIdeal.nD Cert.GateProjReferenceIdeal.τ).loc Cert.GateProjReferenceIdeal.main_arg2) = m ((c.tc : Thread Cert.GateProjIdeal.nD Cert.GateProjIdeal.τ).loc Cert.GateProjIdeal.main_arg2)) →
    ∃ (v0 : (c : Dev Cert.GateProjIdeal.nD) → Buf (Elt Ideal) ((c.tc : Thread Cert.GateProjIdeal.nD Cert.GateProjIdeal.τ).loc Cert.GateProjIdeal.main_v1)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v1) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1)
          ∧ r.2.mem ((c.tc : Thread Cert.GateProjIdeal.nD Cert.GateProjIdeal.τ).loc Cert.GateProjIdeal.main_arg2) = m ((c.tc : Thread Cert.GateProjIdeal.nD Cert.GateProjIdeal.τ).loc Cert.GateProjIdeal.main_arg2))
      ∧ θ_run (Cert.GateProjReferenceIdeal.defs (F := Ideal)) (onTc (τ := Cert.GateProjReferenceIdeal.τ) (Cert.GateProjReferenceIdeal.main (F := Ideal))) ⟨m', fun _ => 0, g'⟩ (fun r => ∀ c : Dev Cert.GateProjReferenceIdeal.nD,
          r.2.mem ((c.tc : Thread Cert.GateProjReferenceIdeal.nD Cert.GateProjReferenceIdeal.τ).loc Cert.GateProjReferenceIdeal.main_v5) = v0 c
          ∧ r.2.mem ((c.tc : Thread Cert.GateProjReferenceIdeal.nD Cert.GateProjReferenceIdeal.τ).loc Cert.GateProjReferenceIdeal.main_arg0) = m' ((c.tc : Thread Cert.GateProjReferenceIdeal.nD Cert.GateProjReferenceIdeal.τ).loc Cert.GateProjReferenceIdeal.main_arg0)
          ∧ r.2.mem ((c.tc : Thread Cert.GateProjReferenceIdeal.nD Cert.GateProjReferenceIdeal.τ).loc Cert.GateProjReferenceIdeal.main_arg1) = m' ((c.tc : Thread Cert.GateProjReferenceIdeal.nD Cert.GateProjReferenceIdeal.τ).loc Cert.GateProjReferenceIdeal.main_arg1)
          ∧ r.2.mem ((c.tc : Thread Cert.GateProjReferenceIdeal.nD Cert.GateProjReferenceIdeal.τ).loc Cert.GateProjReferenceIdeal.main_arg2) = m' ((c.tc : Thread Cert.GateProjReferenceIdeal.nD Cert.GateProjReferenceIdeal.τ).loc Cert.GateProjReferenceIdeal.main_arg2))

def preserves_BranchProj_BranchProjIdeal : Prop :=
  True

def algebraic_BranchProjIdeal_BranchProjReferenceIdeal [hBranchProjIdeal : Cert.BranchProjIdeal.Facts] [hBranchProjReferenceIdeal : Cert.BranchProjReferenceIdeal.Facts] : Prop :=
  ∀ (m : (ℓ : Loc Cert.BranchProjIdeal.nD Cert.BranchProjIdeal.τ Cert.BranchProjIdeal.sig) → Buf (Elt Ideal) ℓ) (g : Dev Cert.BranchProjIdeal.nD → PrngReg)
    (m' : (ℓ : Loc Cert.BranchProjReferenceIdeal.nD Cert.BranchProjReferenceIdeal.τ Cert.BranchProjReferenceIdeal.sig) → Buf (Elt Ideal) ℓ) (g' : Dev Cert.BranchProjReferenceIdeal.nD → PrngReg), Pre_BranchProjIdeal m →
    (∀ c : Dev Cert.BranchProjIdeal.nD,
      m' ((c.tc : Thread Cert.BranchProjReferenceIdeal.nD Cert.BranchProjReferenceIdeal.τ).loc Cert.BranchProjReferenceIdeal.main_arg0) = m ((c.tc : Thread Cert.BranchProjIdeal.nD Cert.BranchProjIdeal.τ).loc Cert.BranchProjIdeal.main_arg0)
      ∧ m' ((c.tc : Thread Cert.BranchProjReferenceIdeal.nD Cert.BranchProjReferenceIdeal.τ).loc Cert.BranchProjReferenceIdeal.main_arg1) = m ((c.tc : Thread Cert.BranchProjIdeal.nD Cert.BranchProjIdeal.τ).loc Cert.BranchProjIdeal.main_arg1)) →
    ∃ (v0 : (c : Dev Cert.BranchProjIdeal.nD) → Buf (Elt Ideal) ((c.tc : Thread Cert.BranchProjIdeal.nD Cert.BranchProjIdeal.τ).loc Cert.BranchProjIdeal.main_v0)),
      θ_run (Cert.BranchProjIdeal.defs (F := Ideal)) (onTc (τ := Cert.BranchProjIdeal.τ) (Cert.BranchProjIdeal.main (F := Ideal))) ⟨m, fun _ => 0, g⟩ (fun r => ∀ c : Dev Cert.BranchProjIdeal.nD,
          r.2.mem ((c.tc : Thread Cert.BranchProjIdeal.nD Cert.BranchProjIdeal.τ).loc Cert.BranchProjIdeal.main_v0) = v0 c
          ∧ r.2.mem ((c.tc : Thread Cert.BranchProjIdeal.nD Cert.BranchProjIdeal.τ).loc Cert.BranchProjIdeal.main_arg0) = m ((c.tc : Thread Cert.BranchProjIdeal.nD Cert.BranchProjIdeal.τ).loc Cert.BranchProjIdeal.main_arg0)
          ∧ r.2.mem ((c.tc : Thread Cert.BranchProjIdeal.nD Cert.BranchProjIdeal.τ).loc Cert.BranchProjIdeal.main_arg1) = m ((c.tc : Thread Cert.BranchProjIdeal.nD Cert.BranchProjIdeal.τ).loc Cert.BranchProjIdeal.main_arg1))
      ∧ θ_run (Cert.BranchProjReferenceIdeal.defs (F := Ideal)) (onTc (τ := Cert.BranchProjReferenceIdeal.τ) (Cert.BranchProjReferenceIdeal.main (F := Ideal))) ⟨m', fun _ => 0, g'⟩ (fun r => ∀ c : Dev Cert.BranchProjReferenceIdeal.nD,
          r.2.mem ((c.tc : Thread Cert.BranchProjReferenceIdeal.nD Cert.BranchProjReferenceIdeal.τ).loc Cert.BranchProjReferenceIdeal.main_v6) = v0 c
          ∧ r.2.mem ((c.tc : Thread Cert.BranchProjReferenceIdeal.nD Cert.BranchProjReferenceIdeal.τ).loc Cert.BranchProjReferenceIdeal.main_arg0) = m' ((c.tc : Thread Cert.BranchProjReferenceIdeal.nD Cert.BranchProjReferenceIdeal.τ).loc Cert.BranchProjReferenceIdeal.main_arg0)
          ∧ r.2.mem ((c.tc : Thread Cert.BranchProjReferenceIdeal.nD Cert.BranchProjReferenceIdeal.τ).loc Cert.BranchProjReferenceIdeal.main_arg1) = m' ((c.tc : Thread Cert.BranchProjReferenceIdeal.nD Cert.BranchProjReferenceIdeal.τ).loc Cert.BranchProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_SbFwd_SbFwdIdeal : Prop :=
  True

def algebraic_SbFwdIdeal_SbFwdReferenceIdeal_pre_finite_scores [hSbFwdIdeal : Cert.SbFwdIdeal.Facts] [hSbFwdReferenceIdeal : Cert.SbFwdReferenceIdeal.Facts] [hPre_finite_scores : Cert.Pre_finite_scores.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdReferenceIdeal.nD Cert.SbFwdReferenceIdeal.τ Cert.SbFwdReferenceIdeal.sig) → Buf (Elt Ideal) ℓ) (g' : Dev Cert.SbFwdReferenceIdeal.nD → PrngReg), Pre_SbFwdIdeal_finite_scores m →
    (∀ c : Dev Cert.SbFwdIdeal.nD,
      m' ((c.tc : Thread Cert.SbFwdReferenceIdeal.nD Cert.SbFwdReferenceIdeal.τ).loc Cert.SbFwdReferenceIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v0_0)) (v1 : (c : Dev Cert.SbFwdIdeal.nD) → Buf (Elt Ideal) ((c.tc : Thread Cert.SbFwdIdeal.nD Cert.SbFwdIdeal.τ).loc Cert.SbFwdIdeal.main_v0_1)) (v2 : (c : Dev Cert.SbFwdIdeal.nD) → Buf (Elt Ideal) ((c.tc : Thread Cert.SbFwdIdeal.nD Cert.SbFwdIdeal.τ).loc Cert.SbFwdIdeal.main_v0_2)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0_0) = v0 c
          ∧ r.2.mem ((c.tc : Thread Cert.SbFwdIdeal.nD Cert.SbFwdIdeal.τ).loc Cert.SbFwdIdeal.main_v0_1) = v1 c
          ∧ r.2.mem ((c.tc : Thread Cert.SbFwdIdeal.nD Cert.SbFwdIdeal.τ).loc Cert.SbFwdIdeal.main_v0_2) = v2 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdReferenceIdeal.defs (F := Ideal)) (onTc (τ := Cert.SbFwdReferenceIdeal.τ) (Cert.SbFwdReferenceIdeal.main (F := Ideal))) ⟨m', fun _ => 0, g'⟩ (fun r => ∀ c : Dev Cert.SbFwdReferenceIdeal.nD,
          r.2.mem ((c.tc : Thread Cert.SbFwdReferenceIdeal.nD Cert.SbFwdReferenceIdeal.τ).loc Cert.SbFwdReferenceIdeal.main_v28) = v0 c
          ∧ r.2.mem ((c.tc : Thread Cert.SbFwdReferenceIdeal.nD Cert.SbFwdReferenceIdeal.τ).loc Cert.SbFwdReferenceIdeal.main_v34) = v1 c
          ∧ r.2.mem ((c.tc : Thread Cert.SbFwdReferenceIdeal.nD Cert.SbFwdReferenceIdeal.τ).loc Cert.SbFwdReferenceIdeal.main_v36) = v2 c
          ∧ r.2.mem ((c.tc : Thread Cert.SbFwdReferenceIdeal.nD Cert.SbFwdReferenceIdeal.τ).loc Cert.SbFwdReferenceIdeal.main_arg0) = m' ((c.tc : Thread Cert.SbFwdReferenceIdeal.nD Cert.SbFwdReferenceIdeal.τ).loc Cert.SbFwdReferenceIdeal.main_arg0))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v19) = v0 c
          ∧ r.2.mem ((c.tc : Thread Cert.MergeBwdReferenceIdeal.nD Cert.MergeBwdReferenceIdeal.τ).loc Cert.MergeBwdReferenceIdeal.main_v20) = v1 c
          ∧ r.2.mem ((c.tc : Thread Cert.MergeBwdReferenceIdeal.nD Cert.MergeBwdReferenceIdeal.τ).loc Cert.MergeBwdReferenceIdeal.main_v22) = v2 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v10) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_DilGateBwd_DilGateBwdIdeal : Prop :=
  True

def algebraic_DilGateBwdIdeal_DilGateBwdReferenceIdeal_pre_finite_gated [hDilGateBwdIdeal : Cert.DilGateBwdIdeal.Facts] [hDilGateBwdReferenceIdeal : Cert.DilGateBwdReferenceIdeal.Facts] [hPre_finite_gated : Cert.Pre_finite_gated.Facts] : Prop :=
  ∀ (m : (ℓ : Loc Cert.DilGateBwdIdeal.nD Cert.DilGateBwdIdeal.τ Cert.DilGateBwdIdeal.sig) → Buf (Elt Ideal) ℓ) (g : Dev Cert.DilGateBwdIdeal.nD → PrngReg)
    (m' : (ℓ : Loc Cert.DilGateBwdReferenceIdeal.nD Cert.DilGateBwdReferenceIdeal.τ Cert.DilGateBwdReferenceIdeal.sig) → Buf (Elt Ideal) ℓ) (g' : Dev Cert.DilGateBwdReferenceIdeal.nD → PrngReg), Pre_DilGateBwdIdeal_finite_gated m →
    (∀ c : Dev Cert.DilGateBwdIdeal.nD,
      m' ((c.tc : Thread Cert.DilGateBwdReferenceIdeal.nD Cert.DilGateBwdReferenceIdeal.τ).loc Cert.DilGateBwdReferenceIdeal.main_arg0) = m ((c.tc : Thread Cert.DilGateBwdIdeal.nD Cert.DilGateBwdIdeal.τ).loc Cert.DilGateBwdIdeal.main_arg0)
      ∧ m' ((c.tc : Thread Cert.DilGateBwdReferenceIdeal.nD Cert.DilGateBwdReferenceIdeal.τ).loc Cert.DilGateBwdReferenceIdeal.main_arg1) = m ((c.tc : Thread Cert.DilGateBwdIdeal.nD Cert.DilGateBwdIdeal.τ).loc Cert.DilGateBwdIdeal.main_arg1)
      ∧ m' ((c.tc : Thread Cert.DilGateBwdReferenceIdeal.nD Cert.DilGateBwdReferenceIdeal.τ).loc Cert.DilGateBwdReferenceIdeal.main_arg2) = m ((c.tc : Thread Cert.DilGateBwdIdeal.nD Cert.DilGateBwdIdeal.τ).loc Cert.DilGateBwdIdeal.main_arg2)) →
    ∃ (v0 : (c : Dev Cert.DilGateBwdIdeal.nD) → Buf (Elt Ideal) ((c.tc : Thread Cert.DilGateBwdIdeal.nD Cert.DilGateBwdIdeal.τ).loc Cert.DilGateBwdIdeal.main_v0_0)) (v1 : (c : Dev Cert.DilGateBwdIdeal.nD) → Buf (Elt Ideal) ((c.tc : Thread Cert.DilGateBwdIdeal.nD Cert.DilGateBwdIdeal.τ).loc Cert.DilGateBwdIdeal.main_v0_1)) (v2 : (c : Dev Cert.DilGateBwdIdeal.nD) → Buf (Elt Ideal) ((c.tc : Thread Cert.DilGateBwdIdeal.nD Cert.DilGateBwdIdeal.τ).loc Cert.DilGateBwdIdeal.main_v0_2)),
      θ_run (Cert.DilGateBwdIdeal.defs (F := Ideal)) (onTc (τ := Cert.DilGateBwdIdeal.τ) (Cert.DilGateBwdIdeal.main (F := Ideal))) ⟨m, fun _ => 0, g⟩ (fun r => ∀ c : Dev Cert.DilGateBwdIdeal.nD,
          r.2.mem ((c.tc : Thread Cert.DilGateBwdIdeal.nD Cert.DilGateBwdIdeal.τ).loc Cert.DilGateBwdIdeal.main_v0_0) = v0 c
          ∧ r.2.mem ((c.tc : Thread Cert.DilGateBwdIdeal.nD Cert.DilGateBwdIdeal.τ).loc Cert.DilGateBwdIdeal.main_v0_1) = v1 c
          ∧ r.2.mem ((c.tc : Thread Cert.DilGateBwdIdeal.nD Cert.DilGateBwdIdeal.τ).loc Cert.DilGateBwdIdeal.main_v0_2) = v2 c
          ∧ r.2.mem ((c.tc : Thread Cert.DilGateBwdIdeal.nD Cert.DilGateBwdIdeal.τ).loc Cert.DilGateBwdIdeal.main_arg0) = m ((c.tc : Thread Cert.DilGateBwdIdeal.nD Cert.DilGateBwdIdeal.τ).loc Cert.DilGateBwdIdeal.main_arg0)
          ∧ r.2.mem ((c.tc : Thread Cert.DilGateBwdIdeal.nD Cert.DilGateBwdIdeal.τ).loc Cert.DilGateBwdIdeal.main_arg1) = m ((c.tc : Thread Cert.DilGateBwdIdeal.nD Cert.DilGateBwdIdeal.τ).loc Cert.DilGateBwdIdeal.main_arg1)
          ∧ r.2.mem ((c.tc : Thread Cert.DilGateBwdIdeal.nD Cert.DilGateBwdIdeal.τ).loc Cert.DilGateBwdIdeal.main_arg2) = m ((c.tc : Thread Cert.DilGateBwdIdeal.nD Cert.DilGateBwdIdeal.τ).loc Cert.DilGateBwdIdeal.main_arg2))
      ∧ θ_run (Cert.DilGateBwdReferenceIdeal.defs (F := Ideal)) (onTc (τ := Cert.DilGateBwdReferenceIdeal.τ) (Cert.DilGateBwdReferenceIdeal.main (F := Ideal))) ⟨m', fun _ => 0, g'⟩ (fun r => ∀ c : Dev Cert.DilGateBwdReferenceIdeal.nD,
          r.2.mem ((c.tc : Thread Cert.DilGateBwdReferenceIdeal.nD Cert.DilGateBwdReferenceIdeal.τ).loc Cert.DilGateBwdReferenceIdeal.main_v5) = v0 c
          ∧ r.2.mem ((c.tc : Thread Cert.DilGateBwdReferenceIdeal.nD Cert.DilGateBwdReferenceIdeal.τ).loc Cert.DilGateBwdReferenceIdeal.main_v13) = v1 c
          ∧ r.2.mem ((c.tc : Thread Cert.DilGateBwdReferenceIdeal.nD Cert.DilGateBwdReferenceIdeal.τ).loc Cert.DilGateBwdReferenceIdeal.main_v12) = v2 c
          ∧ r.2.mem ((c.tc : Thread Cert.DilGateBwdReferenceIdeal.nD Cert.DilGateBwdReferenceIdeal.τ).loc Cert.DilGateBwdReferenceIdeal.main_arg0) = m' ((c.tc : Thread Cert.DilGateBwdReferenceIdeal.nD Cert.DilGateBwdReferenceIdeal.τ).loc Cert.DilGateBwdReferenceIdeal.main_arg0)
          ∧ r.2.mem ((c.tc : Thread Cert.DilGateBwdReferenceIdeal.nD Cert.DilGateBwdReferenceIdeal.τ).loc Cert.DilGateBwdReferenceIdeal.main_arg1) = m' ((c.tc : Thread Cert.DilGateBwdReferenceIdeal.nD Cert.DilGateBwdReferenceIdeal.τ).loc Cert.DilGateBwdReferenceIdeal.main_arg1)
          ∧ r.2.mem ((c.tc : Thread Cert.DilGateBwdReferenceIdeal.nD Cert.DilGateBwdReferenceIdeal.τ).loc Cert.DilGateBwdReferenceIdeal.main_arg2) = m' ((c.tc : Thread Cert.DilGateBwdReferenceIdeal.nD Cert.DilGateBwdReferenceIdeal.τ).loc Cert.DilGateBwdReferenceIdeal.main_arg2))

def Claim : Prop :=
  ∃ (hKernel : Cert.Kernel.Facts) (hKernelIdeal : Cert.KernelIdeal.Facts) (hReferenceIdeal : Cert.ReferenceIdeal.Facts) (hInProjDx : Cert.InProjDx.Facts) (hInProjDxIdeal : Cert.InProjDxIdeal.Facts) (hInProjDxReferenceIdeal : Cert.InProjDxReferenceIdeal.Facts) (hInProjDw : Cert.InProjDw.Facts) (hInProjDwIdeal : Cert.InProjDwIdeal.Facts) (hInProjDwReferenceIdeal : Cert.InProjDwReferenceIdeal.Facts) (hGateProjDx : Cert.GateProjDx.Facts) (hGateProjDxIdeal : Cert.GateProjDxIdeal.Facts) (hGateProjDxReferenceIdeal : Cert.GateProjDxReferenceIdeal.Facts) (hGateProjDw : Cert.GateProjDw.Facts) (hGateProjDwIdeal : Cert.GateProjDwIdeal.Facts) (hGateProjDwReferenceIdeal : Cert.GateProjDwReferenceIdeal.Facts) (hBranchProjDx : Cert.BranchProjDx.Facts) (hBranchProjDxIdeal : Cert.BranchProjDxIdeal.Facts) (hBranchProjDxReferenceIdeal : Cert.BranchProjDxReferenceIdeal.Facts) (hBranchProjDw : Cert.BranchProjDw.Facts) (hBranchProjDwIdeal : Cert.BranchProjDwIdeal.Facts) (hBranchProjDwReferenceIdeal : Cert.BranchProjDwReferenceIdeal.Facts) (hOutProjDx : Cert.OutProjDx.Facts) (hOutProjDxIdeal : Cert.OutProjDxIdeal.Facts) (hOutProjDxReferenceIdeal : Cert.OutProjDxReferenceIdeal.Facts) (hOutProjDw : Cert.OutProjDw.Facts) (hOutProjDwIdeal : Cert.OutProjDwIdeal.Facts) (hOutProjDwReferenceIdeal : Cert.OutProjDwReferenceIdeal.Facts) (hInProj : Cert.InProj.Facts) (hInProjIdeal : Cert.InProjIdeal.Facts) (hInProjReferenceIdeal : Cert.InProjReferenceIdeal.Facts) (hGateProj : Cert.GateProj.Facts) (hGateProjIdeal : Cert.GateProjIdeal.Facts) (hGateProjReferenceIdeal : Cert.GateProjReferenceIdeal.Facts) (hBranchProj : Cert.BranchProj.Facts) (hBranchProjIdeal : Cert.BranchProjIdeal.Facts) (hBranchProjReferenceIdeal : Cert.BranchProjReferenceIdeal.Facts) (hOutProj : Cert.OutProj.Facts) (hOutProjIdeal : Cert.OutProjIdeal.Facts) (hOutProjReferenceIdeal : Cert.OutProjReferenceIdeal.Facts) (hSbFwd : Cert.SbFwd.Facts) (hSbFwdIdeal : Cert.SbFwdIdeal.Facts) (hSbFwdReferenceIdeal : Cert.SbFwdReferenceIdeal.Facts) (hMergeBwd : Cert.MergeBwd.Facts) (hMergeBwdIdeal : Cert.MergeBwdIdeal.Facts) (hMergeBwdReferenceIdeal : Cert.MergeBwdReferenceIdeal.Facts) (hMergeFwd : Cert.MergeFwd.Facts) (hMergeFwdIdeal : Cert.MergeFwdIdeal.Facts) (hMergeFwdReferenceIdeal : Cert.MergeFwdReferenceIdeal.Facts) (hRmsFwd : Cert.RmsFwd.Facts) (hRmsFwdIdeal : Cert.RmsFwdIdeal.Facts) (hRmsFwdReferenceIdeal : Cert.RmsFwdReferenceIdeal.Facts) (hDilGateBwd : Cert.DilGateBwd.Facts) (hDilGateBwdIdeal : Cert.DilGateBwdIdeal.Facts) (hDilGateBwdReferenceIdeal : Cert.DilGateBwdReferenceIdeal.Facts) (hPre_finite : Cert.Pre_finite.Facts) (hPre_finite_scores : Cert.Pre_finite_scores.Facts) (hPre_finite_gated : Cert.Pre_finite_gated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProjDx (hInProjDx := hInProjDx)
    ∧ quiescent_InProjDxIdeal (hInProjDxIdeal := hInProjDxIdeal)
    ∧ quiescent_InProjDxReferenceIdeal (hInProjDxReferenceIdeal := hInProjDxReferenceIdeal)
    ∧ quiescent_InProjDw (hInProjDw := hInProjDw)
    ∧ quiescent_InProjDwIdeal (hInProjDwIdeal := hInProjDwIdeal)
    ∧ quiescent_InProjDwReferenceIdeal (hInProjDwReferenceIdeal := hInProjDwReferenceIdeal)
    ∧ quiescent_GateProjDx (hGateProjDx := hGateProjDx)
    ∧ quiescent_GateProjDxIdeal (hGateProjDxIdeal := hGateProjDxIdeal)
    ∧ quiescent_GateProjDxReferenceIdeal (hGateProjDxReferenceIdeal := hGateProjDxReferenceIdeal)
    ∧ quiescent_GateProjDw (hGateProjDw := hGateProjDw)
    ∧ quiescent_GateProjDwIdeal (hGateProjDwIdeal := hGateProjDwIdeal)
    ∧ quiescent_GateProjDwReferenceIdeal (hGateProjDwReferenceIdeal := hGateProjDwReferenceIdeal)
    ∧ quiescent_BranchProjDx (hBranchProjDx := hBranchProjDx)
    ∧ quiescent_BranchProjDxIdeal (hBranchProjDxIdeal := hBranchProjDxIdeal)
    ∧ quiescent_BranchProjDxReferenceIdeal (hBranchProjDxReferenceIdeal := hBranchProjDxReferenceIdeal)
    ∧ quiescent_BranchProjDw (hBranchProjDw := hBranchProjDw)
    ∧ quiescent_BranchProjDwIdeal (hBranchProjDwIdeal := hBranchProjDwIdeal)
    ∧ quiescent_BranchProjDwReferenceIdeal (hBranchProjDwReferenceIdeal := hBranchProjDwReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_GateProj (hGateProj := hGateProj)
    ∧ quiescent_GateProjIdeal (hGateProjIdeal := hGateProjIdeal)
    ∧ quiescent_GateProjReferenceIdeal (hGateProjReferenceIdeal := hGateProjReferenceIdeal)
    ∧ quiescent_BranchProj (hBranchProj := hBranchProj)
    ∧ quiescent_BranchProjIdeal (hBranchProjIdeal := hBranchProjIdeal)
    ∧ quiescent_BranchProjReferenceIdeal (hBranchProjReferenceIdeal := hBranchProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_SbFwd (hSbFwd := hSbFwd)
    ∧ quiescent_SbFwdIdeal (hSbFwdIdeal := hSbFwdIdeal)
    ∧ quiescent_SbFwdIdeal_pre_finite_scores (hSbFwdIdeal := hSbFwdIdeal) (hPre_finite_scores := hPre_finite_scores)
    ∧ quiescent_SbFwdReferenceIdeal (hSbFwdReferenceIdeal := hSbFwdReferenceIdeal)
    ∧ quiescent_SbFwdReferenceIdeal_pre_finite_scores (hSbFwdReferenceIdeal := hSbFwdReferenceIdeal) (hPre_finite_scores := hPre_finite_scores)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_DilGateBwd (hDilGateBwd := hDilGateBwd)
    ∧ quiescent_DilGateBwdIdeal (hDilGateBwdIdeal := hDilGateBwdIdeal)
    ∧ quiescent_DilGateBwdIdeal_pre_finite_gated (hDilGateBwdIdeal := hDilGateBwdIdeal) (hPre_finite_gated := hPre_finite_gated)
    ∧ quiescent_DilGateBwdReferenceIdeal (hDilGateBwdReferenceIdeal := hDilGateBwdReferenceIdeal)
    ∧ quiescent_DilGateBwdReferenceIdeal_pre_finite_gated (hDilGateBwdReferenceIdeal := hDilGateBwdReferenceIdeal) (hPre_finite_gated := hPre_finite_gated)
    ∧ preserves_Kernel_KernelIdeal
    ∧ algebraic_KernelIdeal_ReferenceIdeal_pre_finite (hKernelIdeal := hKernelIdeal) (hReferenceIdeal := hReferenceIdeal) (hPre_finite := hPre_finite)
    ∧ preserves_InProjDx_InProjDxIdeal
    ∧ algebraic_InProjDxIdeal_InProjDxReferenceIdeal (hInProjDxIdeal := hInProjDxIdeal) (hInProjDxReferenceIdeal := hInProjDxReferenceIdeal)
    ∧ preserves_InProjDw_InProjDwIdeal
    ∧ algebraic_InProjDwIdeal_InProjDwReferenceIdeal (hInProjDwIdeal := hInProjDwIdeal) (hInProjDwReferenceIdeal := hInProjDwReferenceIdeal)
    ∧ preserves_GateProjDx_GateProjDxIdeal
    ∧ algebraic_GateProjDxIdeal_GateProjDxReferenceIdeal (hGateProjDxIdeal := hGateProjDxIdeal) (hGateProjDxReferenceIdeal := hGateProjDxReferenceIdeal)
    ∧ preserves_GateProjDw_GateProjDwIdeal
    ∧ algebraic_GateProjDwIdeal_GateProjDwReferenceIdeal (hGateProjDwIdeal := hGateProjDwIdeal) (hGateProjDwReferenceIdeal := hGateProjDwReferenceIdeal)
    ∧ preserves_BranchProjDx_BranchProjDxIdeal
    ∧ algebraic_BranchProjDxIdeal_BranchProjDxReferenceIdeal (hBranchProjDxIdeal := hBranchProjDxIdeal) (hBranchProjDxReferenceIdeal := hBranchProjDxReferenceIdeal)
    ∧ preserves_BranchProjDw_BranchProjDwIdeal
    ∧ algebraic_BranchProjDwIdeal_BranchProjDwReferenceIdeal (hBranchProjDwIdeal := hBranchProjDwIdeal) (hBranchProjDwReferenceIdeal := hBranchProjDwReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_InProj_InProjIdeal
    ∧ algebraic_InProjIdeal_InProjReferenceIdeal (hInProjIdeal := hInProjIdeal) (hInProjReferenceIdeal := hInProjReferenceIdeal)
    ∧ preserves_GateProj_GateProjIdeal
    ∧ algebraic_GateProjIdeal_GateProjReferenceIdeal (hGateProjIdeal := hGateProjIdeal) (hGateProjReferenceIdeal := hGateProjReferenceIdeal)
    ∧ preserves_BranchProj_BranchProjIdeal
    ∧ algebraic_BranchProjIdeal_BranchProjReferenceIdeal (hBranchProjIdeal := hBranchProjIdeal) (hBranchProjReferenceIdeal := hBranchProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_SbFwd_SbFwdIdeal
    ∧ algebraic_SbFwdIdeal_SbFwdReferenceIdeal_pre_finite_scores (hSbFwdIdeal := hSbFwdIdeal) (hSbFwdReferenceIdeal := hSbFwdReferenceIdeal) (hPre_finite_scores := hPre_finite_scores)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_DilGateBwd_DilGateBwdIdeal
    ∧ algebraic_DilGateBwdIdeal_DilGateBwdReferenceIdeal_pre_finite_gated (hDilGateBwdIdeal := hDilGateBwdIdeal) (hDilGateBwdReferenceIdeal := hDilGateBwdReferenceIdeal) (hPre_finite_gated := hPre_finite_gated)
-- ==== Pre_finite.lean ====
abbrev S8192x18432 : Shape := ⟨2, ![8192, 18432]⟩
abbrev S8192x4096 : Shape := ⟨2, ![8192, 4096]⟩
abbrev S_ : Shape := ⟨0, ![]⟩
abbrev S8192x1024 : Shape := ⟨2, ![8192, 1024]⟩

class Facts : Prop where
  slices_S8192x18432_S8192x4096_0_0 : S8192x18432.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S8192x4096_S8192x1024_0_0 : S8192x4096.Slices ![0, 0] S8192x1024
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x18432 .f32) (main_arg1 : FVec F S8192x4096 .f32) : IVec S_ 1 :=
  let main_v0 : FVec F S8192x4096 .f32 := (extractStridedSlice S8192x4096 ![0, 0] · slices_S8192x18432_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := (extractStridedSlice S8192x1024 ![0, 0] · slices_S8192x4096_S8192x1024_0_0) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Pre_finite_gated.lean ====
abbrev S8192x18432 : Shape := ⟨2, ![8192, 18432]⟩
abbrev S8192x1024 : Shape := ⟨2, ![8192, 1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S8192x4096_S8192x1024_0_3072 : S8192x4096.Slices ![0, 3072] S8192x1024

variable [Facts]

def fn {F : FTy → Type} [FloatOps F] (main_arg0 : FVec F S8192x18432 .f32) (main_arg1 : FVec F S8192x1024 .f32) (main_arg2 : FVec F S8192x4096 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extractStridedSlice S8192x1024 ![0, 3072] · slices_S8192x4096_S8192x1024_0_3072) main_arg2
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  main_v9
-- ==== Pre_finite_scores.lean ====
abbrev S8192x18432 : Shape := ⟨2, ![8192, 18432]⟩
abbrev S8192x2048 : Shape := ⟨2, ![8192, 2048]⟩
abbrev S_ : Shape := ⟨0, ![]⟩

class Facts : Prop where
  slices_S8192x18432_S8192x2048_0_0 : S8192x18432.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x18432 .f32) : IVec S_ 1 :=
  let main_v0 : FVec F S8192x2048 .f32 := (extractStridedSlice S8192x2048 ![0, 0] · slices_S8192x18432_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  main_v4
-- ==== Kernel.lean ====
abbrev S8192x18432 : Shape := ⟨2, ![8192, 18432]⟩
abbrev S8192x4096 : Shape := ⟨2, ![8192, 4096]⟩
abbrev S8192x1024 : Shape := ⟨2, ![8192, 1024]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x32 : Shape := ⟨3, ![8, 8192, 32]⟩
abbrev S8x8192x128 : Shape := ⟨3, ![8, 8192, 128]⟩
abbrev S512x128 : Shape := ⟨2, ![512, 128]⟩
abbrev S8192x128 : Shape := ⟨2, ![8192, 128]⟩
abbrev S512x512 : Shape := ⟨2, ![512, 512]⟩
abbrev S256x256 : Shape := ⟨2, ![256, 256]⟩
abbrev S512x1 : Shape := ⟨2, ![512, 1]⟩
abbrev S512 : Shape := ⟨1, ![512]⟩
abbrev S512x256 : Shape := ⟨2, ![512, 256]⟩

abbrev nBuf : Space → Nat
  | .hbm => 82
  | .vmem => 24
  | .smem => 0
  | _ => 0

abbrev bufTy : (tb : Table) → Fin (tcTables nBuf tb) → BufTy
  | .hbm, ⟨0, _⟩ => ⟨S8192x18432, .f32⟩
  | .hbm, ⟨1, _⟩ => ⟨S8192x4096, .f32⟩
  | .hbm, ⟨2, _⟩ => ⟨S8192x1024, .f32⟩
  | .hbm, ⟨3, _⟩ => ⟨S8192x8x128, .f32⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8192, .i32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S_, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S_, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8192x1024, .f32⟩
  | .hbm, ⟨71, _⟩ => ⟨S8x8192x32, .f32⟩
  | .hbm, ⟨72, _⟩ => ⟨S8x8192x32, .f32⟩
  | .hbm, ⟨73, _⟩ => ⟨S_, .i32⟩
  | .hbm, ⟨74, _⟩ => ⟨S_, .f32⟩
  | .hbm, ⟨75, _⟩ => ⟨S8x8192x128, .f32⟩
  | .hbm, ⟨76, _⟩ => ⟨S8192x8x128, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S512x128, .f32⟩
  | .local _ .vmem, ⟨21, _⟩ => ⟨S512x128, .f32⟩
  | .local _ .vmem, ⟨22, _⟩ => ⟨S8192x128, .bf16⟩
  | .local _ .vmem, ⟨23, _⟩ => ⟨S8192x128, .bf16⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v18 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v19 : Ref sig .tc := ⟨.hbm, 56, rfl⟩
abbrev main_call3_cst : Ref sig .tc := ⟨.hbm, 57, rfl⟩
abbrev main_call3_v0 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_c : Ref sig .tc := ⟨.hbm, 73, rfl⟩
abbrev main_call5_v0 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33_0 : Ref sig .tc := ⟨.hbm, 78, rfl⟩
abbrev main_v33_1 : Ref sig .tc := ⟨.hbm, 79, rfl⟩
abbrev main_v33_2 : Ref sig .tc := ⟨.hbm, 80, rfl⟩
abbrev main_v33_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_19 : BitVec 32 := 0#32
  let arg1 : BitVec 32 := BitVec.ofNat 32 (i 1).val
  let c1_i32 : BitVec 32 := 1#32
  let v48 : BitVec 32 := Scalar.muli arg1 c1_i32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_21 : BitVec 32 := 1#32
  ⟨c0_i32_19, v55, c1_i32_21⟩
def k0_mult1 (i : grid0.Coords) (k0_t1 : Fin (k0_t1_loop i).trips) : BitVec 32 :=
  let c0_i32_19 : BitVec 32 := 0#32
  let c1_i32_21 : BitVec 32 := 1#32
  let arg15 : BitVec 32 := Scf.iv c0_i32_19 c1_i32_21 k0_t1
  let c512_i32_57 : BitVec 32 := 512#32
  let v162 : BitVec 32 := Scalar.muli arg15 c512_i32_57
  v162
def k0_off1 (i : grid0.Coords) (k0_t1 : Fin (k0_t1_loop i).trips) : Fin 2 → Nat :=
  let c0_i32_19 : BitVec 32 := 0#32
  let c1_i32_21 : BitVec 32 := 1#32
  let arg15 : BitVec 32 := Scf.iv c0_i32_19 c1_i32_21 k0_t1
  let c512_i32_57 : BitVec 32 := 512#32
  let v162 : BitVec 32 := Scalar.muli arg15 c512_i32_57
  let v163 : BitVec 32 := v162
  let v164 : Index := Scalar.indexCast v163
  let c0_58 : Index := 0#32
  ![v164.toNat, 0]
@[reducible] def k0_t2_loop (i : grid0.Coords) : Scf.Loop 32 :=
  let c0_i32_19 : BitVec 32 := 0#32
  let arg1 : BitVec 32 := BitVec.ofNat 32 (i 1).val
  let c1_i32 : BitVec 32 := 1#32
  let v48 : BitVec 32 := Scalar.muli arg1 c1_i32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let v52 : BitVec 32 := Scalar.addi c0_i32_19 v51
  let c1_i32_22 : BitVec 32 := 1#32
  ⟨v55, v52, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c1_i32 : BitVec 32 := 1#32
  let v48 : BitVec 32 := Scalar.muli arg1 c1_i32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_22 : BitVec 32 := 1#32
  let arg15 : BitVec 32 := Scf.iv v55 c1_i32_22 k0_t2
  let c512_i32_57 : BitVec 32 := 512#32
  let v162 : BitVec 32 := Scalar.muli arg15 c512_i32_57
  v162
def k0_off2 (i : grid0.Coords) (k0_t2 : Fin (k0_t2_loop i).trips) : Fin 2 → Nat :=
  let c0_i32_19 : BitVec 32 := 0#32
  let arg1 : BitVec 32 := BitVec.ofNat 32 (i 1).val
  let c1_i32 : BitVec 32 := 1#32
  let v48 : BitVec 32 := Scalar.muli arg1 c1_i32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_22 : BitVec 32 := 1#32
  let arg15 : BitVec 32 := Scf.iv v55 c1_i32_22 k0_t2
  let c512_i32_57 : BitVec 32 := 512#32
  let v162 : BitVec 32 := Scalar.muli arg15 c512_i32_57
  let v163 : BitVec 32 := v162
  let v164 : Index := Scalar.indexCast v163
  let c0_58 : Index := 0#32
  ![v164.toNat, 0]
def k0_mult3 (i : grid0.Coords) : BitVec 32 :=
  let arg1 : BitVec 32 := BitVec.ofNat 32 (i 1).val
  let c1_i32_23 : BitVec 32 := 1#32
  let v58 : BitVec 32 := Scalar.muli arg1 c1_i32_23
  let c0_i32_24 : BitVec 32 := 0#32
  let v59 : BitVec 32 := Scalar.addi v58 c0_i32_24
  let c512_i32_25 : BitVec 32 := 512#32
  let v60 : BitVec 32 := Scalar.muli v59 c512_i32_25
  v60
def k0_off3 (i : grid0.Coords) : Fin 2 → Nat :=
  let arg1 : BitVec 32 := BitVec.ofNat 32 (i 1).val
  let c1_i32_23 : BitVec 32 := 1#32
  let v58 : BitVec 32 := Scalar.muli arg1 c1_i32_23
  let c0_i32_24 : BitVec 32 := 0#32
  let v59 : BitVec 32 := Scalar.addi v58 c0_i32_24
  let c512_i32_25 : BitVec 32 := 512#32
  let v60 : BitVec 32 := Scalar.muli v59 c512_i32_25
  let v61 : BitVec 32 := v60
  let v62 : Index := Scalar.indexCast v61
  let c0_26 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x18432 : Shape := ⟨2, ![8192, 18432]⟩
abbrev S8192x4096 : Shape := ⟨2, ![8192, 4096]⟩
abbrev S8192x1024 : Shape := ⟨2, ![8192, 1024]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩

abbrev nBuf : Space → Nat
  | .hbm => 196
  | .vmem => 0
  | .smem => 0
  | _ => 0

abbrev hbmTy0_0 (i : Nat) : BufTy := match i % 128 with
  | 0 => ⟨S8192x18432, .f32⟩
  | 1 => ⟨S8192x4096, .f32⟩
  | 2 => ⟨S8192x1024, .f32⟩
  | 3 => ⟨S8192x1024, .f32⟩
  | 4 => ⟨S8192x1024, .f32⟩
  | 5 => ⟨S8192x1024, .f32⟩
  | 6 => ⟨S8192x8x128, .f32⟩
  | 7 => ⟨S8192x8x128, .f32⟩
  | 8 => ⟨S8192x8x128, .f32⟩
  | 9 => ⟨S8192, .i32⟩
  | 10 => ⟨S8x8192x8192, .f32⟩
  | 11 => ⟨S_, .f32⟩
  | 12 => ⟨S8x8192x8192, .f32⟩
  | 13 => ⟨S8x8192x8192, .f32⟩
  | 14 => ⟨S1x8192, .i32⟩
  | 15 => ⟨S8192, .i32⟩
  | 16 => ⟨S8192x1, .i32⟩
  | 17 => ⟨S8192x8192, .i32⟩
  | 18 => ⟨S8192x8192, .i32⟩
  | 19 => ⟨S8192x8192, .i1⟩
  | 20 => ⟨S8x8192x8192, .f32⟩
  | 21 => ⟨S_, .f32⟩
  | 22 => ⟨S8x8192x8192, .f32⟩
  | 23 => ⟨S8x8192x8192, .f32⟩
  | 24 => ⟨S8x8192x8192, .f32⟩
  | 25 => ⟨S8x8192x8192, .f32⟩
  | 26 => ⟨S8x8192x8192, .i1⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S_, .f32⟩
  | 36 => ⟨S8x8192x8192, .f32⟩
  | 37 => ⟨S8x8192x8192, .i1⟩
  | 38 => ⟨S_, .f32⟩
  | 39 => ⟨S8x8192x8192, .f32⟩
  | 40 => ⟨S8x8192x8192, .f32⟩
  | 41 => ⟨S_, .f32⟩
  | 42 => ⟨S8x8192x8192, .f32⟩
  | 43 => ⟨S8x8192x8192, .i1⟩
  | 44 => ⟨S_, .f32⟩
  | 45 => ⟨S8x8192x8192, .f32⟩
  | 46 => ⟨S8x8192x8192, .f32⟩
  | 47 => ⟨S8x8192x8192, .f32⟩
  | 48 => ⟨S8x8192x8192, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S8x8192x8192, .f32⟩
  | 57 => ⟨S8x8192x8192, .i1⟩
  | 58 => ⟨S_, .f32⟩
  | 59 => ⟨S8x8192x8192, .f32⟩
  | 60 => ⟨S8x8192x8192, .f32⟩
  | 61 => ⟨S8x8192x8192, .f32⟩
  | 62 => ⟨S8x8192x8192, .f32⟩
  | 63 => ⟨S8x8192x8192, .f32⟩
  | 64 => ⟨S_, .f32⟩
  | 65 => ⟨S8x8192x8192, .f32⟩
  | 66 => ⟨S8x8192x8192, .f32⟩
  | 67 => ⟨S8x8192x8192, .f32⟩
  | 68 => ⟨S8x8192x8192, .f32⟩
  | 69 => ⟨S8x8192x8192, .f32⟩
  | 70 => ⟨S_, .f32⟩
  | 71 => ⟨S8x8192x8192, .f32⟩
  | 72 => ⟨S8x8192x8192, .f32⟩
  | 73 => ⟨S8x8192x8192, .f32⟩
  | 74 => ⟨S8x8192x8192, .f32⟩
  | 75 => ⟨S8x8192x8192, .i1⟩
  | 76 => ⟨S8x8192x8192, .f32⟩
  | 77 => ⟨S8x8192x8192, .f32⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S_, .f32⟩
  | 85 => ⟨S8x8192x8192, .f32⟩
  | 86 => ⟨S8x8192x8192, .i1⟩
  | 87 => ⟨S_, .f32⟩
  | 88 => ⟨S8x8192x8192, .f32⟩
  | 89 => ⟨S8x8192x8192, .f32⟩
  | 90 => ⟨S_, .f32⟩
  | 91 => ⟨S8x8192x8192, .f32⟩
  | 92 => ⟨S8x8192x8192, .i1⟩
  | 93 => ⟨S_, .f32⟩
  | 94 => ⟨S8x8192x8192, .f32⟩
  | 95 => ⟨S8x8192x8192, .f32⟩
  | 96 => ⟨S8x8192x8192, .f32⟩
  | 97 => ⟨S8x8192x8192, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S8x8192x8192, .f32⟩
  | 106 => ⟨S8x8192x8192, .i1⟩
  | 107 => ⟨S_, .f32⟩
  | 108 => ⟨S8x8192x8192, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S8x8192x8192, .f32⟩
  | 115 => ⟨S8x8192x8192, .f32⟩
  | 116 => ⟨S8x8192x8192, .f32⟩
  | 117 => ⟨S_, .f32⟩
  | 118 => ⟨S_, .f32⟩
  | 119 => ⟨S8x8192x8192, .i1⟩
  | 120 => ⟨S8x8192x8192, .f32⟩
  | 121 => ⟨S8x8192x8192, .f32⟩
  | 122 => ⟨S_, .f32⟩
  | 123 => ⟨S8x8192x8192, .f32⟩
  | 124 => ⟨S_, .f32⟩
  | 125 => ⟨S_, .f32⟩
  | 126 => ⟨S8x8192x8192, .f32⟩
  | 127 => ⟨S8x8192x8192, .f32⟩
  | _ => ⟨S8192x18432, .f32⟩

abbrev hbmTy0_1 (i : Nat) : BufTy := match i % 128 with
  | 0 => ⟨S8x8192x8192, .f32⟩
  | 1 => ⟨S8x8192x8192, .f32⟩
  | 2 => ⟨S_, .f32⟩
  | 3 => ⟨S_, .f32⟩
  | 4 => ⟨S8x8192x8192, .i1⟩
  | 5 => ⟨S8x8192x8192, .f32⟩
  | 6 => ⟨S8x8192x8192, .f32⟩
  | 7 => ⟨S_, .f32⟩
  | 8 => ⟨S8x8192x8192, .f32⟩
  | 9 => ⟨S8x128x8192, .f32⟩
  | 10 => ⟨S8192x8x128, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x8x128, .f32⟩
  | 34 => ⟨S8x128x8192, .f32⟩
  | 35 => ⟨S8x8192x8192, .f32⟩
  | 36 => ⟨S8x128x8192, .f32⟩
  | 37 => ⟨S8192x8x128, .f32⟩
  | 38 => ⟨S_, .f32⟩
  | 39 => ⟨S8x8192x8192, .f32⟩
  | 40 => ⟨S8x8192x8192, .f32⟩
  | 41 => ⟨S8x8192x8192, .f32⟩
  | 42 => ⟨S8x8192x8192, .f32⟩
  | 43 => ⟨S_, .f32⟩
  | 44 => ⟨S_, .f32⟩
  | 45 => ⟨S8x8192x8192, .f32⟩
  | 46 => ⟨S8x8192x8192, .f32⟩
  | 47 => ⟨S_, .f32⟩
  | 48 => ⟨S8x8192x8192, .f32⟩
  | 49 => ⟨S8x8192x8192, .f32⟩
  | 50 => ⟨S8x8192x8192, .f32⟩
  | 51 => ⟨S8x8192x8192, .f32⟩
  | 52 => ⟨S8x8192x8192, .f32⟩
  | 53 => ⟨S8x8192x8192, .f32⟩
  | 54 => ⟨S8x8192x8192, .f32⟩
  | 55 => ⟨S8x8192x8192, .f32⟩
  | 56 => ⟨S8x8192x8192, .f32⟩
  | 57 => ⟨S8x8192x8192, .f32⟩
  | 58 => ⟨S_, .f32⟩
  | 59 => ⟨S8x8192x8192, .f32⟩
  | 60 => ⟨S8x8192x8192, .f32⟩
  | 61 => ⟨S8x8192x128, .f32⟩
  | 62 => ⟨S8192x8x128, .f32⟩
  | 63 => ⟨S8x8192x128, .f32⟩
  | 64 => ⟨S8192x8x128, .f32⟩
  | 65 => ⟨S8192x1024, .f32⟩
  | 66 => ⟨S8192x1024, .f32⟩
  | 67 => ⟨S8192x1024, .f32⟩
  | _ => ⟨S8192x18432, .f32⟩

abbrev hbmTy (i : Nat) : BufTy := match i / 128 with
  | 0 => hbmTy0_0 i
  | 1 => hbmTy0_1 i
  | _ => ⟨S8192x18432, .f32⟩

abbrev bufTy : (tb : Table) → Fin (tcTables nBuf tb) → BufTy
  | .hbm, ⟨i, _⟩ => hbmTy i
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_v18 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1_0 : Ref sig .tc := ⟨.hbm, 83, rfl⟩
abbrev main_call1_call0_cst_0 : Ref sig .tc := ⟨.hbm, 84, rfl⟩
abbrev main_call1_call0_v13 : Ref sig .tc := ⟨.hbm, 85, rfl⟩
abbrev main_call1_call0_v14 : Ref sig .tc := ⟨.hbm, 86, rfl⟩
abbrev main_call1_call0_cst_1 : Ref sig .tc := ⟨.hbm, 87, rfl⟩
abbrev main_call1_call0_v15 : Ref sig .tc := ⟨.hbm, 88, rfl⟩
abbrev main_call1_call0_v16 : Ref sig .tc := ⟨.hbm, 89, rfl⟩
abbrev main_call1_call0_cst_2 : Ref sig .tc := ⟨.hbm, 90, rfl⟩
abbrev main_call1_call0_v17 : Ref sig .tc := ⟨.hbm, 91, rfl⟩
abbrev main_call1_call0_v18 : Ref sig .tc := ⟨.hbm, 92, rfl⟩
abbrev main_call1_call0_cst_3 : Ref sig .tc := ⟨.hbm, 93, rfl⟩
abbrev main_call1_call0_v19 : Ref sig .tc := ⟨.hbm, 94, rfl⟩
abbrev main_call1_call0_v20 : Ref sig .tc := ⟨.hbm, 95, rfl⟩
abbrev main_call1_call0_v21 : Ref sig .tc := ⟨.hbm, 96, rfl⟩
abbrev main_v19_1 : Ref sig .tc := ⟨.hbm, 97, rfl⟩
abbrev main_call1_call0_cst_4 : Ref sig .tc := ⟨.hbm, 98, rfl⟩
abbrev main_call1_call0_cst_5 : Ref sig .tc := ⟨.hbm, 99, rfl⟩
abbrev main_call1_call0_v23 : Ref sig .tc := ⟨.hbm, 100, rfl⟩
abbrev main_call1_call0_cst_6 : Ref sig .tc := ⟨.hbm, 101, rfl⟩
abbrev main_call1_call0_cst_7 : Ref sig .tc := ⟨.hbm, 102, rfl⟩
abbrev main_call1_call0_v24 : Ref sig .tc := ⟨.hbm, 103, rfl⟩
abbrev main_call1_call0_cst_8 : Ref sig .tc := ⟨.hbm, 104, rfl⟩
abbrev main_call1_call0_v25 : Ref sig .tc := ⟨.hbm, 105, rfl⟩
abbrev main_call1_call0_v26 : Ref sig .tc := ⟨.hbm, 106, rfl⟩
abbrev main_call1_call0_cst_9 : Ref sig .tc := ⟨.hbm, 107, rfl⟩
abbrev main_call1_call0_v27 : Ref sig .tc := ⟨.hbm, 108, rfl⟩
abbrev main_call1_call0_v28 : Ref sig .tc := ⟨.hbm, 109, rfl⟩
abbrev main_call1_call0_v29 : Ref sig .tc := ⟨.hbm, 110, rfl⟩
abbrev main_call1_call0_v30 : Ref sig .tc := ⟨.hbm, 111, rfl⟩
abbrev main_call1_call0_v31 : Ref sig .tc := ⟨.hbm, 112, rfl⟩
abbrev main_call1_call0_cst_10 : Ref sig .tc := ⟨.hbm, 113, rfl⟩
abbrev main_call1_call0_v32 : Ref sig .tc := ⟨.hbm, 114, rfl⟩
abbrev main_v19_2 : Ref sig .tc := ⟨.hbm, 115, rfl⟩
abbrev main_v19_0 : Ref sig .tc := ⟨.hbm, 116, rfl⟩
abbrev main_cst_0 : Ref sig .tc := ⟨.hbm, 117, rfl⟩
abbrev main_call2_v0 : Ref sig .tc := ⟨.hbm, 118, rfl⟩
abbrev main_v20_1 : Ref sig .tc := ⟨.hbm, 119, rfl⟩
abbrev main_call2_v2 : Ref sig .tc := ⟨.hbm, 120, rfl⟩
abbrev main_v20_0 : Ref sig .tc := ⟨.hbm, 121, rfl⟩
abbrev main_call2_cst : Ref sig .tc := ⟨.hbm, 122, rfl⟩
abbrev main_v20_2 : Ref sig .tc := ⟨.hbm, 123, rfl⟩
abbrev main_call3_cst : Ref sig .tc := ⟨.hbm, 124, rfl⟩
abbrev main_call3_v0 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_call5_v0 : Ref sig .tc := ⟨.hbm, 140, rfl⟩
abbrev main_call5_v1 : Ref sig .tc := ⟨.hbm, 141, rfl⟩
abbrev main_call5_cst : Ref sig .tc := ⟨.hbm, 142, rfl⟩
abbrev main_call5_v2 : Ref sig .tc := ⟨.hbm, 143, rfl⟩
abbrev main_call5_v3 : Ref sig .tc := ⟨.hbm, 144, rfl⟩
abbrev main_call5_cst_0 : Ref sig .tc := ⟨.hbm, 145, rfl⟩
abbrev main_call5_v4 : Ref sig .tc := ⟨.hbm, 146, rfl⟩
abbrev main_v29_2 : Ref sig .tc := ⟨.hbm, 147, rfl⟩
abbrev main_call5_cst_1 : Ref sig .tc := ⟨.hbm, 148, rfl⟩
abbrev main_call5_v6 : Ref sig .tc := ⟨.hbm, 149, rfl⟩
abbrev main_call5_v7 : Ref sig .tc := ⟨.hbm, 150, rfl⟩
abbrev main_v29_1 : Ref sig .tc := ⟨.hbm, 151, rfl⟩
abbrev main_v29_0 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_call7_cst : Ref sig .tc := ⟨.hbm, 166, rfl⟩
abbrev main_call7_v0 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_call8_cst : Ref sig .tc := ⟨.hbm, 171, rfl⟩
abbrev main_call8_v0 : Ref sig .tc := ⟨.hbm, 172, rfl⟩
abbrev main_v43 : Ref sig .tc := ⟨.hbm, 173, rfl⟩
abbrev main_v44 : Ref sig .tc := ⟨.hbm, 174, rfl⟩
abbrev main_call9_cst : Ref sig .tc := ⟨.hbm, 175, rfl⟩
abbrev main_call9_v0 : Ref sig .tc := ⟨.hbm, 176, rfl⟩
abbrev main_v45 : Ref sig .tc := ⟨.hbm, 177, rfl⟩
abbrev main_call10_v0 : Ref sig .tc := ⟨.hbm, 178, rfl⟩
abbrev main_call10_v1 : Ref sig .tc := ⟨.hbm, 179, rfl⟩
abbrev main_v46 : Ref sig .tc := ⟨.hbm, 180, rfl⟩
abbrev main_v47 : Ref sig .tc := ⟨.hbm, 181, rfl⟩
abbrev main_call11_v0 : Ref sig .tc := ⟨.hbm, 182, rfl⟩
abbrev main_call11_v1 : Ref sig .tc := ⟨.hbm, 183, rfl⟩
abbrev main_v48 : Ref sig .tc := ⟨.hbm, 184, rfl⟩
abbrev main_v49 : Ref sig .tc := ⟨.hbm, 185, rfl⟩
abbrev main_cst_2 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩

abbrev nD : Nat := 1
abbrev τ : Topo := Topo.v7x

variable {F : FTy → Type} [FloatOps F]
-- ==== InProjDx.lean ====
abbrev S8192x18432 : Shape := ⟨2, ![8192, 18432]⟩
abbrev S2048x18432 : Shape := ⟨2, ![2048, 18432]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x18432, .bf16⟩
  | .hbm, ⟨1, _⟩ => ⟨S2048x18432, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8192x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 1, 16, 9], ![false, false, false, false]⟩

def k0_cond3 (i : grid0.Coords) : BitVec 1 :=
  let arg3 : BitVec 32 := BitVec.ofNat 32 (i 3).val
  let c8_i32 : BitVec 32 := 8#32
  let v9 : BitVec 1 := Scalar.cmpi .eq arg3 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c9_i32 : BitVec 32 := 9#32
  let v0 : BitVec 32 := Scalar.muli arg0 c9_i32
  let v1 : BitVec 32 := Scalar.addi v0 arg3
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]
-- ==== InProjDxReferenceIdeal.lean ====
abbrev S8192x18432 : Shape := ⟨2, ![8192, 18432]⟩
abbrev S2048x18432 : Shape := ⟨2, ![2048, 18432]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x18432, .bf16⟩
  | .hbm, ⟨1, _⟩ => ⟨S2048x18432, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x18432, .f32⟩
  | .hbm, ⟨6, _⟩ => ⟨S8192x18432, .f32⟩
  | .hbm, ⟨7, _⟩ => ⟨S8192x18432, .f32⟩
  | .hbm, ⟨8, _⟩ => ⟨S8192x2048, .f32⟩
  | .hbm, ⟨9, _⟩ => ⟨S8192x2048, .f32⟩
  | _, _ => ⟨S8192x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InProjDw.lean ====
abbrev S8192x2048 : Shape := ⟨2, ![8192, 2048]⟩
abbrev S8192x18432 : Shape := ⟨2, ![8192, 18432]⟩
abbrev S2048x18432 : Shape := ⟨2, ![2048, 18432]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x18432, .bf16⟩
  | .hbm, ⟨2, _⟩ => ⟨S2048x18432, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 18, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c18_i32 : BitVec 32 := 18#32
  let v0 : BitVec 32 := Scalar.muli arg0 c18_i32
  let v1 : BitVec 32 := Scalar.addi v0 arg1
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InProjDwReferenceIdeal.lean ====
abbrev S8192x2048 : Shape := ⟨2, ![8192, 2048]⟩
abbrev S8192x18432 : Shape := ⟨2, ![8192, 18432]⟩
abbrev S_ : Shape := ⟨0, ![]⟩
abbrev S2048x18432 : Shape := ⟨2, ![2048, 18432]⟩
abbrev S18432x2048 : Shape := ⟨2, ![18432, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x18432, .bf16⟩
  | .hbm, ⟨2, _⟩ => ⟨S_, .f32⟩
  | .hbm, ⟨3, _⟩ => ⟨S2048x18432, .f32⟩
  | .hbm, ⟨4, _⟩ => ⟨S8192x2048, .f32⟩
  | .hbm, ⟨5, _⟩ => ⟨S8192x18432, .f32⟩
  | .hbm, ⟨6, _⟩ => ⟨S8192x18432, .f32⟩
  | .hbm, ⟨7, _⟩ => ⟨S18432x2048, .f32⟩
  | .hbm, ⟨8, _⟩ => ⟨S2048x18432, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateProjDx.lean ====
abbrev S8192x8192 : Shape := ⟨2, ![8192, 8192]⟩
abbrev S2048x8192 : Shape := ⟨2, ![2048, 8192]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 16, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]
-- ==== GateProjDxReferenceIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateProjDw.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg1
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GateProjDwReferenceIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchProjDx.lean ====
abbrev S8192x8192 : Shape := ⟨2, ![8192, 8192]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]
-- ==== BranchProjDxReferenceIdeal.lean ====
abbrev S8192x8192 : Shape := ⟨2, ![8192, 8192]⟩
abbrev S4096x2048 : Shape := ⟨2, ![4096, 2048]⟩
abbrev S_ : Shape := ⟨0, ![]⟩
abbrev S8192x4096 : Shape := ⟨2, ![8192, 4096]⟩
abbrev S8192x4x1024 : Shape := ⟨3, ![8192, 4, 1024]⟩
abbrev S4x1024x2048 : Shape := ⟨3, ![4, 1024, 2048]⟩
abbrev S4x2048x8192 : Shape := ⟨3, ![4, 2048, 8192]⟩
abbrev S8192x4x2048 : Shape := ⟨3, ![8192, 4, 2048]⟩
abbrev S4x8192x1024 : Shape := ⟨3, ![4, 8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x4x1024, .f32⟩
  | .hbm, ⟨6, _⟩ => ⟨S4x1024x2048, .f32⟩
  | .hbm, ⟨7, _⟩ => ⟨S4x2048x8192, .f32⟩
  | .hbm, ⟨8, _⟩ => ⟨S8192x4x2048, .f32⟩
  | .hbm, ⟨9, _⟩ => ⟨S8192x8192, .f32⟩
  | .hbm, ⟨10, _⟩ => ⟨S8192x8192, .f32⟩
  | .hbm, ⟨11, _⟩ => ⟨S8192x4x2048, .f32⟩
  | .hbm, ⟨12, _⟩ => ⟨S4x2048x8192, .f32⟩
  | .hbm, ⟨13, _⟩ => ⟨S4x8192x1024, .f32⟩
  | .hbm, ⟨14, _⟩ => ⟨S8192x4x1024, .f32⟩
  | .hbm, ⟨15, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== BranchProjDw.lean ====
abbrev S8192x4096 : Shape := ⟨2, ![8192, 4096]⟩
abbrev S8192x8192 : Shape := ⟨2, ![8192, 8192]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x8192, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 4], ![false, false, false, false]⟩

def k0_cond3 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchProjDwReferenceIdeal.lean ====
abbrev S8192x4096 : Shape := ⟨2, ![8192, 4096]⟩
abbrev S8192x8192 : Shape := ⟨2, ![8192, 8192]⟩
abbrev S_ : Shape := ⟨0, ![]⟩
abbrev S4096x2048 : Shape := ⟨2, ![4096, 2048]⟩
abbrev S8192x4x1024 : Shape := ⟨3, ![8192, 4, 1024]⟩
abbrev S4x1024x2048 : Shape := ⟨3, ![4, 1024, 2048]⟩
abbrev S4x2048x8192 : Shape := ⟨3, ![4, 2048, 8192]⟩
abbrev S8192x4x2048 : Shape := ⟨3, ![8192, 4, 2048]⟩
abbrev S4x2048x1024 : Shape := ⟨3, ![4, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x8192, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x4x1024, .f32⟩
  | .hbm, ⟨6, _⟩ => ⟨S4x1024x2048, .f32⟩
  | .hbm, ⟨7, _⟩ => ⟨S4x2048x8192, .f32⟩
  | .hbm, ⟨8, _⟩ => ⟨S8192x4x2048, .f32⟩
  | .hbm, ⟨9, _⟩ => ⟨S8192x8192, .f32⟩
  | .hbm, ⟨10, _⟩ => ⟨S8192x8192, .f32⟩
  | .hbm, ⟨11, _⟩ => ⟨S8192x4x2048, .f32⟩
  | .hbm, ⟨12, _⟩ => ⟨S4x2048x8192, .f32⟩
  | .hbm, ⟨13, _⟩ => ⟨S4x2048x1024, .f32⟩
  | .hbm, ⟨14, _⟩ => ⟨S4x1024x2048, .f32⟩
  | .hbm, ⟨15, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== OutProjDx.lean ====
abbrev S8192x2048 : Shape := ⟨2, ![8192, 2048]⟩
abbrev S2048x2048 : Shape := ⟨2, ![2048, 2048]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | .local _ .vmem, ⟨5, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]
-- ==== OutProjDxReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== OutProjDwReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S8192x2048 : Shape := ⟨2, ![8192, 2048]⟩
abbrev S2048x18432 : Shape := ⟨2, ![2048, 18432]⟩
abbrev S8192x18432 : Shape := ⟨2, ![8192, 18432]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x18432, .bf16⟩
  | .hbm, ⟨2, _⟩ => ⟨S8192x18432, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 18, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c18_i32 : BitVec 32 := 18#32
  let v0 : BitVec 32 := Scalar.muli arg0 c18_i32
  let v1 : BitVec 32 := Scalar.addi v0 arg1
  let c0_i32 : BitVec 32 := 0#32
  ![arg2.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== InProjReferenceIdeal.lean ====
abbrev S8192x2048 : Shape := ⟨2, ![8192, 2048]⟩
abbrev S2048x18432 : Shape := ⟨2, ![2048, 18432]⟩
abbrev S8192x18432 : Shape := ⟨2, ![8192, 18432]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x18432, .bf16⟩
  | .hbm, ⟨2, _⟩ => ⟨S8192x2048, .f32⟩
  | .hbm, ⟨3, _⟩ => ⟨S2048x18432, .f32⟩
  | .hbm, ⟨4, _⟩ => ⟨S8192x18432, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateProj.lean ====
abbrev S8192x2048 : Shape := ⟨2, ![8192, 2048]⟩
abbrev S2048x8192 : Shape := ⟨2, ![2048, 8192]⟩
abbrev S8192 : Shape := ⟨1, ![8192]⟩
abbrev S1x8192 : Shape := ⟨2, ![1, 8192]⟩
abbrev S8192x8192 : Shape := ⟨2, ![8192, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192, .f32⟩
  | .hbm, ⟨3, _⟩ => ⟨S1x8192, .f32⟩
  | .hbm, ⟨4, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg1
  let c0_i32 : BitVec 32 := 0#32
  ![arg2.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== GateProjReferenceIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S1x8192, .f32⟩
  | .hbm, ⟨7, _⟩ => ⟨S8192x8192, .f32⟩
  | .hbm, ⟨8, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchProj.lean ====
abbrev S8192x4096 : Shape := ⟨2, ![8192, 4096]⟩
abbrev S4096x2048 : Shape := ⟨2, ![4096, 2048]⟩
abbrev S8192x8192 : Shape := ⟨2, ![8192, 8192]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== BranchProjReferenceIdeal.lean ====
abbrev S8192x4096 : Shape := ⟨2, ![8192, 4096]⟩
abbrev S4096x2048 : Shape := ⟨2, ![4096, 2048]⟩
abbrev S8192x4x1024 : Shape := ⟨3, ![8192, 4, 1024]⟩
abbrev S4x1024x2048 : Shape := ⟨3, ![4, 1024, 2048]⟩
abbrev S4x2048x8192 : Shape := ⟨3, ![4, 2048, 8192]⟩
abbrev S8192x4x2048 : Shape := ⟨3, ![8192, 4, 2048]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x4x1024, .f32⟩
  | .hbm, ⟨5, _⟩ => ⟨S4x1024x2048, .f32⟩
  | .hbm, ⟨6, _⟩ => ⟨S4x2048x8192, .f32⟩
  | .hbm, ⟨7, _⟩ => ⟨S8192x4x2048, .f32⟩
  | .hbm, ⟨8, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg2.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== OutProjReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SbFwd.lean ====
abbrev S8192x18432 : Shape := ⟨2, ![8192, 18432]⟩
abbrev S8192x1024 : Shape := ⟨2, ![8192, 1024]⟩
abbrev S1024x128 : Shape := ⟨2, ![1024, 128]⟩
abbrev S8192x128 : Shape := ⟨2, ![8192, 128]⟩
abbrev S1024x512 : Shape := ⟨2, ![1024, 512]⟩
abbrev S256x256 : Shape := ⟨2, ![256, 256]⟩
abbrev S1024x1 : Shape := ⟨2, ![1024, 1]⟩
abbrev S512x128 : Shape := ⟨2, ![512, 128]⟩
abbrev S1024x256 : Shape := ⟨2, ![1024, 256]⟩

abbrev nBuf : Space → Nat
  | .hbm => 4
  | .vmem => 16
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x1024, .bf16⟩
  | .hbm, ⟨3, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .f32⟩
  | .local _ .vmem, ⟨14, _⟩ => ⟨S8192x128, .bf16⟩
  | .local _ .vmem, ⟨15, _⟩ => ⟨S8192x128, .bf16⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v28 : BitVec 32 := Scalar.muli arg1 c2_i32
  let c1_i32 : BitVec 32 := 1#32
  let v29 : BitVec 32 := Scalar.addi v28 c1_i32
  let c512_i32 : BitVec 32 := 512#32
  let v30 : BitVec 32 := Scalar.muli v29 c512_i32
  v30
def k0_off1 (i : grid0.Coords) (c1_i32 : BitVec 32) : Fin 2 → Nat :=
  let arg1 : BitVec 32 := BitVec.ofNat 32 (i 1).val
  let c2_i32 : BitVec 32 := 2#32
  let v28 : BitVec 32 := Scalar.muli arg1 c2_i32
  let v29 : BitVec 32 := Scalar.addi v28 c1_i32
  let c512_i32 : BitVec 32 := 512#32
  let v30 : BitVec 32 := Scalar.muli v29 c512_i32
  let v31 : BitVec 32 := v30
  let v32 : Index := Scalar.indexCast v31
  let c0_7 : Index := 0#32
  ![v32.toNat, 0]
def k0_mult2 (i : grid0.Coords) : BitVec 32 :=
  let arg1 : BitVec 32 := BitVec.ofNat 32 (i 1).val
  let c2_i32_22 : BitVec 32 := 2#32
  let v97 : BitVec 32 := Scalar.muli arg1 c2_i32_22
  let c0_i32_23 : BitVec 32 := 0#32
  let v98 : BitVec 32 := Scalar.addi v97 c0_i32_23
  let c512_i32_24 : BitVec 32 := 512#32
  let v99 : BitVec 32 := Scalar.muli v98 c512_i32_24
  v99
@[reducible] def k0_t1_loop (i : grid0.Coords) : Scf.Loop 32 :=
  let c0_i32_41 : BitVec 32 := 0#32
  let arg1 : BitVec 32 := BitVec.ofNat 32 (i 1).val
  let c2_i32_40 : BitVec 32 := 2#32
  let v166 : BitVec 32 := Scalar.muli arg1 c2_i32_40
  let v167 : BitVec 32 := Scalar.subi v166 c0_i32_41
  let c1_i32_42 : BitVec 32 := 1#32
  let v169 : BitVec 32 := Scalar.divsi v167 c1_i32_42
  let v170 : BitVec 32 := Scalar.muli v169 c1_i32_42
  let v171 : BitVec 32 := Scalar.addi c0_i32_41 v170
  let c1_i32_43 : BitVec 32 := 1#32
  ⟨c0_i32_41, v171, c1_i32_43⟩
def k0_mult3 (i : grid0.Coords) (k0_t1 : Fin (k0_t1_loop i).trips) : BitVec 32 :=
  let arg1 : BitVec 32 := BitVec.ofNat 32 (i 1).val
  let c2_i32_56 : BitVec 32 := 2#32
  let v188 : BitVec 32 := Scalar.muli arg1 c2_i32_56
  let c1_i32_57 : BitVec 32 := 1#32
  let v189 : BitVec 32 := Scalar.subi v188 c1_i32_57
  let c0_i32_41 : BitVec 32 := 0#32
  let c1_i32_43 : BitVec 32 := 1#32
  let arg11 : BitVec 32 := Scf.iv c0_i32_41 c1_i32_43 k0_t1
  let v190 : BitVec 32 := Scalar.subi v189 arg11
  let c512_i32_58 : BitVec 32 := 512#32
  let v191 : BitVec 32 := Scalar.muli v190 c512_i32_58
  v191
def k0_off2 (i : grid0.Coords) (k0_t1 : Fin (k0_t1_loop i).trips) : Fin 2 → Nat :=
  let arg1 : BitVec 32 := BitVec.ofNat 32 (i 1).val
  let c2_i32_56 : BitVec 32 := 2#32
  let v188 : BitVec 32 := Scalar.muli arg1 c2_i32_56
  let c1_i32_57 : BitVec 32 := 1#32
  let v189 : BitVec 32 := Scalar.subi v188 c1_i32_57
  let c0_i32_41 : BitVec 32 := 0#32
  let c1_i32_43 : BitVec 32 := 1#32
  let arg11 : BitVec 32 := Scf.iv c0_i32_41 c1_i32_43 k0_t1
  let v190 : BitVec 32 := Scalar.subi v189 arg11
  let c512_i32_58 : BitVec 32 := 512#32
  let v191 : BitVec 32 := Scalar.muli v190 c512_i32_58
  let v192 : BitVec 32 := v191
  let v193 : Index := Scalar.indexCast v192
  let c0_59 : Index := 0#32
  ![v193.toNat, 0]
@[reducible] def k0_t2_loop (i : grid0.Coords) : Scf.Loop 32 :=
  let c0_i32_41 : BitVec 32 := 0#32
  let arg1 : BitVec 32 := BitVec.ofNat 32 (i 1).val
  let c2_i32_40 : BitVec 32 := 2#32
  let v166 : BitVec 32 := Scalar.muli arg1 c2_i32_40
  let v167 : BitVec 32 := Scalar.subi v166 c0_i32_41
  let c1_i32_42 : BitVec 32 := 1#32
  let v169 : BitVec 32 := Scalar.divsi v167 c1_i32_42
  let v170 : BitVec 32 := Scalar.muli v169 c1_i32_42
  let v171 : BitVec 32 := Scalar.addi c0_i32_41 v170
  let v168 : BitVec 32 := Scalar.addi c0_i32_41 v167
  let c1_i32_44 : BitVec 32 := 1#32
  ⟨v171, v168, c1_i32_44⟩
def k0_mult4 (i : grid0.Coords) (k0_t2 : Fin (k0_t2_loop i).trips) : BitVec 32 :=
  let arg1 : BitVec 32 := BitVec.ofNat 32 (i 1).val
  let c2_i32_56 : BitVec 32 := 2#32
  let v188 : BitVec 32 := Scalar.muli arg1 c2_i32_56
  let c1_i32_57 : BitVec 32 := 1#32
  let v189 : BitVec 32 := Scalar.subi v188 c1_i32_57
  let c0_i32_41 : BitVec 32 := 0#32
  let c2_i32_40 : BitVec 32 := 2#32
  let v166 : BitVec 32 := Scalar.muli arg1 c2_i32_40
  let v167 : BitVec 32 := Scalar.subi v166 c0_i32_41
  let c1_i32_42 : BitVec 32 := 1#32
  let v169 : BitVec 32 := Scalar.divsi v167 c1_i32_42
  let v170 : BitVec 32 := Scalar.muli v169 c1_i32_42
  let v171 : BitVec 32 := Scalar.addi c0_i32_41 v170
  let c1_i32_44 : BitVec 32 := 1#32
  let arg11 : BitVec 32 := Scf.iv v171 c1_i32_44 k0_t2
  let v190 : BitVec 32 := Scalar.subi v189 arg11
  let c512_i32_58 : BitVec 32 := 512#32
  let v191 : BitVec 32 := Scalar.muli v190 c512_i32_58
  v191
def k0_off3 (i : grid0.Coords) (k0_t2 : Fin (k0_t2_loop i).trips) : Fin 2 → Nat :=
  let arg1 : BitVec 32 := BitVec.ofNat 32 (i 1).val
  let c2_i32_56 : BitVec 32 := 2#32
  let v188 : BitVec 32 := Scalar.muli arg1 c2_i32_56
  let c1_i32_57 : BitVec 32 := 1#32
  let v189 : BitVec 32 := Scalar.subi v188 c1_i32_57
  let c0_i32_41 : BitVec 32 := 0#32
  let c2_i32_40 : BitVec 32 := 2#32
  let v166 : BitVec 32 := Scalar.muli arg1 c2_i32_40
  let v167 : BitVec 32 := Scalar.subi v166 c0_i32_41
  let c1_i32_42 : BitVec 32 := 1#32
  let v169 : BitVec 32 := Scalar.divsi v167 c1_i32_42
  let v170 : BitVec 32 := Scalar.muli v169 c1_i32_42
  let v171 : BitVec 32 := Scalar.addi c0_i32_41 v170
  let c1_i32_44 : BitVec 32 := 1#32
  let arg11 : BitVec 32 := Scf.iv v171 c1_i32_44 k0_t2
  let v190 : BitVec 32 := Scalar.subi v189 arg11
  let c512_i32_58 : BitVec 32 := 512#32
  let v191 : BitVec 32 := Scalar.muli v190 c512_i32_58
  let v192 : BitVec 32 := v191
  let v193 : Index := Scalar.indexCast v192
  let c0_59 : Index := 0#32
  ![v193.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbFwdReferenceIdeal.lean ====
abbrev S8192x18432 : Shape := ⟨2, ![8192, 18432]⟩
abbrev S8192x1024 : Shape := ⟨2, ![8192, 1024]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x32 : Shape := ⟨3, ![8, 8192, 32]⟩
abbrev S8x8192x128 : Shape := ⟨3, ![8, 8192, 128]⟩

abbrev nBuf : Space → Nat
  | .hbm => 89
  | .vmem => 0
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S8192x8x128, .f32⟩
  | .hbm, ⟨8, _⟩ => ⟨S8192, .i32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S8x8192x8192, .i1⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S_, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S_, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8192x1024, .f32⟩
  | .hbm, ⟨71, _⟩ => ⟨S8x8192x32, .f32⟩
  | .hbm, ⟨72, _⟩ => ⟨S8x8192x32, .f32⟩
  | .hbm, ⟨73, _⟩ => ⟨S_, .i32⟩
  | .hbm, ⟨74, _⟩ => ⟨S_, .f32⟩
  | .hbm, ⟨75, _⟩ => ⟨S8x8192x128, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | .hbm, ⟨87, _⟩ => ⟨S8192x8x128, .f32⟩
  | .hbm, ⟨88, _⟩ => ⟨S8192x1024, .f32⟩
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v19 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_c : Ref sig .tc := ⟨.hbm, 73, rfl⟩
abbrev main_call5_v0 : Ref sig .tc := ⟨.hbm, 74, rfl⟩
abbrev main_v31 : Ref sig .tc := ⟨.hbm, 75, rfl⟩
abbrev main_call6_v0 : Ref sig .tc := ⟨.hbm, 76, rfl⟩
abbrev main_call6_v1 : Ref sig .tc := ⟨.hbm, 77, rfl⟩
abbrev main_call6_cst : Ref sig .tc := ⟨.hbm, 78, rfl⟩
abbrev main_call6_v2 : Ref sig .tc := ⟨.hbm, 79, rfl⟩
abbrev main_call6_v3 : Ref sig .tc := ⟨.hbm, 80, rfl⟩
abbrev main_call6_cst_0 : Ref sig .tc := ⟨.hbm, 81, rfl⟩
abbrev main_call6_v4 : Ref sig .tc := ⟨.hbm, 82, rfl⟩
abbrev main_call6_v5 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩

abbrev nD : Nat := 1
abbrev τ : Topo := Topo.v7x

variable {F : FTy → Type} [FloatOps F]
-- ==== MergeBwd.lean ====
abbrev S8192x2048 : Shape := ⟨2, ![8192, 2048]⟩
abbrev S8192x8192 : Shape := ⟨2, ![8192, 8192]⟩
abbrev S1x8192 : Shape := ⟨2, ![1, 8192]⟩
abbrev S512x512 : Shape := ⟨2, ![512, 512]⟩
abbrev S1x512 : Shape := ⟨2, ![1, 512]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .f32⟩
  | .hbm, ⟨3, _⟩ => ⟨S8192x8192, .bf16⟩
  | .hbm, ⟨4, _⟩ => ⟨S8192x8192, .bf16⟩
  | .hbm, ⟨5, _⟩ => ⟨S1x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MergeBwdReferenceIdeal.lean ====
abbrev S8192x2048 : Shape := ⟨2, ![8192, 2048]⟩
abbrev S8192x8192 : Shape := ⟨2, ![8192, 8192]⟩
abbrev S_ : Shape := ⟨0, ![]⟩
abbrev S8192x4x2048 : Shape := ⟨3, ![8192, 4, 2048]⟩
abbrev S8192 : Shape := ⟨1, ![8192]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x4x2048, .f32⟩
  | .hbm, ⟨16, _⟩ => ⟨S8192x4x2048, .f32⟩
  | .hbm, ⟨17, _⟩ => ⟨S8192x4x2048, .f32⟩
  | .hbm, ⟨18, _⟩ => ⟨S_, .f32⟩
  | .hbm, ⟨19, _⟩ => ⟨S8192x2048, .f32⟩
  | .hbm, ⟨20, _⟩ => ⟨S8192x4x2048, .f32⟩
  | .hbm, ⟨21, _⟩ => ⟨S8192x4x2048, .f32⟩
  | .hbm, ⟨22, _⟩ => ⟨S8192x4x2048, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .bf16⟩
  | .hbm, ⟨27, _⟩ => ⟨S8192x8192, .bf16⟩
  | .hbm, ⟨28, _⟩ => ⟨S_, .f32⟩
  | .hbm, ⟨29, _⟩ => ⟨S8192, .f32⟩
  | .hbm, ⟨30, _⟩ => ⟨S1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MergeFwd.lean ====
abbrev S8192x8192 : Shape := ⟨2, ![8192, 8192]⟩
abbrev S8192x2048 : Shape := ⟨2, ![8192, 2048]⟩
abbrev S512x512 : Shape := ⟨2, ![512, 512]⟩

abbrev nBuf : Space → Nat
  | .hbm => 3
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFwdReferenceIdeal.lean ====
abbrev S8192x8192 : Shape := ⟨2, ![8192, 8192]⟩
abbrev S_ : Shape := ⟨0, ![]⟩
abbrev S8192x4x2048 : Shape := ⟨3, ![8192, 4, 2048]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x4x2048, .f32⟩
  | .hbm, ⟨11, _⟩ => ⟨S8192x4x2048, .f32⟩
  | .hbm, ⟨12, _⟩ => ⟨S8192x4x2048, .f32⟩
  | .hbm, ⟨13, _⟩ => ⟨S_, .f32⟩
  | .hbm, ⟨14, _⟩ => ⟨S8192x2048, .f32⟩
  | .hbm, ⟨15, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== RmsFwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsFwdReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DilGateBwd.lean ====
abbrev S8192x18432 : Shape := ⟨2, ![8192, 18432]⟩
abbrev S8192x1024 : Shape := ⟨2, ![8192, 1024]⟩
abbrev S8192x4096 : Shape := ⟨2, ![8192, 4096]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x4096, .f32⟩
  | .hbm, ⟨3, _⟩ => ⟨S8192x1024, .f32⟩
  | .hbm, ⟨4, _⟩ => ⟨S8192x1024, .bf16⟩
  | .hbm, ⟨5, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | _, _ => ⟨S8192x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg1.toNat, c17_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== DilGateBwdReferenceIdeal.lean ====
abbrev S8192x18432 : Shape := ⟨2, ![8192, 18432]⟩
abbrev S8192x1024 : Shape := ⟨2, ![8192, 1024]⟩
abbrev S8192x4096 : Shape := ⟨2, ![8192, 4096]⟩
abbrev S_ : Shape := ⟨0, ![]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x18432, .f32⟩
  | .hbm, ⟨1, _⟩ => ⟨S8192x1024, .f32⟩
  | .hbm, ⟨2, _⟩ => ⟨S8192x4096, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x8x128, .f32⟩
  | .hbm, ⟨27, _⟩ => ⟨S_, .f32⟩
  | .hbm, ⟨28, _⟩ => ⟨S8192x8, .f32⟩
  | .hbm, ⟨29, _⟩ => ⟨S8192x8x1, .f32⟩
  | .hbm, ⟨30, _⟩ => ⟨S8192x8x128, .f32⟩
  | .hbm, ⟨31, _⟩ => ⟨S8192x1024, .f32⟩
  | .hbm, ⟨32, _⟩ => ⟨S8192x1024, .bf16⟩
  | _, _ => ⟨S8192x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Proof.Spec.lean ====
/-
  The gradient of the stick-breaking attention of one head, over the reals.

  `q`, `k`, `v` are the head's query, key and value rows (row, lane), `o` the cotangent of the head's output rows, `sc`
  the scale of the scores. Rows and lanes are counted by natural numbers; there are 8192 rows and 128 lanes.
-/
module

public import Mathlib.Analysis.SpecialFunctions.Log.Basic
public import Mathlib.Algebra.BigOperators.Intervals
public import Mathlib.Tactic.FieldSimp
public import Mathlib.Tactic.Positivity
public import Mathlib.Tactic.Linarith
public import Mathlib.Tactic.Ring

@[expose] public section

noncomputable section

namespace Cert.StickBreaking

open Finset

/-- `log (1 + e ^ x)`, spelled so that no exponential of a positive number is taken. -/
def sp (x : ℝ) : ℝ := max x 0 + Real.log (1 + Real.exp (-|x|))

theorem exp_sp (x : ℝ) : Real.exp (sp x) = 1 + Real.exp x := by
  unfold sp
  rw [Real.exp_add, Real.exp_log (by positivity)]
  rcases le_total 0 x with h | h
  · rw [max_eq_left h, abs_of_nonneg h, mul_add, mul_one, ← Real.exp_add, add_neg_cancel, Real.exp_zero, add_comm]
  · rw [max_eq_right h, abs_of_nonpos h, neg_neg, Real.exp_zero, one_mul]

theorem neg_sp_neg (x : ℝ) : -sp (-x) = x - sp x := by
  unfold sp
  rw [abs_neg]
  rcases le_total 0 x with h | h
  · rw [max_eq_left h, max_eq_right (by linarith)]; ring
  · rw [max_eq_right h, max_eq_left (by linarith)]; ring

theorem exp_neg_sub_sp (x : ℝ) : Real.exp (-x - sp (-x)) = 1 - Real.exp (x - sp x) := by
  rw [Real.exp_sub, Real.exp_sub, exp_sp, exp_sp, Real.exp_neg]
  have := Real.exp_pos x
  field_simp
  ring

variable (q k v o : ℕ → ℕ → ℝ) (sc : ℝ)

/-- The score of query row `t` and key row `s`. -/
def Z (t s : ℕ) : ℝ := (∑ d ∈ range 128, q t d * k s d) * sc

/-- What the sticks between `s` and `t` leave of the logarithm: the softplus of the scores of the keys after `s`. -/
def SA (t s : ℕ) : ℝ := ∑ j ∈ Ico (s + 1) 8192, if j < t then sp (Z q k sc t j) else 0

/-- The weight of key row `s` in query row `t`. -/
def Wt (t s : ℕ) : ℝ := if s < t then Real.exp (Z q k sc t s - sp (Z q k sc t s) - SA q k sc t s) else 0

/-- The weight times its own cotangent. -/
def GW (t s : ℕ) : ℝ := (∑ d ∈ range 128, o t d * v s d) * Wt q k sc t s

/-- The sum of `GW` over the keys before `s`. -/
def GS (t s : ℕ) : ℝ := ∑ j ∈ range s, GW q k v o sc t j

/-- The cotangent of the score. -/
def DZ (t s : ℕ) : ℝ :=
  if s < t then GW q k v o sc t s - (GW q k v o sc t s + GS q k v o sc t s) * Real.exp (Z q k sc t s - sp (Z q k sc t s))
  else 0

theorem Wt_of_le {t s : ℕ} (h : t ≤ s) : Wt q k sc t s = 0 := if_neg (by omega)

theorem GW_of_le {t s : ℕ} (h : t ≤ s) : GW q k v o sc t s = 0 := by rw [GW, Wt_of_le q k sc h, mul_zero]

theorem DZ_of_le {t s : ℕ} (h : t ≤ s) : DZ q k v o sc t s = 0 := if_neg (by omega)

/-- The keys after `s`, cut at the end of the block of 256 that holds `s`. -/
theorem SA_block (t m c : ℕ) (hc : c < 256) (hm : m < 32) :
    SA q k sc t (256 * m + c)
      = (∑ j ∈ range 256, if c < j then (if 256 * m + j < t then sp (Z q k sc t (256 * m + j)) else 0) else 0)
        + SA q k sc t (256 * m + 255) := by
  unfold SA
  rw [← sum_Ico_consecutive _ (show 256 * m + c + 1 ≤ 256 * m + 255 + 1 by omega) (show 256 * m + 255 + 1 ≤ 8192 by omega)]
  congr 1
  have e : Ico (256 * m + c + 1) (256 * m + 255 + 1) = ((range 256).filter (c < ·)).map (addLeftEmbedding (256 * m)) := by
    ext j
    simp only [mem_Ico, mem_map, mem_filter, mem_range, addLeftEmbedding_apply]
    exact ⟨fun h => ⟨j - 256 * m, by omega, by omega⟩, by rintro ⟨a, h, rfl⟩; omega⟩
  rw [e, sum_map, sum_filter]
  rfl

theorem GS_zero (t : ℕ) : GS q k v o sc t 0 = 0 := by simp [GS]

/-- The keys before row `c` of a block that starts at `a`. -/
theorem GS_block (t a c : ℕ) (hc : c < 256) :
    GS q k v o sc t (a + c)
      = (∑ j ∈ range 256, if j < c then GW q k v o sc t (a + j) else 0) + GS q k v o sc t a := by
  unfold GS
  rw [sum_range_add, add_comm]
  congr 1
  rw [← sum_filter]
  congr 1
  ext j
  simp only [mem_range, mem_filter]
  omega

/-- The keys before the next block of 256. -/
theorem GS_next (t a : ℕ) :
    GS q k v o sc t (a + 256)
      = GS q k v o sc t a + (∑ j ∈ range 256, if j < 255 then GW q k v o sc t (a + j) else 0)
        + GW q k v o sc t (a + 255) := by
  rw [show a + 256 = (a + 255) + 1 from rfl, GS, sum_range_succ]
  have := GS_block q k v o sc t a 255 (by norm_num)
  rw [GS] at this
  rw [this]; ring

/-- The cotangent of the score as the reverse pass of the reference spells it: each of the two logarithms of sigma
    brings the sigma of the other sign. -/
theorem DZ_eq (t s : ℕ) :
    DZ q k v o sc t s
      = -((if s < t then GS q k v o sc t s else 0) * Real.exp (Z q k sc t s - sp (Z q k sc t s)))
        + GW q k v o sc t s * Real.exp (-Z q k sc t s - sp (-Z q k sc t s)) := by
  rw [exp_neg_sub_sp]
  unfold DZ
  split_ifs with h
  · ring
  · rw [GW_of_le q k v o sc (by omega)]; ring

/-- The query rows of one tile of 512 added to those before. -/
theorem sum_tile (f : ℕ → ℝ) (n : ℕ) : ∑ j ∈ range (512 * (n + 1)), f j = ∑ j ∈ range (512 * n), f j + ∑ j ∈ range 512, f (512 * n + j) := by
  rw [show 512 * (n + 1) = 512 * n + 512 by ring, sum_range_add]

end Cert.StickBreaking

end
-- ==== Proof.Block.lean ====
/-
  One block of the kernel: 512 query rows against 512 key rows, over the reals.

  The kernel's body computes on each block the scores, the weights, the weights' cotangents and the scores' cotangents,
  and adds three products to its sums. Each computed array is shown here to hold the reals of `Spec`.
-/
module

public import proofs.«01_k».proof.Proof.Spec
public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic

namespace Cert.StickBreaking

open Cert.KernelIdeal Cert.KernelIdeal.Gen Finset

/-- The array holds the reals `f`, told by row and lane. -/
def Is {n m : ℕ} {φ : FTy} (x : FVec Ideal ⟨2, ![n, m]⟩ φ) (f : ℕ → ℕ → ℝ) : Prop :=
  ∀ (r : Fin n) (c : Fin m), x (ix2 r c) = ((f r c : ℝ) : EReal)

theorem sum_coe {n : ℕ} (f : ℕ → ℝ) : ∑ x : Fin n, ((f x : ℝ) : EReal) = ((∑ j ∈ range n, f j : ℝ) : EReal) := by
  induction n with
  | zero => simp
  | succ n ih => rw [Fin.sum_univ_castSucc, sum_range_succ, EReal.coe_add, ← ih]; rfl

theorem sum_coe' {n : ℕ} (g : Fin n → EReal) (f : ℕ → ℝ) (h : ∀ x : Fin n, g x = ((f x : ℝ) : EReal)) :
    ∑ x : Fin n, g x = ((∑ j ∈ range n, f j : ℝ) : EReal) := by
  rw [← sum_coe]; exact sum_congr rfl fun x _ => h x

theorem select_decide {α : Type} (p : Prop) [Decidable p] (a b : α) :
    Scalar.select (BitVec.ofBool (decide p)) a b = if p then a else b := by
  by_cases h : p <;> simp [h, Scalar.select]

theorem absf_coe {φ : FTy} (x : ℝ) : FloatOps.absf (F := Ideal) (φ := φ) (x : EReal) = ((|x| : ℝ) : EReal) := by
  rw [Ideal.absf_def, ← EReal.coe_neg, abs_eq_max_neg, EReal.coe_strictMono.monotone.map_max]

theorem log_coe_pos {x : ℝ} (h : 0 < x) : Ideal.log (x : EReal) = ((Real.log x : ℝ) : EReal) := by
  rw [Ideal.log_coe, if_neg (not_le.mpr h)]

/-- The kernel's softplus at a real. -/
theorem softplus_coe {φ : FTy} (x : ℝ) :
    max (x : EReal) 0 + Ideal.log (1 + Ideal.exp (0 - FloatOps.absf (F := Ideal) (φ := φ) (x : EReal))) = ((sp x : ℝ) : EReal) := by
  rw [absf_coe, show (0 : EReal) - ((|x| : ℝ) : EReal) = ((-|x| : ℝ) : EReal) by rw [zero_sub, EReal.coe_neg], Ideal.exp_coe,
    show (1 : EReal) = ((1 : ℝ) : EReal) from rfl, show (0 : EReal) = ((0 : ℝ) : EReal) from rfl, ← EReal.coe_add,
    log_coe_pos (by positivity), ← EReal.coe_strictMono.monotone.map_max, ← EReal.coe_add, sp]

theorem sitofp_int {φ : FTy} (b : BitVec 32) : FloatOps.sitofp (F := Ideal) φ b = ((b.toInt : ℝ) : EReal) := rfl

/-- The strictly later rows of a block of 256. -/
theorem upper_is : Is (n := 256) (m := 256) (k0_pay43 (F := Ideal)) fun a c => if c < a then 1 else 0 := by
  intro r c
  unfold k0_pay43
  pointwise []
  rw [WordCmp.cmpi_sgt_ofNat (by omega) (by omega)]
  by_cases h : c.val < r.val <;> simp [h, sitofp_int]

/-- The strictly earlier rows of a block of 256. -/
theorem lower_is : Is (n := 256) (m := 256) (k0_pay44 (F := Ideal)) fun a c => if a < c then 1 else 0 := by
  intro r c
  unfold k0_pay44
  pointwise []
  rw [WordCmp.cmpi_slt_ofNat (by omega) (by omega)]
  by_cases h : r.val < c.val <;> simp [h, sitofp_int]

/-- One lane of 128 picked out of a row. -/
theorem pick (f : ℕ → ℝ) (m : ℕ) (h : m < 128) :
    ∑ x : Fin 128, Scalar.select (IntOp.cmpi .eq (BitVec.ofNat 32 x) (BitVec.ofNat 32 m)) ((f x : ℝ) : EReal) 0
      = ((f m : ℝ) : EReal) := by
  rw [Finset.sum_eq_single (⟨m, h⟩ : Fin 128)]
  · rw [WordCmp.cmpi_eq_ofNat (by omega) (by omega), select_decide, if_pos rfl]
  · intro b _ hb
    rw [WordCmp.cmpi_eq_ofNat (by omega) (by omega), select_decide, if_neg fun e => hb (Fin.ext e)]
  · simp

theorem word_twice (n : ℕ) : Scalar.addi (Scalar.muli (BitVec.ofNat 32 n) 2#32) 0#32 = BitVec.ofNat 32 (2 * n) := by
  apply BitVec.eq_of_toNat_eq; simp [Scalar.addi, Scalar.muli, IntOp.addi, IntOp.muli]; omega

theorem word_twice_succ (n : ℕ) :
    Scalar.addi (Scalar.muli (BitVec.ofNat 32 n) 2#32) 1#32 = BitVec.ofNat 32 (2 * n + 1) := by
  apply BitVec.eq_of_toNat_eq; simp [Scalar.addi, Scalar.muli, IntOp.addi, IntOp.muli]; omega

variable (q k v o : ℕ → ℕ → ℝ) (sc : ℝ) (t0 n : ℕ)

section Unmasked

variable {q k v o sc t0 n}
variable {v29 v165 v25 v209 : FVec Ideal S512x128 .bf16}

theorem score_is (hq : Is v29 fun r d => q (t0 + r) d * sc) (hk : Is v165 fun c d => k (512 * n + c) d) :
    Is (k0_pay5 v29 v165) fun r c => Z q k sc (t0 + r) (512 * n + c) := by
  intro r c
  unfold k0_pay5
  pointwise [dot_S512x128_S512x128_S512x512_1_1_0_0_n_n]
  rw [sum_coe' _ (fun d => q (t0 + r) d * sc * k (512 * n + c) d) fun x => by rw [hq, hk, ← EReal.coe_mul]]
  rw [Z, sum_mul]
  congr 1
  exact sum_congr rfl fun d _ => by ring

theorem softplus_is (hq : Is v29 fun r d => q (t0 + r) d * sc) (hk : Is v165 fun c d => k (512 * n + c) d) :
    Is (k0_pay6 v29 v165) fun r c => sp (Z q k sc (t0 + r) (512 * n + c)) := by
  intro r c
  unfold k0_pay6
  pointwise []
  rw [score_is hq hk, softplus_coe]

theorem logsig_is (hq : Is v29 fun r d => q (t0 + r) d * sc) (hk : Is v165 fun c d => k (512 * n + c) d) :
    Is (k0_pay7 v29 v165) fun r c => Z q k sc (t0 + r) (512 * n + c) - sp (Z q k sc (t0 + r) (512 * n + c)) := by
  intro r c
  unfold k0_pay7
  pointwise []
  rw [score_is hq hk, softplus_is hq hk, ← EReal.coe_sub]

/-- The sum over a block of 256 against a strict triangle of ones. -/
theorem upper_sum (g : Fin 256 → EReal) (u : FVec Ideal S256x256 .bf16) (f : ℕ → ℝ) (c : Fin 256)
    (hu : Is (n := 256) (m := 256) u fun a c => if c < a then 1 else 0) (hg : ∀ x : Fin 256, g x = ((f x : ℝ) : EReal)) :
    ∑ x : Fin 256, g x * u (ix2 x c) = ((∑ j ∈ range 256, if c.val < j then f j else 0 : ℝ) : EReal) :=
  sum_coe' _ _ fun x => by rw [hg, hu, ← EReal.coe_mul, mul_ite, mul_one, mul_zero]

theorem lower_sum (g : Fin 256 → EReal) (u : FVec Ideal S256x256 .bf16) (f : ℕ → ℝ) (c : Fin 256)
    (hu : Is (n := 256) (m := 256) u fun a c => if a < c then 1 else 0) (hg : ∀ x : Fin 256, g x = ((f x : ℝ) : EReal)) :
    ∑ x : Fin 256, g x * u (ix2 x c) = ((∑ j ∈ range 256, if j < c.val then f j else 0 : ℝ) : EReal) :=
  sum_coe' _ _ fun x => by rw [hg, hu, ← EReal.coe_mul, mul_ite, mul_one, mul_zero]

/-- The first half's softplus of the later keys. -/
theorem after_lo_is {i : grid0.Coords} {v31 : FVec Ideal S512x128 .f32} {v37 : IVec S512x128 32}
    {v43 : FVec Ideal S256x256 .bf16} {c0 c1 : BitVec 32} {w : Fin (k0_t1_loop i).trips} {run : ℕ → ℕ → ℝ}
    (hq : Is v29 fun r d => q (t0 + r) d * sc) (hk : Is v165 fun c d => k (512 * n + c) d)
    (hu : Is v43 fun a c => if c < a then 1 else 0) (hl : ∀ r x, v37 (ix2 r x) = BitVec.ofNat 32 x.val)
    (hr : Is v31 run) (hrun : ∀ r m, m < 32 → run r m = SA q k sc (t0 + r) (256 * m + 255))
    (hw : Scf.iv c0 c1 w = BitVec.ofNat 32 n) (hn : 512 * (n + 1) ≤ t0) (hn' : n < 16) :
    Is (k0_pay8 i v29 v31 v37 v43 c0 c1 w v165) fun r c => SA q k sc (t0 + r) (512 * n + c) := by
  intro r c
  unfold k0_pay8
  pointwise [dot_S512x256_S256x256_S512x256_1_0_0_1_n_n]
  rw [upper_sum _ _ (fun j => sp (Z q k sc (t0 + r) (512 * n + j))) c hu fun x => by rw [softplus_is hq hk]]
  simp only [hw, word_twice, hl, hr r]
  rw [pick (run r) _ (by omega), hrun _ _ (by omega), ← EReal.coe_add, show 512 * n + c.val = 256 * (2 * n) + c.val by ring,
    SA_block _ _ _ _ _ _ c.isLt (by omega)]
  congr 2
  refine sum_congr rfl fun j hj => ?_
  rw [mem_range] at hj
  rw [if_pos (show 256 * (2 * n) + j < t0 + r.val by omega), show 256 * (2 * n) + j = 512 * n + j by ring]

/-- The second half's softplus of the later keys. -/
theorem after_hi_is {i : grid0.Coords} {v31 : FVec Ideal S512x128 .f32} {v37 : IVec S512x128 32}
    {v43 : FVec Ideal S256x256 .bf16} {c0 c1 : BitVec 32} {w : Fin (k0_t1_loop i).trips} {run : ℕ → ℕ → ℝ}
    (hq : Is v29 fun r d => q (t0 + r) d * sc) (hk : Is v165 fun c d => k (512 * n + c) d)
    (hu : Is v43 fun a c => if c < a then 1 else 0) (hl : ∀ r x, v37 (ix2 r x) = BitVec.ofNat 32 x.val)
    (hr : Is v31 run) (hrun : ∀ r m, m < 32 → run r m = SA q k sc (t0 + r) (256 * m + 255))
    (hw : Scf.iv c0 c1 w = BitVec.ofNat 32 n) (hn : 512 * (n + 1) ≤ t0) (hn' : n < 16) :
    Is (k0_pay9 i v29 v31 v37 v43 c0 c1 w v165) fun r c => SA q k sc (t0 + r) (512 * n + 256 + c) := by
  intro r c
  unfold k0_pay9
  pointwise [dot_S512x256_S256x256_S512x256_1_0_0_1_n_n]
  rw [upper_sum _ _ (fun j => sp (Z q k sc (t0 + r) (512 * n + (256 + j)))) c hu fun x => by rw [softplus_is hq hk]]
  simp only [hw, word_twice_succ, hl, hr r]
  rw [pick (run r) _ (by omega), hrun _ _ (by omega), ← EReal.coe_add,
    show 512 * n + 256 + c.val = 256 * (2 * n + 1) + c.val by ring, SA_block _ _ _ _ _ _ c.isLt (by omega)]
  congr 2
  refine sum_congr rfl fun j hj => ?_
  rw [mem_range] at hj
  rw [if_pos (show 256 * (2 * n + 1) + j < t0 + r.val by omega), show 256 * (2 * n + 1) + j = 512 * n + (256 + j) by ring]

variable {v178 : FVec Ideal S512x512 .bf16} {v191 v204 : FVec Ideal S512x256 .bf16} {v47 : FVec Ideal S256x256 .bf16}
  {arg17 : FVec Ideal S512x1 .f32}

/-- Two halves of 256 lanes side by side. -/
theorem halves (f : ℕ → ℝ) (c : Fin 512) {a : c.val < 256 → EReal} {b : ¬ c.val < 256 → EReal}
    (ha : ∀ h, a h = ((f c : ℝ) : EReal)) (hb : ∀ h, b h = ((f c : ℝ) : EReal)) :
    (if h : c.val < 256 then a h else b h) = ((f c : ℝ) : EReal) := by
  split_ifs with h
  · exact ha h
  · exact hb h

theorem weight_is
    (hb : Is v178 fun r c => Z q k sc (t0 + r) (512 * n + c) - sp (Z q k sc (t0 + r) (512 * n + c)))
    (ha : Is v191 fun r c => SA q k sc (t0 + r) (512 * n + c))
    (ha' : Is v204 fun r c => SA q k sc (t0 + r) (512 * n + 256 + c)) (hn : 512 * (n + 1) ≤ t0) :
    Is (k0_pay10 v178 v191 v204) fun r c => Wt q k sc (t0 + r) (512 * n + c) := by
  intro r c
  unfold k0_pay10
  pointwise []
  rw [halves (fun c => SA q k sc (t0 + r) (512 * n + c)) c (fun h => ha r _) fun h => (ha' r _).trans (congrArg _ (congrArg _ (by
      show 512 * n + 256 + (c.val - 256) = 512 * n + c.val; omega))),
    hb, ← EReal.coe_sub, Ideal.exp_coe, Wt, if_pos (by omega)]

theorem gw_is (ho : Is v25 fun r d => o (t0 + r) d) (hv : Is v209 fun c d => v (512 * n + c) d)
    (hw : Is (k0_pay10 v178 v191 v204) fun r c => Wt q k sc (t0 + r) (512 * n + c)) :
    Is (k0_pay11 v25 v178 v191 v204 v209) fun r c => GW q k v o sc (t0 + r) (512 * n + c) := by
  intro r c
  unfold k0_pay11
  pointwise [dot_S512x128_S512x128_S512x512_1_1_0_0_n_n]
  rw [sum_coe' _ (fun d => o (t0 + r) d * v (512 * n + c) d) fun x => by rw [ho, hv, ← EReal.coe_mul], hw, ← EReal.coe_mul, GW]

variable (hg : Is (k0_pay11 v25 v178 v191 v204 v209) fun r c => GW q k v o sc (t0 + r) (512 * n + c))
  (hu : Is v47 fun a c => if a < c then 1 else 0)
  (hs : ∀ r : Fin 512, arg17 (ix2 r 0) = ((GS q k v o sc (t0 + r) (512 * n) : ℝ) : EReal))
include hg hu

theorem prefix_lo : Is (k0_pay12 v25 v47 v178 v191 v204 v209)
    fun r c => ∑ j ∈ range 256, if j < c then GW q k v o sc (t0 + r) (512 * n + j) else 0 := by
  intro r c
  unfold k0_pay12
  pointwise [dot_S512x256_S256x256_S512x256_1_0_0_1_n_n]
  exact lower_sum _ _ (fun j => GW q k v o sc (t0 + r) (512 * n + j)) c hu fun x => by rw [hg]

theorem prefix_hi : Is (k0_pay14 v25 v47 v178 v191 v204 v209)
    fun r c => ∑ j ∈ range 256, if j < c then GW q k v o sc (t0 + r) (512 * n + 256 + j) else 0 := by
  intro r c
  unfold k0_pay14
  pointwise [dot_S512x256_S256x256_S512x256_1_0_0_1_n_n]
  exact lower_sum _ _ (fun j => GW q k v o sc (t0 + r) (512 * n + 256 + j)) c hu fun x => by rw [hg, add_assoc]

include hs
theorem run_mid (r : Fin 512) : k0_pay13 v25 v47 arg17 v178 v191 v204 v209 (ix2 r 0)
    = ((GS q k v o sc (t0 + r) (512 * n + 256) : ℝ) : EReal) := by
  unfold k0_pay13
  pointwise []
  rw [hs, prefix_lo hg hu, hg, ← EReal.coe_add, ← EReal.coe_add, GS_next]
  rfl

theorem run_end (r : Fin 512) : k0_pay15 v25 v47 arg17 v178 v191 v204 v209 (ix2 r 0)
    = ((GS q k v o sc (t0 + r) (512 * (n + 1)) : ℝ) : EReal) := by
  unfold k0_pay15
  pointwise []
  rw [run_mid hg hu hs, prefix_hi hg hu, hg, ← EReal.coe_add, ← EReal.coe_add, show 512 * (n + 1) = 512 * n + 256 + 256 by ring,
    GS_next _ _ _ _ _ _ (512 * n + 256)]
  rfl

theorem dz_is (hb : Is v178 fun r c => Z q k sc (t0 + r) (512 * n + c) - sp (Z q k sc (t0 + r) (512 * n + c)))
    (hn : 512 * (n + 1) ≤ t0) :
    Is (k0_pay16 v25 v47 arg17 v178 v191 v204 v209) fun r c => DZ q k v o sc (t0 + r) (512 * n + c) := by
  intro r c
  unfold k0_pay16
  pointwise []
  rw [halves (fun c => GS q k v o sc (t0 + r) (512 * n + c)) c
      (fun h => by rw [prefix_lo hg hu, hs, ← EReal.coe_add, GS_block _ _ _ _ _ _ _ _ h])
      (fun h => by
        rw [prefix_hi hg hu, run_mid hg hu hs, ← EReal.coe_add, ← GS_block _ _ _ _ _ _ _ _ (by omega)]
        congr 2; simp only; omega),
    hg, hb, ← EReal.coe_add, Ideal.exp_coe, ← EReal.coe_mul, ← EReal.coe_sub, DZ, if_pos (by omega)]

omit hg hu hs

/-- The block's addition to the key rows' gradient. -/
theorem dk_is {v29 v25 v209 : FVec Ideal S512x128 .bf16} {v239 : FVec Ideal S512x128 .f32} {a qs : ℕ → ℕ → ℝ}
    (hz : Is (k0_pay16 v25 v47 arg17 v178 v191 v204 v209) fun r c => DZ q k v o sc (t0 + r) (512 * n + c))
    (hq : Is v29 qs) (ha : Is v239 a) :
    Is (k0_pay17 v25 v29 v47 arg17 v178 v191 v204 v209 v239)
      fun c d => a c d + ∑ r ∈ range 512, DZ q k v o sc (t0 + r) (512 * n + c) * qs r d := by
  intro c d
  unfold k0_pay17
  pointwise [dot_S512x512_S512x128_S512x128_0_0_1_1_n_n]
  rw [ha, sum_coe' _ (fun r => DZ q k v o sc (t0 + r) (512 * n + c) * qs r d) fun x => by rw [hz, hq, ← EReal.coe_mul],
    ← EReal.coe_add]

/-- The block's addition to the value rows' gradient. -/
theorem dv_is {v246 : FVec Ideal S512x128 .f32} {a : ℕ → ℕ → ℝ}
    (hw : Is (k0_pay10 v178 v191 v204) fun r c => Wt q k sc (t0 + r) (512 * n + c))
    (ho : Is v25 fun r d => o (t0 + r) d) (ha : Is v246 a) :
    Is (k0_pay18 v25 v178 v191 v204 v246)
      fun c d => a c d + ∑ r ∈ range 512, Wt q k sc (t0 + r) (512 * n + c) * o (t0 + r) d := by
  intro c d
  unfold k0_pay18
  pointwise [dot_S512x512_S512x128_S512x128_0_0_1_1_n_n]
  rw [ha, sum_coe' _ (fun r => Wt q k sc (t0 + r) (512 * n + c) * o (t0 + r) d) fun x => by rw [hw, ho, ← EReal.coe_mul],
    ← EReal.coe_add]

/-- The block's addition to the query rows' gradient. -/
theorem dq_is {arg16 : FVec Ideal S512x128 .f32} {v237 : FVec Ideal S512x512 .bf16} {a : ℕ → ℕ → ℝ}
    (hz : Is v237 fun r c => DZ q k v o sc (t0 + r) (512 * n + c)) (hk : Is v165 fun c d => k (512 * n + c) d)
    (ha : Is arg16 a) :
    Is (k0_pay47 arg16 v165 v237 (constant S512x128 .f32 0x00000000#32))
      fun r d => a r d + ∑ c ∈ range 512, DZ q k v o sc (t0 + r) (512 * n + c) * k (512 * n + c) d := by
  intro r d
  unfold k0_pay47
  pointwise [dot_S512x512_S512x128_S512x128_1_0_0_1_n_n]
  rw [ha, sum_coe' _ (fun c => DZ q k v o sc (t0 + r) (512 * n + c) * k (512 * n + c) d) fun x => by rw [hz, hk, ← EReal.coe_mul],
    ← EReal.coe_add]

end Unmasked

section Masked

variable {q k v o sc t0 n}
variable {v29 v63 v25 v116 : FVec Ideal S512x128 .bf16}

theorem score_is' (hq : Is v29 fun r d => q (t0 + r) d * sc) (hk : Is v63 fun c d => k (512 * n + c) d) :
    Is (k0_pay49 v29 v63) fun r c => Z q k sc (t0 + r) (512 * n + c) := score_is hq hk

theorem softplus_is' (hq : Is v29 fun r d => q (t0 + r) d * sc) (hk : Is v63 fun c d => k (512 * n + c) d) :
    Is (k0_pay50 v29 v63) fun r c => sp (Z q k sc (t0 + r) (512 * n + c)) := softplus_is hq hk

theorem logsig_is' (hq : Is v29 fun r d => q (t0 + r) d * sc) (hk : Is v63 fun c d => k (512 * n + c) d) :
    Is (k0_pay51 v29 v63) fun r c => Z q k sc (t0 + r) (512 * n + c) - sp (Z q k sc (t0 + r) (512 * n + c)) :=
  logsig_is hq hk

/-- The words of the mask compare the key row with the query row. -/
theorem keep_at {a : BitVec 32} {v33 v34 : IVec S512x512 32} (ha : a = BitVec.ofNat 32 n) (hn : n < 16)
    (h33 : ∀ r c, v33 (ix2 r c) = BitVec.ofNat 32 r.val) (h34 : ∀ r c, v34 (ix2 r c) = BitVec.ofNat 32 (512 * n))
    (r c : Fin 512) : k0_pay52 a v33 v34 (ix2 r c) = BitVec.ofBool (decide (512 * n + c.val < 512 * n + r.val)) := by
  unfold k0_pay52
  pointwise []
  rw [h33, h34, ha, show IntOp.addi (Scalar.muli (Scalar.addi (Scalar.muli (BitVec.ofNat 32 n) 1#32) 0#32) 512#32)
      (BitVec.ofNat 32 c.val) = BitVec.ofNat 32 (512 * n + c.val) by
    apply BitVec.eq_of_toNat_eq; simp [Scalar.addi, Scalar.muli, IntOp.addi, IntOp.muli]; omega,
    show IntOp.addi (BitVec.ofNat 32 (512 * n)) (BitVec.ofNat 32 r.val) = BitVec.ofNat 32 (512 * n + r.val) by
      apply BitVec.eq_of_toNat_eq; simp [IntOp.addi],
    WordCmp.cmpi_slt_ofNat (by omega) (by omega)]

variable {v75 v76 v114 v119 : FVec Ideal S512x512 .bf16} {v79 : IVec S512x512 1} {v59 : BitVec 32}
  {v31 : FVec Ideal S512x128 .f32} {v37 : IVec S512x128 32} {v43 v47 : FVec Ideal S256x256 .bf16} {run : ℕ → ℕ → ℝ}
  {v57_1 : FVec Ideal S512x1 .f32} {v121 : FVec Ideal S512x256 .f32} {v124 : FVec Ideal S512x256 .bf16}

/-- The same sum with the masked keys left out. -/
theorem keep_sum (b : Fin 256 → BitVec 1) (g : Fin 256 → EReal) (u : FVec Ideal S256x256 .bf16) (f : ℕ → ℝ) (p : ℕ → Prop)
    [DecidablePred p] (c : Fin 256) (hu : Is (n := 256) (m := 256) u fun a c => if c < a then 1 else 0)
    (hb : ∀ x : Fin 256, b x = BitVec.ofBool (decide (p x))) (hg : ∀ x : Fin 256, g x = ((f x : ℝ) : EReal)) :
    ∑ x : Fin 256, Scalar.select (b x) (g x * u (ix2 x c)) 0
      = ((∑ j ∈ range 256, if c.val < j then (if p j then f j else 0) else 0 : ℝ) : EReal) :=
  sum_coe' _ _ fun x => by
    rw [hb, select_decide, hg, hu, ← EReal.coe_mul, mul_ite, mul_one, mul_zero]
    split_ifs <;> simp

theorem weight_is' (h75 : Is v75 fun r c => sp (Z q k sc (t0 + r) (512 * n + c)))
    (hb : Is v76 fun r c => Z q k sc (t0 + r) (512 * n + c) - sp (Z q k sc (t0 + r) (512 * n + c)))
    (hm : ∀ r c, v79 (ix2 r c) = BitVec.ofBool (decide (512 * n + c.val < t0 + r.val)))
    (hu : Is v43 fun a c => if c < a then 1 else 0) (hl : ∀ r x, v37 (ix2 r x) = BitVec.ofNat 32 x.val)
    (hr : Is v31 run) (hrun : ∀ r m, m < 32 → run r m = SA q k sc (t0 + r) (256 * m + 255))
    (hw : v59 = BitVec.ofNat 32 n) (hn : n < 16) :
    Is (k0_pay53 v31 v37 v43 v59 v75 v76 v79) fun r c => Wt q k sc (t0 + r) (512 * n + c) := by
  intro r c
  unfold k0_pay53
  pointwise [dot_S512x256_S256x256_S512x256_1_0_0_1_n_n]
  rw [halves (fun c => SA q k sc (t0 + r) (512 * n + c)) c
    (fun h => by
      rw [keep_sum (fun x => v79 (ix2 r ⟨x.val, by omega⟩)) (fun x => v75 (ix2 r ⟨x.val, by omega⟩)) _
        (fun j => sp (Z q k sc (t0 + r) (512 * n + j))) (fun j => 512 * n + j < t0 + r.val) ⟨c, h⟩ hu
        (fun x => hm r ⟨x.val, by omega⟩) fun x => h75 r ⟨x.val, by omega⟩]
      simp only [hw, word_twice, hl, hr r]
      rw [pick (run r) _ (by omega), hrun _ _ (by omega), ← EReal.coe_add,
        show 512 * n + c.val = 256 * (2 * n) + c.val by ring, SA_block _ _ _ _ _ _ h (by omega)]
      simp only [show ∀ j, 256 * (2 * n) + j = 512 * n + j from fun j => by ring])
    (fun h => by
      rw [keep_sum (fun x => v79 (ix2 r ⟨256 + x.val, by omega⟩)) (fun x => v75 (ix2 r ⟨256 + x.val, by omega⟩)) _
        (fun j => sp (Z q k sc (t0 + r) (512 * n + (256 + j))))
        (fun j => 512 * n + (256 + j) < t0 + r.val) ⟨c - 256, by omega⟩ hu
        (fun x => hm r ⟨256 + x.val, by omega⟩) fun x => h75 r ⟨256 + x.val, by omega⟩]
      simp only [hw, word_twice_succ, hl, hr r]
      rw [pick (run r) _ (by omega), hrun _ _ (by omega), ← EReal.coe_add,
        show 512 * n + c.val = 256 * (2 * n + 1) + (c.val - 256) by omega,
        SA_block q k sc (t0 + r) (2 * n + 1) (c.val - 256) (by omega) (by omega)]
      simp only [show ∀ j, 256 * (2 * n + 1) + j = 512 * n + (256 + j) from fun j => by ring]),
    hb, ← EReal.coe_sub, Ideal.exp_coe, hm, select_decide, Wt]
  split_ifs <;> simp

theorem gw_is' (ho : Is v25 fun r d => o (t0 + r) d) (hv : Is v116 fun c d => v (512 * n + c) d)
    (hw : Is (k0_pay53 v31 v37 v43 v59 v75 v76 v79) fun r c => Wt q k sc (t0 + r) (512 * n + c)) :
    Is (k0_pay54 v25 v31 v37 v43 v59 v75 v76 v79 v116) fun r c => GW q k v o sc (t0 + r) (512 * n + c) := by
  intro r c
  unfold k0_pay54
  pointwise [dot_S512x128_S512x128_S512x512_1_1_0_0_n_n]
  rw [sum_coe' _ (fun d => o (t0 + r) d * v (512 * n + c) d) fun x => by rw [ho, hv, ← EReal.coe_mul], hw, ← EReal.coe_mul, GW]

theorem prefix_lo'
    (hg : Is (k0_pay54 v25 v31 v37 v43 v59 v75 v76 v79 v116) fun r c => GW q k v o sc (t0 + r) (512 * n + c))
    (hu : Is v47 fun a c => if a < c then 1 else 0) :
    Is (k0_pay55 v25 v31 v37 v43 v47 v59 v75 v76 v79 v116)
      fun r c => ∑ j ∈ range 256, if j < c then GW q k v o sc (t0 + r) (512 * n + j) else 0 := by
  intro r c
  unfold k0_pay55
  pointwise [dot_S512x256_S256x256_S512x256_1_0_0_1_n_n]
  exact lower_sum _ _ (fun j => GW q k v o sc (t0 + r) (512 * n + j)) c hu fun x => by rw [hg]

theorem before_lo'
    (hg : Is (k0_pay54 v25 v31 v37 v43 v59 v75 v76 v79 v116) fun r c => GW q k v o sc (t0 + r) (512 * n + c))
    (hu : Is v47 fun a c => if a < c then 1 else 0)
    (hs : ∀ r : Fin 512, v57_1 (ix2 r 0) = ((GS q k v o sc (t0 + r) (512 * n) : ℝ) : EReal)) :
    Is (k0_pay56 v25 v31 v37 v43 v47 v57_1 v59 v75 v76 v79 v116) fun r c => GS q k v o sc (t0 + r) (512 * n + c) := by
  intro r c
  unfold k0_pay56
  pointwise []
  rw [prefix_lo' hg hu, hs, ← EReal.coe_add, GS_block _ _ _ _ _ _ _ _ c.isLt]

theorem dz_is' (hg : Is v119 fun r c => GW q k v o sc (t0 + r) (512 * n + c))
    (hu : Is v47 fun a c => if a < c then 1 else 0)
    (hs : ∀ r : Fin 512, v57_1 (ix2 r 0) = ((GS q k v o sc (t0 + r) (512 * n) : ℝ) : EReal))
    (hp : Is v121 fun r c => ∑ j ∈ range 256, if j < c then GW q k v o sc (t0 + r) (512 * n + j) else 0)
    (hp' : Is v124 fun r c => GS q k v o sc (t0 + r) (512 * n + c))
    (hb : Is v76 fun r c => Z q k sc (t0 + r) (512 * n + c) - sp (Z q k sc (t0 + r) (512 * n + c)))
    (hm : ∀ r c, v79 (ix2 r c) = BitVec.ofBool (decide (512 * n + c.val < t0 + r.val))) :
    Is (k0_pay1 v47 v57_1 v76 v79 v119 v121 v124) fun r c => DZ q k v o sc (t0 + r) (512 * n + c) := by
  intro r c
  unfold k0_pay1
  pointwise [dot_S512x256_S256x256_S512x256_1_0_0_1_n_n]
  rw [halves (fun c => GS q k v o sc (t0 + r) (512 * n + c)) c (fun h => hp' r _)
      (fun h => by
        rw [lower_sum _ _ (fun j => GW q k v o sc (t0 + r) (512 * n + 256 + j)) ⟨c - 256, by omega⟩ hu
          fun x => by rw [hg, add_assoc]]
        rw [hs, hp, hg, ← EReal.coe_add, ← EReal.coe_add, ← EReal.coe_add]
        rw [show 512 * n + c.val = 512 * n + 256 + (c.val - 256) by omega, GS_block _ _ _ _ _ _ _ (c.val - 256) (by omega), GS_next]
        rfl),
    hg, hb, ← EReal.coe_add, Ideal.exp_coe, ← EReal.coe_mul, ← EReal.coe_sub, hm, select_decide, DZ]
  split_ifs <;> simp

theorem dk_is' {v144 : FVec Ideal S512x128 .f32} {a qs : ℕ → ℕ → ℝ}
    (hz : Is (k0_pay1 v47 v57_1 v76 v79 v119 v121 v124) fun r c => DZ q k v o sc (t0 + r) (512 * n + c))
    (hq : Is v29 qs) (ha : Is v144 a) :
    Is (k0_pay2 v29 v47 v57_1 v76 v79 v119 v121 v124 v144)
      fun c d => a c d + ∑ r ∈ range 512, DZ q k v o sc (t0 + r) (512 * n + c) * qs r d := by
  intro c d
  unfold k0_pay2
  pointwise [dot_S512x512_S512x128_S512x128_0_0_1_1_n_n]
  rw [ha, sum_coe' _ (fun r => DZ q k v o sc (t0 + r) (512 * n + c) * qs r d) fun x => by rw [hz, hq, ← EReal.coe_mul],
    ← EReal.coe_add]

theorem dv_is' {v151 : FVec Ideal S512x128 .f32} {a : ℕ → ℕ → ℝ}
    (hw : Is v114 fun r c => Wt q k sc (t0 + r) (512 * n + c))
    (ho : Is v25 fun r d => o (t0 + r) d) (ha : Is v151 a) :
    Is (k0_pay3 v25 v114 v151)
      fun c d => a c d + ∑ r ∈ range 512, Wt q k sc (t0 + r) (512 * n + c) * o (t0 + r) d := by
  intro c d
  unfold k0_pay3
  pointwise [dot_S512x512_S512x128_S512x128_0_0_1_1_n_n]
  rw [ha, sum_coe' _ (fun r => Wt q k sc (t0 + r) (512 * n + c) * o (t0 + r) d) fun x => by rw [hw, ho, ← EReal.coe_mul],
    ← EReal.coe_add]

theorem dq_is' {v57_0 : FVec Ideal S512x128 .f32} {a : ℕ → ℕ → ℝ} {s : ℝ} (hs : Ideal.ofBits .f32 0x3DB504F3#32 = (s : EReal))
    (hz : Is (k0_pay1 v47 v57_1 v76 v79 v119 v121 v124) fun r c => DZ q k v o sc (t0 + r) (512 * n + c))
    (hk : Is v63 fun c d => k (512 * n + c) d) (ha : Is v57_0 a) :
    Is (k0_pay4 v47 v57_0 v57_1 v63 v76 v79 v119 v121 v124)
      fun r d => (a r d + ∑ c ∈ range 512, DZ q k v o sc (t0 + r) (512 * n + c) * k (512 * n + c) d) * s := by
  intro r d
  unfold k0_pay4
  pointwise [dot_S512x512_S512x128_S512x128_1_0_0_1_n_n]
  rw [ha, sum_coe' _ (fun c => DZ q k v o sc (t0 + r) (512 * n + c) * k (512 * n + c) d) fun x => by rw [hz, hk, ← EReal.coe_mul],
    ← EReal.coe_add, hs, ← EReal.coe_mul]

end Masked

section Point

variable {g dy att : ℕ → ℕ → ℝ} {qq : ℕ → ℕ → ℝ}

/-- The logistic function. -/
def sg (x : ℝ) : ℝ := (1 + Real.exp (-x))⁻¹

theorem gate_is {v3 : FVec Ideal S512x128 .f32} (hg : Is v3 g) : Is (k0_pay37 v3) fun r d => sg (g r d) := by
  intro r d
  unfold k0_pay37
  pointwise []
  rw [hg, zero_sub, ← EReal.coe_neg, Ideal.exp_coe, ← EReal.coe_one, ← EReal.coe_add, Ideal.div, if_neg, ← EReal.coe_inv,
    ← EReal.coe_mul, one_mul, sg]
  rw [EReal.coe_eq_zero]
  positivity

theorem dg_is {v3 v18 v19 : FVec Ideal S512x128 .f32} (hg : Is v3 g) (hy : Is v18 dy) (ha : Is v19 att) :
    Is (k0_pay38 v3 v18 v19)
      fun r d => dy r d * att r d * (sg (g r d) * (1 + g r d * (1 - sg (g r d)))) := by
  intro r d
  unfold k0_pay38
  pointwise []
  rw [hg, hy, ha, gate_is hg]
  push_cast
  rfl

theorem dob_is {v3 v18 : FVec Ideal S512x128 .f32} (hg : Is v3 g) (hy : Is v18 dy) :
    Is (k0_pay39 v3 v18) fun r d => dy r d * (g r d * sg (g r d)) := by
  intro r d
  unfold k0_pay39
  pointwise []
  rw [hg, hy, gate_is hg]
  push_cast
  rfl

theorem qs_is {v26 : FVec Ideal S512x128 .f32} {s : ℝ} (hs : Ideal.ofBits .f32 0x3DB504F3#32 = (s : EReal)) (hq : Is v26 qq) :
    Is (k0_pay40 v26) fun r d => qq r d * s := by
  intro r d
  unfold k0_pay40
  pointwise []
  rw [hq, hs, EReal.coe_mul]

theorem runs_is {v30 : FVec Ideal S512x128 .f32} (hq : Is v30 qq) : Is (k0_pay41 v30) qq := by
  intro r d
  unfold k0_pay41
  pointwise []
  rw [hq]

theorem kb_is {v162 : FVec Ideal S8192x128 .f32} (hq : Is v162 qq) : Is (k0_pay33 v162) qq := by
  intro r d
  unfold k0_pay33
  pointwise []
  rw [hq]

theorem vb_is {v167 : FVec Ideal S8192x128 .f32} (hq : Is v167 qq) : Is (k0_pay34 v167) qq := by
  intro r d
  unfold k0_pay34
  pointwise []
  rw [hq]

theorem zero_is : Is (n := 8192) (m := 128) (k0_pay35 (F := Ideal)) fun _ _ => 0 := by
  intro r d
  unfold k0_pay35
  pointwise []
  rfl

theorem zero_is' : Is (n := 8192) (m := 128) (k0_pay36 (F := Ideal)) fun _ _ => 0 := zero_is

theorem zero_q_is : Is (n := 512) (m := 128) (k0_pay45 (F := Ideal)) fun _ _ => 0 := by
  intro r d
  unfold k0_pay45
  pointwise []
  rfl

theorem zero_run (r : Fin 512) : k0_pay46 (F := Ideal) (ix2 r 0) = 0 := by
  unfold k0_pay46
  pointwise []

end Point

end Cert.StickBreaking

end
-- ==== Proof.Host.lean ====
module
public import proofs.«01_k».proof.Proof.Block

/-! Operations that both programs state over whole arrays, read over the reals: the logarithm of the sigmoid, and the running
sums along the last axis, from the left and from the right. -/

@[expose] public section
set_option maxRecDepth 16384
noncomputable section
open Idealize.ShloMosaic Finset
namespace Cert.StickBreaking

/-- The softplus as the host writes it. -/
theorem host_softplus (x : ℝ) : (if ((x : ℝ) : EReal) ≠ (x : EReal) then (x : EReal)
    else max (x : EReal) 0 + Ideal.log1p (Ideal.exp (-FloatOps.absf (F := Ideal) (φ := .f32) (x : EReal)))) = ((sp x : ℝ) : EReal) := by
  rw [if_neg (by simp)]
  rw [← softplus_coe (φ := .f32), zero_sub, Ideal.log1p]

/-! ## Running sums -/

theorem foldl_plus {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem window_fold (W : Shape) (h : Fin W.numel → EReal) (g : W.Idx → EReal) (hg : ∀ n, h n = g (W.rowMajor.symm n)) (v : EReal) :
    (List.finRange W.numel).foldl (fun r n => r + h n) v = v + ∑ w : W.Idx, g w := by
  rw [foldl_plus, ← Fin.sum_univ_def, ← Equiv.sum_comp W.rowMajor.symm g]
  exact congrArg _ (sum_congr rfl fun n _ => hg n)

/-- The places of a window that spans the last axis. -/
def places (n : ℕ) : Fin n ≃ (⟨3, ![1, 1, n]⟩ : Shape).Idx where
  toFun k := ix3 0 0 k
  invFun i := i 2
  left_inv _ := rfl
  right_inv i := by
    funext a
    match a with
    | ⟨0, _⟩ => exact Fin.ext (Nat.lt_one_iff.mp (i 0).isLt).symm
    | ⟨1, _⟩ => exact Fin.ext (Nat.lt_one_iff.mp (i 1).isLt).symm
    | ⟨2, _⟩ => rfl

theorem window_last {b m n l e : ℕ} {x : FVec Ideal (⟨3, ![b, m, n]⟩ : Shape) .f32} {f : ℕ → ℕ → ℕ → ℝ}
    (hx : ∀ (a : Fin b) (t : Fin m) (s : Fin n), x (ix3 a t s) = ((f a t s : ℝ) : EReal))
    {v : FVec Ideal (⟨0, ![]⟩ : Shape) .f32} (hv : v ix0 = 0) (hw) (hu) (a : Fin b) (t : Fin m) (s : Fin n) :
    Host.reduceWindowAdd (F := Ideal) (s := ⟨3, ![b, m, n]⟩) (t := ⟨3, ![b, m, n]⟩) ![1, 1, n] ![1, 1, 1] ![0, 0, l] ![0, 0, e] x v hw hu (ix3 a t s)
      = ((∑ k ∈ range n, if l ≤ s.val + k ∧ s.val + k - l < n then f a t (s.val + k - l) else 0 : ℝ) : EReal) := by
  have e0 : v (Shape.Idx.first hu) = 0 := (congrArg v (funext fun a => a.elim0)).trans hv
  show Ideal.hostReduceWindowAdd _ _ _ _ hw x (v (Shape.Idx.first hu)) (ix3 a t s) = _
  unfold Ideal.hostReduceWindowAdd Host.reduceWindow
  dsimp only
  refine (window_fold (⟨3, ![1, 1, n]⟩ : Shape) _ (fun w => ((if l ≤ s.val + (w 2).val ∧ s.val + (w 2).val - l < n
    then f a t (s.val + (w 2).val - l) else 0 : ℝ) : EReal)) (fun i => ?_) _).trans ?_
  · let w := (⟨3, ![1, 1, n]⟩ : Shape).rowMajor.symm i
    have w0 : (w 0).val = 0 := Nat.lt_one_iff.mp (w 0).isLt
    have w1 : (w 1).val = 0 := Nat.lt_one_iff.mp (w 1).isLt
    by_cases h : l ≤ s.val + (w 2).val ∧ s.val + (w 2).val - l < n
    · rw [if_pos h, dif_pos]
      · rw [← hx a t ⟨s.val + (w 2).val - l, h.2⟩]
        refine congrArg x (funext fun q => ?_)
        match q with
        | ⟨0, _⟩ => exact Fin.ext (show a.val * 1 + (w 0).val - 0 = a.val by omega)
        | ⟨1, _⟩ => exact Fin.ext (show t.val * 1 + (w 1).val - 0 = t.val by omega)
        | ⟨2, _⟩ => exact Fin.ext (show s.val * 1 + (w 2).val - l = s.val + (w 2).val - l by omega)
      · intro q
        match q with
        | ⟨0, _⟩ => exact ⟨Nat.zero_le _, show a.val * 1 + (w 0).val - 0 < b by omega⟩
        | ⟨1, _⟩ => exact ⟨Nat.zero_le _, show t.val * 1 + (w 1).val - 0 < m by omega⟩
        | ⟨2, _⟩ => exact ⟨show l ≤ s.val * 1 + (w 2).val by omega, show s.val * 1 + (w 2).val - l < n by omega⟩
    · rw [if_neg h, dif_neg]
      · exact e0
      · intro H
        have h2 : l ≤ s.val * 1 + (w 2).val ∧ s.val * 1 + (w 2).val - l < n := H 2
        exact h (by omega)
  · rw [e0, zero_add, ← Equiv.sum_comp (places n), ← sum_coe]
    exact sum_congr rfl fun k _ => rfl

theorem sum_right {n : ℕ} (s : ℕ) (f : ℕ → ℝ) : (∑ k ∈ range n, if 0 ≤ s + k ∧ s + k - 0 < n then f (s + k - 0) else 0) = ∑ j ∈ Ico s n, f j := by
  simp only [Nat.zero_le, true_and, Nat.sub_zero]
  rw [sum_Ico_eq_sum_range, ← sum_filter]
  exact sum_congr (Finset.ext fun k => by simp only [mem_filter, mem_range]; omega) fun _ _ => rfl

theorem sum_left {n : ℕ} (s : ℕ) (hs : s < n) (f : ℕ → ℝ) :
    (∑ k ∈ range n, if n - 1 ≤ s + k ∧ s + k - (n - 1) < n then f (s + k - (n - 1)) else 0) = ∑ j ∈ range (s + 1), f j := by
  rw [← sum_filter]
  refine sum_nbij (fun k => s + k - (n - 1)) ?_ ?_ ?_ fun _ _ => rfl
  · intro k hk
    simp only [mem_filter, mem_range] at hk ⊢
    omega
  · intro k hk j hj e
    simp only [coe_filter, Set.mem_setOf_eq, mem_range] at hk hj e
    omega
  · intro j hj
    simp only [coe_range, Set.mem_Iio, Set.mem_image, coe_filter, Set.mem_setOf_eq, mem_range] at hj ⊢
    exact ⟨j + (n - 1) - s, by omega, by omega⟩

variable {x : FVec Ideal (⟨3, ![8, 8192, 8192]⟩ : Shape) .f32} {f : ℕ → ℕ → ℕ → ℝ}
  (hx : ∀ (a : Fin 8) (t s : Fin 8192), x (ix3 a t s) = ((f a t s : ℝ) : EReal))
  {v : FVec Ideal (⟨0, ![]⟩ : Shape) .f32} (hv : v ix0 = 0)
include hx hv

theorem sum_from (hw) (hu) (a : Fin 8) (t s : Fin 8192) :
    Host.reduceWindowAdd (F := Ideal) (t := ⟨3, ![8, 8192, 8192]⟩) ![1, 1, 8192] ![1, 1, 1] ![0, 0, 0] ![0, 0, 8191] x v hw hu (ix3 a t s)
      = ((∑ j ∈ Ico s.val 8192, f a t j : ℝ) : EReal) :=
  (window_last hx hv hw hu a t s).trans (congrArg _ (sum_right s.val _))

theorem sum_upto (hw) (hu) (a : Fin 8) (t s : Fin 8192) :
    Host.reduceWindowAdd (F := Ideal) (t := ⟨3, ![8, 8192, 8192]⟩) ![1, 1, 8192] ![1, 1, 1] ![0, 0, 8191] ![0, 0, 0] x v hw hu (ix3 a t s)
      = ((∑ j ∈ range (s.val + 1), f a t j : ℝ) : EReal) :=
  (window_last hx hv hw hu a t s).trans (congrArg _ (sum_left s.val s.isLt _))

end Cert.StickBreaking
-- ==== Proof.Loop.lean ====
module
public import proofs.«01_k».proof.Proof.Block
public import proofs.«01_k».proof.Proof.Gen.KernelIdeal.Value
public import Idealize.ShloMosaic.Lib.Pipeline.ValueKit
public import Idealize.ShloMosaic.Lib.Pipeline.ReadBack
public import Idealize.ShloMosaic.Lib.WritesUnit
public import Idealize.ShloMosaic.Lib.LoopRemainder

/-! The inner loop of one grid point: for the query block `i` it goes over the key blocks before it, carrying the
query rows' gradient and the running prefix sum, and adds each block's part to the gradients of the key and value rows. -/

@[expose] public section
set_option maxRecDepth 16384
noncomputable section
open Idealize.ShloMosaic Finset
namespace Cert.StickBreaking
open Cert.KernelIdeal Cert.KernelIdeal.Gen

/-! ## Words of the loop -/

theorem trips_eq (i : grid0.Coords) : (k0_t1_loop i).trips = (i 1).val :=
  (by decide +kernel : ∀ x : Fin 16, Scf.trips 0#32 (Scalar.addi 0#32 (Scalar.muli (Scalar.divsi (Scalar.subi
    (Scalar.muli (BitVec.ofNat 32 x.val) 1#32) 0#32) 1#32) 1#32)) 1#32 = x.val) (i 1)

theorem iv_eq (k : ℕ) : Scf.iv 0#32 1#32 k = BitVec.ofNat 32 k := by
  simp [Scf.iv]

theorem trip_lt (i : grid0.Coords) (k : Fin (k0_t1_loop i).trips) : k.val < (i 1).val :=
  lt_of_lt_of_eq k.isLt (trips_eq i)

theorem trip_lt' (i : grid0.Coords) (k : Fin (k0_t1_loop i).trips) : k.val < 16 :=
  (trip_lt i k).trans (i 1).isLt

theorem off1_eq (i : grid0.Coords) (k : Fin (k0_t1_loop i).trips) : k0_off1 i k = ![512 * k.val, 0] := by
  unfold k0_off1
  simp only [iv_eq]
  exact congrArg (fun x => ![x, 0]) ((by decide +kernel : ∀ x : Fin 16,
    (Scalar.indexCast (Scalar.muli (BitVec.ofNat 32 x.val) 512#32)).toNat = 512 * x.val) ⟨k.val, trip_lt' i k⟩)

/-! ## Rows of a buffer -/

/-- The tile of 512 rows that trip `k` reads from a buffer. -/
abbrev tile (i : grid0.Coords) (k : Fin (k0_t1_loop i).trips) {κ sp e} (v : View sig κ sp S8192x128 e)
    (f : BufTy.Contents (Elt Ideal) v.ty) : S512x128.Idx → Elt Ideal e :=
  View.readAt (Elt Ideal) v (Rect.unit (s := S8192x128) (k0_off1 i k) S512x128.size (k0_off1_inb i k)).toLoadRect f

/-- A tile of 512 rows read from a buffer holds the buffer's rows. -/
theorem tile_apply {κ sp e} (v : View sig κ sp S8192x128 e) (f : BufTy.Contents (Elt Ideal) v.ty) {off : Fin 2 → ℕ}
    (inb) (n : ℕ) (hoff : off = ![512 * n, 0]) (r : Fin 512) (d : Fin 128) (s : Fin 8192) (hs : s.val = 512 * n + r.val) :
    View.readAt (Elt Ideal) v (Rect.unit (s := S8192x128) off S512x128.size inb).toLoadRect f (ix2 r d) = v.read (Elt Ideal) f (ix2 s d) := by
  subst hoff
  rw [View.readAt_eq_ld]
  exact View.ld_unit_apply_of _ _ _ _ _ (ix2 s d) (Fin.forall_fin_two.mpr ⟨hs, (Nat.zero_add _).symm⟩)

theorem tile_f32 {κ sp} (v : View sig κ sp S8192x128 .f32) (f : BufTy.Contents (Elt Ideal) v.ty) {off : Fin 2 → ℕ}
    (inb) (n : ℕ) (hn : n < 16) (hoff : off = ![512 * n, 0]) {A : ℕ → ℕ → ℝ} (h : Is (n := 8192) (m := 128) (φ := .f32) (v.read (Elt Ideal) f) A) :
    Is (n := 512) (m := 128) (φ := .f32)
      (View.readAt (Elt Ideal) v (Rect.unit (s := S8192x128) off S512x128.size inb).toLoadRect f) fun r d => A (512 * n + r) d :=
  fun r d => (tile_apply v f inb n hoff r d ⟨512 * n + r.val, by omega⟩ rfl).trans (h _ _)

theorem tile_bf16 {κ sp} (v : View sig κ sp S8192x128 .bf16) (f : BufTy.Contents (Elt Ideal) v.ty) {off : Fin 2 → ℕ}
    (inb) (n : ℕ) (hn : n < 16) (hoff : off = ![512 * n, 0]) {A : ℕ → ℕ → ℝ} (h : Is (n := 8192) (m := 128) (φ := .bf16) (v.read (Elt Ideal) f) A) :
    Is (n := 512) (m := 128) (φ := .bf16)
      (View.readAt (Elt Ideal) v (Rect.unit (s := S8192x128) off S512x128.size inb).toLoadRect f) fun r d => A (512 * n + r) d :=
  fun r d => (tile_apply v f inb n hoff r d ⟨512 * n + r.val, by omega⟩ rfl).trans (h _ _)

/-- A tile of 512 rows stored over earlier stores. -/
theorem stored_is {κ sp} (v : View sig κ sp S8192x128 .f32) (f : BufTy.Contents (Elt Ideal) v.ty) {off : Fin 2 → ℕ} (inb) (n : ℕ)
    (L : List (View.Piece (Elt Ideal) S8192x128 .f32)) (w : FVec Ideal S512x128 .f32)
    (A B : ℕ → ℕ → ℝ) (hoff : off = ![512 * n, 0]) (h : Is (n := 8192) (m := 128) (φ := .f32) (v.read (Elt Ideal) (v.writes (Elt Ideal) f L)) A)
    (hw : Is (n := 512) (m := 128) w fun r d => B (512 * n + r) d) (hAB : ∀ s d, s < 512 * n ∨ 512 * (n + 1) ≤ s → B s d = A s d) :
    Is (n := 8192) (m := 128) (φ := .f32) (v.read (Elt Ideal) (v.writes (Elt Ideal) f (⟨Rect.unit (s := S8192x128) off S512x128.size inb, w⟩ :: L))) B := by
  intro s d
  by_cases hs : s.val < 512 * n ∨ 512 * n + 512 ≤ s.val
  · rw [View.read_writes_cons_rows_of_not_mem v f inb w L (ix2 s d) hoff rfl hs, h s d, hAB s d (by omega)]
  · have hlt : s.val - 512 * n < 512 := by omega
    refine (View.read_writes_cons_rows_of_mem v f inb w L (ix2 s d) (ix2 ⟨s.val - 512 * n, hlt⟩ d) hoff ?_ rfl).trans ?_
    · show s.val = 512 * n + (s.val - 512 * n); omega
    · rw [hw]; show ((B (512 * n + (s.val - 512 * n)) d : ℝ) : EReal) = _; rw [show 512 * n + (s.val - 512 * n) = s.val by omega]

/-! ## One trip -/

section Trip

variable (c : Dev nD)
  (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .f32) (harg12 : arg12.IsWhole)
  (arg13 : Memref sig .tc .vmem S8192x128 .bf16) (harg13 : arg13.IsWhole)
  (arg14 : Memref sig .tc .vmem S8192x128 .bf16) (harg14 : arg14.IsWhole) (arg1 : BitVec 32)
  (v25 : FVec Ideal S512x128 .bf16) (v29 : FVec Ideal S512x128 .bf16) (v31 : FVec Ideal S512x128 .f32)
  (v33 : IVec S512x512 32) (v34 : IVec S512x512 32) (v37 : IVec S512x128 32)
  (X_arg13 : BufTy.Contents (Elt Ideal) arg13.view.ty) (X_arg14 : BufTy.Contents (Elt Ideal) arg14.view.ty)
  (k : Fin (k0_t1_loop i).trips) (acc : FVec Ideal S512x128 .f32 × FVec Ideal S512x1 .f32)
  (f10 : BufTy.Contents (Elt Ideal) arg10.view.ty) (f11 : BufTy.Contents (Elt Ideal) arg11.view.ty)

theorem trip_carry : (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 k).1 acc f10 f11 =
    (k0_pay47 acc.1 (tile i k arg13.view X_arg13) (k0_pay16 v25 k0_pay44 acc.2 (k0_pay7 v29 (tile i k arg13.view X_arg13)) (k0_pay8 i v29 v31 v37 k0_pay43 0#32 1#32 k (tile i k arg13.view X_arg13)) (k0_pay9 i v29 v31 v37 k0_pay43 0#32 1#32 k (tile i k arg13.view X_arg13)) (tile i k arg14.view X_arg14)) (constant S512x128 .f32 0x00000000#32),
      k0_pay15 v25 k0_pay44 acc.2 (k0_pay7 v29 (tile i k arg13.view X_arg13)) (k0_pay8 i v29 v31 v37 k0_pay43 0#32 1#32 k (tile i k arg13.view X_arg13)) (k0_pay9 i v29 v31 v37 k0_pay43 0#32 1#32 k (tile i k arg13.view X_arg13)) (tile i k arg14.view X_arg14)) := by
  unfold trip_k0_t1
  rfl

theorem trip_keys : (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 k).2.1 acc f10 f11 =
    [⟨Rect.unit (s := S8192x128) (k0_off1 i k) S512x128.size (k0_off1_inb i k), k0_pay17 v25 v29 k0_pay44 acc.2 (k0_pay7 v29 (tile i k arg13.view X_arg13)) (k0_pay8 i v29 v31 v37 k0_pay43 0#32 1#32 k (tile i k arg13.view X_arg13)) (k0_pay9 i v29 v31 v37 k0_pay43 0#32 1#32 k (tile i k arg13.view X_arg13)) (tile i k arg14.view X_arg14)
      (tile i k arg10.view f10)⟩] := by
  unfold trip_k0_t1
  rfl

theorem trip_values : (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 k).2.2.1 acc f10 f11 =
    [⟨Rect.unit (s := S8192x128) (k0_off1 i k) S512x128.size (k0_off1_inb i k), k0_pay18 v25 (k0_pay7 v29 (tile i k arg13.view X_arg13)) (k0_pay8 i v29 v31 v37 k0_pay43 0#32 1#32 k (tile i k arg13.view X_arg13)) (k0_pay9 i v29 v31 v37 k0_pay43 0#32 1#32 k (tile i k arg13.view X_arg13))
      (tile i k arg11.view f11)⟩] := by
  unfold trip_k0_t1
  rfl

end Trip

/-! ## The loop -/

/-- What the block of 512 query rows from `t0` on brings to a grid point: its scaled queries, the rows its weights
multiply, and the softplus sums past each quarter of a key block. -/
structure Rows (q k o : ℕ → ℕ → ℝ) (sc : ℝ) (t0 : ℕ) (v25 v29 : FVec Ideal S512x128 .bf16) (v31 : FVec Ideal S512x128 .f32)
    (v37 : IVec S512x128 32) : Prop where
  ho : Is v25 fun r d => o (t0 + r) d
  hq : Is v29 fun r d => q (t0 + r) d * sc
  hr : ∃ run : ℕ → ℕ → ℝ, Is v31 run ∧ ∀ r m, m < 32 → run r m = SA q k sc (t0 + r) (256 * m + 255)
  hl : ∀ r x, v37 (ix2 r x) = BitVec.ofNat 32 x.val

/-- The queries' gradient from the keys before `n`, before the last factor `sc`. -/
def DQ (q k v o : ℕ → ℕ → ℝ) (sc : ℝ) (n t d : ℕ) : ℝ := ∑ c ∈ range n, DZ q k v o sc t c * k c d

/-- A block of 512 queries' part of the keys' gradient. -/
def DK (q k v o : ℕ → ℕ → ℝ) (sc : ℝ) (t0 s d : ℕ) : ℝ := ∑ r ∈ range 512, DZ q k v o sc (t0 + r) s * (q (t0 + r) d * sc)

/-- A block of 512 queries' part of the values' gradient. -/
def DV (q k o : ℕ → ℕ → ℝ) (sc : ℝ) (t0 s d : ℕ) : ℝ := ∑ r ∈ range 512, Wt q k sc (t0 + r) s * o (t0 + r) d

section Loop

variable (c : Dev nD)
  (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .f32) (harg12 : arg12.IsWhole)
  (arg13 : Memref sig .tc .vmem S8192x128 .bf16) (harg13 : arg13.IsWhole)
  (arg14 : Memref sig .tc .vmem S8192x128 .bf16) (harg14 : arg14.IsWhole) (arg1 : BitVec 32)
  (v25 : FVec Ideal S512x128 .bf16) (v29 : FVec Ideal S512x128 .bf16) (v31 : FVec Ideal S512x128 .f32)
  (v33 : IVec S512x512 32) (v34 : IVec S512x512 32) (v37 : IVec S512x128 32)
  (X_arg13 : BufTy.Contents (Elt Ideal) arg13.view.ty) (X_arg14 : BufTy.Contents (Elt Ideal) arg14.view.ty)
  (G_arg10 : BufTy.Contents (Elt Ideal) arg10.view.ty) (G_arg11 : BufTy.Contents (Elt Ideal) arg11.view.ty)
  (init : FVec Ideal S512x128 .f32 × FVec Ideal S512x1 .f32)

theorem loop_is {q k v o : ℕ → ℕ → ℝ} {sc : ℝ} {A10 A11 : ℕ → ℕ → ℝ} (H : Rows q k o sc (512 * (i 1).val) v25 v29 v31 v37)
    (hk : Is (n := 8192) (m := 128) (φ := .bf16) (arg13.view.read (Elt Ideal) X_arg13) k)
    (hv : Is (n := 8192) (m := 128) (φ := .bf16) (arg14.view.read (Elt Ideal) X_arg14) v)
    (h10 : Is (n := 8192) (m := 128) (φ := .f32) (arg10.view.read (Elt Ideal) G_arg10) A10)
    (h11 : Is (n := 8192) (m := 128) (φ := .f32) (arg11.view.read (Elt Ideal) G_arg11) A11)
    (h0 : Is init.1 fun _ _ => 0) (h1 : ∀ r : Fin 512, init.2 (ix2 r 0) = 0) (n : ℕ) (hn : n ≤ (i 1).val) :
    Is (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init n).1.1 (fun r d => DQ q k v o sc (512 * n) (512 * (i 1).val + r) d)
    ∧ (∀ r : Fin 512, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init n).1.2 (ix2 r 0)
        = ((GS q k v o sc (512 * (i 1).val + r.val) (512 * n) : ℝ) : EReal))
    ∧ Is (n := 8192) (m := 128) (φ := .f32)
        (arg10.view.read (Elt Ideal) (arg10.view.writes (Elt Ideal) G_arg10 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init n).2.1))
        (fun s d => A10 s d + if s < 512 * n then DK q k v o sc (512 * (i 1).val) s d else 0)
    ∧ Is (n := 8192) (m := 128) (φ := .f32)
        (arg11.view.read (Elt Ideal) (arg11.view.writes (Elt Ideal) G_arg11 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init n).2.2))
        (fun s d => A11 s d + if s < 512 * n then DV q k o sc (512 * (i 1).val) s d else 0) := by
  induction n with
  | zero =>
    refine ⟨fun r d => ?_, fun r => ?_, fun s d => ?_, fun s d => ?_⟩
    · rw [st_k0_t1_zero, h0]; dsimp only; rw [DQ, Nat.mul_zero, sum_range_zero]
    · rw [st_k0_t1_zero, h1, Nat.mul_zero, GS_zero]; rfl
    · dsimp only; rw [if_neg (by omega), add_zero]; exact h10 s d
    · dsimp only; rw [if_neg (by omega), add_zero]; exact h11 s d
  | succ n ih =>
    obtain ⟨ha, hs, hA, hB⟩ := ih (by omega)
    have hkk : n < (k0_t1_loop i).trips := by rw [trips_eq]; omega
    have hn16 : n < 16 := trip_lt' i ⟨n, hkk⟩
    have hoff : k0_off1 i ⟨n, hkk⟩ = ![512 * n, 0] := off1_eq i ⟨n, hkk⟩
    have hkt := tile_bf16 arg13.view X_arg13 (k0_off1_inb i ⟨n, hkk⟩) n hn16 hoff hk
    have hvt := tile_bf16 arg14.view X_arg14 (k0_off1_inb i ⟨n, hkk⟩) n hn16 hoff hv
    have h10t := tile_f32 arg10.view _ (k0_off1_inb i ⟨n, hkk⟩) n hn16 hoff hA
    have h11t := tile_f32 arg11.view _ (k0_off1_inb i ⟨n, hkk⟩) n hn16 hoff hB
    have hle : 512 * (n + 1) ≤ 512 * (i 1).val := by omega
    obtain ⟨run, hr, hrun⟩ := H.hr
    have hb := logsig_is H.hq hkt
    have hlo := after_lo_is (i := i) (w := ⟨n, hkk⟩) (c0 := 0#32) (c1 := 1#32) H.hq hkt upper_is H.hl hr hrun (iv_eq n) hle hn16
    have hhi := after_hi_is (i := i) (w := ⟨n, hkk⟩) (c0 := 0#32) (c1 := 1#32) H.hq hkt upper_is H.hl hr hrun (iv_eq n) hle hn16
    have hw := weight_is hb hlo hhi hle
    have hg := gw_is H.ho hvt hw
    have hz := dz_is hg lower_is hs hb hle
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init ⟨n, hkk⟩
    dsimp only at e
    rw [e]
    refine ⟨?_, ?_, ?_, ?_⟩
    · dsimp only
      unfold tripR_k0_t1
      rw [trip_carry]
      intro r d
      refine (dq_is hz hkt ha r d).trans ?_
      dsimp only
      rw [DQ, DQ, show 512 * (n + 1) = 512 * n + 512 by ring, sum_range_add]
    · intro r
      dsimp only
      unfold tripR_k0_t1
      rw [trip_carry]
      exact run_end hg lower_is hs r
    · dsimp only
      rw [trip_keys]
      refine stored_is _ _ _ n _ _ _ _ hoff hA (fun r d => (dk_is hz H.hq h10t r d).trans ?_) ?_
      · dsimp only
        rw [if_neg (by omega), if_pos (by omega), add_zero, DK]
      · intro s d hs
        dsimp only
        congr 1
        by_cases h : s < 512 * n
        · rw [if_pos h, if_pos (by omega)]
        · rw [if_neg h, if_neg (by omega)]
    · dsimp only
      rw [trip_values]
      refine stored_is _ _ _ n _ _ _ _ hoff hB (fun r d => (dv_is hw H.ho h11t r d).trans ?_) ?_
      · dsimp only
        rw [if_neg (by omega), if_pos (by omega), add_zero, DV]
      · intro s d hs
        dsimp only
        congr 1
        by_cases h : s < 512 * n
        · rw [if_pos h, if_pos (by omega)]
        · rw [if_neg h, if_neg (by omega)]

end Loop

end Cert.StickBreaking
-- ==== Proof.Point.lean ====
module
public import proofs.«01_k».proof.Proof.Loop

/-! One grid point: what the launch leaves for a head and a block of 512 query rows, from the blocks it is given. -/

@[expose] public section
set_option maxRecDepth 16384
noncomputable section
open Idealize.ShloMosaic Finset
namespace Cert.StickBreaking
open Cert.KernelIdeal Cert.KernelIdeal.Gen

/-! ## The loops' ends -/

section Rest

variable (c : Dev nD)
  (i : grid0.Coords) (arg2 : Memref sig .tc .vmem S512x128 .f32) (harg2 : arg2.IsWhole)
  (arg3 : Memref sig .tc .vmem S8192x128 .f32) (harg3 : arg3.IsWhole) (arg4 : Memref sig .tc .vmem S8192x128 .f32)
  (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32)
  (harg7 : arg7.IsWhole) (arg8 : Memref sig .tc .vmem S512x128 .f32) (harg8 : arg8.IsWhole)
  (arg9 : Memref sig .tc .vmem S512x128 .f32) (harg9 : arg9.IsWhole) (arg10 : Memref sig .tc .vmem S8192x128 .f32)
  (harg10 : arg10.IsWhole) (arg11 : Memref sig .tc .vmem S8192x128 .f32) (harg11 : arg11.IsWhole)
  (arg12 : Memref sig .tc .vmem S512x128 .f32) (harg12 : arg12.IsWhole)
  (arg13 : Memref sig .tc .vmem S8192x128 .bf16) (harg13 : arg13.IsWhole)
  (arg14 : Memref sig .tc .vmem S8192x128 .bf16) (harg14 : arg14.IsWhole) (arg1 : BitVec 32)
  (v25 : FVec Ideal S512x128 .bf16) (v29 : FVec Ideal S512x128 .bf16) (v31 : FVec Ideal S512x128 .f32)
  (v33 : IVec S512x512 32) (v34 : IVec S512x512 32) (v37 : IVec S512x128 32) (v55 : BitVec 32)
  (X_arg13 : BufTy.Contents (Elt Ideal) arg13.view.ty) (X_arg14 : BufTy.Contents (Elt Ideal) arg14.view.ty)
  (G_arg10 : BufTy.Contents (Elt Ideal) arg10.view.ty) (G_arg11 : BufTy.Contents (Elt Ideal) arg11.view.ty)
  (init : FVec Ideal S512x128 .f32 × FVec Ideal S512x1 .f32)

/-- The loop over the remaining trips makes none. -/
theorem rest_none : st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 v55 X_arg13 X_arg14 G_arg10 G_arg11 init 0 = (init, [], []) := rfl

omit c in
/-- The number of trips, as the launch's contents state it. -/
theorem trips_word (i : grid0.Coords) : Scf.trips 0#32 (Scalar.addi 0#32 (Scalar.muli (Scalar.divsi (Scalar.subi
    (Scalar.muli (BitVec.ofNat 32 (i 1).val) 1#32) 0#32) 1#32) 1#32)) 1#32 = (i 1).val := trips_eq i

end Rest

theorem off3_eq (i : grid0.Coords) : k0_off3 i = ![512 * (i 1).val, 0] := by
  unfold k0_off3
  exact congrArg (fun x => ![x, 0]) ((by decide +kernel : ∀ x : Fin 16,
    (Scalar.indexCast (Scalar.muli (Scalar.addi (Scalar.muli (BitVec.ofNat 32 x.val) 1#32) 0#32) 512#32)).toNat = 512 * x.val) (i 1))

theorem row_word (r c : Fin 512) : iota .tc S512x512 32 [0] iota_S512x512_d0_w32 (ix2 r c) = BitVec.ofNat 32 r.val := by
  pointwise []

theorem lane_word (r : Fin 512) (x : Fin 128) : iota .tc S512x128 32 [1] iota_S512x128_d1_w32 (ix2 r x) = BitVec.ofNat 32 x.val := by
  pointwise []

theorem base_word (i : grid0.Coords) (r c : Fin 512) : k0_pay42 i (ix2 r c) = BitVec.ofNat 32 (512 * (i 1).val) := by
  unfold k0_pay42
  pointwise []
  exact (by decide +kernel : ∀ x : Fin 16, Scalar.muli (BitVec.ofNat 32 x.val) 512#32 = BitVec.ofNat 32 (512 * x.val)) (i 1)

theorem block_word (i : grid0.Coords) : Scalar.addi (Scalar.muli (BitVec.ofNat 32 (i 1).val) 1#32) 0#32 = BitVec.ofNat 32 (i 1).val :=
  (by decide +kernel : ∀ x : Fin 16, Scalar.addi (Scalar.muli (BitVec.ofNat 32 x.val) 1#32) 0#32 = BitVec.ofNat 32 x.val) (i 1)

theorem ld_f32 (X : FVec Ideal S8192x128 .f32) {off : Fin 2 → ℕ} (inb) (n : ℕ) (hn : n < 16) (hoff : off = ![512 * n, 0])
    {A : ℕ → ℕ → ℝ} (h : Is (n := 8192) (m := 128) (φ := .f32) X A) :
    Is (n := 512) (m := 128) (φ := .f32) (View.ld (Val := Elt Ideal) (e' := .f32) X (Rect.unit (s := S8192x128) off ![512, 128] inb)) fun r d => A (512 * n + r) d := by
  subst hoff
  intro r d
  exact (View.ld_unit_apply_of _ _ _ _ _ (ix2 ⟨512 * n + r.val, by omega⟩ d) (Fin.forall_fin_two.mpr ⟨rfl, (Nat.zero_add _).symm⟩)).trans (h _ _)

theorem ld_bf16 (X : FVec Ideal S8192x128 .bf16) {off : Fin 2 → ℕ} (inb) (n : ℕ) (hn : n < 16) (hoff : off = ![512 * n, 0])
    {A : ℕ → ℕ → ℝ} (h : Is (n := 8192) (m := 128) (φ := .bf16) X A) :
    Is (n := 512) (m := 128) (φ := .bf16) (View.ld (Val := Elt Ideal) (e' := .bf16) X (Rect.unit (s := S8192x128) off ![512, 128] inb)) fun r d => A (512 * n + r) d :=
  ld_f32 X inb n hn hoff h

section Ends

variable {c : Dev nD}
  {i : grid0.Coords} {arg2 : Memref sig .tc .vmem S512x128 .f32} {harg2 : arg2.IsWhole}
  {arg3 : Memref sig .tc .vmem S8192x128 .f32} {harg3 : arg3.IsWhole} {arg4 : Memref sig .tc .vmem S8192x128 .f32}
  {harg4 : arg4.IsWhole} {arg5 : Memref sig .tc .vmem S512x128 .f32} {harg5 : arg5.IsWhole}
  {arg6 : Memref sig .tc .vmem S512x128 .f32} {harg6 : arg6.IsWhole} {arg7 : Memref sig .tc .vmem S512x128 .f32}
  {harg7 : arg7.IsWhole} {arg8 : Memref sig .tc .vmem S512x128 .f32} {harg8 : arg8.IsWhole}
  {arg9 : Memref sig .tc .vmem S512x128 .f32} {harg9 : arg9.IsWhole} {arg10 : Memref sig .tc .vmem S8192x128 .f32}
  {harg10 : arg10.IsWhole} {arg11 : Memref sig .tc .vmem S8192x128 .f32} {harg11 : arg11.IsWhole}
  {arg12 : Memref sig .tc .vmem S512x128 .f32} {harg12 : arg12.IsWhole}
  {arg13 : Memref sig .tc .vmem S8192x128 .bf16} {harg13 : arg13.IsWhole}
  {arg14 : Memref sig .tc .vmem S8192x128 .bf16} {harg14 : arg14.IsWhole} {arg1 : BitVec 32}
  {v25 : FVec Ideal S512x128 .bf16} {v29 : FVec Ideal S512x128 .bf16} {v31 : FVec Ideal S512x128 .f32}
  {v33 : IVec S512x512 32} {v34 : IVec S512x512 32} {v37 : IVec S512x128 32}
  {X_arg13 : BufTy.Contents (Elt Ideal) arg13.view.ty} {X_arg14 : BufTy.Contents (Elt Ideal) arg14.view.ty}
  {G_arg10 : BufTy.Contents (Elt Ideal) arg10.view.ty} {G_arg11 : BufTy.Contents (Elt Ideal) arg11.view.ty}
  {init : FVec Ideal S512x128 .f32 × FVec Ideal S512x1 .f32}

/-- A block without earlier key blocks makes no trip. -/
theorem first_none (n : ℕ) (hn : n = 0) : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init n = (init, [], []) := by
  subst hn; rfl

variable {q k v o : ℕ → ℕ → ℝ} {sc : ℝ} {A10 A11 : ℕ → ℕ → ℝ} (H : Rows q k o sc (512 * (i 1).val) v25 v29 v31 v37)
  (hk : Is (n := 8192) (m := 128) (φ := .bf16) (arg13.view.read (Elt Ideal) X_arg13) k)
  (hv : Is (n := 8192) (m := 128) (φ := .bf16) (arg14.view.read (Elt Ideal) X_arg14) v)
  (h10 : Is (n := 8192) (m := 128) (φ := .f32) (arg10.view.read (Elt Ideal) G_arg10) A10)
  (h11 : Is (n := 8192) (m := 128) (φ := .f32) (arg11.view.read (Elt Ideal) G_arg11) A11)
  (h0 : Is init.1 fun _ _ => 0) (h1 : ∀ r : Fin 512, init.2 (ix2 r 0) = 0)
include H hk hv h10 h11 h0 h1

theorem loop_dq : Is (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init (i 1).val).1.1 fun r d => DQ q k v o sc (512 * (i 1).val) (512 * (i 1).val + r) d :=
  (loop_is (H := H) (hk := hk) (hv := hv) (h10 := h10) (h11 := h11) (h0 := h0) (h1 := h1) (hn := le_rfl) ..).1

theorem loop_gs (r : Fin 512) : (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init (i 1).val).1.2 (ix2 r 0)
    = ((GS q k v o sc (512 * (i 1).val + r.val) (512 * (i 1).val) : ℝ) : EReal) :=
  (loop_is (H := H) (hk := hk) (hv := hv) (h10 := h10) (h11 := h11) (h0 := h0) (h1 := h1) (hn := le_rfl) ..).2.1 r

theorem loop_dk : Is (n := 8192) (m := 128) (φ := .f32) (arg10.view.read (Elt Ideal) (arg10.view.writes (Elt Ideal) G_arg10 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init (i 1).val).2.1))
    fun s d => A10 s d + if s < 512 * (i 1).val then DK q k v o sc (512 * (i 1).val) s d else 0 :=
  (loop_is (H := H) (hk := hk) (hv := hv) (h10 := h10) (h11 := h11) (h0 := h0) (h1 := h1) (hn := le_rfl) ..).2.2.1

theorem loop_dv : Is (n := 8192) (m := 128) (φ := .f32) (arg11.view.read (Elt Ideal) (arg11.view.writes (Elt Ideal) G_arg11 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v25 v29 v31 v33 v34 v37 X_arg13 X_arg14 G_arg10 G_arg11 init (i 1).val).2.2))
    fun s d => A11 s d + if s < 512 * (i 1).val then DV q k o sc (512 * (i 1).val) s d else 0 :=
  (loop_is (H := H) (hk := hk) (hv := hv) (h10 := h10) (h11 := h11) (h0 := h0) (h1 := h1) (hn := le_rfl) ..).2.2.2

end Ends

theorem Is.of_eq {n m φ} {x : FVec Ideal ⟨2, ![n, m]⟩ φ} {f g : ℕ → ℕ → ℝ} (h : Is x f) (e : ∀ r c, f r c = g r c) : Is x g :=
  fun r c => (h r c).trans (congrArg _ (e r c))

theorem DQ_succ (q k v o : ℕ → ℕ → ℝ) (sc : ℝ) (n t d : ℕ) : DQ q k v o sc (512 * (n + 1)) t d
    = DQ q k v o sc (512 * n) t d + ∑ c ∈ range 512, DZ q k v o sc t (512 * n + c) * k (512 * n + c) d := by
  rw [DQ, DQ, show 512 * (n + 1) = 512 * n + 512 by ring, sum_range_add]

theorem filled_is (w : FVec Ideal S8192x128 .f32) (hw : Is (n := 8192) (m := 128) (φ := .f32) w fun _ _ => 0) :
    Is (n := 8192) (m := 128) (φ := .f32) (View.canon (Val := Elt Ideal) (e := .f32)
      [⟨Rect.unit (s := S8192x128) ![0, 0] ![8192, 128] inb_S8192x128_S8192x128_0_0, w⟩]) fun _ _ => 0 := by
  have e := View.canon_cons_unit_lit (Val := Elt Ideal) (e := .f32) (S := S8192x128) (off := ![0, 0]) inb_S8192x128_S8192x128_0_0 w [] (by decide)
  exact fun r d => (congrFun e _).trans (hw r d)

/-! ## The block on the diagonal -/

section Diagonal

variable {q k v o : ℕ → ℕ → ℝ} {sc : ℝ} {i : grid0.Coords} {v25 v29 kt vt : FVec Ideal S512x128 .bf16}
  {v31 : FVec Ideal S512x128 .f32} {gs : FVec Ideal S512x1 .f32}

/-- The words of the block on the diagonal that keep a key. -/
abbrev keep (i : grid0.Coords) : IVec S512x512 1 :=
  k0_pay52 (BitVec.ofNat 32 (i 1).val) (iota .tc S512x512 32 [0] iota_S512x512_d0_w32) (k0_pay42 i)

/-- The block's number as the launch's contents state it. -/
abbrev blockWord (i : grid0.Coords) : BitVec 32 := Scalar.addi (Scalar.muli (BitVec.ofNat 32 (i 1).val) 1#32) 0#32

abbrev lanes : IVec S512x128 32 := iota .tc S512x128 32 [1] iota_S512x128_d1_w32

theorem diag_weight (H : Rows q k o sc (512 * (i 1).val) v25 v29 v31 lanes) (hk : Is kt fun c d => k (512 * (i 1).val + c) d) :
    Is (k0_pay53 v31 lanes k0_pay43 (blockWord i) (k0_pay50 v29 kt) (k0_pay51 v29 kt) (keep i))
      fun r c => Wt q k sc (512 * (i 1).val + r) (512 * (i 1).val + c) := by
  obtain ⟨run, hr, hrun⟩ := H.hr
  exact weight_is' (softplus_is' H.hq hk) (logsig_is' H.hq hk) (keep_at rfl (i 1).isLt row_word (base_word i)) upper_is H.hl hr hrun
    (block_word i) (i 1).isLt

theorem diag_score (H : Rows q k o sc (512 * (i 1).val) v25 v29 v31 lanes) (hk : Is kt fun c d => k (512 * (i 1).val + c) d)
    (hv : Is vt fun c d => v (512 * (i 1).val + c) d)
    (hs : ∀ r : Fin 512, gs (ix2 r 0) = ((GS q k v o sc (512 * (i 1).val + r) (512 * (i 1).val) : ℝ) : EReal)) :
    Is (k0_pay1 k0_pay44 gs (k0_pay51 v29 kt) (keep i)
        (k0_pay54 v25 v31 lanes k0_pay43 (blockWord i) (k0_pay50 v29 kt) (k0_pay51 v29 kt) (keep i) vt)
        (k0_pay55 v25 v31 lanes k0_pay43 k0_pay44 (blockWord i) (k0_pay50 v29 kt) (k0_pay51 v29 kt) (keep i) vt)
        (k0_pay56 v25 v31 lanes k0_pay43 k0_pay44 gs (blockWord i) (k0_pay50 v29 kt) (k0_pay51 v29 kt) (keep i) vt))
      fun r c => DZ q k v o sc (512 * (i 1).val + r) (512 * (i 1).val + c) := by
  have hw := diag_weight H hk
  have hg := gw_is' H.ho hv hw
  exact dz_is' hg lower_is hs (prefix_lo' hg lower_is) (before_lo' hg lower_is hs) (logsig_is' H.hq hk)
    (keep_at rfl (i 1).isLt row_word (base_word i))

end Diagonal

/-! ## The gradients of keys and values past the block -/

section Past

variable (q k v o : ℕ → ℕ → ℝ) (sc : ℝ)

theorem DK_of_le {t0 s : ℕ} (h : t0 + 512 ≤ s) (d : ℕ) : DK q k v o sc t0 s d = 0 :=
  sum_eq_zero fun r hr => by rw [DZ_of_le _ _ _ _ _ (by have := mem_range.mp hr; omega), zero_mul]

theorem DV_of_le {t0 s : ℕ} (h : t0 + 512 ≤ s) (d : ℕ) : DV q k o sc t0 s d = 0 :=
  sum_eq_zero fun r hr => by rw [Wt_of_le _ _ _ (by have := mem_range.mp hr; omega), zero_mul]

end Past

/-! ## The six contents after a point -/

section Cases

variable (m : (ℓ : Loc nD τ sig) → Buf (Elt Ideal) ℓ) (c : Dev nD) (t : Fin cfg0.N)

/-- The blocks a grid point is given, as rows of real arrays: queries, keys, values, gate, attention's output, the
softplus sums past each quarter of a key block, the output's gradient. -/
structure Blocks (q k v g att y : ℕ → ℕ → ℝ) (sc : ℝ) : Prop where
  hsc : Ideal.ofBits .f32 0x3DB504F3#32 = (sc : EReal)
  h0 : Is (n := 512) (m := 128) (φ := .f32) (iblk m c 0 t) fun r d => q (512 * (grid0.coords t 1).val + r) d
  h1 : Is (n := 8192) (m := 128) (φ := .f32) (iblk m c 1 t) k
  h2 : Is (n := 8192) (m := 128) (φ := .f32) (iblk m c 2 t) v
  h3 : Is (n := 512) (m := 128) (φ := .f32) (iblk m c 3 t) fun r d => g (512 * (grid0.coords t 1).val + r) d
  h4 : Is (n := 512) (m := 128) (φ := .f32) (iblk m c 4 t) fun r d => att (512 * (grid0.coords t 1).val + r) d
  h5 : ∃ run : ℕ → ℕ → ℝ, Is (n := 512) (m := 128) (φ := .f32) (iblk m c 5 t) run
    ∧ ∀ r j, j < 32 → run r j = SA q k sc (512 * (grid0.coords t 1).val + r) (256 * j + 255)
  h6 : Is (n := 512) (m := 128) (φ := .f32) (iblk m c 6 t) fun r d => y (512 * (grid0.coords t 1).val + r) d

/-- The rows the weights multiply: the output's gradient through the gate. -/
def OB (g y : ℕ → ℕ → ℝ) (t d : ℕ) : ℝ := y t d * (g t d * sg (g t d))

/-- The gate's gradient. -/
def DG (g att y : ℕ → ℕ → ℝ) (t d : ℕ) : ℝ := y t d * att t d * (sg (g t d) * (1 + g t d * (1 - sg (g t d))))

variable {m c t} {q k v g att y : ℕ → ℕ → ℝ} {sc : ℝ} (H : Blocks m c t q k v g att y sc)
include H

theorem Blocks.rows : Rows q k (OB g y) sc (512 * (grid0.coords t 1).val) (k0_pay39 (iblk m c 3 t) (iblk m c 6 t))
    (k0_pay40 (iblk m c 0 t)) (k0_pay41 (iblk m c 5 t)) lanes where
  ho := dob_is H.h3 H.h6
  hq := qs_is H.hsc H.h0
  hr := H.h5.imp fun run h => ⟨runs_is h.1, h.2⟩
  hl := lane_word

theorem gate_out : Is (n := 512) (m := 128) (φ := .f32) (outsAt0 m c t.val t.isLt).2.2.2.1
    fun r d => DG g att y (512 * (grid0.coords t 1).val + r) d := by
  by_cases h : t.val % 16 = 0
  · rw [outsAt0_A m c t h]
    frame_open
    frame_out
    exact dg_is H.h3 H.h6 H.h4
  · rw [outsAt0_B m c t h]
    frame_open
    frame_out
    exact dg_is H.h3 H.h6 H.h4

theorem keys_A (h : t.val % 16 = 0) : Is (n := 8192) (m := 128) (φ := .bf16) (outsAt0 m c t.val t.isLt).2.2.2.2.1 k := by
  rw [outsAt0_A m c t h]
  frame_open
  frame_out
  exact kb_is H.h1

theorem values_A (h : t.val % 16 = 0) : Is (n := 8192) (m := 128) (φ := .bf16) (outsAt0 m c t.val t.isLt).2.2.2.2.2 v := by
  rw [outsAt0_A m c t h]
  frame_open
  frame_out
  exact vb_is H.h2

omit H in
/-- The scratch that holds the keys and the values, kept. -/
theorem keys_B (h : ¬ t.val % 16 = 0) : (outsAt0 m c t.val t.isLt).2.2.2.2.1 = (outsAt0 m c (t.val - 1) (by omega)).2.2.2.2.1 := by
  rw [outsAt0_B m c t h]
  dsimp only
  unfold sout0_B_0
  rfl

omit H in
theorem values_B (h : ¬ t.val % 16 = 0) : (outsAt0 m c t.val t.isLt).2.2.2.2.2 = (outsAt0 m c (t.val - 1) (by omega)).2.2.2.2.2 := by
  rw [outsAt0_B m c t h]
  dsimp only
  unfold sout0_B_1
  rfl

end Cases

section First

variable {m : (ℓ : Loc nD τ sig) → Buf (Elt Ideal) ℓ} {c : Dev nD} {t : Fin cfg0.N}
  {q k v g att y : ℕ → ℕ → ℝ} {sc : ℝ} (H : Blocks m c t q k v g att y sc) (h : t.val % 16 = 0) (hi : (grid0.coords t 1).val = 0)
include H h hi

omit h in
theorem first_gs (o : ℕ → ℕ → ℝ) (r : Fin 512) : k0_pay46 (F := Ideal) (ix2 r 0)
    = ((GS q k v o sc (512 * (grid0.coords t 1).val + r.val) (512 * (grid0.coords t 1).val) : ℝ) : EReal) := by
  rw [zero_run, hi, Nat.mul_zero, GS_zero]; rfl

theorem queries_A : Is (n := 512) (m := 128) (φ := .f32) (outsAt0 m c t.val t.isLt).1
    fun r d => DQ q k v (OB g y) sc (512 * ((grid0.coords t 1).val + 1)) (512 * (grid0.coords t 1).val + r) d * sc := by
  rw [outsAt0_A m c t h]
  frame_open
  frame_out
  simp (disch := decide) only [Scf.rem_trips, trips_word, View.readAt_eq_ld, View.writes_nil, View.ld_unit_lit',
    Memref.IsWhole.read_unread]
  rw [rest_none, first_none _ hi]
  simp (disch := decide) only [View.readAt_eq_ld, View.writes_nil, List.nil_append, List.append_nil, Memref.IsWhole.read_unread,
    read_unread_whole]
  have hk := ld_bf16 (k0_pay33 (iblk m c 1 t)) (k0_off3_inb (grid0.coords t)) _ (grid0.coords t 1).isLt (off3_eq _) (kb_is H.h1)
  have hv := ld_bf16 (k0_pay34 (iblk m c 2 t)) (k0_off3_inb (grid0.coords t)) _ (grid0.coords t 1).isLt (off3_eq _) (vb_is H.h2)
  refine (dq_is' H.hsc (diag_score H.rows hk hv (first_gs H hi _)) hk zero_q_is).of_eq fun r d => ?_
  rw [DQ_succ, hi, Nat.mul_zero, DQ, sum_range_zero]

theorem dkeys_A : Is (n := 8192) (m := 128) (φ := .f32) (outsAt0 m c t.val t.isLt).2.1
    fun s d => DK q k v (OB g y) sc (512 * (grid0.coords t 1).val) s d := by
  rw [outsAt0_A m c t h]
  frame_open
  frame_out
  simp (disch := decide) only [Scf.rem_trips, trips_word, View.readAt_eq_ld, View.writes_nil, View.ld_unit_lit',
    Memref.IsWhole.read_unread]
  rw [rest_none, first_none _ hi]
  simp (disch := decide) only [View.readAt_eq_ld, View.writes_nil, List.nil_append, List.append_nil, Memref.IsWhole.read_unread,
    read_unread_whole]
  have hk := ld_bf16 (k0_pay33 (iblk m c 1 t)) (k0_off3_inb (grid0.coords t)) _ (grid0.coords t 1).isLt (off3_eq _) (kb_is H.h1)
  have hv := ld_bf16 (k0_pay34 (iblk m c 2 t)) (k0_off3_inb (grid0.coords t)) _ (grid0.coords t 1).isLt (off3_eq _) (vb_is H.h2)
  have hf := filled_is k0_pay35 zero_is
  have hz := ld_f32 _ (k0_off3_inb (grid0.coords t)) _ (grid0.coords t 1).isLt (off3_eq _) hf
  rw [← View.read_writes_junk_eq_canon (ms0_8 t).view]
  refine stored_is _ _ _ _ _ _ (fun _ _ => 0) _ (off3_eq _) ?_ ((dk_is' (diag_score H.rows hk hv (first_gs H hi _)) H.rows.hq hz).of_eq fun r d => by rw [zero_add]; rfl) fun s d hs => ?_
  · rw [View.read_writes_junk_eq_canon]
    exact hf
  · rw [DK_of_le]
    omega

theorem dvalues_A : Is (n := 8192) (m := 128) (φ := .f32) (outsAt0 m c t.val t.isLt).2.2.1
    fun s d => DV q k (OB g y) sc (512 * (grid0.coords t 1).val) s d := by
  rw [outsAt0_A m c t h]
  frame_open
  frame_out
  simp (disch := decide) only [Scf.rem_trips, trips_word, View.readAt_eq_ld, View.writes_nil, View.ld_unit_lit',
    Memref.IsWhole.read_unread]
  rw [rest_none, first_none _ hi]
  simp (disch := decide) only [View.readAt_eq_ld, View.writes_nil, List.nil_append, List.append_nil, Memref.IsWhole.read_unread,
    read_unread_whole]
  have hk := ld_bf16 (k0_pay33 (iblk m c 1 t)) (k0_off3_inb (grid0.coords t)) _ (grid0.coords t 1).isLt (off3_eq _) (kb_is H.h1)
  have hv := ld_bf16 (k0_pay34 (iblk m c 2 t)) (k0_off3_inb (grid0.coords t)) _ (grid0.coords t 1).isLt (off3_eq _) (vb_is H.h2)
  have hf := filled_is k0_pay36 zero_is'
  have hz := ld_f32 _ (k0_off3_inb (grid0.coords t)) _ (grid0.coords t 1).isLt (off3_eq _) hf
  rw [← View.read_writes_junk_eq_canon (ms0_9 t).view]
  refine stored_is _ _ _ _ _ _ (fun _ _ => 0) _ (off3_eq _) ?_ ((dv_is' (diag_weight H.rows hk) H.rows.ho hz).of_eq fun r d => by rw [zero_add]; rfl) fun s d hs => ?_
  · rw [View.read_writes_junk_eq_canon]
    exact hf
  · rw [DV_of_le]
    omega

end First

section Later

variable {m : (ℓ : Loc nD τ sig) → Buf (Elt Ideal) ℓ} {c : Dev nD} {t : Fin cfg0.N}
  {q k v g att y : ℕ → ℕ → ℝ} {sc : ℝ} (H : Blocks m c t q k v g att y sc) (h : ¬ t.val % 16 = 0)
  {A10 A11 : ℕ → ℕ → ℝ}
  (hK : Is (n := 8192) (m := 128) (φ := .bf16) (outsAt0 m c (t.val - 1) (by omega)).2.2.2.2.1 k)
  (hV : Is (n := 8192) (m := 128) (φ := .bf16) (outsAt0 m c (t.val - 1) (by omega)).2.2.2.2.2 v)
  (h10 : Is (n := 8192) (m := 128) (φ := .f32) (outsAt0 m c (t.val - 1) (by omega)).2.1 A10)
  (h11 : Is (n := 8192) (m := 128) (φ := .f32) (outsAt0 m c (t.val - 1) (by omega)).2.2.1 A11)
include H h hK hV h10 h11

theorem queries_B : Is (n := 512) (m := 128) (φ := .f32) (outsAt0 m c t.val t.isLt).1
    fun r d => DQ q k v (OB g y) sc (512 * ((grid0.coords t 1).val + 1)) (512 * (grid0.coords t 1).val + r) d * sc := by
  rw [outsAt0_B m c t h]
  frame_open
  frame_out
  simp (disch := decide) only [Scf.rem_trips, trips_word, View.readAt_eq_ld, View.writes_nil, View.ld_unit_lit',
    Memref.IsWhole.read_unread]
  rw [rest_none]
  simp (disch := decide) only [View.readAt_eq_ld, View.writes_nil, List.nil_append, List.append_nil, Memref.IsWhole.read_unread,
    read_unread_whole]
  have hk := ld_bf16 _ (k0_off3_inb (grid0.coords t)) _ (grid0.coords t 1).isLt (off3_eq _) hK
  have hv := ld_bf16 _ (k0_off3_inb (grid0.coords t)) _ (grid0.coords t 1).isLt (off3_eq _) hV
  refine (dq_is' (a := fun r d => DQ q k v (OB g y) sc (512 * (grid0.coords t 1).val) (512 * (grid0.coords t 1).val + r) d)
    H.hsc (diag_score H.rows hk hv ?_) hk ?_).of_eq ?_
  · exact loop_gs H.rows (by rw [Memref.IsWhole.read_unread]; exact hK) (by rw [Memref.IsWhole.read_unread]; exact hV) (by rw [Memref.IsWhole.read_unread]; exact h10) (by rw [Memref.IsWhole.read_unread]; exact h11) zero_q_is zero_run
  · exact loop_dq H.rows (by rw [Memref.IsWhole.read_unread]; exact hK) (by rw [Memref.IsWhole.read_unread]; exact hV) (by rw [Memref.IsWhole.read_unread]; exact h10) (by rw [Memref.IsWhole.read_unread]; exact h11) zero_q_is zero_run
  · intro r d
    rw [DQ_succ]

theorem dkeys_B : Is (n := 8192) (m := 128) (φ := .f32) (outsAt0 m c t.val t.isLt).2.1
    fun s d => A10 s d + DK q k v (OB g y) sc (512 * (grid0.coords t 1).val) s d := by
  rw [outsAt0_B m c t h]
  frame_open
  frame_out
  simp (disch := decide) only [Scf.rem_trips, trips_word, View.readAt_eq_ld, View.writes_nil, View.ld_unit_lit',
    Memref.IsWhole.read_unread]
  rw [rest_none]
  simp (disch := decide) only [View.readAt_eq_ld, View.writes_nil, List.nil_append, List.append_nil, Memref.IsWhole.read_unread,
    read_unread_whole]
  have hk := ld_bf16 _ (k0_off3_inb (grid0.coords t)) _ (grid0.coords t 1).isLt (off3_eq _) hK
  have hv := ld_bf16 _ (k0_off3_inb (grid0.coords t)) _ (grid0.coords t 1).isLt (off3_eq _) hV
  refine stored_is _ _ _ _ _ _ (fun s d => A10 s d + if s < 512 * (grid0.coords t 1).val then DK q k v (OB g y) sc (512 * (grid0.coords t 1).val) s d else 0) _
    (off3_eq _) ?_ (Is.of_eq (dk_is' (diag_score H.rows hk hv ?_) H.rows.hq (ld_f32 (A := fun s d => A10 s d + if s < 512 * (grid0.coords t 1).val then DK q k v (OB g y) sc (512 * (grid0.coords t 1).val) s d else 0) _ (k0_off3_inb (grid0.coords t)) _ (grid0.coords t 1).isLt (off3_eq _) ?_)) fun r d => ?_) fun s d hs => ?_
  · exact loop_dk H.rows (by rw [Memref.IsWhole.read_unread]; exact hK) (by rw [Memref.IsWhole.read_unread]; exact hV) (by rw [Memref.IsWhole.read_unread]; exact h10) (by rw [Memref.IsWhole.read_unread]; exact h11) zero_q_is zero_run
  · exact loop_gs H.rows (by rw [Memref.IsWhole.read_unread]; exact hK) (by rw [Memref.IsWhole.read_unread]; exact hV) (by rw [Memref.IsWhole.read_unread]; exact h10) (by rw [Memref.IsWhole.read_unread]; exact h11) zero_q_is zero_run
  · exact loop_dk H.rows (by rw [Memref.IsWhole.read_unread]; exact hK) (by rw [Memref.IsWhole.read_unread]; exact hV) (by rw [Memref.IsWhole.read_unread]; exact h10) (by rw [Memref.IsWhole.read_unread]; exact h11) zero_q_is zero_run
  · rw [if_neg (by omega), add_zero]; rfl
  · dsimp only
    rcases hs with hs | hs
    · rw [if_pos hs]
    · rw [DK_of_le _ _ _ _ _ (by omega), if_neg (by omega)]

theorem dvalues_B : Is (n := 8192) (m := 128) (φ := .f32) (outsAt0 m c t.val t.isLt).2.2.1
    fun s d => A11 s d + DV q k (OB g y) sc (512 * (grid0.coords t 1).val) s d := by
  rw [outsAt0_B m c t h]
  frame_open
  frame_out
  simp (disch := decide) only [Scf.rem_trips, trips_word, View.readAt_eq_ld, View.writes_nil, View.ld_unit_lit',
    Memref.IsWhole.read_unread]
  rw [rest_none]
  simp (disch := decide) only [View.readAt_eq_ld, View.writes_nil, List.nil_append, List.append_nil, Memref.IsWhole.read_unread,
    read_unread_whole]
  have hk := ld_bf16 _ (k0_off3_inb (grid0.coords t)) _ (grid0.coords t 1).isLt (off3_eq _) hK
  have hv := ld_bf16 _ (k0_off3_inb (grid0.coords t)) _ (grid0.coords t 1).isLt (off3_eq _) hV
  refine stored_is _ _ _ _ _ _ (fun s d => A11 s d + if s < 512 * (grid0.coords t 1).val then DV q k (OB g y) sc (512 * (grid0.coords t 1).val) s d else 0) _
    (off3_eq _) ?_ (Is.of_eq (dv_is' (diag_weight H.rows hk) H.rows.ho (ld_f32 (A := fun s d => A11 s d + if s < 512 * (grid0.coords t 1).val then DV q k (OB g y) sc (512 * (grid0.coords t 1).val) s d else 0) _ (k0_off3_inb (grid0.coords t)) _ (grid0.coords t 1).isLt (off3_eq _) ?_)) fun r d => ?_) fun s d hs => ?_
  · exact loop_dv H.rows (by rw [Memref.IsWhole.read_unread]; exact hK) (by rw [Memref.IsWhole.read_unread]; exact hV) (by rw [Memref.IsWhole.read_unread]; exact h10) (by rw [Memref.IsWhole.read_unread]; exact h11) zero_q_is zero_run
  · exact loop_dv H.rows (by rw [Memref.IsWhole.read_unread]; exact hK) (by rw [Memref.IsWhole.read_unread]; exact hV) (by rw [Memref.IsWhole.read_unread]; exact h10) (by rw [Memref.IsWhole.read_unread]; exact h11) zero_q_is zero_run
  · rw [if_neg (by omega), add_zero]; rfl
  · dsimp only
    rcases hs with hs | hs
    · rw [if_pos hs]
    · rw [DV_of_le _ _ _ _ (by omega), if_neg (by omega)]

end Later

end Cert.StickBreaking
-- ==== Proof.Grid.lean ====
module
public import proofs.«01_k».proof.Proof.Point
public import proofs.«01_k».proof.Proof.Gen.KernelIdeal.Value

/-! The grid: sixteen blocks of query rows for each of eight heads. A head's keys and values are kept from its first block
on, and the gradients of its keys and values are added up over its blocks. -/

@[expose] public section
set_option maxRecDepth 16384
noncomputable section
open Idealize.ShloMosaic Finset
namespace Cert.StickBreaking
open Cert.KernelIdeal Cert.KernelIdeal.Gen Cert.KernelIdeal.Value

theorem coord_block : ∀ t : Fin cfg0.N, (grid0.coords t 1).val = t.val % 16 :=
  (by decide +kernel : ∀ t : Fin grid0.N, (grid0.coords t 1).val = t.val % 16)

theorem points : cfg0.N = 128 := N_0

variable {m : (ℓ : Loc nD τ sig) → Buf (Elt Ideal) ℓ} {c : Dev nD} {q k v g att y : ℕ → ℕ → ℕ → ℝ} {sc : ℝ}
  (H : ∀ t : Fin cfg0.N, Blocks m c t (q (t.val / 16)) (k (t.val / 16)) (v (t.val / 16)) (g (t.val / 16)) (att (t.val / 16))
    (y (t.val / 16)) sc)
include H

/-- After each point: the head's keys and values, and the gradients of keys and values summed over the head's blocks so far. -/
theorem sweep (n : ℕ) (hn : n < cfg0.N) :
    Is (n := 8192) (m := 128) (φ := .bf16) (outsAt0 m c n hn).2.2.2.2.1 (k (n / 16))
    ∧ Is (n := 8192) (m := 128) (φ := .bf16) (outsAt0 m c n hn).2.2.2.2.2 (v (n / 16))
    ∧ Is (n := 8192) (m := 128) (φ := .f32) (outsAt0 m c n hn).2.1 (fun s d => ∑ j ∈ range (n % 16 + 1),
        DK (q (n / 16)) (k (n / 16)) (v (n / 16)) (OB (g (n / 16)) (y (n / 16))) sc (512 * j) s d)
    ∧ Is (n := 8192) (m := 128) (φ := .f32) (outsAt0 m c n hn).2.2.1 (fun s d => ∑ j ∈ range (n % 16 + 1),
        DV (q (n / 16)) (k (n / 16)) (OB (g (n / 16)) (y (n / 16))) sc (512 * j) s d) := by
  induction n using Nat.strong_induction_on with
  | _ n ih =>
    have B := H ⟨n, hn⟩
    have hc := coord_block ⟨n, hn⟩
    by_cases h : n % 16 = 0
    · have hi : (grid0.coords ⟨n, hn⟩ 1).val = 0 := hc.trans h
      refine ⟨keys_A B h, values_A B h, (dkeys_A B h hi).of_eq fun s d => ?_, (dvalues_A B h hi).of_eq fun s d => ?_⟩
      · rw [h, hi, zero_add, sum_range_one]
      · rw [h, hi, zero_add, sum_range_one]
    · obtain ⟨hk, hv, h10, h11⟩ := ih (n - 1) (by omega) (by omega)
      rw [show (n - 1) / 16 = n / 16 by omega] at hk hv h10 h11
      have e : (n - 1) % 16 + 1 = n % 16 := by omega
      refine ⟨?_, ?_, (dkeys_B B h hk hv h10 h11).of_eq fun s d => ?_, (dvalues_B B h hk hv h10 h11).of_eq fun s d => ?_⟩
      · rw [keys_B (t := ⟨n, hn⟩) h]; exact hk
      · rw [values_B (t := ⟨n, hn⟩) h]; exact hv
      · rw [e, sum_range_succ, hc]
      · rw [e, sum_range_succ, hc]

theorem queries (n : ℕ) (hn : n < cfg0.N) : Is (n := 512) (m := 128) (φ := .f32) (outsAt0 m c n hn).1 fun r d =>
    DQ (q (n / 16)) (k (n / 16)) (v (n / 16)) (OB (g (n / 16)) (y (n / 16))) sc (512 * (n % 16 + 1)) (512 * (n % 16) + r) d * sc := by
  have B := H ⟨n, hn⟩
  have hc := coord_block ⟨n, hn⟩
  rw [← hc]
  by_cases h : n % 16 = 0
  · exact queries_A B h (hc.trans h)
  · obtain ⟨hk, hv, h10, h11⟩ := sweep H (n - 1) (by omega)
    rw [show (n - 1) / 16 = n / 16 by omega] at hk hv h10 h11
    exact queries_B B h hk hv h10 h11

omit H in
theorem DQ_all (q k v o : ℕ → ℕ → ℝ) (t d : ℕ) (n : ℕ) (hn : n < 16) (ht : t < 512 * (n + 1)) :
    DQ q k v o sc (512 * (n + 1)) t d = ∑ s ∈ range 8192, DZ q k v o sc t s * k s d := by
  rw [DQ]
  refine sum_subset (range_subset_range.2 (by omega)) fun s _ hs => ?_
  rw [DZ_of_le _ _ _ _ _ (by have := mem_range.not.mp hs; omega), zero_mul]

omit H in
theorem sum_blocks (f : ℕ → ℝ) (n : ℕ) : ∑ j ∈ range n, ∑ r ∈ range 512, f (512 * j + r) = ∑ t ∈ range (512 * n), f t := by
  induction n with
  | zero => rfl
  | succ n ih => rw [sum_range_succ, ih, ← sum_tile]

/-! ## The four arrays -/

theorem out_queries (t : Fin 8192) (h : Fin 8) (d : Fin 128) (b : Fin 1024) (hb : b.val = 128 * h.val + d.val) :
    G7 m c (ix2 t b) = ((((∑ s ∈ range 8192, DZ (q h) (k h) (v h) (OB (g h) (y h)) sc t s * k h s d) * sc : ℝ)) : EReal) := by
  have hp : pt7Of (ix2 t b) = 16 * h.val + t.val / 512 := by
    show 1 * (t.val / 512 - 0) + 16 * (b.val / 128 - 0) = _
    omega
  have hN : 16 * h.val + t.val / 512 < cfg0.N := by rw [points]; omega
  have hl : loc7Of (ix2 t b) = ix2 ⟨t.val % 512, Nat.mod_lt _ (by decide)⟩ d := by
    funext a; apply Fin.ext
    match a with
    | ⟨0, _⟩ => rfl
    | ⟨1, _⟩ => show b.val % 128 = d.val; omega
  unfold G7
  rw [dif_pos (by rw [hp]; exact hN), hl, fold0_congr m c _ _ _ (by omega) hp, ← outsAt0_sweep m c _ hN, queries H _ hN]
  have e0 : (16 * h.val + t.val / 512) / 16 = h.val := by omega
  have e1 : (16 * h.val + t.val / 512) % 16 = t.val / 512 := by omega
  simp only [e0, e1]
  rw [show 512 * (t.val / 512) + t.val % 512 = t.val by omega, DQ_all _ _ _ _ _ _ _ (by omega) (by omega)]

theorem out_keys (s : Fin 8192) (h : Fin 8) (d : Fin 128) (b : Fin 1024) (hb : b.val = 128 * h.val + d.val) :
    G8 m c (ix2 s b) = ((∑ t ∈ range 8192, DZ (q h) (k h) (v h) (OB (g h) (y h)) sc t s * (q h t d * sc) : ℝ) : EReal) := by
  have hp : pt8Of (ix2 s b) = 16 * h.val + 15 := by
    show 16 * (8 * (s.val / 8192 - 0) + 1 * (b.val / 128 - 0)) + 15 = _
    omega
  have hN : 16 * h.val + 15 < cfg0.N := by rw [points]; omega
  have hl : loc8Of (ix2 s b) = ix2 s d := by
    funext a; apply Fin.ext
    match a with
    | ⟨0, _⟩ => show s.val % 8192 = s.val; omega
    | ⟨1, _⟩ => show b.val % 128 = d.val; omega
  unfold G8
  rw [dif_pos (by rw [hp]; exact hN), hl, fold0_congr m c _ _ _ (by omega) hp, ← outsAt0_sweep m c _ hN, (sweep H _ hN).2.2.1]
  have e0 : (16 * h.val + 15) / 16 = h.val := by omega
  have e1 : (16 * h.val + 15) % 16 = 15 := by omega
  simp only [e0, e1, DK]
  rw [sum_blocks (fun t => DZ (q h) (k h) (v h) (OB (g h) (y h)) sc t s * (q h t d * sc))]

theorem out_values (s : Fin 8192) (h : Fin 8) (d : Fin 128) (b : Fin 1024) (hb : b.val = 128 * h.val + d.val) :
    G9 m c (ix2 s b) = ((∑ t ∈ range 8192, Wt (q h) (k h) sc t s * OB (g h) (y h) t d : ℝ) : EReal) := by
  have hp : pt9Of (ix2 s b) = 16 * h.val + 15 := by
    show 16 * (8 * (s.val / 8192 - 0) + 1 * (b.val / 128 - 0)) + 15 = _
    omega
  have hN : 16 * h.val + 15 < cfg0.N := by rw [points]; omega
  have hl : loc9Of (ix2 s b) = ix2 s d := by
    funext a; apply Fin.ext
    match a with
    | ⟨0, _⟩ => show s.val % 8192 = s.val; omega
    | ⟨1, _⟩ => show b.val % 128 = d.val; omega
  unfold G9
  rw [dif_pos (by rw [hp]; exact hN), hl, fold0_congr m c _ _ _ (by omega) hp, ← outsAt0_sweep m c _ hN, (sweep H _ hN).2.2.2]
  have e0 : (16 * h.val + 15) / 16 = h.val := by omega
  have e1 : (16 * h.val + 15) % 16 = 15 := by omega
  simp only [e0, e1, DV]
  rw [sum_blocks (fun t => Wt (q h) (k h) sc t s * OB (g h) (y h) t d)]

theorem out_gate (t : Fin 8192) (h : Fin 8) (d : Fin 128) (b : Fin 1024) (hb : b.val = 128 * h.val + d.val) :
    G10 m c (ix2 t b) = ((DG (g h) (att h) (y h) t d : ℝ) : EReal) := by
  have hp : pt10Of (ix2 t b) = 16 * h.val + t.val / 512 := by
    show 1 * (t.val / 512 - 0) + 16 * (b.val / 128 - 0) = _
    omega
  have hN : 16 * h.val + t.val / 512 < cfg0.N := by rw [points]; omega
  have hl : loc10Of (ix2 t b) = ix2 ⟨t.val % 512, Nat.mod_lt _ (by decide)⟩ d := by
    funext a; apply Fin.ext
    match a with
    | ⟨0, _⟩ => rfl
    | ⟨1, _⟩ => show b.val % 128 = d.val; omega
  have hc := coord_block ⟨_, hN⟩
  unfold G10
  rw [dif_pos (by rw [hp]; exact hN), hl, fold0_congr m c _ _ _ (by omega) hp, ← outsAt0_sweep m c _ hN,
    gate_out (H ⟨_, hN⟩)]
  have e0 : (16 * h.val + t.val / 512) / 16 = h.val := by omega
  have e1 : (16 * h.val + t.val / 512) % 16 = t.val / 512 := by omega
  simp only [hc, e0, e1]
  rw [show 512 * (t.val / 512) + t.val % 512 = t.val by omega]

end Cert.StickBreaking
-- ==== Proof.Entry.lean ====
module
public import proofs.«01_k».proof.Proof.Host
public import proofs.«01_k».proof.Proof.Grid
public import Idealize.ShloMosaic.Lib.StableHlo.ReadAt

/-! What the launch is given: the projection's and the output gradient's columns, the attention and the softplus sums past
each quarter of a key block, as the host's lines prepare them. -/

@[expose] public section
set_option maxRecDepth 16384
noncomputable section
open Idealize.ShloMosaic Finset
namespace Cert.StickBreaking
open Cert.KernelIdeal Cert.KernelIdeal.Gen Cert.KernelIdeal.Value

/-- A head's rows in the projection, from column `o` on. -/
def head (P : ℕ → ℕ → ℝ) (o h t d : ℕ) : ℝ := P t (o + (h * 128 + d))

/-- The attention of one head. -/
def ATT (q k v : ℕ → ℕ → ℝ) (sc : ℝ) (t d : ℕ) : ℝ := ∑ x ∈ range 8192, v x d * Wt q k sc t x

theorem slt_word (s t : Fin 8192) : IntOp.cmpi .slt (BitVec.ofNat 32 s.val) (BitVec.ofNat 32 t.val) = BitVec.ofBool (decide (s.val < t.val)) :=
  WordCmp.cmpi_slt_ofNat (by omega) (by omega)

theorem sum_tail (f : ℕ → ℝ) (s : ℕ) (hs : s < 8192) : ∑ j ∈ Ico s 8192, f j - f s = ∑ j ∈ Ico (s + 1) 8192, f j := by
  rw [sum_eq_sum_Ico_succ_bot hs, add_sub_cancel_left]

section Lines

variable (W : Valuation τ sig (Elt Ideal)) (h : Fin 8) (t s : Fin 8192) (d : Fin 128)

theorem score_line {P : ℕ → ℕ → ℝ} {sc : ℝ} (hsc : Ideal.ofBits .f32 0x3DB504F3#32 = (sc : EReal))
    (HP : ∀ (t : Fin 8192) (j : Fin 18432), j.val < 4096 → (W (Proc.devRef .tc main_arg0) : FVec Ideal S8192x18432 .f32) (ix2 t j) = ((P t j : ℝ) : EReal)) :
    (StableHlo.after hostOps0 W (Proc.devRef .tc main_v9) : FVec Ideal S8x8192x8192 .f32) (ix3 h t s)
      = ((Z (head P 0 h) (head P 1024 h) sc t s : ℝ) : EReal) := by
  after_reads_at
  rw [sum_coe' _ (fun d => head P 0 h t d * head P 1024 h s d) fun x => by
    rw [HP _ _ (by dsimp only; omega), HP _ _ (by dsimp only; omega), ← EReal.coe_mul]
    exact congrArg (fun j => ((P t j * P s (1024 + (h.val * 128 + x.val)) : ℝ) : EReal)) (Nat.zero_add _).symm, hsc, ← EReal.coe_mul]
  rfl

theorem value_line {P : ℕ → ℕ → ℝ}
    (HP : ∀ (t : Fin 8192) (j : Fin 18432), j.val < 4096 → (W (Proc.devRef .tc main_arg0) : FVec Ideal S8192x18432 .f32) (ix2 t j) = ((P t j : ℝ) : EReal)) :
    (StableHlo.after hostOps0 W (Proc.devRef .tc main_v5) : FVec Ideal S8192x8x128 .f32) (ix3 t h d)
      = ((head P 2048 h t d : ℝ) : EReal) := by
  after_reads_at
  exact HP _ _ (by dsimp only; omega)

theorem causal_line : (StableHlo.after hostOps0 W (Proc.devRef .tc main_v15) : IVec S8192x8192 1) (ix2 t s)
    = BitVec.ofBool (decide (s.val < t.val)) := by
  after_reads_at
  exact slt_word s t

theorem logsig_line {z : ℝ} (hz : (W (Proc.devRef .tc main_v9) : FVec Ideal S8x8192x8192 .f32) (ix3 h t s) = (z : EReal)) :
    (StableHlo.after hostOps0_1 W (Proc.devRef .tc main_v16) : FVec Ideal S8x8192x8192 .f32) (ix3 h t s) = ((z - sp z : ℝ) : EReal) := by
  after_reads_at
  rw [hz, ← EReal.coe_neg, host_softplus, ← EReal.coe_neg, neg_sp_neg]

theorem neg_line {z : ℝ} (hz : (W (Proc.devRef .tc main_v9) : FVec Ideal S8x8192x8192 .f32) (ix3 h t s) = (z : EReal)) :
    (StableHlo.after hostOps0_2 W (Proc.devRef .tc main_v17) : FVec Ideal S8x8192x8192 .f32) (ix3 h t s) = ((-z : ℝ) : EReal) := by
  after_reads_at
  rw [hz, ← EReal.coe_neg]

theorem logsig_neg_line {z : ℝ} (hz : (W (Proc.devRef .tc main_v17) : FVec Ideal S8x8192x8192 .f32) (ix3 h t s) = ((-z : ℝ) : EReal)) :
    (StableHlo.after hostOps0_3 W (Proc.devRef .tc main_v18) : FVec Ideal S8x8192x8192 .f32) (ix3 h t s) = ((-sp z : ℝ) : EReal) := by
  after_reads_at
  rw [hz, ← EReal.coe_neg, neg_neg, host_softplus, ← EReal.coe_neg]

theorem masked_line {z : ℝ} (hc : (W (Proc.devRef .tc main_v15) : IVec S8192x8192 1) (ix2 t s) = BitVec.ofBool (decide (s.val < t.val)))
    (h0 : (W (Proc.devRef .tc main_cst_0) : FVec Ideal S_ .f32) ix0 = (0 : EReal))
    (hz : (W (Proc.devRef .tc main_v18) : FVec Ideal S8x8192x8192 .f32) (ix3 h t s) = ((-sp z : ℝ) : EReal)) :
    (StableHlo.after hostOps0_5 W (Proc.devRef .tc main_v19) : FVec Ideal S8x8192x8192 .f32) (ix3 h t s)
      = ((if s.val < t.val then -sp z else 0 : ℝ) : EReal) := by
  after_reads_at
  rw [hc, hz, select_decide, id, h0]
  exact (apply_ite (fun r : ℝ => (r : EReal)) _ _ _).symm

theorem zero_line : (StableHlo.after hostOps0_4 W (Proc.devRef .tc main_cst_0) : FVec Ideal S_ .f32) ix0 = (0 : EReal) := by
  after_reads_at

theorem running_line {f : ℕ → ℕ → ℕ → ℝ}
    (hf : ∀ (h : Fin 8) (t s : Fin 8192), (W (Proc.devRef .tc main_v19) : FVec Ideal S8x8192x8192 .f32) (ix3 h t s) = ((f h t s : ℝ) : EReal)) :
    (StableHlo.after hostOps0_6 W (Proc.devRef .tc main_v20) : FVec Ideal S8x8192x8192 .f32) (ix3 h t s)
      = ((∑ j ∈ Ico s.val 8192, f h t j : ℝ) : EReal) := by
  after_reads_at
  refine sum_from hf ?_ _ _ h t s
  pointwise []

theorem after_line {a b : ℝ} (h0 : (W (Proc.devRef .tc main_v20) : FVec Ideal S8x8192x8192 .f32) (ix3 h t s) = (a : EReal))
    (h1 : (W (Proc.devRef .tc main_v19) : FVec Ideal S8x8192x8192 .f32) (ix3 h t s) = (b : EReal)) :
    (StableHlo.after hostOps0_7 W (Proc.devRef .tc main_v21) : FVec Ideal S8x8192x8192 .f32) (ix3 h t s) = ((a - b : ℝ) : EReal) := by
  after_reads_at
  rw [h0, h1, ← EReal.coe_sub]

theorem exp_line {a b l : ℝ} (h0 : (W (Proc.devRef .tc main_v20) : FVec Ideal S8x8192x8192 .f32) (ix3 h t s) = (a : EReal))
    (h1 : (W (Proc.devRef .tc main_v19) : FVec Ideal S8x8192x8192 .f32) (ix3 h t s) = (b : EReal))
    (h2 : (W (Proc.devRef .tc main_v16) : FVec Ideal S8x8192x8192 .f32) (ix3 h t s) = (l : EReal)) :
    (StableHlo.after hostOps0_7 W (Proc.devRef .tc main_v23) : FVec Ideal S8x8192x8192 .f32) (ix3 h t s)
      = ((Real.exp (l + (a - b)) : ℝ) : EReal) := by
  after_reads_at
  rw [h0, h1, h2, ← EReal.coe_sub, ← EReal.coe_add, Ideal.exp_coe]

theorem zero_line' : (StableHlo.after hostOps0_7 W (Proc.devRef .tc main_cst_1) : FVec Ideal S_ .f32) ix0 = (0 : EReal) := by
  after_reads_at

theorem weight_line {e : ℝ} (hc : (W (Proc.devRef .tc main_v15) : IVec S8192x8192 1) (ix2 t s) = BitVec.ofBool (decide (s.val < t.val)))
    (h0 : (W (Proc.devRef .tc main_cst_1) : FVec Ideal S_ .f32) ix0 = (0 : EReal))
    (he : (W (Proc.devRef .tc main_v23) : FVec Ideal S8x8192x8192 .f32) (ix3 h t s) = (e : EReal)) :
    (StableHlo.after hostOps0_8 W (Proc.devRef .tc main_v24) : FVec Ideal S8x8192x8192 .f32) (ix3 h t s)
      = ((if s.val < t.val then e else 0 : ℝ) : EReal) := by
  after_reads_at
  rw [hc, he, select_decide, id, h0]
  exact (apply_ite (fun r : ℝ => (r : EReal)) _ _ _).symm

theorem attention_line {v w : ℕ → ℕ → ℕ → ℝ} (b : Fin 1024)
    (hv : ∀ (h : Fin 8) (t : Fin 8192) (d : Fin 128), (W (Proc.devRef .tc main_v5) : FVec Ideal S8192x8x128 .f32) (ix3 t h d) = ((v h t d : ℝ) : EReal))
    (hw : ∀ (h : Fin 8) (t s : Fin 8192), (W (Proc.devRef .tc main_v24) : FVec Ideal S8x8192x8192 .f32) (ix3 h t s) = ((w h t s : ℝ) : EReal)) :
    (StableHlo.after hostOps0_9 W (Proc.devRef .tc main_v27) : FVec Ideal S8192x1024 .f32) (ix2 t b)
      = ((∑ x ∈ range 8192, v (b.val / 128) x (b.val % 128) * w (b.val / 128) t x : ℝ) : EReal) := by
  after_reads_at
  exact sum_coe' _ (fun x => v (b.val / 128) x (b.val % 128) * w (b.val / 128) t x) fun x => by rw [hv, hw, ← EReal.coe_mul]

theorem runs_line {a : ℕ → ℕ → ℕ → ℝ} (b : Fin 32)
    (ha : ∀ (h : Fin 8) (t s : Fin 8192), (W (Proc.devRef .tc main_v21) : FVec Ideal S8x8192x8192 .f32) (ix3 h t s) = ((a h t s : ℝ) : EReal)) :
    (StableHlo.after hostOps0_9 W (Proc.devRef .tc main_v29) : FVec Ideal S8x8192x32 .f32) (ix3 h t b)
      = ((-a h t (255 + 256 * b.val) : ℝ) : EReal) := by
  after_reads_at
  rw [ha, ← EReal.coe_neg]

theorem padded_line {a : ℕ → ℕ → ℕ → ℝ}
    (ha : ∀ (h : Fin 8) (t : Fin 8192) (b : Fin 32), (W (Proc.devRef .tc main_v29) : FVec Ideal S8x8192x32 .f32) (ix3 h t b) = ((a h t b : ℝ) : EReal)) :
    ∃ e : ℝ, ∀ (h : Fin 8) (t : Fin 8192) (d : Fin 128), (StableHlo.after hostOps0_10 W (Proc.devRef .tc main_v30) : FVec Ideal S8x8192x128 .f32) (ix3 h t d)
      = ((if d.val < 32 then a h t d else e : ℝ) : EReal) := by
  refine ⟨((W (Proc.devRef .tc main_c) : IVec S_ 32) (Shape.Idx.first h_S_)).toInt, fun h t d => ?_⟩
  after_reads_at
  split_ifs with hd
  · exact ha _ _ _
  · rfl

theorem laid_line {a : ℕ → ℕ → ℕ → ℝ} (b : Fin 1024)
    (ha : ∀ (h : Fin 8) (t : Fin 8192) (d : Fin 128), (W (Proc.devRef .tc main_v30) : FVec Ideal S8x8192x128 .f32) (ix3 h t d) = ((a h t d : ℝ) : EReal)) :
    (StableHlo.after hostOps0_11 W (Proc.devRef .tc main_v32) : FVec Ideal S8192x1024 .f32) (ix2 t b) = ((a (b.val / 128) t (b.val % 128) : ℝ) : EReal) := by
  after_reads_at
  exact ha _ _ _

end Lines

/-- The masked sum from `s` on, without `s`, is the sum past `s`. -/
theorem after_sum (q k : ℕ → ℕ → ℝ) (sc : ℝ) (t s : ℕ) (hs : s < 8192) :
    (∑ j ∈ Ico s 8192, if j < t then -sp (Z q k sc t j) else 0) - (if s < t then -sp (Z q k sc t s) else 0) = -SA q k sc t s := by
  rw [sum_tail (fun j => if j < t then -sp (Z q k sc t j) else 0) s hs, SA, ← sum_neg_distrib]
  exact sum_congr rfl fun j _ => by split_ifs <;> simp

/-- The attention and the softplus sums past each quarter of a key block, where the launch begins. -/
theorem entry (m : (ℓ : Loc nD τ sig) → Buf (Elt Ideal) ℓ) (c : Dev nD) {P : ℕ → ℕ → ℝ} {sc : ℝ}
    (hsc : Ideal.ofBits .f32 0x3DB504F3#32 = (sc : EReal))
    (HP : ∀ (t : Fin 8192) (j : Fin 18432), j.val < 4096 → (m (c.tc.loc main_arg0) : FVec Ideal S8192x18432 .f32) (ix2 t j) = ((P t j : ℝ) : EReal)) :
    (∀ (t : Fin 8192) (b : Fin 1024), (V m c main_v27 : FVec Ideal S8192x1024 .f32) (ix2 t b)
      = ((ATT (head P 0 (b.val / 128)) (head P 1024 (b.val / 128)) (head P 2048 (b.val / 128)) sc t (b.val % 128) : ℝ) : EReal))
    ∧ ∃ run : ℕ → ℕ → ℕ → ℝ, (∀ (t : Fin 8192) (b : Fin 1024), (V m c main_v32 : FVec Ideal S8192x1024 .f32) (ix2 t b)
        = ((run (b.val / 128) t (b.val % 128) : ℝ) : EReal))
      ∧ ∀ h t j, j < 32 → run h t j = SA (head P 0 h) (head P 1024 h) sc t (256 * j + 255) := by
  unfold V
  simp only [List.flatten_cons, List.flatten_nil, List.append_nil, StableHlo.after_append]
  obtain ⟨W1, e1⟩ : ∃ W, W = StableHlo.after hostOps0 (fun b => m (c, b)) := ⟨_, rfl⟩
  simp only [← e1]
  obtain ⟨W2, e2⟩ : ∃ W, W = StableHlo.after hostOps0_1 W1 := ⟨_, rfl⟩
  simp only [← e2]
  obtain ⟨W3, e3⟩ : ∃ W, W = StableHlo.after hostOps0_2 W2 := ⟨_, rfl⟩
  simp only [← e3]
  obtain ⟨W4, e4⟩ : ∃ W, W = StableHlo.after hostOps0_3 W3 := ⟨_, rfl⟩
  simp only [← e4]
  obtain ⟨W5, e5⟩ : ∃ W, W = StableHlo.after hostOps0_4 W4 := ⟨_, rfl⟩
  simp only [← e5]
  obtain ⟨W6, e6⟩ : ∃ W, W = StableHlo.after hostOps0_5 W5 := ⟨_, rfl⟩
  simp only [← e6]
  obtain ⟨W7, e7⟩ : ∃ W, W = StableHlo.after hostOps0_6 W6 := ⟨_, rfl⟩
  simp only [← e7]
  obtain ⟨W8, e8⟩ : ∃ W, W = StableHlo.after hostOps0_7 W7 := ⟨_, rfl⟩
  simp only [← e8]
  obtain ⟨W9, e9⟩ : ∃ W, W = StableHlo.after hostOps0_8 W8 := ⟨_, rfl⟩
  simp only [← e9]
  obtain ⟨W10, e10⟩ : ∃ W, W = StableHlo.after hostOps0_9 W9 := ⟨_, rfl⟩
  simp only [← e10]
  obtain ⟨W11, e11⟩ : ∃ W, W = StableHlo.after hostOps0_10 W10 := ⟨_, rfl⟩
  simp only [← e11]
  obtain ⟨W12, e12⟩ : ∃ W, W = StableHlo.after hostOps0_11 W11 := ⟨_, rfl⟩
  simp only [← e12]
  have v9_1 : ∀ (h : Fin 8) (t s : Fin 8192), (W1 (Proc.devRef .tc main_v9) : FVec Ideal S8x8192x8192 .f32) (ix3 h t s) = (((Z (head P 0 h) (head P 1024 h) sc t s) : ℝ) : EReal) := by
    intro h t s
    rw [e1]
    exact score_line _ h t s hsc HP
  have v5_1 : ∀ (h : Fin 8) (t : Fin 8192) (d : Fin 128), (W1 (Proc.devRef .tc main_v5) : FVec Ideal S8192x8x128 .f32) (ix3 t h d) = (((head P 2048 h t d) : ℝ) : EReal) := by
    intro h t d
    rw [e1]
    exact value_line _ h t d HP
  have v15_1 : ∀ t s : Fin 8192, (W1 (Proc.devRef .tc main_v15) : IVec S8192x8192 1) (ix2 t s) = BitVec.ofBool (decide (s.val < t.val)) := by
    intro t s
    rw [e1]
    exact causal_line _ t s
  have v9_2 : ∀ (h : Fin 8) (t s : Fin 8192), (W2 (Proc.devRef .tc main_v9) : FVec Ideal S8x8192x8192 .f32) (ix3 h t s) = (((Z (head P 0 h) (head P 1024 h) sc t s) : ℝ) : EReal) := by
    intro h t s
    rw [e2]
    after_reads_simp
    exact v9_1 h t s
  have v5_2 : ∀ (h : Fin 8) (t : Fin 8192) (d : Fin 128), (W2 (Proc.devRef .tc main_v5) : FVec Ideal S8192x8x128 .f32) (ix3 t h d) = (((head P 2048 h t d) : ℝ) : EReal) := by
    intro h t d
    rw [e2]
    after_reads_simp
    exact v5_1 h t d
  have v15_2 : ∀ t s : Fin 8192, (W2 (Proc.devRef .tc main_v15) : IVec S8192x8192 1) (ix2 t s) = BitVec.ofBool (decide (s.val < t.val)) := by
    intro t s
    rw [e2]
    after_reads_simp
    exact v15_1 t s
  have v16_2 : ∀ (h : Fin 8) (t s : Fin 8192), (W2 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e2]
    exact logsig_line _ h t s (v9_1 h t s)
  have v5_3 : ∀ (h : Fin 8) (t : Fin 8192) (d : Fin 128), (W3 (Proc.devRef .tc main_v5) : FVec Ideal S8192x8x128 .f32) (ix3 t h d) = (((head P 2048 h t d) : ℝ) : EReal) := by
    intro h t d
    rw [e3]
    after_reads_simp
    exact v5_2 h t d
  have v15_3 : ∀ t s : Fin 8192, (W3 (Proc.devRef .tc main_v15) : IVec S8192x8192 1) (ix2 t s) = BitVec.ofBool (decide (s.val < t.val)) := by
    intro t s
    rw [e3]
    after_reads_simp
    exact v15_2 t s
  have v16_3 : ∀ (h : Fin 8) (t s : Fin 8192), (W3 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e3]
    after_reads_simp
    exact v16_2 h t s
  have v17_3 : ∀ (h : Fin 8) (t s : Fin 8192), (W3 (Proc.devRef .tc main_v17) : FVec Ideal S8x8192x8192 .f32) (ix3 h t s) = (((-(Z (head P 0 h) (head P 1024 h) sc t s)) : ℝ) : EReal) := by
    intro h t s
    rw [e3]
    exact neg_line _ h t s (v9_2 h t s)
  have v5_4 : ∀ (h : Fin 8) (t : Fin 8192) (d : Fin 128), (W4 (Proc.devRef .tc main_v5) : FVec Ideal S8192x8x128 .f32) (ix3 t h d) = (((head P 2048 h t d) : ℝ) : EReal) := by
    intro h t d
    rw [e4]
    after_reads_simp
    exact v5_3 h t d
  have v15_4 : ∀ t s : Fin 8192, (W4 (Proc.devRef .tc main_v15) : IVec S8192x8192 1) (ix2 t s) = BitVec.ofBool (decide (s.val < t.val)) := by
    intro t s
    rw [e4]
    after_reads_simp
    exact v15_3 t s
  have v16_4 : ∀ (h : Fin 8) (t s : Fin 8192), (W4 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e4]
    after_reads_simp
    exact v16_3 h t s
  have v18_4 : ∀ (h : Fin 8) (t s : Fin 8192), (W4 (Proc.devRef .tc main_v18) : FVec Ideal S8x8192x8192 .f32) (ix3 h t s) = (((-sp (Z (head P 0 h) (head P 1024 h) sc t s)) : ℝ) : EReal) := by
    intro h t s
    rw [e4]
    exact logsig_neg_line _ h t s (v17_3 h t s)
  have v5_5 : ∀ (h : Fin 8) (t : Fin 8192) (d : Fin 128), (W5 (Proc.devRef .tc main_v5) : FVec Ideal S8192x8x128 .f32) (ix3 t h d) = (((head P 2048 h t d) : ℝ) : EReal) := by
    intro h t d
    rw [e5]
    after_reads_simp
    exact v5_4 h t d
  have v15_5 : ∀ t s : Fin 8192, (W5 (Proc.devRef .tc main_v15) : IVec S8192x8192 1) (ix2 t s) = BitVec.ofBool (decide (s.val < t.val)) := by
    intro t s
    rw [e5]
    after_reads_simp
    exact v15_4 t s
  have v16_5 : ∀ (h : Fin 8) (t s : Fin 8192), (W5 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e5]
    after_reads_simp
    exact v16_4 h t s
  have v18_5 : ∀ (h : Fin 8) (t s : Fin 8192), (W5 (Proc.devRef .tc main_v18) : FVec Ideal S8x8192x8192 .f32) (ix3 h t s) = (((-sp (Z (head P 0 h) (head P 1024 h) sc t s)) : ℝ) : EReal) := by
    intro h t s
    rw [e5]
    after_reads_simp
    exact v18_4 h t s
  have v5_6 : ∀ (h : Fin 8) (t : Fin 8192) (d : Fin 128), (W6 (Proc.devRef .tc main_v5) : FVec Ideal S8192x8x128 .f32) (ix3 t h d) = (((head P 2048 h t d) : ℝ) : EReal) := by
    intro h t d
    rw [e6]
    after_reads_simp
    exact v5_5 h t d
  have v15_6 : ∀ t s : Fin 8192, (W6 (Proc.devRef .tc main_v15) : IVec S8192x8192 1) (ix2 t s) = BitVec.ofBool (decide (s.val < t.val)) := by
    intro t s
    rw [e6]
    after_reads_simp
    exact v15_5 t s
  have v16_6 : ∀ (h : Fin 8) (t s : Fin 8192), (W6 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e6]
    after_reads_simp
    exact v16_5 h t s
  have v19_6 : ∀ (h : Fin 8) (t s : Fin 8192), (W6 (Proc.devRef .tc main_v19) : FVec Ideal S8x8192x8192 .f32) (ix3 h t s) = (((if s.val < t.val then -sp (Z (head P 0 h) (head P 1024 h) sc t s) else 0) : ℝ) : EReal) := by
    intro h t s
    rw [e6]
    exact masked_line _ h t s (v15_5 t s) (by rw [e5]; exact zero_line _) (v18_5 h t s)
  have v5_7 : ∀ (h : Fin 8) (t : Fin 8192) (d : Fin 128), (W7 (Proc.devRef .tc main_v5) : FVec Ideal S8192x8x128 .f32) (ix3 t h d) = (((head P 2048 h t d) : ℝ) : EReal) := by
    intro h t d
    rw [e7]
    after_reads_simp
    exact v5_6 h t d
  have v15_7 : ∀ t s : Fin 8192, (W7 (Proc.devRef .tc main_v15) : IVec S8192x8192 1) (ix2 t s) = BitVec.ofBool (decide (s.val < t.val)) := by
    intro t s
    rw [e7]
    after_reads_simp
    exact v15_6 t s
  have v16_7 : ∀ (h : Fin 8) (t s : Fin 8192), (W7 (Proc.devRef .tc main_v16) : FVec Ideal S8x8192x8192 .f32) (ix3 h t s) = ((((Z (head P 0 h) (head P 1024 h) sc t s) - sp (Z (head P 0 h) (head P 1024 h) sc t s)) : ℝ) : EReal) := by
    intro h t s
    rw [e7]
    after_reads_simp
    exact v16_6 h t s
  have v19_7 : ∀ (h : Fin 8) (t s : Fin 8192), (W7 (Proc.devRef .tc main_v19) : FVec Ideal S8x8192x8192 .f32) (ix3 h t s) = (((if s.val < t.val then -sp (Z (head P 0 h) (head P 1024 h) sc t s) else 0) : ℝ) : EReal) := by
    intro h t s
    rw [e7]
    after_reads_simp
    exact v19_6 h t s
  have v20_7 : ∀ (h : Fin 8) (t s : Fin 8192), (W7 (Proc.devRef .tc main_v20) : FVec Ideal S8x8192x8192 .f32) (ix3 h t s) = (((∑ j ∈ Ico s.val 8192, if j < t.val then -sp (Z (head P 0 h) (head P 1024 h) sc t j) else 0) : ℝ) : EReal) := by
    intro h t s
    rw [e7]
    exact running_line _ h t s (f := fun h t s => if s < t then -sp (Z (head P 0 h) (head P 1024 h) sc t s) else 0) v19_6
  have v5_8 : ∀ (h : Fin 8) (t : Fin 8192) (d : Fin 128), (W8 (Proc.devRef .tc main_v5) : FVec Ideal S8192x8x128 .f32) (ix3 t h d) = (((head P 2048 h t d) : ℝ) : EReal) := by
    intro h t d
    rw [e8]
    after_reads_simp
    exact v5_7 h t d
  have v15_8 : ∀ t s : Fin 8192, (W8 (Proc.devRef .tc main_v15) : IVec S8192x8192 1) (ix2 t s) = BitVec.ofBool (decide (s.val < t.val)) := by
    intro t s
    rw [e8]
    after_reads_simp
    exact v15_7 t s
  have v21_8 : ∀ (h : Fin 8) (t s : Fin 8192), (W8 (Proc.devRef .tc main_v21) : FVec Ideal S8x8192x8192 .f32) (ix3 h t s) = (((-SA (head P 0 h) (head P 1024 h) sc t s) : ℝ) : EReal) := by
    intro h t s
    rw [e8]
    rw [after_line _ h t s (v20_7 h t s) (v19_7 h t s), EReal.coe_eq_coe_iff]
    exact (after_sum _ _ _ t.val s.val s.isLt)
  have v23_8 : ∀ (h : Fin 8) (t s : Fin 8192), (W8 (Proc.devRef .tc main_v23) : FVec Ideal S8x8192x8192 .f32) (ix3 h t s) = (((Real.exp ((Z (head P 0 h) (head P 1024 h) sc t s) - sp (Z (head P 0 h) (head P 1024 h) sc t s) - SA (head P 0 h) (head P 1024 h) sc t s)) : ℝ) : EReal) := by
    intro h t s
    rw [e8]
    rw [exp_line _ h t s (v20_7 h t s) (v19_7 h t s) (v16_7 h t s), EReal.coe_eq_coe_iff, after_sum _ _ _ t.val s.val s.isLt, ← sub_eq_add_neg]
  have v5_9 : ∀ (h : Fin 8) (t : Fin 8192) (d : Fin 128), (W9 (Proc.devRef .tc main_v5) : FVec Ideal S8192x8x128 .f32) (ix3 t h d) = (((head P 2048 h t d) : ℝ) : EReal) := by
    intro h t d
    rw [e9]
    after_reads_simp
    exact v5_8 h t d
  have v21_9 : ∀ (h : Fin 8) (t s : Fin 8192), (W9 (Proc.devRef .tc main_v21) : FVec Ideal S8x8192x8192 .f32) (ix3 h t s) = (((-SA (head P 0 h) (head P 1024 h) sc t s) : ℝ) : EReal) := by
    intro h t s
    rw [e9]
    after_reads_simp
    exact v21_8 h t s
  have v24_9 : ∀ (h : Fin 8) (t s : Fin 8192), (W9 (Proc.devRef .tc main_v24) : FVec Ideal S8x8192x8192 .f32) (ix3 h t s) = (((Wt (head P 0 h) (head P 1024 h) sc t s) : ℝ) : EReal) := by
    intro h t s
    rw [e9]
    rw [weight_line _ h t s (v15_8 t s) (by rw [e8]; exact zero_line' _) (v23_8 h t s)]
    rfl
  have v27_10 : ∀ (t : Fin 8192) (b : Fin 1024), (W10 (Proc.devRef .tc main_v27) : FVec Ideal S8192x1024 .f32) (ix2 t b)
      = ((ATT (head P 0 (b.val / 128)) (head P 1024 (b.val / 128)) (head P 2048 (b.val / 128)) sc t (b.val % 128) : ℝ) : EReal) := by
    intro t b
    rw [e10]
    exact attention_line _ t b (v := fun h => head P 2048 h) (w := fun h => Wt (head P 0 h) (head P 1024 h) sc) v5_9 v24_9
  have v27_11 : ∀ (t : Fin 8192) (b : Fin 1024), (W11 (Proc.devRef .tc main_v27) : FVec Ideal S8192x1024 .f32) (ix2 t b)
      = ((ATT (head P 0 (b.val / 128)) (head P 1024 (b.val / 128)) (head P 2048 (b.val / 128)) sc t (b.val % 128) : ℝ) : EReal) := by
    intro t b
    rw [e11]
    after_reads_simp
    exact v27_10 t b
  have v27_12 : ∀ (t : Fin 8192) (b : Fin 1024), (W12 (Proc.devRef .tc main_v27) : FVec Ideal S8192x1024 .f32) (ix2 t b)
      = ((ATT (head P 0 (b.val / 128)) (head P 1024 (b.val / 128)) (head P 2048 (b.val / 128)) sc t (b.val % 128) : ℝ) : EReal) := by
    intro t b
    rw [e12]
    after_reads_simp
    exact v27_11 t b
  have v29_10 : ∀ (h : Fin 8) (t : Fin 8192) (b : Fin 32), (W10 (Proc.devRef .tc main_v29) : FVec Ideal S8x8192x32 .f32) (ix3 h t b)
      = ((SA (head P 0 h) (head P 1024 h) sc t (256 * b.val + 255) : ℝ) : EReal) := by
    intro h t b
    rw [e10, runs_line _ h t b (a := fun h t s => -SA (head P 0 h) (head P 1024 h) sc t s) v21_9, neg_neg, Nat.add_comm]
  obtain ⟨e, he⟩ := padded_line W10 (a := fun h t b => SA (head P 0 h) (head P 1024 h) sc t (256 * b + 255)) v29_10
  refine ⟨v27_12, fun h t d => if d < 32 then SA (head P 0 h) (head P 1024 h) sc t (256 * d + 255) else e, fun t b => ?_, fun h t j hj => if_pos hj⟩
  rw [e12]
  exact laid_line _ t b (a := fun h t d => if d < 32 then SA (head P 0 h) (head P 1024 h) sc t (256 * d + 255) else e) fun h t d => by
    rw [e11]; exact he h t d

end Cert.StickBreaking
-- ==== Proof.Given.lean ====
module
public import proofs.«01_k».proof.Proof.Entry

/-! The blocks each grid point is given, and the four arrays the kernel leaves, over the reals. -/

@[expose] public section
set_option maxRecDepth 16384
noncomputable section
open Idealize.ShloMosaic Finset
namespace Cert.StickBreaking
open Cert.KernelIdeal Cert.KernelIdeal.Gen Cert.KernelIdeal.Value

theorem idx : ∀ t : Fin cfg0.N, win0_0.index t = ![t.val % 16, t.val / 16] ∧ win0_1.index t = ![0, 8 + t.val / 16]
    ∧ win0_2.index t = ![0, 16 + t.val / 16] ∧ win0_3.index t = ![t.val % 16, 24 + t.val / 16]
    ∧ win0_4.index t = ![t.val % 16, t.val / 16] ∧ win0_5.index t = ![t.val % 16, t.val / 16]
    ∧ win0_6.index t = ![t.val % 16, t.val / 16] :=
  (by decide +kernel : ∀ t : Fin grid0.N, _)

variable (m : (ℓ : Loc nD τ sig) → Buf (Elt Ideal) ℓ) (c : Dev nD) (t : Fin cfg0.N)

theorem blk0 (r : Fin 512) (d : Fin 128) (a : Fin 8192) (b : Fin 18432) (ha : a.val = 512 * (t.val % 16) + r.val) (hb : b.val = 0 + (t.val / 16 * 128 + d.val)) :
    iblk m c 0 t (ix2 r d) = (m (c.tc.loc main_arg0) : FVec Ideal S8192x18432 .f32) (ix2 a b) := by
  blk_ext [iblk, V_main_arg0, idx t]

theorem blk1 (r : Fin 8192) (d : Fin 128) (a : Fin 8192) (b : Fin 18432) (ha : a.val = r.val) (hb : b.val = 1024 + (t.val / 16 * 128 + d.val)) :
    iblk m c 1 t (ix2 r d) = (m (c.tc.loc main_arg0) : FVec Ideal S8192x18432 .f32) (ix2 a b) := by
  blk_ext [iblk, V_main_arg0, idx t]

theorem blk2 (r : Fin 8192) (d : Fin 128) (a : Fin 8192) (b : Fin 18432) (ha : a.val = r.val) (hb : b.val = 2048 + (t.val / 16 * 128 + d.val)) :
    iblk m c 2 t (ix2 r d) = (m (c.tc.loc main_arg0) : FVec Ideal S8192x18432 .f32) (ix2 a b) := by
  blk_ext [iblk, V_main_arg0, idx t]

theorem blk3 (r : Fin 512) (d : Fin 128) (a : Fin 8192) (b : Fin 18432) (ha : a.val = 512 * (t.val % 16) + r.val) (hb : b.val = 3072 + (t.val / 16 * 128 + d.val)) :
    iblk m c 3 t (ix2 r d) = (m (c.tc.loc main_arg0) : FVec Ideal S8192x18432 .f32) (ix2 a b) := by
  blk_ext [iblk, V_main_arg0, idx t]

theorem blk4 (r : Fin 512) (d : Fin 128) (a : Fin 8192) (b : Fin 1024) (ha : a.val = 512 * (t.val % 16) + r.val) (hb : b.val = 0 + (t.val / 16 * 128 + d.val)) :
    iblk m c 4 t (ix2 r d) = (V m c main_v27 : FVec Ideal S8192x1024 .f32) (ix2 a b) := by
  blk_ext [iblk, idx t]

theorem blk5 (r : Fin 512) (d : Fin 128) (a : Fin 8192) (b : Fin 1024) (ha : a.val = 512 * (t.val % 16) + r.val) (hb : b.val = 0 + (t.val / 16 * 128 + d.val)) :
    iblk m c 5 t (ix2 r d) = (V m c main_v32 : FVec Ideal S8192x1024 .f32) (ix2 a b) := by
  blk_ext [iblk, idx t]

theorem blk6 (r : Fin 512) (d : Fin 128) (a : Fin 8192) (b : Fin 4096) (ha : a.val = 512 * (t.val % 16) + r.val) (hb : b.val = 0 + (t.val / 16 * 128 + d.val)) :
    iblk m c 6 t (ix2 r d) = (m (c.tc.loc main_arg1) : FVec Ideal S8192x4096 .f32) (ix2 a b) := by
  blk_ext [iblk, V_main_arg1, idx t]

theorem points_lt (t : Fin cfg0.N) : t.val < 128 := lt_of_lt_of_eq t.isLt points

variable {m c} {P D : ℕ → ℕ → ℝ} {sc : ℝ} (hsc : Ideal.ofBits .f32 0x3DB504F3#32 = (sc : EReal))
  (HP : ∀ (t : Fin 8192) (j : Fin 18432), j.val < 4096 → (m (c.tc.loc main_arg0) : FVec Ideal S8192x18432 .f32) (ix2 t j) = ((P t j : ℝ) : EReal))
  (HD : ∀ (t : Fin 8192) (j : Fin 4096), j.val < 1024 → (m (c.tc.loc main_arg1) : FVec Ideal S8192x4096 .f32) (ix2 t j) = ((D t j : ℝ) : EReal))
include hsc HP HD

/-- Every grid point is given its head's columns. -/
theorem given (t : Fin cfg0.N) : Blocks m c t (head P 0 (t.val / 16)) (head P 1024 (t.val / 16)) (head P 2048 (t.val / 16))
    (head P 3072 (t.val / 16)) (ATT (head P 0 (t.val / 16)) (head P 1024 (t.val / 16)) (head P 2048 (t.val / 16)) sc)
    (head D 0 (t.val / 16)) sc := by
  have ht := points_lt t
  obtain ⟨hatt, run, hrun, hSA⟩ := entry m c hsc HP
  have hc := coord_block t
  refine ⟨hsc, ?_, ?_, ?_, ?_, ?_, ⟨fun r d => run (t.val / 16) (512 * (grid0.coords t 1).val + r) d, ?_, ?_⟩, ?_⟩
  all_goals try rw [hc]
  · intro r d
    rw [blk0 m c t r d ⟨512 * (t.val % 16) + r.val, by omega⟩ ⟨0 + (t.val / 16 * 128 + d.val), by omega⟩ rfl rfl, HP _ _ (by dsimp only; omega)]
    rfl
  · intro r d
    rw [blk1 m c t r d r ⟨1024 + (t.val / 16 * 128 + d.val), by omega⟩ rfl rfl, HP _ _ (by dsimp only; omega)]
    rfl
  · intro r d
    rw [blk2 m c t r d r ⟨2048 + (t.val / 16 * 128 + d.val), by omega⟩ rfl rfl, HP _ _ (by dsimp only; omega)]
    rfl
  · intro r d
    rw [blk3 m c t r d ⟨512 * (t.val % 16) + r.val, by omega⟩ ⟨3072 + (t.val / 16 * 128 + d.val), by omega⟩ rfl rfl, HP _ _ (by dsimp only; omega)]
    rfl
  · intro r d
    rw [blk4 m c t r d ⟨512 * (t.val % 16) + r.val, by omega⟩ ⟨0 + (t.val / 16 * 128 + d.val), by omega⟩ rfl rfl, hatt]
    have e0 : (0 + (t.val / 16 * 128 + d.val)) / 128 = t.val / 16 := by omega
    have e1 : (0 + (t.val / 16 * 128 + d.val)) % 128 = d.val := by omega
    simp only [e0, e1]
  · intro r d
    rw [blk5 m c t r d ⟨512 * (t.val % 16) + r.val, by omega⟩ ⟨0 + (t.val / 16 * 128 + d.val), by omega⟩ rfl rfl, hrun]
    have e0 : (0 + (t.val / 16 * 128 + d.val)) / 128 = t.val / 16 := by omega
    have e1 : (0 + (t.val / 16 * 128 + d.val)) % 128 = d.val := by omega
    simp only [e0, e1]
  · exact fun r j hj => hSA _ _ _ hj
  · intro r d
    rw [blk6 m c t r d ⟨512 * (t.val % 16) + r.val, by omega⟩ ⟨0 + (t.val / 16 * 128 + d.val), by omega⟩ rfl rfl, HD _ _ (by dsimp only; omega)]
    rfl

end Cert.StickBreaking
-- ==== Proof.Reference.lean ====
module
public import proofs.«01_k».proof.Proof.Given
public import proofs.«01_k».proof.Proof.Gen.ReferenceIdeal.Run

/-! The reference's lines, one by one, read at an index as real numbers. -/

@[expose] public section
set_option maxRecDepth 16384
noncomputable section
open Idealize.ShloMosaic Finset
namespace Cert.StickBreaking
open Cert.ReferenceIdeal Cert.ReferenceIdeal.Gen Cert.ReferenceIdeal.Value

theorem ne_inf (x : ℝ) : (x : EReal) ≠ Ideal.ofBits .f32 0x7F800000#32 := by
  rw [show Ideal.ofBits .f32 0x7F800000#32 = ⊤ by simp [Ideal.ofBits, Ideal.ieee]]
  exact EReal.coe_ne_top x

section Lines
variable (W : Valuation τ sig (Elt Ideal))

theorem r16 (t s : Fin 8192) : (res_main_v16 W : IVec S8192x8192 1) (ix2 t s) = BitVec.ofBool (decide (s.val < t.val)) := by
  unfold res_main_v16
  pointwise []
  exact slt_word s t

theorem r20_1 (h : Fin 8) (t s : Fin 8192) : (res_main_v20_1 W : IVec S8x8192x8192 1) (ix3 h t s) = BitVec.ofBool (decide (s.val < t.val)) := by
  unfold res_main_v20_1
  pointwise []
  exact r16 W t s

variable {P : ℕ → ℕ → ℝ} {sc : ℝ} (hsc : Ideal.ofBits .f32 0x3DB504F3#32 = (sc : EReal))
  (HP : ∀ (t : Fin 8192) (j : Fin 18432), j.val < 4096 → (W (Proc.devRef .tc main_arg0) : FVec Ideal S8192x18432 .f32) (ix2 t j) = ((P t j : ℝ) : EReal))
include HP

theorem r3 (t : Fin 8192) (b : Fin 1024) : (res_main_v3 W : FVec Ideal S8192x1024 .f32) (ix2 t b) = ((P t (3072 + b) : ℝ) : EReal) := by
  unfold res_main_v3
  pointwise []
  rw [HP _ _ (by dsimp only; omega)]

theorem r4 (t : Fin 8192) (h : Fin 8) (d : Fin 128) : (res_main_v4 W : FVec Ideal S8192x8x128 .f32) (ix3 t h d) = ((head P 0 h t d : ℝ) : EReal) := by
  unfold res_main_v4
  pointwise []
  rw [HP _ _ (by dsimp only; omega)]
  exact congrArg (fun j => ((P t j : ℝ) : EReal)) (Nat.zero_add _).symm

theorem r5 (t : Fin 8192) (h : Fin 8) (d : Fin 128) : (res_main_v5 W : FVec Ideal S8192x8x128 .f32) (ix3 t h d) = ((head P 1024 h t d : ℝ) : EReal) := by
  unfold res_main_v5
  pointwise []
  rw [HP _ _ (by dsimp only; omega)]
  rfl

theorem r6 (t : Fin 8192) (h : Fin 8) (d : Fin 128) : (res_main_v6 W : FVec Ideal S8192x8x128 .f32) (ix3 t h d) = ((head P 2048 h t d : ℝ) : EReal) := by
  unfold res_main_v6
  pointwise []
  rw [HP _ _ (by dsimp only; omega)]
  rfl

include hsc
theorem r10 (h : Fin 8) (t s : Fin 8192) : (res_main_v10 W : FVec Ideal S8x8192x8192 .f32) (ix3 h t s) = ((Z (head P 0 h) (head P 1024 h) sc t s : ℝ) : EReal) := by
  unfold res_main_v10
  pointwise []
  rw [sum_coe' _ (fun d => head P 0 h t d * head P 1024 h s d) fun x => by rw [r4 W HP, r5 W HP, ← EReal.coe_mul], hsc, ← EReal.coe_mul]
  rfl

theorem rn (h : Fin 8) (t s : Fin 8192) : (res_main_call0_v0 W : FVec Ideal S8x8192x8192 .f32) (ix3 h t s) = ((-Z (head P 0 h) (head P 1024 h) sc t s : ℝ) : EReal) := by
  unfold res_main_call0_v0
  pointwise []
  rw [r10 W hsc HP, ← EReal.coe_neg]

theorem rp (h : Fin 8) (t s : Fin 8192) : (res_main_call1_v0 W : FVec Ideal S8x8192x8192 .f32) (ix3 h t s) = ((Z (head P 0 h) (head P 1024 h) sc t s : ℝ) : EReal) := by
  unfold res_main_call1_v0
  pointwise []
  rw [r10 W hsc HP, neg_neg]

theorem rsn (h : Fin 8) (t s : Fin 8192) : (res_main_call0_v1_0 W : FVec Ideal S8x8192x8192 .f32) (ix3 h t s) = ((sp (-Z (head P 0 h) (head P 1024 h) sc t s) : ℝ) : EReal) := by
  unfold res_main_call0_v1_0 res_main_call0_call0_v3 res_main_call0_call0_cst
  pointwise []
  rw [rn W hsc HP, host_softplus]

theorem rsp (h : Fin 8) (t s : Fin 8192) : (res_main_call1_v1_0 W : FVec Ideal S8x8192x8192 .f32) (ix3 h t s) = ((sp (Z (head P 0 h) (head P 1024 h) sc t s) : ℝ) : EReal) := by
  unfold res_main_call1_v1_0 res_main_call1_call0_v3 res_main_call1_call0_cst
  pointwise []
  rw [rp W hsc HP, host_softplus]

theorem r20 (h : Fin 8) (t s : Fin 8192) : (res_main_v20_0 W : FVec Ideal S8x8192x8192 .f32) (ix3 h t s) = ((if s.val < t.val then -sp (Z (head P 0 h) (head P 1024 h) sc t s) else 0 : ℝ) : EReal) := by
  unfold res_main_v20_0
  pointwise []
  rw [r20_1, rsp W hsc HP, select_decide, id, ← EReal.coe_neg]
  exact (if_congr Iff.rfl rfl (by pointwise []; exact EReal.coe_zero.symm)).trans (apply_ite (fun r : ℝ => (r : EReal)) _ _ _).symm

theorem r24 (h : Fin 8) (t s : Fin 8192) : (res_main_v24 W : FVec Ideal S8x8192x8192 .f32) (ix3 h t s) = ((Real.exp (Z (head P 0 h) (head P 1024 h) sc t s - sp (Z (head P 0 h) (head P 1024 h) sc t s) - SA (head P 0 h) (head P 1024 h) sc t s) : ℝ) : EReal) := by
  unfold res_main_v24
  pointwise []
  rw [sum_from (f := fun h t s => if s < t then -sp (Z (head P 0 h) (head P 1024 h) sc t s) else 0) (r20 W hsc HP) (by pointwise []) _ _ h t s, r20 W hsc HP, rsn W hsc HP,
    ← EReal.coe_sub, after_sum (head P 0 h) (head P 1024 h) sc t s s.isLt, ← EReal.coe_neg, neg_sp_neg, ← EReal.coe_add, Ideal.exp_coe, ← sub_eq_add_neg]

omit hsc HP in
theorem r25_1 (h : Fin 8) (t s : Fin 8192) : (res_main_v25_1 W : IVec S8x8192x8192 1) (ix3 h t s) = BitVec.ofBool (decide (s.val < t.val)) := by
  unfold res_main_v25_1
  pointwise []
  exact r16 W t s

theorem r25 (h : Fin 8) (t s : Fin 8192) : (res_main_v25_0 W : FVec Ideal S8x8192x8192 .f32) (ix3 h t s) = ((Wt (head P 0 h) (head P 1024 h) sc t s : ℝ) : EReal) := by
  unfold res_main_v25_0
  pointwise []
  rw [r25_1, r24 W hsc HP, select_decide, id]
  exact (if_congr Iff.rfl rfl (by pointwise []; exact EReal.coe_zero.symm)).trans (apply_ite (fun r : ℝ => (r : EReal)) _ _ _).symm

theorem r28 (t : Fin 8192) (b : Fin 1024) : (res_main_v28 W : FVec Ideal S8192x1024 .f32) (ix2 t b)
    = ((ATT (head P 0 (b.val / 128)) (head P 1024 (b.val / 128)) (head P 2048 (b.val / 128)) sc t (b.val % 128) : ℝ) : EReal) := by
  unfold res_main_v28
  pointwise []
  exact sum_coe' _ (fun x => head P 2048 (b.val / 128) x (b.val % 128) * Wt (head P 0 (b.val / 128)) (head P 1024 (b.val / 128)) sc t x)
    fun x => by rw [r6 W HP, r25 W hsc HP, ← EReal.coe_mul]

omit hsc in
theorem r29 (t : Fin 8192) (b : Fin 1024) : (res_main_v29_2 W : FVec Ideal S8192x1024 .f32) (ix2 t b) = ((sg (P t (3072 + b)) : ℝ) : EReal) := by
  have hp : (0 : ℝ) < 1 + Real.exp (-P t (3072 + b)) := by positivity
  unfold res_main_v29_2
  pointwise []
  rw [r3 W HP, ← EReal.coe_neg, Ideal.exp_coe, ← EReal.coe_one, ← EReal.coe_add, Ideal.div, if_neg (by rw [← EReal.coe_zero, EReal.coe_eq_coe_iff]; exact hp.ne'),
    ← EReal.coe_inv, ← EReal.coe_mul, one_mul]
  rfl

omit hsc in
theorem r29_0 (t : Fin 8192) (b : Fin 1024) : (res_main_v29_0 W : FVec Ideal S8192x1024 .f32) (ix2 t b) = ((P t (3072 + b) * sg (P t (3072 + b)) : ℝ) : EReal) := by
  unfold res_main_v29_0
  pointwise []
  rw [r3 W HP, r29 W HP, ← EReal.coe_mul]

variable {D : ℕ → ℕ → ℝ} (HD : ∀ (t : Fin 8192) (j : Fin 4096), j.val < 1024 → (W (Proc.devRef .tc main_arg1) : FVec Ideal S8192x4096 .f32) (ix2 t j) = ((D t j : ℝ) : EReal))
include HD

omit hsc HP in
theorem r31 (t : Fin 8192) (b : Fin 1024) : (res_main_v31 W : FVec Ideal S8192x1024 .f32) (ix2 t b) = ((D t b : ℝ) : EReal) := by
  unfold res_main_v31
  pointwise []
  rw [HD _ _ (by dsimp only; omega)]

theorem r32 (t : Fin 8192) (b : Fin 1024) : (res_main_v32 W : FVec Ideal S8192x1024 .f32) (ix2 t b)
    = ((ATT (head P 0 (b.val / 128)) (head P 1024 (b.val / 128)) (head P 2048 (b.val / 128)) sc t (b.val % 128) * D t b : ℝ) : EReal) := by
  unfold res_main_v32
  pointwise []
  rw [r28 W hsc HP, r31 W HD, ← EReal.coe_mul]

omit hsc in
theorem r36 (h : Fin 8) (d : Fin 128) (t : Fin 8192) : (res_main_v36 W : FVec Ideal S8x128x8192 .f32) (ix3 h d t)
    = ((OB (head P 3072 h) (head D 0 h) t d : ℝ) : EReal) := by
  unfold res_main_v36
  pointwise []
  rw [r31 W HD, r29_0 W HP, ← EReal.coe_mul]
  exact congrArg (fun j => ((D t j * (P t (3072 + (h.val * 128 + d.val)) * sg (P t (3072 + (h.val * 128 + d.val)))) : ℝ) : EReal)) (Nat.zero_add _).symm

theorem r41 (h : Fin 8) (t s : Fin 8192) : (res_main_v41 W : FVec Ideal S8x8192x8192 .f32) (ix3 h t s) = ((GW (head P 0 h) (head P 1024 h) (head P 2048 h) (OB (head P 3072 h) (head D 0 h)) sc t s : ℝ) : EReal) := by
  unfold res_main_v41
  pointwise []
  rw [r25_1, r24 W hsc HP, select_decide, sum_coe' _ (fun d => OB (head P 3072 h) (head D 0 h) t d * head P 2048 h s d) fun x => by
    rw [r36 W HP HD, r6 W HP, ← EReal.coe_mul]]
  by_cases hs : s.val < t.val
  · rw [if_pos hs, GW, Wt, if_pos hs, ← EReal.coe_mul]
  · rw [if_neg hs, GW, Wt, if_neg hs, mul_zero, EReal.coe_zero]

theorem r51 (h : Fin 8) (t s : Fin 8192) : (res_main_v51 W : FVec Ideal S8x8192x8192 .f32) (ix3 h t s) = ((DZ (head P 0 h) (head P 1024 h) (head P 2048 h) (OB (head P 3072 h) (head D 0 h)) sc t s * sc : ℝ) : EReal) := by
  unfold res_main_v51
  pointwise []
  rw [r20_1, rsn W hsc HP, rsp W hsc HP, rn W hsc HP, rp W hsc HP, r41 W hsc HP HD, select_decide,
    sum_upto (f := fun h t s => GW (head P 0 h) (head P 1024 h) (head P 2048 h) (OB (head P 3072 h) (head D 0 h)) sc t s) (r41 W hsc HP HD) (by pointwise []) _ _ h t s, hsc,
    if_neg (ne_inf _), if_neg (ne_inf _), if_neg (ne_inf _), if_neg (ne_inf _), ← EReal.coe_sub, ← EReal.coe_sub, Ideal.exp_coe, Ideal.exp_coe, DZ_eq, sum_range_succ]
  by_cases hs : s.val < t.val
  · simp only [if_pos hs, ← EReal.coe_neg, ← EReal.coe_add, ← EReal.coe_mul]
    congr 2
    rw [GS]
    ring
  · simp only [if_neg hs, ← EReal.coe_zero, ← EReal.coe_neg, ← EReal.coe_add, ← EReal.coe_mul]
    congr 2
    ring

theorem r58 (t : Fin 8192) (b : Fin 1024) : (shapeCast S8192x1024 (transpose S8192x8x128 [1, 0, 2] (Host.dotGeneral (φ₁ := .f32) (φ₂ := .f32) dot_S8x8192x8192_S8192x8x128_S8x8192x128_2_0_1_2_0_1 none (res_main_v51 W) (res_main_v5 W)) transposes_S8x8192x128_S8192x8x128_1_0_2) shapeCasts_S8192x8x128_S8192x1024 : FVec Ideal S8192x1024 .f32) (ix2 t b)
    = ((∑ s ∈ range 8192, DZ (head P 0 (b.val / 128)) (head P 1024 (b.val / 128)) (head P 2048 (b.val / 128)) (OB (head P 3072 (b.val / 128)) (head D 0 (b.val / 128))) sc t s * sc * head P 1024 (b.val / 128) s (b.val % 128) : ℝ) : EReal) := by
  pointwise []
  exact sum_coe' _ (fun s => DZ (head P 0 (b.val / 128)) (head P 1024 (b.val / 128)) (head P 2048 (b.val / 128)) (OB (head P 3072 (b.val / 128)) (head D 0 (b.val / 128))) sc t s * sc * head P 1024 (b.val / 128) s (b.val % 128)) fun x => by
    rw [r51 W hsc HP HD, r5 W HP, ← EReal.coe_mul]

theorem r57 (s : Fin 8192) (b : Fin 1024) : (shapeCast S8192x1024 (transpose S8192x8x128 [1, 0, 2] (Host.dotGeneral (φ₁ := .f32) (φ₂ := .f32) dot_S8x8192x8192_S8192x8x128_S8x8192x128_1_0_2_2_0_1 none (res_main_v51 W) (res_main_v4 W)) transposes_S8x8192x128_S8192x8x128_1_0_2) shapeCasts_S8192x8x128_S8192x1024 : FVec Ideal S8192x1024 .f32) (ix2 s b)
    = ((∑ t ∈ range 8192, DZ (head P 0 (b.val / 128)) (head P 1024 (b.val / 128)) (head P 2048 (b.val / 128)) (OB (head P 3072 (b.val / 128)) (head D 0 (b.val / 128))) sc t s * sc * head P 0 (b.val / 128) t (b.val % 128) : ℝ) : EReal) := by
  pointwise []
  exact sum_coe' _ (fun t => DZ (head P 0 (b.val / 128)) (head P 1024 (b.val / 128)) (head P 2048 (b.val / 128)) (OB (head P 3072 (b.val / 128)) (head D 0 (b.val / 128))) sc t s * sc * head P 0 (b.val / 128) t (b.val % 128)) fun x => by
    rw [r51 W hsc HP HD, r4 W HP, ← EReal.coe_mul]

theorem r56 (s : Fin 8192) (b : Fin 1024) : (shapeCast S8192x1024 (transpose S8192x8x128 [2, 0, 1] (Host.dotGeneral (φ₁ := .f32) (φ₂ := .f32) dot_S8x128x8192_S8x8192x8192_S8x128x8192_2_1_1_2_0_0 none (res_main_v36 W) (res_main_v25_0 W)) transposes_S8x128x8192_S8192x8x128_2_0_1) shapeCasts_S8192x8x128_S8192x1024 : FVec Ideal S8192x1024 .f32) (ix2 s b)
    = ((∑ t ∈ range 8192, OB (head P 3072 (b.val / 128)) (head D 0 (b.val / 128)) t (b.val % 128) * Wt (head P 0 (b.val / 128)) (head P 1024 (b.val / 128)) sc t s : ℝ) : EReal) := by
  pointwise []
  exact sum_coe' _ (fun t => OB (head P 3072 (b.val / 128)) (head D 0 (b.val / 128)) t (b.val % 128) * Wt (head P 0 (b.val / 128)) (head P 1024 (b.val / 128)) sc t s) fun x => by
    rw [r36 W HP HD, r25 W hsc HP, ← EReal.coe_mul]

theorem r34 (t : Fin 8192) (b : Fin 1024) : (addf (mulf (res_main_v32 W) (res_main_v29_2 W)) (mulf (mulf (res_main_v3 W) (res_main_v32 W)) (mulf (res_main_v29_2 W) (subf (broadcastInDim S8192x1024 ![] bcast_S_S8192x1024 (constant S_ .f32 0x3F800000#32)) (res_main_v29_2 W)))) : FVec Ideal S8192x1024 .f32) (ix2 t b)
    = ((DG (head P 3072 (b.val / 128)) (ATT (head P 0 (b.val / 128)) (head P 1024 (b.val / 128)) (head P 2048 (b.val / 128)) sc) (head D 0 (b.val / 128)) t (b.val % 128) : ℝ) : EReal) := by
  pointwise []
  have eg : P t (3072 + b) = head P 3072 (b.val / 128) t (b.val % 128) := congrArg (P t) (by omega)
  have ed : D t b = head D 0 (b.val / 128) t (b.val % 128) := congrArg (D t) (by omega)
  rw [r32 W hsc HP HD, r29 W HP, r3 W HP, eg, ed, ← EReal.coe_one, ← EReal.coe_sub, ← EReal.coe_mul, ← EReal.coe_mul, ← EReal.coe_mul, ← EReal.coe_mul, ← EReal.coe_add, DG]
  congr 1
  ring

end Lines
end Cert.StickBreaking
-- ==== Proof.Finite.lean ====
module
public import proofs.«01_k».proof.Pre_finite
public import proofs.«01_k».proof.Proof.Block
public import Idealize.ShloMosaic.Lib.ReduceAll

/-! What the precondition says of the arguments: the entries the kernel reads are real numbers. -/

@[expose] public section
set_option maxRecDepth 16384
noncomputable section
open Idealize.ShloMosaic
namespace Cert.StickBreaking

/-- The precondition's side conditions. -/
theorem finite_facts : Cert.Pre_finite.Facts where
  slices_S8192x18432_S8192x4096_0_0 := by decide
  bcast_S_S8192x4096 := by decide
  reducesTo_S8192x4096_S_d0_1 := by decide
  h_S_ := by decide
  slices_S8192x4096_S8192x1024_0_0 := by decide
  bcast_S_S8192x1024 := by decide
  reducesTo_S8192x1024_S_d0_1 := by decide

/-- A number whose absolute value is below infinity is real. -/
theorem real_of_lt (x : EReal) (h : FloatOps.cmpf (F := Ideal) (φ := .f32) .olt (FloatOps.hostAbsf x) (Ideal.ofBits .f32 0x7F800000#32) = 1#1) :
    x = ((x.toReal : ℝ) : EReal) := by
  have e : Ideal.ofBits .f32 0x7F800000#32 = ⊤ := by simp [Ideal.ofBits, Ideal.ieee]
  rw [e] at h
  have hl : max x (-x) < ⊤ := by
    by_contra hn
    have : Ideal.cmp .olt (max x (-x)) ⊤ = 1#1 := h
    simp [Ideal.cmp, hn] at this
  rw [max_lt_iff] at hl
  refine (EReal.coe_toReal hl.1.ne ?_).symm
  rintro rfl
  simp at hl

theorem and_one {a b : BitVec 1} (h : IntOp.andi a b = 1#1) : a = 1#1 ∧ b = 1#1 := by
  revert a b
  decide

theorem real_entries [Cert.Pre_finite.Facts] (x : FVec Ideal Cert.Pre_finite.S8192x18432 .f32) (y : FVec Ideal Cert.Pre_finite.S8192x4096 .f32)
    (h : Cert.Pre_finite.fn (F := Ideal) x y = fun _ => 1#1) :
    (∀ (t : Fin 8192) (j : Fin 18432), j.val < 4096 → x (ix2 t j) = (((x (ix2 t j)).toReal : ℝ) : EReal))
    ∧ ∀ (t : Fin 8192) (j : Fin 4096), j.val < 1024 → y (ix2 t j) = (((y (ix2 t j)).toReal : ℝ) : EReal) := by
  haveI : Subsingleton Cert.Pre_finite.S_.Idx := ⟨fun a b => funext fun i => i.elim0⟩
  obtain ⟨h0, h1⟩ := and_one (congrFun h ix0)
  constructor
  · intro t j hj
    have := Host.reduce_andi_all _ _ _ _ _ h0 (ix2 t ⟨j.val, hj⟩)
    revert this
    pointwise []
    exact real_of_lt _
  · intro t j hj
    have := Host.reduce_andi_all _ _ _ _ _ h1 (ix2 t ⟨j.val, hj⟩)
    revert this
    pointwise []
    exact real_of_lt _

/-- The scale of the scores is a real number. -/
theorem scale_real : ∃ sc : ℝ, Ideal.ofBits .f32 0x3DB504F3#32 = (sc : EReal) := by
  simp only [Ideal.ofBits, Ideal.ieee]
  rw [if_neg (by decide), if_neg (by decide)]
  exact ⟨_, rfl⟩

end Cert.StickBreaking
-- ==== Proof.Equal.lean ====
module
public import proofs.«01_k».proof.Proof.Reference
public import proofs.«01_k».proof.Proof.Finite

/-! The launch's four arrays are the reference's four results. -/

@[expose] public section
set_option maxRecDepth 16384
noncomputable section
open Idealize.ShloMosaic Finset
namespace Cert.StickBreaking
open Cert.ReferenceIdeal Cert.ReferenceIdeal.Gen Cert.ReferenceIdeal.Value

/-- An array's real parts, counted by natural numbers. -/
def reals {n k : ℕ} (x : FVec Ideal (⟨2, ![n, k]⟩ : Shape) .f32) (t j : ℕ) : ℝ :=
  if h : t < n ∧ j < k then (x (ix2 ⟨t, h.1⟩ ⟨j, h.2⟩)).toReal else 0

theorem reals_at {n k : ℕ} (x : FVec Ideal (⟨2, ![n, k]⟩ : Shape) .f32) (t : Fin n) (j : Fin k) : reals x t j = (x (ix2 t j)).toReal :=
  dif_pos ⟨t.isLt, j.isLt⟩

variable (m : (ℓ : Loc Cert.KernelIdeal.nD Cert.KernelIdeal.τ Cert.KernelIdeal.sig) → Buf (Elt Ideal) ℓ) (c : Dev Cert.KernelIdeal.nD) (W : Valuation τ sig (Elt Ideal))

theorem equal (h0 : (W (Proc.devRef .tc main_arg0) : FVec Ideal S8192x18432 .f32) = m (c.tc.loc Cert.KernelIdeal.main_arg0))
    (h1 : (W (Proc.devRef .tc main_arg1) : FVec Ideal S8192x4096 .f32) = m (c.tc.loc Cert.KernelIdeal.main_arg1)) [Cert.Pre_finite.Facts]
    (hf : Cert.Pre_finite.fn (F := Ideal) (m (c.tc.loc Cert.KernelIdeal.main_arg0)) (m (c.tc.loc Cert.KernelIdeal.main_arg1)) = fun _ => 1#1) :
    (shapeCast S8192x1024 (transpose S8192x8x128 [1, 0, 2] (Host.dotGeneral (φ₁ := .f32) (φ₂ := .f32) dot_S8x8192x8192_S8192x8x128_S8x8192x128_2_0_1_2_0_1 none (res_main_v51 W) (res_main_v5 W)) transposes_S8x8192x128_S8192x8x128_1_0_2) shapeCasts_S8192x8x128_S8192x1024 : FVec Ideal S8192x1024 .f32) = Cert.KernelIdeal.Value.G7 m c
    ∧ (shapeCast S8192x1024 (transpose S8192x8x128 [1, 0, 2] (Host.dotGeneral (φ₁ := .f32) (φ₂ := .f32) dot_S8x8192x8192_S8192x8x128_S8x8192x128_1_0_2_2_0_1 none (res_main_v51 W) (res_main_v4 W)) transposes_S8x8192x128_S8192x8x128_1_0_2) shapeCasts_S8192x8x128_S8192x1024 : FVec Ideal S8192x1024 .f32) = Cert.KernelIdeal.Value.G8 m c
    ∧ (shapeCast S8192x1024 (transpose S8192x8x128 [2, 0, 1] (Host.dotGeneral (φ₁ := .f32) (φ₂ := .f32) dot_S8x128x8192_S8x8192x8192_S8x128x8192_2_1_1_2_0_0 none (res_main_v36 W) (res_main_v25_0 W)) transposes_S8x128x8192_S8192x8x128_2_0_1) shapeCasts_S8192x8x128_S8192x1024 : FVec Ideal S8192x1024 .f32) = Cert.KernelIdeal.Value.G9 m c
    ∧ (addf (mulf (res_main_v32 W) (res_main_v29_2 W)) (mulf (mulf (res_main_v3 W) (res_main_v32 W)) (mulf (res_main_v29_2 W) (subf (broadcastInDim S8192x1024 ![] bcast_S_S8192x1024 (constant S_ .f32 0x3F800000#32)) (res_main_v29_2 W)))) : FVec Ideal S8192x1024 .f32) = Cert.KernelIdeal.Value.G10 m c := by
  obtain ⟨sc, hsc⟩ := scale_real
  obtain ⟨hx, hy⟩ := real_entries _ _ hf
  have HP : ∀ (t : Fin 8192) (j : Fin 18432), j.val < 4096 → (m (c.tc.loc Cert.KernelIdeal.main_arg0) : FVec Ideal S8192x18432 .f32) (ix2 t j)
      = ((reals (n := 8192) (k := 18432) (m (c.tc.loc Cert.KernelIdeal.main_arg0)) t j : ℝ) : EReal) := fun t j hj => by
    rw [reals_at]; exact hx t j hj
  have HD : ∀ (t : Fin 8192) (j : Fin 4096), j.val < 1024 → (m (c.tc.loc Cert.KernelIdeal.main_arg1) : FVec Ideal S8192x4096 .f32) (ix2 t j)
      = ((reals (n := 8192) (k := 4096) (m (c.tc.loc Cert.KernelIdeal.main_arg1)) t j : ℝ) : EReal) := fun t j hj => by
    rw [reals_at]; exact hy t j hj
  generalize reals (n := 8192) (k := 18432) (m (c.tc.loc Cert.KernelIdeal.main_arg0)) = P at HP
  generalize reals (n := 8192) (k := 4096) (m (c.tc.loc Cert.KernelIdeal.main_arg1)) = D at HD
  have H := given hsc HP HD
  have HP' : ∀ (t : Fin 8192) (j : Fin 18432), j.val < 4096 → (W (Proc.devRef .tc main_arg0) : FVec Ideal S8192x18432 .f32) (ix2 t j)
      = ((P t j : ℝ) : EReal) := fun t j hj => (congrFun h0 _).trans (HP t j hj)
  have HD' : ∀ (t : Fin 8192) (j : Fin 4096), j.val < 1024 → (W (Proc.devRef .tc main_arg1) : FVec Ideal S8192x4096 .f32) (ix2 t j)
      = ((D t j : ℝ) : EReal) := fun t j hj => (congrFun h1 _).trans (HD t j hj)
  have hb : ∀ b : Fin 1024, b.val = 128 * (⟨b.val / 128, by omega⟩ : Fin 8).val + (⟨b.val % 128, by omega⟩ : Fin 128).val := fun b => by
    dsimp only; omega
  refine ⟨funext fun i => ?_, funext fun i => ?_, funext fun i => ?_, funext fun i => ?_⟩
  · rw [eq_ix2 i]
    refine (r58 W hsc HP' HD' (i 0) (i 1)).trans (Eq.trans ?_ (out_queries (q := fun h => head P 0 h) (k := fun h => head P 1024 h) (v := fun h => head P 2048 h) (g := fun h => head P 3072 h) (att := fun h => ATT (head P 0 h) (head P 1024 h) (head P 2048 h) sc) (y := fun h => head D 0 h) H (i 0) ⟨(i 1).val / 128, by have : (i 1).val < 1024 := (i 1).isLt; omega⟩ ⟨(i 1).val % 128, by omega⟩ (i 1) (hb (i 1))).symm)
    dsimp only
    congr 1
    rw [sum_mul]
    exact sum_congr rfl fun s _ => by ring
  · rw [eq_ix2 i]
    refine (r57 W hsc HP' HD' (i 0) (i 1)).trans (Eq.trans ?_ (out_keys (q := fun h => head P 0 h) (k := fun h => head P 1024 h) (v := fun h => head P 2048 h) (g := fun h => head P 3072 h) (att := fun h => ATT (head P 0 h) (head P 1024 h) (head P 2048 h) sc) (y := fun h => head D 0 h) H (i 0) ⟨(i 1).val / 128, by have : (i 1).val < 1024 := (i 1).isLt; omega⟩ ⟨(i 1).val % 128, by omega⟩ (i 1) (hb (i 1))).symm)
    dsimp only
    congr 1
    exact sum_congr rfl fun s _ => by ring
  · rw [eq_ix2 i]
    refine (r56 W hsc HP' HD' (i 0) (i 1)).trans (Eq.trans ?_ (out_values (q := fun h => head P 0 h) (k := fun h => head P 1024 h) (v := fun h => head P 2048 h) (g := fun h => head P 3072 h) (att := fun h => ATT (head P 0 h) (head P 1024 h) (head P 2048 h) sc) (y := fun h => head D 0 h) H (i 0) ⟨(i 1).val / 128, by have : (i 1).val < 1024 := (i 1).isLt; omega⟩ ⟨(i 1).val % 128, by omega⟩ (i 1) (hb (i 1))).symm)
    dsimp only
    congr 1
    exact sum_congr rfl fun s _ => by ring
  · rw [eq_ix2 i]
    refine (r34 W hsc HP' HD' (i 0) (i 1)).trans (Eq.trans ?_ (out_gate (q := fun h => head P 0 h) (k := fun h => head P 1024 h) (v := fun h => head P 2048 h) (g := fun h => head P 3072 h) (att := fun h => ATT (head P 0 h) (head P 1024 h) (head P 2048 h) sc) (y := fun h => head D 0 h) H (i 0) ⟨(i 1).val / 128, by have : (i 1).val < 1024 := (i 1).isLt; omega⟩ ⟨(i 1).val % 128, by omega⟩ (i 1) (hb (i 1))).symm)
    rfl

end Cert.StickBreaking
-- ==== Proof.Products.lean ====
module
public import Idealize.ShloMosaic.Lib.Pipeline.ValueKit
public import Idealize.ShloMosaic.Lib.StableHlo.ReadAt

/-! Sums taken block by block over the extended reals, for the products whose contraction a grid walks through. -/

@[expose] public section
noncomputable section
open Idealize.ShloMosaic Finset
namespace Cert.Products

/-- What is started at the multiples of `K` and added to at every other point is, after each point, the sum since the last multiple. -/
theorem fold {N K : ℕ} {ι : Type} (hK : 0 < K) (f : (n : ℕ) → n < N → ι → EReal) (P : ℕ → ι → EReal)
    (h0 : ∀ (n : ℕ) (h : n < N), n % K = 0 → ∀ i, f n h i = P n i)
    (h1 : ∀ (n : ℕ) (h : n < N) (h' : n - 1 < N), ¬n % K = 0 → ∀ i, f n h i = f (n - 1) h' i + P n i) (n : ℕ) (h : n < N) (i : ι) :
    f n h i = ∑ j ∈ range (n % K + 1), P (K * (n / K) + j) i := by
  induction n using Nat.strong_induction_on with
  | _ n ih =>
    by_cases e : n % K = 0
    · rw [h0 n h e, e, zero_add, sum_range_one, add_zero, ← Nat.div_add_mod n K, e, add_zero, Nat.mul_div_cancel_left _ hK]
    · have hn : n ≠ 0 := fun hn => e (by rw [hn, Nat.zero_mod])
      have d := Nat.div_add_mod n K
      have l := Nat.mod_lt n hK
      have hd : (n - 1) / K = n / K := by
        rw [show n - 1 = (n % K - 1) + K * (n / K) by omega, Nat.add_mul_div_left _ _ hK, Nat.div_eq_of_lt (by omega), zero_add]
      have hm : (n - 1) % K + 1 = n % K := by
        rw [show n - 1 = (n % K - 1) + K * (n / K) by omega, Nat.add_mul_mod_self_left, Nat.mod_eq_of_lt (by omega)]
        omega
      rw [h1 n h (by omega) e, ih (n - 1) (by omega) (by omega), hd, hm, sum_range_succ, d]

/-- The sums over consecutive blocks of `T` terms add up to the sum over all of them. -/
theorem blocks (T : ℕ) (f : ℕ → EReal) (n : ℕ) : ∑ j ∈ range n, ∑ x ∈ range T, f (T * j + x) = ∑ x ∈ range (T * n), f x := by
  induction n with
  | zero => rfl
  | succ n ih => rw [sum_range_succ, ih, Nat.mul_succ, sum_range_add]

/-- An array's entry by numbers, 0 outside the array. -/
def entry {n m : ℕ} {φ : FTy} (a : FVec Ideal ⟨2, ![n, m]⟩ φ) (r s : ℕ) : EReal :=
  if h : r < n ∧ s < m then a (ix2 ⟨r, h.1⟩ ⟨s, h.2⟩) else 0

theorem entry_eq {n m : ℕ} {φ : FTy} (a : FVec Ideal ⟨2, ![n, m]⟩ φ) (r : Fin n) (s : Fin m) : entry a r s = a (ix2 r s) :=
  dif_pos ⟨r.isLt, s.isLt⟩

theorem sum_mul_congr {n : ℕ} {f g f' g' : Fin n → EReal} (hf : ∀ x, f x = f' x) (hg : ∀ x, g x = g' x) :
    ∑ x, f x * g x = ∑ x, f' x * g' x :=
  sum_congr rfl fun x _ => by rw [hf, hg]

theorem exists_ix2 {n m : ℕ} (i : (⟨2, ![n, m]⟩ : Shape).Idx) : ∃ (r : Fin n) (s : Fin m), i = ix2 r s :=
  ⟨i 0, i 1, eq_ix2 i⟩

theorem sum_columns {K n m : ℕ} {φ ψ : FTy} (a : FVec Ideal ⟨2, ![K, n]⟩ φ) (b : FVec Ideal ⟨2, ![K, m]⟩ ψ) (r : Fin n) (s : Fin m) :
    ∑ x ∈ range K, entry a x r * entry b x s = ∑ x : Fin K, (a (ix2 x r) : EReal) * b (ix2 x s) := by
  rw [← Fin.sum_univ_eq_sum_range (fun x => entry a x r * entry b x s)]
  exact sum_mul_congr (fun x => entry_eq a x r) (fun x => entry_eq b x s)

theorem sum_rows {K n m : ℕ} {φ ψ : FTy} (a : FVec Ideal ⟨2, ![n, K]⟩ φ) (b : FVec Ideal ⟨2, ![m, K]⟩ ψ) (r : Fin n) (s : Fin m) :
    ∑ x ∈ range K, entry a r x * entry b s x = ∑ x : Fin K, (a (ix2 r x) : EReal) * b (ix2 s x) := by
  rw [← Fin.sum_univ_eq_sum_range (fun x => entry a r x * entry b s x)]
  exact sum_mul_congr (fun x => entry_eq a r x) (fun x => entry_eq b s x)

end Cert.Products
-- ==== Proof.InProjDx.lean ====
module
public import proofs.«01_k».proof.Proof.Products
public import proofs.«01_k».proof.Defs
public import proofs.«01_k».proof.Proof.Gen.InProjDxIdeal.Value
public import proofs.«01_k».proof.Proof.Gen.InProjDxReferenceIdeal.Run

/-! The gradient of what the first product is given: every block of the result adds up nine products, and what the gates' product gave. -/

@[expose] public section
set_option maxRecDepth 16384
noncomputable section
open Idealize.ShloMosaic Idealize.SL.Sem Finset
namespace Cert.InProjDxEqual
open Cert.Products

/-- The product with the transposed weights plus the other gradient, at an index. -/
def product (a : FVec Ideal ⟨2, ![8192, 18432]⟩ .bf16) (b : FVec Ideal ⟨2, ![2048, 18432]⟩ .bf16) (x : FVec Ideal ⟨2, ![8192, 2048]⟩ .f32) : FVec Ideal ⟨2, ![8192, 2048]⟩ .f32 :=
  fun i => (∑ x ∈ range 18432, entry a ((i 0).val) x * entry b ((i 1).val) x) + x i

section
open Cert.InProjDxIdeal Cert.InProjDxIdeal.Gen Cert.InProjDxIdeal.Value

theorem idx : ∀ t : Fin cfg0.N, win0_0.index t = ![t.val / 9, t.val % 9] ∧ win0_1.index t = ![0, t.val % 9] ∧ win0_2.index t = ![t.val / 9, 0] ∧ win0_3.index t = ![t.val / 9, 0] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 512 × Fin 2048) (x : ℕ) : EReal :=
  entry (n := 8192) (m := 18432) (φ := .bf16) (m (c.tc.loc main_arg0)) (512 * (n / 9) + i.1.val) (2048 * (n % 9) + x)
    * entry (n := 2048) (m := 18432) (φ := .bf16) (m (c.tc.loc main_arg1)) i.2.val (2048 * (n % 9) + x)

theorem part_eq (t : Fin cfg0.N) (r : Fin 512) (s : Fin 2048) :
    (k0_pay1 (iblk m c 0 t) (iblk m c 1 t) : FVec Ideal S512x2048 .f32) (ix2 r s) = ∑ x ∈ range 2048, term m c t.val (r, s) x := by
  have hN : t.val < 144 := lt_of_lt_of_eq t.isLt (show cfg0.N = 144 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S512x2048 .bf16) (B : FVec Ideal S2048x2048 .bf16) (r : Fin 512) (s : Fin 2048) :
    (k0_pay2 A B : FVec Ideal S512x2048 .f32) (ix2 r s) = (k0_pay1 A B : FVec Ideal S512x2048 .f32) (ix2 r s) := by
  unfold k0_pay2
  pointwise []

theorem next_eq (A : FVec Ideal S512x2048 .bf16) (B : FVec Ideal S2048x2048 .bf16) (S : FVec Ideal S512x2048 .f32) (r : Fin 512) (s : Fin 2048) :
    (k0_pay3 A B S : FVec Ideal S512x2048 .f32) (ix2 r s)
      = (S (ix2 r s) : EReal) + (k0_pay1 A B : FVec Ideal S512x2048 .f32) (ix2 r s) := by
  unfold k0_pay3
  pointwise []

/-- After each point the scratch holds the sum of the products since the block of the result was begun. -/
theorem scratch (n : ℕ) (hn : n < cfg0.N) (i : Fin 512 × Fin 2048) :
    ((outsAt0 m c n hn).2 : FVec Ideal S512x2048 .f32) (ix2 i.1 i.2)
      = ∑ j ∈ range (n % 9 + 1), ∑ x ∈ range 2048, term m c (9 * (n / 9) + j) i x := by
  refine fold (K := 9) (by decide) (fun n hn i => ((outsAt0 m c n hn).2 : FVec Ideal S512x2048 .f32) (ix2 i.1 i.2))
    (fun n i => ∑ x ∈ range 2048, term m c n i x) (fun n h e i => ?_) (fun n h h' e i => ?_) n hn i
  · rw [outsAt0_A m c ⟨n, h⟩ e (by show ¬ 1 ≤ n % 9; omega) (by show ¬ n % 9 = 8; omega)]
    dsimp only
    frame_out
    exact (first_eq _ _ _ _).trans (part_eq m c ⟨n, h⟩ i.1 i.2)
  · by_cases e3 : n % 9 = 8
    · rw [outsAt0_C m c ⟨n, h⟩ e (by show 1 ≤ n % 9; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 9; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last_eq (A B : FVec Ideal S512x2048 .f32) (r : Fin 512) (s : Fin 2048) :
    (k0_pay4 A B : FVec Ideal S512x2048 .f32) (ix2 r s) = (A (ix2 r s) : EReal) + B (ix2 r s) := by
  unfold k0_pay4
  pointwise []

theorem last (t : Fin cfg0.N) (e : t.val % 9 = 8) (r : Fin 512) (s : Fin 2048) :
    ((outsAt0 m c t.val t.isLt).1 : FVec Ideal S512x2048 .f32) (ix2 r s)
      = (((outsAt0 m c t.val t.isLt).2 : FVec Ideal S512x2048 .f32) (ix2 r s) : EReal) + (iblk m c 2 t : FVec Ideal S512x2048 .f32) (ix2 r s) := by
  rw [outsAt0_C m c t (by omega) (by omega) e]
  dsimp only
  frame_out
  exact last_eq _ _ _ _

theorem out : (dats m 0 c).arrAt 3 cfg0.N = product (m (c.tc.loc main_arg0)) (m (c.tc.loc main_arg1)) (m (c.tc.loc main_arg2)) := by
  refine (dats m 0 c).arrAt_eq_of_covers 3 _ (by decide +kernel) fun t hf y => ?_
  have e := (flush0_3 t).mp hf
  have hN : t.val < 144 := lt_of_lt_of_eq t.isLt (show cfg0.N = 144 from N_0)
  obtain ⟨r, s, rfl⟩ : ∃ (r : Fin 512) (s : Fin 2048), y = ix2 r s := exists_ix2 (n := 512) (m := 2048) y
  blk_simp
  rw [after0_3]
  refine (last m c t e r s).trans ?_
  rw [scratch m c t.val t.isLt (r, s), e]
  unfold product
  refine congrArg₂ (· + ·) ?_ (by blk_ext [iblk, V_main_arg2, idx t])
  have e0 : ((((View.whole main_v0).slice (win0_3.rect t)).emb (ix2 r s) 0 : Fin _) : ℕ) = 512 * (t.val / 9) + r.val := by blk_simp [idx t]; omega
  have e1 : ((((View.whole main_v0).slice (win0_3.rect t)).emb (ix2 r s) 1 : Fin _) : ℕ) = s.val := by blk_simp [idx t]
  refine Eq.trans (sum_congr rfl fun j hj => sum_congr rfl fun x hx => ?_) (blocks 2048 (fun x => entry (n := 8192) (m := 18432) (φ := .bf16) (m (c.tc.loc main_arg0)) ((((View.whole main_v0).slice (win0_3.rect t)).emb (ix2 r s) 0 : Fin _).val) x * entry (n := 2048) (m := 18432) (φ := .bf16) (m (c.tc.loc main_arg1)) ((((View.whole main_v0).slice (win0_3.rect t)).emb (ix2 r s) 1 : Fin _).val) x) 9)
  have hj' := mem_range.mp hj
  have hx' := mem_range.mp hx
  unfold term
  dsimp only
  rw [e0, e1]
  congr 2 <;> omega
end

theorem reference_frame : quiescent_InProjDxReferenceIdeal (hInProjDxReferenceIdeal := Cert.InProjDxReferenceIdeal.Gen.facts) := fun m ρ _ =>
  (θ_run _ _ _).mono (fun r h => ⟨fun c => (h c).2, sem_eq_zero_of_no_sems rfl r.2⟩) (Cert.InProjDxReferenceIdeal.Value.run m ρ)

theorem same : algebraic_InProjDxIdeal_InProjDxReferenceIdeal (hInProjDxIdeal := Cert.InProjDxIdeal.Gen.facts)
    (hInProjDxReferenceIdeal := Cert.InProjDxReferenceIdeal.Gen.facts) := by
  intro m g m' g' _ hargs
  refine ⟨fun c => product (m (c.tc.loc Cert.InProjDxIdeal.main_arg0)) (m (c.tc.loc Cert.InProjDxIdeal.main_arg1)) (m (c.tc.loc Cert.InProjDxIdeal.main_arg2)),
    (θ_run _ _ _).mono (fun r h c => ⟨(h c).1.trans (out m c), (h c).2⟩) (Cert.InProjDxIdeal.Value.run_blocks m g),
    (θ_run _ _ _).mono (fun r h c => ⟨(h c).1.trans ?_, (h c).2⟩) (Cert.InProjDxReferenceIdeal.Value.run m' g')⟩
  obtain ⟨h0, h1, h2⟩ := hargs c
  rw [h0, h1, h2]
  funext i
  obtain ⟨r, s, rfl⟩ := exists_ix2 i
  unfold product
  refine Eq.trans ?_ (congrArg (· + (m (c.tc.loc Cert.InProjDxIdeal.main_arg2) : FVec Ideal ⟨2, ![8192, 2048]⟩ .f32) (ix2 r s)) (sum_rows _ _ r s).symm)
  pointwise []

end Cert.InProjDxEqual
-- ==== Proof.InProjDw.lean ====
module
public import proofs.«01_k».proof.Proof.Products
public import proofs.«01_k».proof.Defs
public import proofs.«01_k».proof.Proof.Gen.InProjDwIdeal.Value
public import proofs.«01_k».proof.Proof.Gen.InProjDwReferenceIdeal.Run

/-! The gradient of the first product's weights: every block of the result adds up four products over a block of positions. -/

@[expose] public section
set_option maxRecDepth 16384
noncomputable section
open Idealize.ShloMosaic Idealize.SL.Sem Finset
namespace Cert.InProjDwEqual
open Cert.Products

/-- The product over all positions, at an index. -/
def product (a : FVec Ideal ⟨2, ![8192, 2048]⟩ .bf16) (b : FVec Ideal ⟨2, ![8192, 18432]⟩ .bf16) : FVec Ideal ⟨2, ![2048, 18432]⟩ .f32 :=
  fun i => ∑ x ∈ range 8192, entry a x ((i 0).val) * entry b x ((i 1).val)

section
open Cert.InProjDwIdeal Cert.InProjDwIdeal.Gen Cert.InProjDwIdeal.Value

theorem idx : ∀ t : Fin cfg0.N, win0_0.index t = ![t.val % 4, t.val / 4 % 2] ∧ win0_1.index t = ![t.val % 4, t.val / 8] ∧ win0_2.index t = ![t.val / 4 % 2, t.val / 8] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 1024 × Fin 1024) (x : ℕ) : EReal :=
  entry (n := 8192) (m := 2048) (φ := .bf16) (m (c.tc.loc main_arg0)) (2048 * (n % 4) + x) (1024 * (n / 4 % 2) + i.1.val)
    * entry (n := 8192) (m := 18432) (φ := .bf16) (m (c.tc.loc main_arg1)) (2048 * (n % 4) + x) (1024 * (n / 8) + i.2.val)

theorem part_eq (t : Fin cfg0.N) (r : Fin 1024) (s : Fin 1024) :
    (k0_pay1 (iblk m c 0 t) (iblk m c 1 t) : FVec Ideal S1024x1024 .f32) (ix2 r s) = ∑ x ∈ range 2048, term m c t.val (r, s) x := by
  have hN : t.val < 144 := lt_of_lt_of_eq t.isLt (show cfg0.N = 144 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S2048x1024 .bf16) (B : FVec Ideal S2048x1024 .bf16) (r : Fin 1024) (s : Fin 1024) :
    (k0_pay2 A B : FVec Ideal S1024x1024 .f32) (ix2 r s) = (k0_pay1 A B : FVec Ideal S1024x1024 .f32) (ix2 r s) := by
  unfold k0_pay2
  pointwise []

theorem next_eq (A : FVec Ideal S2048x1024 .bf16) (B : FVec Ideal S2048x1024 .bf16) (S : FVec Ideal S1024x1024 .f32) (r : Fin 1024) (s : Fin 1024) :
    (k0_pay3 A B S : FVec Ideal S1024x1024 .f32) (ix2 r s)
      = (S (ix2 r s) : EReal) + (k0_pay1 A B : FVec Ideal S1024x1024 .f32) (ix2 r s) := by
  unfold k0_pay3
  pointwise []

/-- After each point the scratch holds the sum of the products since the block of the result was begun. -/
theorem scratch (n : ℕ) (hn : n < cfg0.N) (i : Fin 1024 × Fin 1024) :
    ((outsAt0 m c n hn).2 : FVec Ideal S1024x1024 .f32) (ix2 i.1 i.2)
      = ∑ j ∈ range (n % 4 + 1), ∑ x ∈ range 2048, term m c (4 * (n / 4) + j) i x := by
  refine fold (K := 4) (by decide) (fun n hn i => ((outsAt0 m c n hn).2 : FVec Ideal S1024x1024 .f32) (ix2 i.1 i.2))
    (fun n i => ∑ x ∈ range 2048, term m c n i x) (fun n h e i => ?_) (fun n h h' e i => ?_) n hn i
  · rw [outsAt0_A m c ⟨n, h⟩ e (by show ¬ 1 ≤ n % 4; omega) (by show ¬ n % 4 = 3; omega)]
    dsimp only
    frame_out
    exact (first_eq _ _ _ _).trans (part_eq m c ⟨n, h⟩ i.1 i.2)
  · by_cases e3 : n % 4 = 3
    · rw [outsAt0_C m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last (t : Fin cfg0.N) (e : t.val % 4 = 3) (r : Fin 1024) (s : Fin 1024) :
    ((outsAt0 m c t.val t.isLt).1 : FVec Ideal S1024x1024 .f32) (ix2 r s) = ((outsAt0 m c t.val t.isLt).2 : FVec Ideal S1024x1024 .f32) (ix2 r s) := by
  rw [outsAt0_C m c t (by omega) (by omega) e]
  dsimp only
  frame_out

theorem out : (dats m 0 c).arrAt 2 cfg0.N = product (m (c.tc.loc main_arg0)) (m (c.tc.loc main_arg1)) := by
  refine (dats m 0 c).arrAt_eq_of_covers 2 _ (by decide +kernel) fun t hf y => ?_
  have e := (flush0_2 t).mp hf
  have hN : t.val < 144 := lt_of_lt_of_eq t.isLt (show cfg0.N = 144 from N_0)
  obtain ⟨r, s, rfl⟩ : ∃ (r : Fin 1024) (s : Fin 1024), y = ix2 r s := exists_ix2 (n := 1024) (m := 1024) y
  blk_simp
  rw [after0_2]
  refine (last m c t e r s).trans ?_
  rw [scratch m c t.val t.isLt (r, s), e]
  unfold product
  have e0 : ((((View.whole main_v0).slice (win0_2.rect t)).emb (ix2 r s) 0 : Fin _) : ℕ) = 1024 * (t.val / 4 % 2) + r.val := by blk_simp [idx t]; omega
  have e1 : ((((View.whole main_v0).slice (win0_2.rect t)).emb (ix2 r s) 1 : Fin _) : ℕ) = 1024 * (t.val / 8) + s.val := by blk_simp [idx t]; omega
  refine Eq.trans (sum_congr rfl fun j hj => sum_congr rfl fun x hx => ?_) (blocks 2048 (fun x => entry (n := 8192) (m := 2048) (φ := .bf16) (m (c.tc.loc main_arg0)) x ((((View.whole main_v0).slice (win0_2.rect t)).emb (ix2 r s) 0 : Fin _).val) * entry (n := 8192) (m := 18432) (φ := .bf16) (m (c.tc.loc main_arg1)) x ((((View.whole main_v0).slice (win0_2.rect t)).emb (ix2 r s) 1 : Fin _).val)) 4)
  have hj' := mem_range.mp hj
  have hx' := mem_range.mp hx
  unfold term
  dsimp only
  rw [e0, e1]
  congr 2 <;> omega
end

theorem reference_frame : quiescent_InProjDwReferenceIdeal (hInProjDwReferenceIdeal := Cert.InProjDwReferenceIdeal.Gen.facts) := fun m ρ _ =>
  (θ_run _ _ _).mono (fun r h => ⟨fun c => (h c).2, sem_eq_zero_of_no_sems rfl r.2⟩) (Cert.InProjDwReferenceIdeal.Value.run m ρ)

theorem same : algebraic_InProjDwIdeal_InProjDwReferenceIdeal (hInProjDwIdeal := Cert.InProjDwIdeal.Gen.facts)
    (hInProjDwReferenceIdeal := Cert.InProjDwReferenceIdeal.Gen.facts) := by
  intro m g m' g' _ hargs
  refine ⟨fun c => product (m (c.tc.loc Cert.InProjDwIdeal.main_arg0)) (m (c.tc.loc Cert.InProjDwIdeal.main_arg1)),
    (θ_run _ _ _).mono (fun r h c => ⟨(h c).1.trans (out m c), (h c).2⟩) (Cert.InProjDwIdeal.Value.run_blocks m g),
    (θ_run _ _ _).mono (fun r h c => ⟨(h c).1.trans ?_, (h c).2⟩) (Cert.InProjDwReferenceIdeal.Value.run m' g')⟩
  obtain ⟨h0, h1⟩ := hargs c
  rw [h0, h1]
  funext i
  obtain ⟨r, s, rfl⟩ := exists_ix2 i
  unfold product
  refine Eq.trans ?_ (sum_columns _ _ r s).symm
  pointwise []
  exact sum_congr rfl fun x _ => mul_comm _ _

end Cert.InProjDwEqual
-- ==== Proof.GateProjDx.lean ====
module
public import proofs.«01_k».proof.Proof.Products
public import proofs.«01_k».proof.Defs
public import proofs.«01_k».proof.Proof.Gen.GateProjDxIdeal.Value
public import proofs.«01_k».proof.Proof.Gen.GateProjDxReferenceIdeal.Run

/-! The gradient of what the product that the gates are taken of is given: every block of the result adds up four products. -/

@[expose] public section
set_option maxRecDepth 16384
noncomputable section
open Idealize.ShloMosaic Idealize.SL.Sem Finset
namespace Cert.GateProjDxEqual
open Cert.Products

/-- The product with the transposed weights, at an index. -/
def product (a : FVec Ideal ⟨2, ![8192, 8192]⟩ .bf16) (b : FVec Ideal ⟨2, ![2048, 8192]⟩ .bf16) : FVec Ideal ⟨2, ![8192, 2048]⟩ .f32 :=
  fun i => ∑ x ∈ range 8192, entry a ((i 0).val) x * entry b ((i 1).val) x

section
open Cert.GateProjDxIdeal Cert.GateProjDxIdeal.Gen Cert.GateProjDxIdeal.Value

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 512 × Fin 2048) (x : ℕ) : EReal :=
  entry (n := 8192) (m := 8192) (φ := .bf16) (m (c.tc.loc main_arg0)) (512 * (n / 4) + i.1.val) (2048 * (n % 4) + x)
    * entry (n := 2048) (m := 8192) (φ := .bf16) (m (c.tc.loc main_arg1)) i.2.val (2048 * (n % 4) + x)

theorem part_eq (t : Fin cfg0.N) (r : Fin 512) (s : Fin 2048) :
    (k0_pay1 (iblk m c 0 t) (iblk m c 1 t) : FVec Ideal S512x2048 .f32) (ix2 r s) = ∑ x ∈ range 2048, term m c t.val (r, s) x := by
  have hN : t.val < 64 := lt_of_lt_of_eq t.isLt (show cfg0.N = 64 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S512x2048 .bf16) (B : FVec Ideal S2048x2048 .bf16) (r : Fin 512) (s : Fin 2048) :
    (k0_pay2 A B : FVec Ideal S512x2048 .f32) (ix2 r s) = (k0_pay1 A B : FVec Ideal S512x2048 .f32) (ix2 r s) := by
  unfold k0_pay2
  pointwise []

theorem next_eq (A : FVec Ideal S512x2048 .bf16) (B : FVec Ideal S2048x2048 .bf16) (S : FVec Ideal S512x2048 .f32) (r : Fin 512) (s : Fin 2048) :
    (k0_pay3 A B S : FVec Ideal S512x2048 .f32) (ix2 r s)
      = (S (ix2 r s) : EReal) + (k0_pay1 A B : FVec Ideal S512x2048 .f32) (ix2 r s) := by
  unfold k0_pay3
  pointwise []

/-- After each point the scratch holds the sum of the products since the block of the result was begun. -/
theorem scratch (n : ℕ) (hn : n < cfg0.N) (i : Fin 512 × Fin 2048) :
    ((outsAt0 m c n hn).2 : FVec Ideal S512x2048 .f32) (ix2 i.1 i.2)
      = ∑ j ∈ range (n % 4 + 1), ∑ x ∈ range 2048, term m c (4 * (n / 4) + j) i x := by
  refine fold (K := 4) (by decide) (fun n hn i => ((outsAt0 m c n hn).2 : FVec Ideal S512x2048 .f32) (ix2 i.1 i.2))
    (fun n i => ∑ x ∈ range 2048, term m c n i x) (fun n h e i => ?_) (fun n h h' e i => ?_) n hn i
  · rw [outsAt0_A m c ⟨n, h⟩ e (by show ¬ 1 ≤ n % 4; omega) (by show ¬ n % 4 = 3; omega)]
    dsimp only
    frame_out
    exact (first_eq _ _ _ _).trans (part_eq m c ⟨n, h⟩ i.1 i.2)
  · by_cases e3 : n % 4 = 3
    · rw [outsAt0_C m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last (t : Fin cfg0.N) (e : t.val % 4 = 3) (r : Fin 512) (s : Fin 2048) :
    ((outsAt0 m c t.val t.isLt).1 : FVec Ideal S512x2048 .f32) (ix2 r s) = ((outsAt0 m c t.val t.isLt).2 : FVec Ideal S512x2048 .f32) (ix2 r s) := by
  rw [outsAt0_C m c t (by omega) (by omega) e]
  dsimp only
  frame_out

theorem out : (dats m 0 c).arrAt 2 cfg0.N = product (m (c.tc.loc main_arg0)) (m (c.tc.loc main_arg1)) := by
  refine (dats m 0 c).arrAt_eq_of_covers 2 _ (by decide +kernel) fun t hf y => ?_
  have e := (flush0_2 t).mp hf
  have hN : t.val < 64 := lt_of_lt_of_eq t.isLt (show cfg0.N = 64 from N_0)
  obtain ⟨r, s, rfl⟩ : ∃ (r : Fin 512) (s : Fin 2048), y = ix2 r s := exists_ix2 (n := 512) (m := 2048) y
  blk_simp
  rw [after0_2]
  refine (last m c t e r s).trans ?_
  rw [scratch m c t.val t.isLt (r, s), e]
  unfold product
  have e0 : ((((View.whole main_v0).slice (win0_2.rect t)).emb (ix2 r s) 0 : Fin _) : ℕ) = 512 * (t.val / 4) + r.val := by blk_simp [idx t]; omega
  have e1 : ((((View.whole main_v0).slice (win0_2.rect t)).emb (ix2 r s) 1 : Fin _) : ℕ) = s.val := by blk_simp [idx t]
  refine Eq.trans (sum_congr rfl fun j hj => sum_congr rfl fun x hx => ?_) (blocks 2048 (fun x => entry (n := 8192) (m := 8192) (φ := .bf16) (m (c.tc.loc main_arg0)) ((((View.whole main_v0).slice (win0_2.rect t)).emb (ix2 r s) 0 : Fin _).val) x * entry (n := 2048) (m := 8192) (φ := .bf16) (m (c.tc.loc main_arg1)) ((((View.whole main_v0).slice (win0_2.rect t)).emb (ix2 r s) 1 : Fin _).val) x) 4)
  have hj' := mem_range.mp hj
  have hx' := mem_range.mp hx
  unfold term
  dsimp only
  rw [e0, e1]
  congr 2 <;> omega
end

theorem reference_frame : quiescent_GateProjDxReferenceIdeal (hGateProjDxReferenceIdeal := Cert.GateProjDxReferenceIdeal.Gen.facts) := fun m ρ _ =>
  (θ_run _ _ _).mono (fun r h => ⟨fun c => (h c).2, sem_eq_zero_of_no_sems rfl r.2⟩) (Cert.GateProjDxReferenceIdeal.Value.run m ρ)

theorem same : algebraic_GateProjDxIdeal_GateProjDxReferenceIdeal (hGateProjDxIdeal := Cert.GateProjDxIdeal.Gen.facts)
    (hGateProjDxReferenceIdeal := Cert.GateProjDxReferenceIdeal.Gen.facts) := by
  intro m g m' g' _ hargs
  refine ⟨fun c => product (m (c.tc.loc Cert.GateProjDxIdeal.main_arg0)) (m (c.tc.loc Cert.GateProjDxIdeal.main_arg1)),
    (θ_run _ _ _).mono (fun r h c => ⟨(h c).1.trans (out m c), (h c).2⟩) (Cert.GateProjDxIdeal.Value.run_blocks m g),
    (θ_run _ _ _).mono (fun r h c => ⟨(h c).1.trans ?_, (h c).2⟩) (Cert.GateProjDxReferenceIdeal.Value.run m' g')⟩
  obtain ⟨h0, h1⟩ := hargs c
  rw [h0, h1]
  funext i
  obtain ⟨r, s, rfl⟩ := exists_ix2 i
  unfold product
  refine Eq.trans ?_ (sum_rows _ _ r s).symm
  pointwise []

end Cert.GateProjDxEqual
-- ==== Proof.GateProjDw.lean ====
module
public import proofs.«01_k».proof.Proof.Products
public import proofs.«01_k».proof.Defs
public import proofs.«01_k».proof.Proof.Gen.GateProjDwIdeal.Value
public import proofs.«01_k».proof.Proof.Gen.GateProjDwReferenceIdeal.Run

/-! The gradient of the weights of the product that the gates are taken of: every block of the result adds up four products over a block of positions. -/

@[expose] public section
set_option maxRecDepth 16384
noncomputable section
open Idealize.ShloMosaic Idealize.SL.Sem Finset
namespace Cert.GateProjDwEqual
open Cert.Products

/-- The product over all positions, at an index. -/
def product (a : FVec Ideal ⟨2, ![8192, 2048]⟩ .bf16) (b : FVec Ideal ⟨2, ![8192, 8192]⟩ .bf16) : FVec Ideal ⟨2, ![2048, 8192]⟩ .f32 :=
  fun i => ∑ x ∈ range 8192, entry a x ((i 0).val) * entry b x ((i 1).val)

section
open Cert.GateProjDwIdeal Cert.GateProjDwIdeal.Gen Cert.GateProjDwIdeal.Value

theorem idx : ∀ t : Fin cfg0.N, win0_0.index t = ![t.val % 4, t.val / 4 % 2] ∧ win0_1.index t = ![t.val % 4, t.val / 8] ∧ win0_2.index t = ![t.val / 4 % 2, t.val / 8] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 1024 × Fin 1024) (x : ℕ) : EReal :=
  entry (n := 8192) (m := 2048) (φ := .bf16) (m (c.tc.loc main_arg0)) (2048 * (n % 4) + x) (1024 * (n / 4 % 2) + i.1.val)
    * entry (n := 8192) (m := 8192) (φ := .bf16) (m (c.tc.loc main_arg1)) (2048 * (n % 4) + x) (1024 * (n / 8) + i.2.val)

theorem part_eq (t : Fin cfg0.N) (r : Fin 1024) (s : Fin 1024) :
    (k0_pay1 (iblk m c 0 t) (iblk m c 1 t) : FVec Ideal S1024x1024 .f32) (ix2 r s) = ∑ x ∈ range 2048, term m c t.val (r, s) x := by
  have hN : t.val < 64 := lt_of_lt_of_eq t.isLt (show cfg0.N = 64 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S2048x1024 .bf16) (B : FVec Ideal S2048x1024 .bf16) (r : Fin 1024) (s : Fin 1024) :
    (k0_pay2 A B : FVec Ideal S1024x1024 .f32) (ix2 r s) = (k0_pay1 A B : FVec Ideal S1024x1024 .f32) (ix2 r s) := by
  unfold k0_pay2
  pointwise []

theorem next_eq (A : FVec Ideal S2048x1024 .bf16) (B : FVec Ideal S2048x1024 .bf16) (S : FVec Ideal S1024x1024 .f32) (r : Fin 1024) (s : Fin 1024) :
    (k0_pay3 A B S : FVec Ideal S1024x1024 .f32) (ix2 r s)
      = (S (ix2 r s) : EReal) + (k0_pay1 A B : FVec Ideal S1024x1024 .f32) (ix2 r s) := by
  unfold k0_pay3
  pointwise []

/-- After each point the scratch holds the sum of the products since the block of the result was begun. -/
theorem scratch (n : ℕ) (hn : n < cfg0.N) (i : Fin 1024 × Fin 1024) :
    ((outsAt0 m c n hn).2 : FVec Ideal S1024x1024 .f32) (ix2 i.1 i.2)
      = ∑ j ∈ range (n % 4 + 1), ∑ x ∈ range 2048, term m c (4 * (n / 4) + j) i x := by
  refine fold (K := 4) (by decide) (fun n hn i => ((outsAt0 m c n hn).2 : FVec Ideal S1024x1024 .f32) (ix2 i.1 i.2))
    (fun n i => ∑ x ∈ range 2048, term m c n i x) (fun n h e i => ?_) (fun n h h' e i => ?_) n hn i
  · rw [outsAt0_A m c ⟨n, h⟩ e (by show ¬ 1 ≤ n % 4; omega) (by show ¬ n % 4 = 3; omega)]
    dsimp only
    frame_out
    exact (first_eq _ _ _ _).trans (part_eq m c ⟨n, h⟩ i.1 i.2)
  · by_cases e3 : n % 4 = 3
    · rw [outsAt0_C m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last (t : Fin cfg0.N) (e : t.val % 4 = 3) (r : Fin 1024) (s : Fin 1024) :
    ((outsAt0 m c t.val t.isLt).1 : FVec Ideal S1024x1024 .f32) (ix2 r s) = ((outsAt0 m c t.val t.isLt).2 : FVec Ideal S1024x1024 .f32) (ix2 r s) := by
  rw [outsAt0_C m c t (by omega) (by omega) e]
  dsimp only
  frame_out

theorem out : (dats m 0 c).arrAt 2 cfg0.N = product (m (c.tc.loc main_arg0)) (m (c.tc.loc main_arg1)) := by
  refine (dats m 0 c).arrAt_eq_of_covers 2 _ (by decide +kernel) fun t hf y => ?_
  have e := (flush0_2 t).mp hf
  have hN : t.val < 64 := lt_of_lt_of_eq t.isLt (show cfg0.N = 64 from N_0)
  obtain ⟨r, s, rfl⟩ : ∃ (r : Fin 1024) (s : Fin 1024), y = ix2 r s := exists_ix2 (n := 1024) (m := 1024) y
  blk_simp
  rw [after0_2]
  refine (last m c t e r s).trans ?_
  rw [scratch m c t.val t.isLt (r, s), e]
  unfold product
  have e0 : ((((View.whole main_v0).slice (win0_2.rect t)).emb (ix2 r s) 0 : Fin _) : ℕ) = 1024 * (t.val / 4 % 2) + r.val := by blk_simp [idx t]; omega
  have e1 : ((((View.whole main_v0).slice (win0_2.rect t)).emb (ix2 r s) 1 : Fin _) : ℕ) = 1024 * (t.val / 8) + s.val := by blk_simp [idx t]; omega
  refine Eq.trans (sum_congr rfl fun j hj => sum_congr rfl fun x hx => ?_) (blocks 2048 (fun x => entry (n := 8192) (m := 2048) (φ := .bf16) (m (c.tc.loc main_arg0)) x ((((View.whole main_v0).slice (win0_2.rect t)).emb (ix2 r s) 0 : Fin _).val) * entry (n := 8192) (m := 8192) (φ := .bf16) (m (c.tc.loc main_arg1)) x ((((View.whole main_v0).slice (win0_2.rect t)).emb (ix2 r s) 1 : Fin _).val)) 4)
  have hj' := mem_range.mp hj
  have hx' := mem_range.mp hx
  unfold term
  dsimp only
  rw [e0, e1]
  congr 2 <;> omega
end

theorem reference_frame : quiescent_GateProjDwReferenceIdeal (hGateProjDwReferenceIdeal := Cert.GateProjDwReferenceIdeal.Gen.facts) := fun m ρ _ =>
  (θ_run _ _ _).mono (fun r h => ⟨fun c => (h c).2, sem_eq_zero_of_no_sems rfl r.2⟩) (Cert.GateProjDwReferenceIdeal.Value.run m ρ)

theorem same : algebraic_GateProjDwIdeal_GateProjDwReferenceIdeal (hGateProjDwIdeal := Cert.GateProjDwIdeal.Gen.facts)
    (hGateProjDwReferenceIdeal := Cert.GateProjDwReferenceIdeal.Gen.facts) := by
  intro m g m' g' _ hargs
  refine ⟨fun c => product (m (c.tc.loc Cert.GateProjDwIdeal.main_arg0)) (m (c.tc.loc Cert.GateProjDwIdeal.main_arg1)),
    (θ_run _ _ _).mono (fun r h c => ⟨(h c).1.trans (out m c), (h c).2⟩) (Cert.GateProjDwIdeal.Value.run_blocks m g),
    (θ_run _ _ _).mono (fun r h c => ⟨(h c).1.trans ?_, (h c).2⟩) (Cert.GateProjDwReferenceIdeal.Value.run m' g')⟩
  obtain ⟨h0, h1⟩ := hargs c
  rw [h0, h1]
  funext i
  obtain ⟨r, s, rfl⟩ := exists_ix2 i
  unfold product
  refine Eq.trans ?_ (sum_columns _ _ r s).symm
  pointwise []
  exact sum_congr rfl fun x _ => mul_comm _ _

end Cert.GateProjDwEqual
-- ==== Proof.BranchProjDx.lean ====
module
public import proofs.«01_k».proof.Proof.Products
public import proofs.«01_k».proof.Defs
public import proofs.«01_k».proof.Proof.Gen.BranchProjDxIdeal.Value
public import proofs.«01_k».proof.Proof.Gen.BranchProjDxReferenceIdeal.Run

/-! The gradient of the four branches' outputs: every block of the result is one product. -/

@[expose] public section
set_option maxRecDepth 16384
noncomputable section
open Idealize.ShloMosaic Idealize.SL.Sem Finset
namespace Cert.BranchProjDxEqual
open Cert.Products

/-- The four products with the transposed weights side by side, at an index. -/
def product (a : FVec Ideal ⟨2, ![8192, 8192]⟩ .bf16) (b : FVec Ideal ⟨2, ![4096, 2048]⟩ .bf16) : FVec Ideal ⟨2, ![8192, 4096]⟩ .f32 :=
  fun i => have hi : (i 1).val < 4096 := (i 1).isLt
    ∑ x : Fin 2048, (a (ix2 (i 0) ⟨(i 1).val / 1024 * 2048 + x.val, by omega⟩) : EReal) * b (ix2 (i 1) x)

section
open Cert.BranchProjDxIdeal Cert.BranchProjDxIdeal.Gen Cert.BranchProjDxIdeal.Value

theorem idx : ∀ t : Fin cfg0.N, win0_0.index t = ![t.val % 8, t.val / 8] ∧ win0_1.index t = ![t.val / 8, 0] ∧ win0_2.index t = ![t.val % 8, t.val / 8] :=
  (by decide +kernel : ∀ t : Fin grid0.N, _)

theorem out (m : (ℓ : Loc nD τ sig) → Buf (Elt Ideal) ℓ) (c : Dev nD) :
    (dats m 0 c).arrAt 2 cfg0.N = product (m (c.tc.loc main_arg0)) (m (c.tc.loc main_arg1)) := by
  refine (dats m 0 c).arrAt_eq_of_covers 2 _ (by decide +kernel) fun t hf y => ?_
  blk_simp
  rw [after0_2]
  unfold outsAt0
  frame_out
  unfold k0_pay1 product
  pointwise []
  exact sum_mul_congr (fun x => by blk_ext [iblk, V_main_arg0, idx t]) (fun x => by blk_ext [iblk, V_main_arg1, idx t])
end

section
open Cert.BranchProjDxReferenceIdeal Cert.BranchProjDxReferenceIdeal.Gen

theorem reference_outer (D : FVec Ideal S4x8192x1024 .f32) (r : Fin 8192) (s : Fin 4096) :
    (shapeCast S8192x4096 (transpose S8192x4x1024 [1, 0, 2] D transposes_S4x8192x1024_S8192x4x1024_1_0_2)
      shapeCasts_S8192x4x1024_S8192x4096 : FVec Ideal S8192x4096 .f32) (ix2 r s)
    = D (ix3 ⟨s.val / 1024, by omega⟩ r ⟨s.val % 1024, Nat.mod_lt _ (by decide)⟩) := by
  pointwise []

theorem reference_product (X : FVec Ideal S4x2048x8192 .f32) (Y : FVec Ideal S4x1024x2048 .f32) (g : Fin 4) (r : Fin 8192) (c : Fin 1024) :
    (Host.dotGeneral (φ₁ := .f32) (φ₂ := .f32) dot_S4x2048x8192_S4x1024x2048_S4x8192x1024_1_2_2_1_0_0 none X Y : FVec Ideal S4x8192x1024 .f32)
      (ix3 g r c) = ∑ d : Fin 2048, X (ix3 g d r) * Y (ix3 g c d) := by
  pointwise []

theorem reference_rows (a : FVec Ideal S8192x8192 .f32) (g : Fin 4) (d : Fin 2048) (r : Fin 8192) :
    (transpose S4x2048x8192 [1, 2, 0] (shapeCast S8192x4x2048 a shapeCasts_S8192x8192_S8192x4x2048)
      transposes_S8192x4x2048_S4x2048x8192_1_2_0 : FVec Ideal S4x2048x8192 .f32) (ix3 g d r)
      = a (ix2 r ⟨g.val * 2048 + d.val, by omega⟩) := by
  pointwise []

theorem reference_weights (a : FVec Ideal S4096x2048 .f32) (g : Fin 4) (c : Fin 1024) (d : Fin 2048) :
    (shapeCast S4x1024x2048 a shapeCasts_S4096x2048_S4x1024x2048 : FVec Ideal S4x1024x2048 .f32) (ix3 g c d)
      = a (ix2 ⟨g.val * 1024 + c.val, by omega⟩ d) := by
  pointwise []

end

theorem reference_frame : quiescent_BranchProjDxReferenceIdeal (hBranchProjDxReferenceIdeal := Cert.BranchProjDxReferenceIdeal.Gen.facts) := fun m ρ _ =>
  (θ_run _ _ _).mono (fun r h => ⟨fun c => (h c).2, sem_eq_zero_of_no_sems rfl r.2⟩) (Cert.BranchProjDxReferenceIdeal.Value.run m ρ)

theorem same : algebraic_BranchProjDxIdeal_BranchProjDxReferenceIdeal (hBranchProjDxIdeal := Cert.BranchProjDxIdeal.Gen.facts)
    (hBranchProjDxReferenceIdeal := Cert.BranchProjDxReferenceIdeal.Gen.facts) := by
  intro m g m' g' _ hargs
  refine ⟨fun c => product (m (c.tc.loc Cert.BranchProjDxIdeal.main_arg0)) (m (c.tc.loc Cert.BranchProjDxIdeal.main_arg1)),
    (θ_run _ _ _).mono (fun r h c => ⟨(h c).1.trans (out m c), (h c).2⟩) (Cert.BranchProjDxIdeal.Value.run_blocks m g),
    (θ_run _ _ _).mono (fun r h c => ⟨(h c).1.trans ?_, (h c).2⟩) (Cert.BranchProjDxReferenceIdeal.Value.run m' g')⟩
  obtain ⟨h0, h1⟩ := hargs c
  rw [h0, h1]
  funext i
  unfold product
  obtain ⟨r, s, rfl⟩ := exists_ix2 i
  rw [reference_outer, reference_product]
  exact sum_mul_congr (fun x => reference_rows _ _ _ _) fun x => (reference_weights _ _ _ _).trans
    (congrArg (fun j : Fin 4096 => (m (c.tc.loc Cert.BranchProjDxIdeal.main_arg1) : FVec Ideal ⟨2, ![4096, 2048]⟩ .bf16) (ix2 j x))
      (Fin.ext (Nat.div_add_mod' s.val 1024)))

end Cert.BranchProjDxEqual
-- ==== Proof.BranchProjDw.lean ====
module
public import proofs.«01_k».proof.Proof.Products
public import proofs.«01_k».proof.Defs
public import proofs.«01_k».proof.Proof.Gen.BranchProjDwIdeal.Value
public import proofs.«01_k».proof.Proof.Gen.BranchProjDwReferenceIdeal.Run

/-! The gradient of the four branches' weights: every block of the result adds up four products over a block of positions. -/

@[expose] public section
set_option maxRecDepth 16384
noncomputable section
open Idealize.ShloMosaic Idealize.SL.Sem Finset
namespace Cert.BranchProjDwEqual
open Cert.Products

/-- The four products over all positions, one below the other, at an index. -/
def product (a : FVec Ideal ⟨2, ![8192, 4096]⟩ .bf16) (b : FVec Ideal ⟨2, ![8192, 8192]⟩ .bf16) : FVec Ideal ⟨2, ![4096, 2048]⟩ .f32 :=
  fun i => ∑ x ∈ range 8192, entry a x ((i 0).val) * entry b x ((i 0).val / 1024 * 2048 + (i 1).val)

section
open Cert.BranchProjDwIdeal Cert.BranchProjDwIdeal.Gen Cert.BranchProjDwIdeal.Value

theorem idx : ∀ t : Fin cfg0.N, win0_0.index t = ![t.val % 4, t.val / 8] ∧ win0_1.index t = ![t.val % 4, t.val / 4] ∧ win0_2.index t = ![t.val / 8, t.val / 4 % 2] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 1024 × Fin 1024) (x : ℕ) : EReal :=
  entry (n := 8192) (m := 4096) (φ := .bf16) (m (c.tc.loc main_arg0)) (2048 * (n % 4) + x) (1024 * (n / 8) + i.1.val)
    * entry (n := 8192) (m := 8192) (φ := .bf16) (m (c.tc.loc main_arg1)) (2048 * (n % 4) + x) (1024 * (n / 4) + i.2.val)

theorem part_eq (t : Fin cfg0.N) (r : Fin 1024) (s : Fin 1024) :
    (k0_pay1 (iblk m c 0 t) (iblk m c 1 t) : FVec Ideal S1024x1024 .f32) (ix2 r s) = ∑ x ∈ range 2048, term m c t.val (r, s) x := by
  have hN : t.val < 32 := lt_of_lt_of_eq t.isLt (show cfg0.N = 32 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S2048x1024 .bf16) (B : FVec Ideal S2048x1024 .bf16) (r : Fin 1024) (s : Fin 1024) :
    (k0_pay2 A B : FVec Ideal S1024x1024 .f32) (ix2 r s) = (k0_pay1 A B : FVec Ideal S1024x1024 .f32) (ix2 r s) := by
  unfold k0_pay2
  pointwise []

theorem next_eq (A : FVec Ideal S2048x1024 .bf16) (B : FVec Ideal S2048x1024 .bf16) (S : FVec Ideal S1024x1024 .f32) (r : Fin 1024) (s : Fin 1024) :
    (k0_pay3 A B S : FVec Ideal S1024x1024 .f32) (ix2 r s)
      = (S (ix2 r s) : EReal) + (k0_pay1 A B : FVec Ideal S1024x1024 .f32) (ix2 r s) := by
  unfold k0_pay3
  pointwise []

/-- After each point the scratch holds the sum of the products since the block of the result was begun. -/
theorem scratch (n : ℕ) (hn : n < cfg0.N) (i : Fin 1024 × Fin 1024) :
    ((outsAt0 m c n hn).2 : FVec Ideal S1024x1024 .f32) (ix2 i.1 i.2)
      = ∑ j ∈ range (n % 4 + 1), ∑ x ∈ range 2048, term m c (4 * (n / 4) + j) i x := by
  refine fold (K := 4) (by decide) (fun n hn i => ((outsAt0 m c n hn).2 : FVec Ideal S1024x1024 .f32) (ix2 i.1 i.2))
    (fun n i => ∑ x ∈ range 2048, term m c n i x) (fun n h e i => ?_) (fun n h h' e i => ?_) n hn i
  · rw [outsAt0_A m c ⟨n, h⟩ e (by show ¬ 1 ≤ n % 4; omega) (by show ¬ n % 4 = 3; omega)]
    dsimp only
    frame_out
    exact (first_eq _ _ _ _).trans (part_eq m c ⟨n, h⟩ i.1 i.2)
  · by_cases e3 : n % 4 = 3
    · rw [outsAt0_C m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last (t : Fin cfg0.N) (e : t.val % 4 = 3) (r : Fin 1024) (s : Fin 1024) :
    ((outsAt0 m c t.val t.isLt).1 : FVec Ideal S1024x1024 .f32) (ix2 r s) = ((outsAt0 m c t.val t.isLt).2 : FVec Ideal S1024x1024 .f32) (ix2 r s) := by
  rw [outsAt0_C m c t (by omega) (by omega) e]
  dsimp only
  frame_out

theorem out : (dats m 0 c).arrAt 2 cfg0.N = product (m (c.tc.loc main_arg0)) (m (c.tc.loc main_arg1)) := by
  refine (dats m 0 c).arrAt_eq_of_covers 2 _ (by decide +kernel) fun t hf y => ?_
  have e := (flush0_2 t).mp hf
  have hN : t.val < 32 := lt_of_lt_of_eq t.isLt (show cfg0.N = 32 from N_0)
  obtain ⟨r, s, rfl⟩ : ∃ (r : Fin 1024) (s : Fin 1024), y = ix2 r s := exists_ix2 (n := 1024) (m := 1024) y
  blk_simp
  rw [after0_2]
  refine (last m c t e r s).trans ?_
  rw [scratch m c t.val t.isLt (r, s), e]
  unfold product
  have e0 : ((((View.whole main_v0).slice (win0_2.rect t)).emb (ix2 r s) 0 : Fin _) : ℕ) = 1024 * (t.val / 8) + r.val := by blk_simp [idx t]; omega
  have e1 : ((((View.whole main_v0).slice (win0_2.rect t)).emb (ix2 r s) 1 : Fin _) : ℕ) = 1024 * (t.val / 4 % 2) + s.val := by blk_simp [idx t]; omega
  refine Eq.trans (sum_congr rfl fun j hj => sum_congr rfl fun x hx => ?_) (blocks 2048 (fun x => entry (n := 8192) (m := 4096) (φ := .bf16) (m (c.tc.loc main_arg0)) x ((((View.whole main_v0).slice (win0_2.rect t)).emb (ix2 r s) 0 : Fin _).val) * entry (n := 8192) (m := 8192) (φ := .bf16) (m (c.tc.loc main_arg1)) x ((((View.whole main_v0).slice (win0_2.rect t)).emb (ix2 r s) 0 : Fin _).val / 1024 * 2048 + (((View.whole main_v0).slice (win0_2.rect t)).emb (ix2 r s) 1 : Fin _).val)) 4)
  have hj' := mem_range.mp hj
  have hx' := mem_range.mp hx
  unfold term
  dsimp only
  rw [e0, e1]
  congr 2 <;> omega
end

section
open Cert.BranchProjDwReferenceIdeal Cert.BranchProjDwReferenceIdeal.Gen

theorem reference_outer (D : FVec Ideal S4x2048x1024 .f32) (r : Fin 4096) (s : Fin 2048) :
    (shapeCast S4096x2048 (transpose S4x1024x2048 [0, 2, 1] D transposes_S4x2048x1024_S4x1024x2048_0_2_1)
      shapeCasts_S4x1024x2048_S4096x2048 : FVec Ideal S4096x2048 .f32) (ix2 r s)
    = D (ix3 ⟨r.val / 1024, by omega⟩ s ⟨r.val % 1024, Nat.mod_lt _ (by decide)⟩) := by
  pointwise []

theorem reference_product (X : FVec Ideal S4x2048x8192 .f32) (Y : FVec Ideal S8192x4x1024 .f32) (g : Fin 4) (d : Fin 2048) (c : Fin 1024) :
    (Host.dotGeneral (φ₁ := .f32) (φ₂ := .f32) dot_S4x2048x8192_S8192x4x1024_S4x2048x1024_2_0_1_2_0_1 none X Y : FVec Ideal S4x2048x1024 .f32)
      (ix3 g d c) = ∑ x : Fin 8192, X (ix3 g d x) * Y (ix3 x g c) := by
  pointwise []

theorem reference_given (a : FVec Ideal S8192x8192 .f32) (g : Fin 4) (d : Fin 2048) (r : Fin 8192) :
    (transpose S4x2048x8192 [1, 2, 0] (shapeCast S8192x4x2048 a shapeCasts_S8192x8192_S8192x4x2048)
      transposes_S8192x4x2048_S4x2048x8192_1_2_0 : FVec Ideal S4x2048x8192 .f32) (ix3 g d r)
      = a (ix2 r ⟨g.val * 2048 + d.val, by omega⟩) := by
  pointwise []

theorem reference_rows (a : FVec Ideal S8192x4096 .f32) (r : Fin 8192) (g : Fin 4) (c : Fin 1024) :
    (shapeCast S8192x4x1024 a shapeCasts_S8192x4096_S8192x4x1024 : FVec Ideal S8192x4x1024 .f32) (ix3 r g c)
      = a (ix2 r ⟨g.val * 1024 + c.val, by omega⟩) := by
  pointwise []

theorem reference_eq (a : FVec Ideal S8192x4096 .f32) (b : FVec Ideal S8192x8192 .f32) (r : Fin 4096) (s : Fin 2048) :
    (shapeCast S4096x2048 (transpose S4x1024x2048 [0, 2, 1] (Host.dotGeneral (φ₁ := .f32) (φ₂ := .f32)
        dot_S4x2048x8192_S8192x4x1024_S4x2048x1024_2_0_1_2_0_1 none
        (transpose S4x2048x8192 [1, 2, 0] (shapeCast S8192x4x2048 b shapeCasts_S8192x8192_S8192x4x2048)
          transposes_S8192x4x2048_S4x2048x8192_1_2_0)
        (shapeCast S8192x4x1024 a shapeCasts_S8192x4096_S8192x4x1024)) transposes_S4x2048x1024_S4x1024x2048_0_2_1)
      shapeCasts_S4x1024x2048_S4096x2048 : FVec Ideal S4096x2048 .f32) (ix2 r s)
    = ∑ x : Fin 8192, (b (ix2 x ⟨r.val / 1024 * 2048 + s.val, by omega⟩) : EReal) * a (ix2 x r) := by
  rw [reference_outer, reference_product]
  refine sum_mul_congr (fun x => reference_given _ _ _ _) fun x => (reference_rows _ _ _ _).trans ?_
  exact congrArg (fun j : Fin 4096 => a (ix2 x j)) (Fin.ext (Nat.div_add_mod' r.val 1024))

end

theorem reference_frame : quiescent_BranchProjDwReferenceIdeal (hBranchProjDwReferenceIdeal := Cert.BranchProjDwReferenceIdeal.Gen.facts) := fun m ρ _ =>
  (θ_run _ _ _).mono (fun r h => ⟨fun c => (h c).2, sem_eq_zero_of_no_sems rfl r.2⟩) (Cert.BranchProjDwReferenceIdeal.Value.run m ρ)

theorem same : algebraic_BranchProjDwIdeal_BranchProjDwReferenceIdeal (hBranchProjDwIdeal := Cert.BranchProjDwIdeal.Gen.facts)
    (hBranchProjDwReferenceIdeal := Cert.BranchProjDwReferenceIdeal.Gen.facts) := by
  intro m g m' g' _ hargs
  refine ⟨fun c => product (m (c.tc.loc Cert.BranchProjDwIdeal.main_arg0)) (m (c.tc.loc Cert.BranchProjDwIdeal.main_arg1)),
    (θ_run _ _ _).mono (fun r h c => ⟨(h c).1.trans (out m c), (h c).2⟩) (Cert.BranchProjDwIdeal.Value.run_blocks m g),
    (θ_run _ _ _).mono (fun r h c => ⟨(h c).1.trans ?_, (h c).2⟩) (Cert.BranchProjDwReferenceIdeal.Value.run m' g')⟩
  obtain ⟨h0, h1⟩ := hargs c
  rw [h0, h1]
  funext i
  obtain ⟨r, s, rfl⟩ := exists_ix2 i
  unfold product
  refine (reference_eq _ _ r s).trans ?_
  exact Eq.trans (sum_congr rfl fun x _ => mul_comm _ _) (sum_columns _ _ r ⟨r.val / 1024 * 2048 + s.val, by omega⟩).symm

end Cert.BranchProjDwEqual
-- ==== Proof.OutProjDx.lean ====
module
public import proofs.«01_k».proof.Proof.Products
public import proofs.«01_k».proof.Defs
public import proofs.«01_k».proof.Proof.Gen.OutProjDxIdeal.Value
public import proofs.«01_k».proof.Proof.Gen.OutProjDxReferenceIdeal.Run

/-! The gradient of what the output product is given: every block of rows of the result is one product. -/

@[expose] public section
set_option maxRecDepth 16384
noncomputable section
open Idealize.ShloMosaic Idealize.SL.Sem Finset
namespace Cert.OutProjDxEqual
open Cert.Products

/-- The product with the transposed weights, at an index. -/
def product (a : FVec Ideal ⟨2, ![8192, 2048]⟩ .f32) (b : FVec Ideal ⟨2, ![2048, 2048]⟩ .bf16) : FVec Ideal ⟨2, ![8192, 2048]⟩ .f32 :=
  fun i => ∑ x : Fin 2048, (a (ix2 (i 0) x) : EReal) * b (ix2 (i 1) x)

section
open Cert.OutProjDxIdeal Cert.OutProjDxIdeal.Gen Cert.OutProjDxIdeal.Value

theorem idx : ∀ t : Fin cfg0.N, win0_0.index t = ![t.val, 0] ∧ win0_1.index t = ![0, 0] ∧ win0_2.index t = ![t.val, 0] :=
  (by decide +kernel : ∀ t : Fin grid0.N, _)

theorem out (m : (ℓ : Loc nD τ sig) → Buf (Elt Ideal) ℓ) (c : Dev nD) :
    (dats m 0 c).arrAt 2 cfg0.N = product (m (c.tc.loc main_arg0)) (m (c.tc.loc main_arg1)) := by
  refine (dats m 0 c).arrAt_eq_of_covers 2 _ (by decide +kernel) fun t hf y => ?_
  blk_simp
  rw [after0_2]
  unfold outsAt0
  frame_out
  unfold k0_pay1 product
  pointwise []
  exact sum_mul_congr (fun x => by blk_ext [iblk, V_main_arg0, idx t]) (fun x => by blk_ext [iblk, V_main_arg1, idx t])
end

theorem reference_frame : quiescent_OutProjDxReferenceIdeal (hOutProjDxReferenceIdeal := Cert.OutProjDxReferenceIdeal.Gen.facts) := fun m ρ _ =>
  (θ_run _ _ _).mono (fun r h => ⟨fun c => (h c).2, sem_eq_zero_of_no_sems rfl r.2⟩) (Cert.OutProjDxReferenceIdeal.Value.run m ρ)

theorem same : algebraic_OutProjDxIdeal_OutProjDxReferenceIdeal (hOutProjDxIdeal := Cert.OutProjDxIdeal.Gen.facts)
    (hOutProjDxReferenceIdeal := Cert.OutProjDxReferenceIdeal.Gen.facts) := by
  intro m g m' g' _ hargs
  refine ⟨fun c => product (m (c.tc.loc Cert.OutProjDxIdeal.main_arg0)) (m (c.tc.loc Cert.OutProjDxIdeal.main_arg1)),
    (θ_run _ _ _).mono (fun r h c => ⟨(h c).1.trans (out m c), (h c).2⟩) (Cert.OutProjDxIdeal.Value.run_blocks m g),
    (θ_run _ _ _).mono (fun r h c => ⟨(h c).1.trans ?_, (h c).2⟩) (Cert.OutProjDxReferenceIdeal.Value.run m' g')⟩
  obtain ⟨h0, h1⟩ := hargs c
  rw [h0, h1]
  funext i
  unfold product
  pointwise []

end Cert.OutProjDxEqual
-- ==== Proof.OutProjDw.lean ====
module
public import proofs.«01_k».proof.Proof.Products
public import proofs.«01_k».proof.Defs
public import proofs.«01_k».proof.Proof.Gen.OutProjDwIdeal.Value
public import proofs.«01_k».proof.Proof.Gen.OutProjDwReferenceIdeal.Run

/-! The gradient of the output product's weights: every block of the result adds up four products over a block of positions. -/

@[expose] public section
set_option maxRecDepth 16384
noncomputable section
open Idealize.ShloMosaic Idealize.SL.Sem Finset
namespace Cert.OutProjDwEqual
open Cert.Products

/-- The product over all positions, at an index. -/
def product (a : FVec Ideal ⟨2, ![8192, 2048]⟩ .bf16) (b : FVec Ideal ⟨2, ![8192, 2048]⟩ .f32) : FVec Ideal ⟨2, ![2048, 2048]⟩ .f32 :=
  fun i => ∑ x ∈ range 8192, entry a x ((i 0).val) * entry b x ((i 1).val)

section
open Cert.OutProjDwIdeal Cert.OutProjDwIdeal.Gen Cert.OutProjDwIdeal.Value

theorem idx : ∀ t : Fin cfg0.N, win0_0.index t = ![t.val % 4, t.val / 4 % 2] ∧ win0_1.index t = ![t.val % 4, t.val / 8] ∧ win0_2.index t = ![t.val / 4 % 2, t.val / 8] :=
  (by decide +kernel : ∀ t : Fin grid0.N, _)

variable (m : (ℓ : Loc nD τ sig) → Buf (Elt Ideal) ℓ) (c : Dev nD)

/-- A summand of the product of the two blocks of point `n`, at an index. -/
def term (n : ℕ) (i : Fin 1024 × Fin 1024) (x : ℕ) : EReal :=
  entry (n := 8192) (m := 2048) (φ := .bf16) (m (c.tc.loc main_arg0)) (2048 * (n % 4) + x) (1024 * (n / 4 % 2) + i.1.val)
    * entry (n := 8192) (m := 2048) (φ := .f32) (m (c.tc.loc main_arg1)) (2048 * (n % 4) + x) (1024 * (n / 8) + i.2.val)

theorem part_eq (t : Fin cfg0.N) (r : Fin 1024) (s : Fin 1024) :
    (k0_pay1 (iblk m c 0 t) (iblk m c 1 t) : FVec Ideal S1024x1024 .f32) (ix2 r s) = ∑ x ∈ range 2048, term m c t.val (r, s) x := by
  have hN : t.val < 16 := lt_of_lt_of_eq t.isLt (show cfg0.N = 16 from N_0)
  rw [← Fin.sum_univ_eq_sum_range]
  unfold k0_pay1 term
  pointwise []
  refine sum_mul_congr (fun x => ?_) (fun x => ?_)
  · rw [entry, dif_pos ⟨by omega, by omega⟩]
    blk_ext [iblk, V_main_arg0, idx t]
  · rw [entry, dif_pos ⟨by omega, by omega⟩]
    blk_ext [iblk, V_main_arg1, idx t]

theorem first_eq (A : FVec Ideal S2048x1024 .bf16) (B : FVec Ideal S2048x1024 .f32) (r : Fin 1024) (s : Fin 1024) :
    (k0_pay2 A B : FVec Ideal S1024x1024 .f32) (ix2 r s) = (k0_pay1 A B : FVec Ideal S1024x1024 .f32) (ix2 r s) := by
  unfold k0_pay2
  pointwise []

theorem next_eq (A : FVec Ideal S2048x1024 .bf16) (B : FVec Ideal S2048x1024 .f32) (S : FVec Ideal S1024x1024 .f32) (r : Fin 1024) (s : Fin 1024) :
    (k0_pay3 A B S : FVec Ideal S1024x1024 .f32) (ix2 r s)
      = (S (ix2 r s) : EReal) + (k0_pay1 A B : FVec Ideal S1024x1024 .f32) (ix2 r s) := by
  unfold k0_pay3
  pointwise []

/-- After each point the scratch holds the sum of the products since the block of the result was begun. -/
theorem scratch (n : ℕ) (hn : n < cfg0.N) (i : Fin 1024 × Fin 1024) :
    ((outsAt0 m c n hn).2 : FVec Ideal S1024x1024 .f32) (ix2 i.1 i.2)
      = ∑ j ∈ range (n % 4 + 1), ∑ x ∈ range 2048, term m c (4 * (n / 4) + j) i x := by
  refine fold (K := 4) (by decide) (fun n hn i => ((outsAt0 m c n hn).2 : FVec Ideal S1024x1024 .f32) (ix2 i.1 i.2))
    (fun n i => ∑ x ∈ range 2048, term m c n i x) (fun n h e i => ?_) (fun n h h' e i => ?_) n hn i
  · rw [outsAt0_A m c ⟨n, h⟩ e (by show ¬ 1 ≤ n % 4; omega) (by show ¬ n % 4 = 3; omega)]
    dsimp only
    frame_out
    exact (first_eq _ _ _ _).trans (part_eq m c ⟨n, h⟩ i.1 i.2)
  · by_cases e3 : n % 4 = 3
    · rw [outsAt0_C m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _
    · rw [outsAt0_B m c ⟨n, h⟩ e (by show 1 ≤ n % 4; omega) e3]
      dsimp only
      frame_out
      refine (next_eq _ _ _ _ _).trans (congrArg₂ (· + ·) ?_ (part_eq m c ⟨n, h⟩ i.1 i.2))
      exact congrFun (Memref.IsWhole.read_unread (Memref.isWhole_whole _) _) _

theorem last (t : Fin cfg0.N) (e : t.val % 4 = 3) (r : Fin 1024) (s : Fin 1024) :
    ((outsAt0 m c t.val t.isLt).1 : FVec Ideal S1024x1024 .f32) (ix2 r s) = ((outsAt0 m c t.val t.isLt).2 : FVec Ideal S1024x1024 .f32) (ix2 r s) := by
  rw [outsAt0_C m c t (by omega) (by omega) e]
  dsimp only
  frame_out

theorem out : (dats m 0 c).arrAt 2 cfg0.N = product (m (c.tc.loc main_arg0)) (m (c.tc.loc main_arg1)) := by
  refine (dats m 0 c).arrAt_eq_of_covers 2 _ (by decide +kernel) fun t hf y => ?_
  have e := (flush0_2 t).mp hf
  have hN : t.val < 16 := lt_of_lt_of_eq t.isLt (show cfg0.N = 16 from N_0)
  obtain ⟨r, s, rfl⟩ : ∃ (r : Fin 1024) (s : Fin 1024), y = ix2 r s := exists_ix2 (n := 1024) (m := 1024) y
  blk_simp
  rw [after0_2]
  refine (last m c t e r s).trans ?_
  rw [scratch m c t.val t.isLt (r, s), e]
  unfold product
  have e0 : ((((View.whole main_v0).slice (win0_2.rect t)).emb (ix2 r s) 0 : Fin _) : ℕ) = 1024 * (t.val / 4 % 2) + r.val := by blk_simp [idx t]; omega
  have e1 : ((((View.whole main_v0).slice (win0_2.rect t)).emb (ix2 r s) 1 : Fin _) : ℕ) = 1024 * (t.val / 8) + s.val := by blk_simp [idx t]; omega
  refine Eq.trans (sum_congr rfl fun j hj => sum_congr rfl fun x hx => ?_) (blocks 2048 (fun x => entry (n := 8192) (m := 2048) (φ := .bf16) (m (c.tc.loc main_arg0)) x ((((View.whole main_v0).slice (win0_2.rect t)).emb (ix2 r s) 0 : Fin _).val) * entry (n := 8192) (m := 2048) (φ := .f32) (m (c.tc.loc main_arg1)) x ((((View.whole main_v0).slice (win0_2.rect t)).emb (ix2 r s) 1 : Fin _).val)) 4)
  have hj' := mem_range.mp hj
  have hx' := mem_range.mp hx
  unfold term
  dsimp only
  rw [e0, e1]
  congr 2 <;> omega
end

theorem reference_frame : quiescent_OutProjDwReferenceIdeal (hOutProjDwReferenceIdeal := Cert.OutProjDwReferenceIdeal.Gen.facts) := fun m ρ _ =>
  (θ_run _ _ _).mono (fun r h => ⟨fun c => (h c).2, sem_eq_zero_of_no_sems rfl r.2⟩) (Cert.OutProjDwReferenceIdeal.Value.run m ρ)

theorem same : algebraic_OutProjDwIdeal_OutProjDwReferenceIdeal (hOutProjDwIdeal := Cert.OutProjDwIdeal.Gen.facts)
    (hOutProjDwReferenceIdeal := Cert.OutProjDwReferenceIdeal.Gen.facts) := by
  intro m g m' g' _ hargs
  refine ⟨fun c => product (m (c.tc.loc Cert.OutProjDwIdeal.main_arg0)) (m (c.tc.loc Cert.OutProjDwIdeal.main_arg1)),
    (θ_run _ _ _).mono (fun r h c => ⟨(h c).1.trans (out m c), (h c).2⟩) (Cert.OutProjDwIdeal.Value.run_blocks m g),
    (θ_run _ _ _).mono (fun r h c => ⟨(h c).1.trans ?_, (h c).2⟩) (Cert.OutProjDwReferenceIdeal.Value.run m' g')⟩
  obtain ⟨h0, h1⟩ := hargs c
  rw [h0, h1]
  funext i
  obtain ⟨r, s, rfl⟩ := exists_ix2 i
  unfold product
  refine Eq.trans ?_ (sum_columns _ _ r s).symm
  pointwise []
  exact sum_congr rfl fun x _ => mul_comm _ _

end Cert.OutProjDwEqual
-- ==== Proof.InProj.lean ====
module
public import proofs.«01_k».proof.Proof.Gen.InProjIdeal.Value
public import proofs.«01_k».proof.Proof.Gen.InProjReferenceIdeal.Run
public import proofs.«01_k».proof.Proof.Products
public import proofs.«01_k».proof.Defs

/-! The first product of the forward pass: every block of the result is one product of a block of rows with a block of columns. -/

@[expose] public section
set_option maxRecDepth 16384
noncomputable section
open Idealize.ShloMosaic Idealize.SL.Sem Finset
namespace Cert.InProjEqual
open Cert.Products

/-- The product, at an index. -/
def product (a : FVec Ideal (Shape.mk 2 ![8192, 2048]) .bf16) (b : FVec Ideal (Shape.mk 2 ![2048, 18432]) .bf16) : FVec Ideal (Shape.mk 2 ![8192, 18432]) .f32 :=
  fun i => ∑ x : Fin 2048, (a (ix2 (i 0) x) : EReal) * b (ix2 x (i 1))

section
open Cert.InProjIdeal Cert.InProjIdeal.Gen Cert.InProjIdeal.Value

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem out (m : (ℓ : Loc nD τ sig) → Buf (Elt Ideal) ℓ) (c : Dev nD) :
    (dats m 0 c).arrAt 2 cfg0.N = product (m (c.tc.loc main_arg0)) (m (c.tc.loc main_arg1)) := by
  refine (dats m 0 c).arrAt_eq_of_covers 2 _ (by decide +kernel) fun t hf y => ?_
  blk_simp
  rw [after0_2]
  unfold outsAt0
  frame_out
  unfold k0_pay1 product
  pointwise []
  exact sum_mul_congr (fun x => by blk_ext [iblk, V_main_arg0, idx t]) (fun x => by blk_ext [iblk, V_main_arg1, idx t])
end

theorem reference_frame : quiescent_InProjReferenceIdeal (hInProjReferenceIdeal := Cert.InProjReferenceIdeal.Gen.facts) := fun m ρ _ =>
  (θ_run _ _ _).mono (fun r h => ⟨fun c => (h c).2, sem_eq_zero_of_no_sems rfl r.2⟩) (Cert.InProjReferenceIdeal.Value.run m ρ)

theorem same : algebraic_InProjIdeal_InProjReferenceIdeal (hInProjIdeal := Cert.InProjIdeal.Gen.facts)
    (hInProjReferenceIdeal := Cert.InProjReferenceIdeal.Gen.facts) := by
  intro m g m' g' _ hargs
  refine ⟨fun c => product (m (c.tc.loc Cert.InProjIdeal.main_arg0)) (m (c.tc.loc Cert.InProjIdeal.main_arg1)),
    (θ_run _ _ _).mono (fun r h c => ⟨(h c).1.trans (out m c), (h c).2⟩) (Cert.InProjIdeal.Value.run_blocks m g),
    (θ_run _ _ _).mono (fun r h c => ⟨(h c).1.trans ?_, (h c).2⟩) (Cert.InProjReferenceIdeal.Value.run m' g')⟩
  obtain ⟨h0, h1⟩ := hargs c
  rw [h0, h1]
  funext i
  unfold product
  pointwise []

end Cert.InProjEqual
-- ==== Proof.GateProj.lean ====
module
public import proofs.«01_k».proof.Proof.Products
public import proofs.«01_k».proof.Defs
public import proofs.«01_k».proof.Proof.Gen.GateProjIdeal.Value
public import proofs.«01_k».proof.Proof.Gen.GateProjReferenceIdeal.Run

/-! The product that the gates are taken of, with its bias: every block of the result is one product of a block of rows with a block of columns. -/

@[expose] public section
set_option maxRecDepth 16384
noncomputable section
open Idealize.ShloMosaic Idealize.SL.Sem Finset
namespace Cert.GateProjEqual
open Cert.Products

/-- The product plus the bias, at an index. -/
def product (a : FVec Ideal ⟨2, ![8192, 2048]⟩ .bf16) (b : FVec Ideal ⟨2, ![2048, 8192]⟩ .bf16) (x : FVec Ideal ⟨1, ![8192]⟩ .f32) : FVec Ideal ⟨2, ![8192, 8192]⟩ .f32 :=
  fun i => (∑ x : Fin 2048, (a (ix2 (i 0) x) : EReal) * b (ix2 x (i 1))) + x (ix1 (i 1))

section
open Cert.GateProjIdeal Cert.GateProjIdeal.Gen Cert.GateProjIdeal.Value

theorem idx : ∀ t : Fin cfg0.N, win0_0.index t = ![t.val % 8, 0] ∧ win0_1.index t = ![0, t.val / 8] ∧ win0_2.index t = ![0, t.val / 8] ∧ win0_3.index t = ![t.val % 8, t.val / 8] :=
  (by decide +kernel : ∀ t : Fin grid0.N, _)

theorem bias (m : (ℓ : Loc nD τ sig) → Buf (Elt Ideal) ℓ) (c : Dev nD) (j : Fin 8192) :
    (V m c main_v0 : FVec Ideal S1x8192 .f32) (ix2 0 j) = (m (c.tc.loc main_arg2) : FVec Ideal S8192 .f32) (ix1 j) := by
  unfold V
  after_reads_at

theorem out (m : (ℓ : Loc nD τ sig) → Buf (Elt Ideal) ℓ) (c : Dev nD) :
    (dats m 0 c).arrAt 3 cfg0.N = product (m (c.tc.loc main_arg0)) (m (c.tc.loc main_arg1)) (m (c.tc.loc main_arg2)) := by
  refine (dats m 0 c).arrAt_eq_of_covers 3 _ (by decide +kernel) fun t hf y => ?_
  blk_simp
  rw [after0_3]
  unfold outsAt0
  frame_out
  unfold k0_pay1 product
  pointwise []
  refine congrArg₂ (· + ·) (sum_mul_congr (fun x => by blk_ext [iblk, V_main_arg0, idx t]) (fun x => by blk_ext [iblk, V_main_arg1, idx t])) ?_
  refine Eq.trans ?_ (bias m c _)
  blk_ext [iblk, idx t]
end

theorem reference_frame : quiescent_GateProjReferenceIdeal (hGateProjReferenceIdeal := Cert.GateProjReferenceIdeal.Gen.facts) := fun m ρ _ =>
  (θ_run _ _ _).mono (fun r h => ⟨fun c => (h c).2, sem_eq_zero_of_no_sems rfl r.2⟩) (Cert.GateProjReferenceIdeal.Value.run m ρ)

theorem same : algebraic_GateProjIdeal_GateProjReferenceIdeal (hGateProjIdeal := Cert.GateProjIdeal.Gen.facts)
    (hGateProjReferenceIdeal := Cert.GateProjReferenceIdeal.Gen.facts) := by
  intro m g m' g' _ hargs
  refine ⟨fun c => product (m (c.tc.loc Cert.GateProjIdeal.main_arg0)) (m (c.tc.loc Cert.GateProjIdeal.main_arg1)) (m (c.tc.loc Cert.GateProjIdeal.main_arg2)),
    (θ_run _ _ _).mono (fun r h c => ⟨(h c).1.trans (out m c), (h c).2⟩) (Cert.GateProjIdeal.Value.run_blocks m g),
    (θ_run _ _ _).mono (fun r h c => ⟨(h c).1.trans ?_, (h c).2⟩) (Cert.GateProjReferenceIdeal.Value.run m' g')⟩
  obtain ⟨h0, h1, h2⟩ := hargs c
  rw [h0, h1, h2]
  funext i
  unfold product
  pointwise []

end Cert.GateProjEqual
-- ==== Proof.BranchProj.lean ====
module
public import proofs.«01_k».proof.Proof.Products
public import proofs.«01_k».proof.Defs
public import proofs.«01_k».proof.Proof.Gen.BranchProjIdeal.Value
public import proofs.«01_k».proof.Proof.Gen.BranchProjReferenceIdeal.Run

/-! The product of each of the four branches with its own weights: every block of the result is one product of a block of rows with a block of columns. -/

@[expose] public section
set_option maxRecDepth 16384
noncomputable section
open Idealize.ShloMosaic Idealize.SL.Sem Finset
namespace Cert.BranchProjEqual
open Cert.Products

/-- The four products side by side, at an index. -/
def product (a : FVec Ideal ⟨2, ![8192, 4096]⟩ .bf16) (b : FVec Ideal ⟨2, ![4096, 2048]⟩ .bf16) : FVec Ideal ⟨2, ![8192, 8192]⟩ .f32 :=
  fun i => have hi : (i 1).val < 8192 := (i 1).isLt
    ∑ x : Fin 1024, (a (ix2 (i 0) ⟨(i 1).val / 2048 * 1024 + x.val, by omega⟩) : EReal) * b (ix2 ⟨(i 1).val / 2048 * 1024 + x.val, by omega⟩ ⟨(i 1).val % 2048, Nat.mod_lt _ (by decide)⟩)

section
open Cert.BranchProjIdeal Cert.BranchProjIdeal.Gen Cert.BranchProjIdeal.Value

theorem idx : ∀ t : Fin cfg0.N, win0_0.index t = ![t.val % 8, t.val / 16] ∧ win0_1.index t = ![t.val / 16, t.val / 8 % 2] ∧ win0_2.index t = ![t.val % 8, t.val / 8] :=
  (by decide +kernel : ∀ t : Fin grid0.N, _)

theorem out (m : (ℓ : Loc nD τ sig) → Buf (Elt Ideal) ℓ) (c : Dev nD) :
    (dats m 0 c).arrAt 2 cfg0.N = product (m (c.tc.loc main_arg0)) (m (c.tc.loc main_arg1)) := by
  refine (dats m 0 c).arrAt_eq_of_covers 2 _ (by decide +kernel) fun t hf y => ?_
  blk_simp
  rw [after0_2]
  unfold outsAt0
  frame_out
  unfold k0_pay1 product
  pointwise []
  exact sum_mul_congr (fun x => by blk_ext [iblk, V_main_arg0, idx t]) (fun x => by blk_ext [iblk, V_main_arg1, idx t])
end

section
open Cert.BranchProjReferenceIdeal Cert.BranchProjReferenceIdeal.Gen

theorem reference_outer (D : FVec Ideal S4x2048x8192 .f32) (r s : Fin 8192) :
    (shapeCast S8192x8192 (transpose S8192x4x2048 [2, 0, 1] D transposes_S4x2048x8192_S8192x4x2048_2_0_1)
      shapeCasts_S8192x4x2048_S8192x8192 : FVec Ideal S8192x8192 .f32) (ix2 r s)
    = D (ix3 ⟨s.val / 2048, by omega⟩ ⟨s.val % 2048, Nat.mod_lt _ (by decide)⟩ r) := by
  pointwise []

theorem reference_product (X : FVec Ideal S4x1024x2048 .f32) (Y : FVec Ideal S8192x4x1024 .f32) (g : Fin 4) (d : Fin 2048) (r : Fin 8192) :
    (Host.dotGeneral (φ₁ := .f32) (φ₂ := .f32) dot_S4x1024x2048_S8192x4x1024_S4x2048x8192_1_2_2_0_0_1 none X Y : FVec Ideal S4x2048x8192 .f32)
      (ix3 g d r) = ∑ c : Fin 1024, X (ix3 g c d) * Y (ix3 r g c) := by
  pointwise []

theorem reference_rows (a : FVec Ideal S8192x4096 .f32) (r : Fin 8192) (g : Fin 4) (c : Fin 1024) :
    (shapeCast S8192x4x1024 a shapeCasts_S8192x4096_S8192x4x1024 : FVec Ideal S8192x4x1024 .f32) (ix3 r g c)
      = a (ix2 r ⟨g.val * 1024 + c.val, by omega⟩) := by
  pointwise []

theorem reference_weights (a : FVec Ideal S4096x2048 .f32) (g : Fin 4) (c : Fin 1024) (d : Fin 2048) :
    (shapeCast S4x1024x2048 a shapeCasts_S4096x2048_S4x1024x2048 : FVec Ideal S4x1024x2048 .f32) (ix3 g c d)
      = a (ix2 ⟨g.val * 1024 + c.val, by omega⟩ d) := by
  pointwise []

end

theorem reference_frame : quiescent_BranchProjReferenceIdeal (hBranchProjReferenceIdeal := Cert.BranchProjReferenceIdeal.Gen.facts) := fun m ρ _ =>
  (θ_run _ _ _).mono (fun r h => ⟨fun c => (h c).2, sem_eq_zero_of_no_sems rfl r.2⟩) (Cert.BranchProjReferenceIdeal.Value.run m ρ)

theorem same : algebraic_BranchProjIdeal_BranchProjReferenceIdeal (hBranchProjIdeal := Cert.BranchProjIdeal.Gen.facts)
    (hBranchProjReferenceIdeal := Cert.BranchProjReferenceIdeal.Gen.facts) := by
  intro m g m' g' _ hargs
  refine ⟨fun c => product (m (c.tc.loc Cert.BranchProjIdeal.main_arg0)) (m (c.tc.loc Cert.BranchProjIdeal.main_arg1)),
    (θ_run _ _ _).mono (fun r h c => ⟨(h c).1.trans (out m c), (h c).2⟩) (Cert.BranchProjIdeal.Value.run_blocks m g),
    (θ_run _ _ _).mono (fun r h c => ⟨(h c).1.trans ?_, (h c).2⟩) (Cert.BranchProjReferenceIdeal.Value.run m' g')⟩
  obtain ⟨h0, h1⟩ := hargs c
  rw [h0, h1]
  funext i
  unfold product
  obtain ⟨r, s, rfl⟩ := exists_ix2 i
  rw [reference_outer, reference_product]
  simp only [reference_rows, reference_weights]
  exact sum_congr rfl fun x _ => mul_comm _ _

end Cert.BranchProjEqual
-- ==== Proof.OutProj.lean ====
module
public import proofs.«01_k».proof.Proof.Products
public import proofs.«01_k».proof.Defs
public import proofs.«01_k».proof.Proof.Gen.OutProjIdeal.Value
public import proofs.«01_k».proof.Proof.Gen.OutProjReferenceIdeal.Run

/-! The output product of the forward pass, added to the layer's input: every block of the result is one product of a block of rows with a block of columns. -/

@[expose] public section
set_option maxRecDepth 16384
noncomputable section
open Idealize.ShloMosaic Idealize.SL.Sem Finset
namespace Cert.OutProjEqual
open Cert.Products

/-- The product plus the input, at an index. -/
def product (a : FVec Ideal ⟨2, ![8192, 2048]⟩ .bf16) (b : FVec Ideal ⟨2, ![2048, 2048]⟩ .bf16) (x : FVec Ideal ⟨2, ![8192, 2048]⟩ .f32) : FVec Ideal ⟨2, ![8192, 2048]⟩ .f32 :=
  fun i => (∑ x : Fin 2048, (a (ix2 (i 0) x) : EReal) * b (ix2 x (i 1))) + x i

section
open Cert.OutProjIdeal Cert.OutProjIdeal.Gen Cert.OutProjIdeal.Value

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem out (m : (ℓ : Loc nD τ sig) → Buf (Elt Ideal) ℓ) (c : Dev nD) :
    (dats m 0 c).arrAt 3 cfg0.N = product (m (c.tc.loc main_arg0)) (m (c.tc.loc main_arg1)) (m (c.tc.loc main_arg2)) := by
  refine (dats m 0 c).arrAt_eq_of_covers 3 _ (by decide +kernel) fun t hf y => ?_
  blk_simp
  rw [after0_3]
  unfold outsAt0
  frame_out
  unfold k0_pay1 product
  pointwise []
  refine congrArg₂ (· + ·) (sum_mul_congr (fun x => by blk_ext [iblk, V_main_arg0, idx t]) (fun x => by blk_ext [iblk, V_main_arg1, idx t])) ?_
  blk_ext [iblk, V_main_arg2, idx t]
end

theorem reference_frame : quiescent_OutProjReferenceIdeal (hOutProjReferenceIdeal := Cert.OutProjReferenceIdeal.Gen.facts) := fun m ρ _ =>
  (θ_run _ _ _).mono (fun r h => ⟨fun c => (h c).2, sem_eq_zero_of_no_sems rfl r.2⟩) (Cert.OutProjReferenceIdeal.Value.run m ρ)

theorem same : algebraic_OutProjIdeal_OutProjReferenceIdeal (hOutProjIdeal := Cert.OutProjIdeal.Gen.facts)
    (hOutProjReferenceIdeal := Cert.OutProjReferenceIdeal.Gen.facts) := by
  intro m g m' g' _ hargs
  refine ⟨fun c => product (m (c.tc.loc Cert.OutProjIdeal.main_arg0)) (m (c.tc.loc Cert.OutProjIdeal.main_arg1)) (m (c.tc.loc Cert.OutProjIdeal.main_arg2)),
    (θ_run _ _ _).mono (fun r h c => ⟨(h c).1.trans (out m c), (h c).2⟩) (Cert.OutProjIdeal.Value.run_blocks m g),
    (θ_run _ _ _).mono (fun r h c => ⟨(h c).1.trans ?_, (h c).2⟩) (Cert.OutProjReferenceIdeal.Value.run m' g')⟩
  obtain ⟨h0, h1, h2⟩ := hargs c
  rw [h0, h1, h2]
  funext i
  unfold product
  pointwise []
  exact add_comm _ _

end Cert.OutProjEqual
-- ==== Proof.SbFwdBlock.lean ====
/-
  One block of the forward kernel of the stick-breaking attention: 1024 query rows against 512 key rows.

  The scores, the softplus sums and the weights are reals; the value rows may be any extended reals. From the carried
  sums over the keys past a block, the block's lines make the same sums over the block's keys and those past it.
-/
module

public import proofs.«01_k».proof.Proof.Block
public import proofs.«01_k».proof.Proof.Gen.SbFwdIdeal.Skeleton

@[expose] public section

set_option maxRecDepth 16384

noncomputable section

open Idealize.ShloMosaic Finset

namespace Cert.SbFwdEqual

open Cert.SbFwdIdeal Cert.SbFwdIdeal.Gen
open Cert.StickBreaking (Is Z SA Wt sp sum_coe' softplus_coe select_decide sitofp_int halves word_twice word_twice_succ)

/-! ## The sums over the keys from a row on -/

section Sums

variable (q k : ℕ → ℕ → ℝ) (V : ℕ → ℕ → EReal) (sc : ℝ)

/-- The softplus of a score, zero where the key does not come before the query. -/
def spS (t s : ℕ) : ℝ := if s < t then sp (Z q k sc t s) else 0

/-- The softplus sum over the keys from `a` on. -/
def TA (t a : ℕ) : ℝ := ∑ j ∈ Ico a 8192, spS q k sc t j

theorem SA_eq (t s : ℕ) : SA q k sc t s = TA q k sc t (s + 1) := rfl

theorem TA_zero {t a : ℕ} (h : t ≤ a) : TA q k sc t a = 0 :=
  sum_eq_zero fun j hj => if_neg (by have := mem_Ico.mp hj; omega)

theorem TA_block (t a c : ℕ) (hc : c < 256) (ha : a + 256 ≤ 8192) :
    TA q k sc t (a + c + 1) = (∑ j ∈ range 256, if c < j then spS q k sc t (a + j) else 0) + TA q k sc t (a + 256) := by
  unfold TA
  rw [← sum_Ico_consecutive _ (show a + c + 1 ≤ a + 256 by omega) ha]
  congr 1
  have e : Ico (a + c + 1) (a + 256) = ((range 256).filter (c < ·)).map (addLeftEmbedding a) := by
    ext j
    simp only [mem_Ico, mem_map, mem_filter, mem_range, addLeftEmbedding_apply]
    exact ⟨fun h => ⟨j - a, by omega, by omega⟩, by rintro ⟨x, hx, rfl⟩; omega⟩
  rw [e, sum_map, sum_filter]
  rfl

theorem TA_head (t a : ℕ) (ha : a + 256 ≤ 8192) :
    TA q k sc t a = TA q k sc t (a + 256) + (∑ j ∈ range 256, if 0 < j then spS q k sc t (a + j) else 0) + spS q k sc t a := by
  have h := TA_block q k sc t a 0 (by norm_num) ha
  rw [TA, sum_eq_sum_Ico_succ_bot (by omega), ← TA, show a + 1 = a + 0 + 1 from rfl, h]
  ring

/-- The weighted value rows from `a` on. -/
def AC (t d a : ℕ) : EReal := ∑ s ∈ Ico a 8192, ((Wt q k sc t s : ℝ) : EReal) * V s d

theorem AC_zero {t a : ℕ} (d : ℕ) (h : t ≤ a) : AC q k V sc t d a = 0 :=
  sum_eq_zero fun j hj => by rw [Wt, if_neg (by have := mem_Ico.mp hj; omega), EReal.coe_zero, zero_mul]

theorem AC_block (t d n : ℕ) (hn : 512 * (n + 1) ≤ 8192) :
    AC q k V sc t d (512 * (n + 1)) + ∑ x : Fin 512, ((Wt q k sc t (512 * n + x) : ℝ) : EReal) * V (512 * n + x) d
      = AC q k V sc t d (512 * n) := by
  unfold AC
  rw [← sum_Ico_consecutive _ (show 512 * n ≤ 512 * (n + 1) by omega) hn, add_comm]
  congr 1
  rw [sum_Ico_eq_sum_range, show 512 * (n + 1) - 512 * n = 512 by omega,
    Finset.sum_range fun j => ((Wt q k sc t (512 * n + j) : ℝ) : EReal) * V (512 * n + j) d]

/-- Lane `x` of the saved sums: the softplus sum past the `x`-th 256 keys, for the keys from `a` on. -/
def RU (t x a : ℕ) : ℝ := if a ≤ 256 * x ∧ x < 32 then TA q k sc t (256 * x + 256) else 0

/-- What is carried: the sums over the keys from `512 * n` on, for the 1024 query rows from `t0` on. -/
structure Carry (t0 n : ℕ) (acc : FVec Ideal S1024x128 .f32) (run : FVec Ideal S1024x1 .f32) (runs : FVec Ideal S1024x128 .f32) :
    Prop where
  ha : ∀ (r : Fin 1024) (d : Fin 128), acc (ix2 r d) = AC q k V sc (t0 + r) d (512 * n)
  hr : ∀ r : Fin 1024, run (ix2 r 0) = ((TA q k sc (t0 + r) (512 * n) : ℝ) : EReal)
  hs : Is (n := 1024) (m := 128) runs fun r x => RU q k sc (t0 + r) x (512 * n)

end Sums

/-! ## A block's lines -/

/-- The suffix sums of the second 256 keys. -/
def hi (u : FVec Ideal S256x256 .bf16) (x : FVec Ideal S1024x512 .bf16) : FVec Ideal S1024x256 .f32 :=
  matmul dot_S1024x256_S256x256_S1024x256_1_0_0_1_n_n none
    (extractStridedSlice S1024x256 ![0, 256] x slices_S1024x512_o0_256_S1024x256) u (constant S1024x256 .f32 0x00000000#32)

/-- The running sum after the second 256 keys. -/
def mid (u : FVec Ideal S256x256 .bf16) (x : FVec Ideal S1024x512 .bf16) (run : FVec Ideal S1024x1 .f32) : FVec Ideal S1024x1 .f32 :=
  addf (addf run (extractStridedSlice S1024x1 ![0, 0] (hi u x) slices_S1024x256_o0_0_S1024x1))
    (extf .f32 (extractStridedSlice S1024x1 ![0, 256] x slices_S1024x512_o0_256_S1024x1) bitsLt_bf16_f32)

/-- A suffix sum with the running sum added to every lane. -/
def past (y : FVec Ideal S1024x256 .f32) (run : FVec Ideal S1024x1 .f32) : FVec Ideal S1024x256 .bf16 :=
  truncf .bf16 (addf y (broadcastTo S1024x256 run broadcasts_S1024x1_S1024x256)) bitsLt_bf16_f32

/-- The weights before the mask. -/
def weigh (zz s : FVec Ideal S1024x512 .bf16) (lo hi : FVec Ideal S1024x256 .bf16) : FVec Ideal S1024x512 .bf16 :=
  exp (subf (subf zz s) (concatenate S1024x512 1 [⟨S1024x256, lo⟩, ⟨S1024x256, hi⟩] concatenates_S1024x256_S1024x256_S1024x512_d1))

/-- The weighted value rows added. -/
def gather (acc : FVec Ideal S1024x128 .f32) (w : FVec Ideal S1024x512 .bf16) (vt : FVec Ideal S512x128 .bf16) : FVec Ideal S1024x128 .f32 :=
  addf acc (matmul dot_S1024x512_S512x128_S1024x128_1_0_0_1_n_n none w vt (constant S1024x128 .f32 0x00000000#32))

/-- One lane of the saved sums set. -/
def lane (v12 : IVec S1024x128 32) (w : BitVec 32) (run : FVec Ideal S1024x1 .f32) (runs : FVec Ideal S1024x128 .f32) : FVec Ideal S1024x128 .f32 :=
  select (cmpi .eq v12 (broadcast S1024x128 w))
    (broadcastTo S1024x128 (shapeCast S1024x1 run shapeCasts_S1024x1_S1024x1) broadcasts_S1024x1_S1024x128) runs

/-- Masked entries are zero. -/
def mask (b : IVec S1024x512 1) (x : FVec Ideal S1024x512 .bf16) : FVec Ideal S1024x512 .bf16 :=
  select b x (broadcast S1024x512 (Scalar.truncf .bf16 bitsLt_bf16_f32 (Scalar.ofBits (F := Ideal) .f32 0x00000000#32)))

section Block

variable {q k : ℕ → ℕ → ℝ} {V : ℕ → ℕ → EReal} {sc : ℝ} {t0 n : ℕ}
  {qb : FVec Ideal S1024x128 .bf16} {kt vt : FVec Ideal S512x128 .bf16}

theorem score_is (hq : Is (n := 1024) (m := 128) qb fun r d => q (t0 + r) d * sc) (hk : Is (n := 512) (m := 128) kt fun c d => k (512 * n + c) d) :
    Is (n := 1024) (m := 512) (k0_pay2 qb kt) fun r c => Z q k sc (t0 + r) (512 * n + c) := by
  intro r c
  unfold k0_pay2
  pointwise [dot_S1024x128_S512x128_S1024x512_1_1_0_0_n_n]
  rw [sum_coe' _ (fun d => q (t0 + r) d * sc * k (512 * n + c) d) fun x => by rw [hq, hk, ← EReal.coe_mul]]
  rw [Z, sum_mul]
  congr 1
  exact sum_congr rfl fun d _ => by ring

theorem softplus_is (hq : Is (n := 1024) (m := 128) qb fun r d => q (t0 + r) d * sc) (hk : Is (n := 512) (m := 128) kt fun c d => k (512 * n + c) d) :
    Is (n := 1024) (m := 512) (k0_pay3 qb kt) fun r c => sp (Z q k sc (t0 + r) (512 * n + c)) := by
  intro r c
  unfold k0_pay3
  pointwise []
  rw [score_is hq hk, softplus_coe]

theorem upper_is : Is (n := 256) (m := 256) (k0_pay24 (F := Ideal)) fun a c => if c < a then 1 else 0 := by
  intro r c
  unfold k0_pay24
  pointwise []
  rw [WordCmp.cmpi_sgt_ofNat (by omega) (by omega)]
  by_cases h : c.val < r.val <;> simp [h, sitofp_int]

theorem suffix (g : Fin 256 → EReal) (u : FVec Ideal S256x256 .bf16) (f : ℕ → ℝ) (c : Fin 256)
    (hu : Is (n := 256) (m := 256) u fun a c => if c < a then 1 else 0) (hg : ∀ x : Fin 256, g x = ((f x : ℝ) : EReal)) :
    ∑ x : Fin 256, g x * u (ix2 x c) = ((∑ j ∈ range 256, if c.val < j then f j else 0 : ℝ) : EReal) :=
  sum_coe' _ _ fun x => by rw [hg, hu, ← EReal.coe_mul, mul_ite, mul_one, mul_zero]

section Sps

variable {u : FVec Ideal S256x256 .bf16} {x : FVec Ideal S1024x512 .bf16} {run : FVec Ideal S1024x1 .f32}
  (hu : Is (n := 256) (m := 256) u fun a c => if c < a then 1 else 0)
  (hx : Is (n := 1024) (m := 512) x fun r c => spS q k sc (t0 + r) (512 * n + c))
  (hr : ∀ r : Fin 1024, run (ix2 r 0) = ((TA q k sc (t0 + r) (512 * (n + 1)) : ℝ) : EReal)) (hn : n < 16)
include hu hx

theorem hi_is : Is (n := 1024) (m := 256) (hi u x) fun r c => ∑ j ∈ range 256, if c < j then spS q k sc (t0 + r) (512 * n + (256 + j)) else 0 := by
  intro r c
  unfold hi
  pointwise [dot_S1024x256_S256x256_S1024x256_1_0_0_1_n_n]
  exact suffix _ _ (fun j => spS q k sc (t0 + r) (512 * n + (256 + j))) c hu fun x => by rw [hx]

theorem lo_is : Is (n := 1024) (m := 256) (k0_pay49 u x) fun r c => ∑ j ∈ range 256, if c < j then spS q k sc (t0 + r) (512 * n + j) else 0 := by
  intro r c
  unfold k0_pay49
  pointwise [dot_S1024x256_S256x256_S1024x256_1_0_0_1_n_n]
  exact suffix _ _ (fun j => spS q k sc (t0 + r) (512 * n + j)) c hu fun x => by rw [hx]

include hr hn

theorem mid_is (r : Fin 1024) : mid u x run (ix2 r 0) = ((TA q k sc (t0 + r) (512 * n + 256) : ℝ) : EReal) := by
  unfold mid
  pointwise []
  rw [hr, hi_is hu hx, hx, ← EReal.coe_add, ← EReal.coe_add, TA_head _ _ _ _ (512 * n + 256) (by omega)]
  simp only [add_assoc, mul_add, mul_one]
  rfl

theorem end_is (r : Fin 1024) : k0_pay50 u x (mid u x run) (ix2 r 0) = ((TA q k sc (t0 + r) (512 * n) : ℝ) : EReal) := by
  unfold k0_pay50
  pointwise []
  rw [mid_is hu hx hr hn, lo_is hu hx, hx, ← EReal.coe_add, ← EReal.coe_add, TA_head _ _ _ _ (512 * n) (by omega)]
  rfl

theorem past_hi : Is (n := 1024) (m := 256) (past (hi u x) run) fun r c => SA q k sc (t0 + r) (512 * n + 256 + c) := by
  intro r c
  unfold past
  pointwise []
  rw [hi_is hu hx, hr, ← EReal.coe_add, SA_eq, TA_block _ _ _ _ (512 * n + 256) c c.isLt (by omega)]
  simp only [add_assoc, mul_add, mul_one]

theorem past_lo : Is (n := 1024) (m := 256) (past (k0_pay49 u x) (mid u x run)) fun r c => SA q k sc (t0 + r) (512 * n + c) := by
  intro r c
  unfold past
  pointwise []
  rw [lo_is hu hx, mid_is hu hx hr hn, ← EReal.coe_add, SA_eq, TA_block _ _ _ _ (512 * n) c c.isLt (by omega)]

end Sps

theorem weigh_is {zz s : FVec Ideal S1024x512 .bf16} {lo hi : FVec Ideal S1024x256 .bf16}
    (hz : Is (n := 1024) (m := 512) zz fun r c => Z q k sc (t0 + r) (512 * n + c))
    (hs : Is (n := 1024) (m := 512) s fun r c => sp (Z q k sc (t0 + r) (512 * n + c)))
    (hlo : Is (n := 1024) (m := 256) lo fun r c => SA q k sc (t0 + r) (512 * n + c))
    (hhi : Is (n := 1024) (m := 256) hi fun r c => SA q k sc (t0 + r) (512 * n + 256 + c)) :
    Is (n := 1024) (m := 512) (weigh zz s lo hi) fun r c =>
      Real.exp (Z q k sc (t0 + r) (512 * n + c) - sp (Z q k sc (t0 + r) (512 * n + c)) - SA q k sc (t0 + r) (512 * n + c)) := by
  intro r c
  unfold weigh
  pointwise []
  rw [halves (fun c => SA q k sc (t0 + r) (512 * n + c)) c (fun h => hlo r _) fun h => (hhi r _).trans (congrArg _ (congrArg _ (by
      show 512 * n + 256 + (c.val - 256) = 512 * n + c.val; omega))),
    hz, hs, ← EReal.coe_sub, ← EReal.coe_sub, Ideal.exp_coe]

theorem mask_is {b : IVec S1024x512 1} {x : FVec Ideal S1024x512 .bf16} {f : ℕ → ℕ → ℝ}
    (hb : ∀ (r : Fin 1024) (c : Fin 512), b (ix2 r c) = BitVec.ofBool (decide (512 * n + c.val < t0 + r.val)))
    (hx : Is (n := 1024) (m := 512) x f) :
    Is (n := 1024) (m := 512) (mask b x) fun r c => if 512 * n + c < t0 + r then f r c else 0 := by
  intro r c
  unfold mask
  pointwise []
  rw [hb, select_decide, hx]
  split_ifs
  · rfl
  · simp

theorem sum_rows {n : ℕ} {f g f' g' : Fin n → EReal} (hf : ∀ x, f x = f' x) (hg : ∀ x, g x = g' x) :
    ∑ x, f x * g x = ∑ x, f' x * g' x :=
  sum_congr rfl fun x _ => by rw [hf, hg]

theorem gather_is {acc : FVec Ideal S1024x128 .f32} {w : FVec Ideal S1024x512 .bf16}
    (ha : ∀ (r : Fin 1024) (d : Fin 128), acc (ix2 r d) = AC q k V sc (t0 + r) d (512 * (n + 1)))
    (hw : Is (n := 1024) (m := 512) w fun r c => Wt q k sc (t0 + r) (512 * n + c))
    (hv : ∀ (c : Fin 512) (d : Fin 128), vt (ix2 c d) = V (512 * n + c) d) (hn : n < 16) (r : Fin 1024) (d : Fin 128) :
    gather acc w vt (ix2 r d) = AC q k V sc (t0 + r) d (512 * n) := by
  unfold gather
  pointwise [dot_S1024x512_S512x128_S1024x128_1_0_0_1_n_n]
  rw [ha, ← AC_block q k V sc (t0 + r.val) d.val n (by omega)]
  exact congrArg (AC q k V sc (t0 + r.val) d.val (512 * (n + 1)) + ·) (sum_rows (fun x => hw r x) fun x => hv x d)

theorem lane_is {v12 : IVec S1024x128 32} {w : BitVec 32} {m a b : ℕ} {run : FVec Ideal S1024x1 .f32} {runs : FVec Ideal S1024x128 .f32}
    (hl : ∀ (r : Fin 1024) (x : Fin 128), v12 (ix2 r x) = BitVec.ofNat 32 x.val) (hw : w = BitVec.ofNat 32 m)
    (hm : m < 32) (hb : b = 256 * m + 256) (hab : a = 256 * m)
    (hr : ∀ r : Fin 1024, run (ix2 r 0) = ((TA q k sc (t0 + r) b : ℝ) : EReal))
    (hs : Is (n := 1024) (m := 128) runs fun r x => RU q k sc (t0 + r) x b) :
    Is (n := 1024) (m := 128) (lane v12 w run runs) fun r x => RU q k sc (t0 + r) x a := by
  subst hb hab
  intro r x
  unfold lane
  pointwise []
  rw [hl, hw, WordCmp.cmpi_eq_ofNat (by omega) (by omega), select_decide, hs, hr]
  by_cases h : x.val = m
  · rw [if_pos h]
    simp only [RU]
    rw [if_pos (by omega), h]
  · rw [if_neg h]
    simp only [RU]
    congr 1
    exact if_congr (by omega) rfl rfl

/-- The block's lines take the carried sums over the keys past it to those over its own keys too. `b` masks the keys
that do not come before the query. -/
theorem block_is {v12 : IVec S1024x128 32} {w : BitVec 32} {x ws : FVec Ideal S1024x512 .bf16}
    {acc runs : FVec Ideal S1024x128 .f32} {run : FVec Ideal S1024x1 .f32}
    (hx : Is (n := 1024) (m := 512) x fun r c => spS q k sc (t0 + r) (512 * n + c))
    (hws : Is (n := 1024) (m := 512) ws fun r c => Wt q k sc (t0 + r) (512 * n + c))
    (hv : ∀ (c : Fin 512) (d : Fin 128), vt (ix2 c d) = V (512 * n + c) d)
    (hl : ∀ (r : Fin 1024) (x : Fin 128), v12 (ix2 r x) = BitVec.ofNat 32 x.val) (hw : w = BitVec.ofNat 32 n) (hn : n < 16)
    (H : Carry q k V sc t0 (n + 1) acc run runs) :
    Carry q k V sc t0 n (gather acc ws vt) (k0_pay50 k0_pay24 x (mid k0_pay24 x run))
      (lane v12 (Scalar.addi (Scalar.muli w 2#32) 0#32) (mid k0_pay24 x run) (lane v12 (Scalar.addi (Scalar.muli w 2#32) 1#32) run runs)) where
  ha := gather_is H.ha hws hv hn
  hr := end_is upper_is hx H.hr hn
  hs := by
    have h1 := lane_is (m := 2 * n + 1) (w := Scalar.addi (Scalar.muli w 2#32) 1#32) (b := 512 * (n + 1)) (a := 512 * n + 256) hl (by rw [hw, word_twice_succ]) (by omega) (by omega) (by omega) H.hr H.hs
    exact lane_is (m := 2 * n) (w := Scalar.addi (Scalar.muli w 2#32) 0#32) (b := 512 * n + 256) (a := 512 * n) hl (by rw [hw, word_twice]) (by omega) (by omega) (by omega) (mid_is upper_is hx H.hr hn) h1

/-- The weights of a block all of whose keys come before the queries, and its softplus. -/
theorem open_is (hq : Is (n := 1024) (m := 128) qb fun r d => q (t0 + r) d * sc) (hk : Is (n := 512) (m := 128) kt fun c d => k (512 * n + c) d)
    (hle : 512 * (n + 1) ≤ t0) : Is (n := 1024) (m := 512) (k0_pay3 qb kt) fun r c => spS q k sc (t0 + r) (512 * n + c) := by
  intro r c
  refine (softplus_is hq hk r c).trans ?_
  simp only [spS]
  rw [if_pos (by omega)]

theorem open_weight {run : FVec Ideal S1024x1 .f32} (hq : Is (n := 1024) (m := 128) qb fun r d => q (t0 + r) d * sc) (hk : Is (n := 512) (m := 128) kt fun c d => k (512 * n + c) d)
    (hr : ∀ r : Fin 1024, run (ix2 r 0) = ((TA q k sc (t0 + r) (512 * (n + 1)) : ℝ) : EReal)) (hn : n < 16) (hle : 512 * (n + 1) ≤ t0) :
    Is (n := 1024) (m := 512) (weigh (k0_pay2 qb kt) (k0_pay3 qb kt) (past (k0_pay49 k0_pay24 (k0_pay3 qb kt)) (mid k0_pay24 (k0_pay3 qb kt) run)) (past (hi k0_pay24 (k0_pay3 qb kt)) run))
      fun r c => Wt q k sc (t0 + r) (512 * n + c) := by
  have hx := open_is hq hk hle
  intro r c
  rw [weigh_is (score_is hq hk) (softplus_is hq hk) (past_lo upper_is hx hr hn) (past_hi upper_is hx hr hn)]
  simp only [Wt]
  rw [if_pos (by omega)]

variable {b : IVec S1024x512 1} (hb : ∀ (r : Fin 1024) (c : Fin 512), b (ix2 r c) = BitVec.ofBool (decide (512 * n + c.val < t0 + r.val)))
include hb

theorem closed_is (hq : Is (n := 1024) (m := 128) qb fun r d => q (t0 + r) d * sc) (hk : Is (n := 512) (m := 128) kt fun c d => k (512 * n + c) d) :
    Is (n := 1024) (m := 512) (mask b (k0_pay3 qb kt)) fun r c => spS q k sc (t0 + r) (512 * n + c) :=
  mask_is hb (softplus_is hq hk)

theorem closed_weight {run : FVec Ideal S1024x1 .f32} (hq : Is (n := 1024) (m := 128) qb fun r d => q (t0 + r) d * sc) (hk : Is (n := 512) (m := 128) kt fun c d => k (512 * n + c) d)
    (hr : ∀ r : Fin 1024, run (ix2 r 0) = ((TA q k sc (t0 + r) (512 * (n + 1)) : ℝ) : EReal)) (hn : n < 16) :
    Is (n := 1024) (m := 512) (mask b (weigh (k0_pay2 qb kt) (k0_pay3 qb kt)
        (past (k0_pay49 k0_pay24 (mask b (k0_pay3 qb kt))) (mid k0_pay24 (mask b (k0_pay3 qb kt)) run)) (past (hi k0_pay24 (mask b (k0_pay3 qb kt))) run)))
      fun r c => Wt q k sc (t0 + r) (512 * n + c) := by
  have hx := closed_is hb hq hk
  exact mask_is hb (weigh_is (score_is hq hk) (softplus_is hq hk) (past_lo upper_is hx hr hn) (past_hi upper_is hx hr hn))

end Block

end Cert.SbFwdEqual

end
-- ==== Proof.SbFwdLoop.lean ====
/-
  One query block of the forward kernel of the stick-breaking attention: the two key blocks on the diagonal, which mask
  the keys that do not come before the query, and the loop over the earlier key blocks, from the last to the first.
-/
module

public import proofs.«01_k».proof.Proof.SbFwdBlock
public import proofs.«01_k».proof.Proof.Gen.SbFwdIdeal.Value
public import Idealize.ShloMosaic.Lib.Pipeline.ValueKit
public import Idealize.ShloMosaic.Lib.Pipeline.ReadBack
public import Idealize.ShloMosaic.Lib.WritesUnit
public import Idealize.ShloMosaic.Lib.LoopRemainder

@[expose] public section

set_option maxRecDepth 16384

noncomputable section

open Idealize.ShloMosaic Finset

namespace Cert.SbFwdEqual

open Cert.SbFwdIdeal Cert.SbFwdIdeal.Gen
open Cert.StickBreaking (Is)

/-! ## Words -/

theorem trips_eq (i : grid0.Coords) : (k0_t1_loop i).trips = 2 * (i 1).val :=
  (by decide +kernel : ∀ x : Fin 8, Scf.trips 0#32 (Scalar.addi 0#32 (Scalar.muli (Scalar.divsi (Scalar.subi
    (Scalar.muli (BitVec.ofNat 32 x.val) 2#32) 0#32) 1#32) 1#32)) 1#32 = 2 * x.val) (i 1)

theorem step_word (n : ℕ) : Scf.iv 0#32 1#32 n = BitVec.ofNat 32 n := by
  simp [Scf.iv]

theorem trip_word (i : grid0.Coords) (n : ℕ) (hn : n < 2 * (i 1).val) : Scalar.subi (Scalar.subi (Scalar.muli (BitVec.ofNat 32 (i 1).val) 2#32) 1#32)
    (Scf.iv 0#32 1#32 n) = BitVec.ofNat 32 (2 * (i 1).val - 1 - n) := by
  rw [step_word]
  exact (by decide +kernel : ∀ (x : Fin 8) (k : Fin 16), k.val < 2 * x.val → Scalar.subi (Scalar.subi (Scalar.muli (BitVec.ofNat 32 x.val) 2#32) 1#32)
    (BitVec.ofNat 32 k.val) = BitVec.ofNat 32 (2 * x.val - 1 - k.val)) (i 1) ⟨n, by have := (i 1).isLt; change (i 1).val < 8 at this; omega⟩ hn

theorem off2_eq (i : grid0.Coords) (k : Fin (k0_t1_loop i).trips) : k0_off2 i k = ![512 * (2 * (i 1).val - 1 - k.val), 0] := by
  have hk : k.val < 2 * (i 1).val := lt_of_lt_of_eq k.isLt (trips_eq i)
  unfold k0_off2
  simp only [step_word]
  exact congrArg (fun x => ![x, 0]) ((by decide +kernel : ∀ (x : Fin 8) (k : Fin 16), k.val < 2 * x.val →
    (Scalar.indexCast (Scalar.muli (Scalar.subi (Scalar.subi (Scalar.muli (BitVec.ofNat 32 x.val) 2#32) 1#32) (BitVec.ofNat 32 k.val)) 512#32)).toNat
      = 512 * (2 * x.val - 1 - k.val)) (i 1) ⟨k.val, by have := (i 1).isLt; change (i 1).val < 8 at this; omega⟩ hk)

theorem off1_hi (i : grid0.Coords) : k0_off1 i 1#32 = ![512 * (2 * (i 1).val + 1), 0] := by
  unfold k0_off1
  exact congrArg (fun x => ![x, 0]) ((by decide +kernel : ∀ x : Fin 8,
    (Scalar.indexCast (Scalar.muli (Scalar.addi (Scalar.muli (BitVec.ofNat 32 x.val) 2#32) 1#32) 512#32)).toNat = 512 * (2 * x.val + 1)) (i 1))

theorem off1_lo (i : grid0.Coords) : k0_off1 i 0#32 = ![512 * (2 * (i 1).val), 0] := by
  unfold k0_off1
  exact congrArg (fun x => ![x, 0]) ((by decide +kernel : ∀ x : Fin 8,
    (Scalar.indexCast (Scalar.muli (Scalar.addi (Scalar.muli (BitVec.ofNat 32 x.val) 2#32) 0#32) 512#32)).toNat = 512 * (2 * x.val)) (i 1))

/-- The lanes' numbers. -/
abbrev lanes : IVec S1024x128 32 := iota .tc S1024x128 32 [1] iota_S1024x128_d1_w32

/-- The keys' numbers inside a block. -/
abbrev keys : IVec S1024x512 32 := iota .tc S1024x512 32 [1] iota_S1024x512_d1_w32

theorem lane_word (r : Fin 1024) (x : Fin 128) : lanes (ix2 r x) = BitVec.ofNat 32 x.val := by
  pointwise []

/-- The first and the second key block on the diagonal, counted from the right. -/
abbrev hiWord (i : grid0.Coords) : BitVec 32 := Scalar.addi (Scalar.muli (BitVec.ofNat 32 (i 1).val) 2#32) 1#32

abbrev loWord (i : grid0.Coords) : BitVec 32 := Scalar.addi (Scalar.muli (BitVec.ofNat 32 (i 1).val) 2#32) 0#32

theorem hiWord_eq (i : grid0.Coords) : hiWord i = BitVec.ofNat 32 (2 * (i 1).val + 1) := Cert.StickBreaking.word_twice_succ _

theorem loWord_eq (i : grid0.Coords) : loWord i = BitVec.ofNat 32 (2 * (i 1).val) := Cert.StickBreaking.word_twice _

theorem add_word (a b : ℕ) : IntOp.addi (BitVec.ofNat 32 a) (BitVec.ofNat 32 b) = BitVec.ofNat 32 (a + b) := by
  apply BitVec.eq_of_toNat_eq; simp [IntOp.addi]

theorem row_word (i : grid0.Coords) (r : Fin 1024) (c : Fin 512) : k0_pay23 i (ix2 r c) = BitVec.ofNat 32 (1024 * (i 1).val + r.val) := by
  unfold k0_pay23
  pointwise []
  rw [← add_word]
  congr 1
  exact (by decide +kernel : ∀ x : Fin 8, Scalar.muli (BitVec.ofNat 32 x.val) 1024#32 = BitVec.ofNat 32 (1024 * x.val)) (i 1)

theorem keep_hi (i : grid0.Coords) (r : Fin 1024) (c : Fin 512) : k0_pay31 (k0_pay23 i) keys (Scalar.muli (hiWord i) 512#32) (ix2 r c)
    = BitVec.ofBool (decide (512 * (2 * (i 1).val + 1) + c.val < 1024 * (i 1).val + r.val)) := by
  have h8 : (i 1).val < 8 := (i 1).isLt
  unfold k0_pay31
  pointwise []
  rw [row_word, show Scalar.muli (hiWord i) 512#32 = BitVec.ofNat 32 (512 * (2 * (i 1).val + 1)) from
    (by decide +kernel : ∀ x : Fin 8, Scalar.muli (Scalar.addi (Scalar.muli (BitVec.ofNat 32 x.val) 2#32) 1#32) 512#32
      = BitVec.ofNat 32 (512 * (2 * x.val + 1))) (i 1), add_word]
  exact WordCmp.cmpi_slt_ofNat (by omega) (by omega)

theorem keep_lo (i : grid0.Coords) (r : Fin 1024) (c : Fin 512) : k0_pay42 (BitVec.ofNat 32 (i 1).val) (k0_pay23 i) keys (ix2 r c)
    = BitVec.ofBool (decide (512 * (2 * (i 1).val) + c.val < 1024 * (i 1).val + r.val)) := by
  have h8 : (i 1).val < 8 := (i 1).isLt
  unfold k0_pay42
  pointwise []
  rw [row_word, show Scalar.muli (loWord i) 512#32 = BitVec.ofNat 32 (512 * (2 * (i 1).val)) from
    (by decide +kernel : ∀ x : Fin 8, Scalar.muli (Scalar.addi (Scalar.muli (BitVec.ofNat 32 x.val) 2#32) 0#32) 512#32
      = BitVec.ofNat 32 (512 * (2 * x.val))) (i 1), add_word]
  exact WordCmp.cmpi_slt_ofNat (by omega) (by omega)

/-! ## Rows of a buffer -/

theorem rows_ld (X : FVec Ideal S8192x128 .bf16) {off : Fin 2 → ℕ} (inb) (n : ℕ) (hn : n < 16) (hoff : off = ![512 * n, 0])
    (r : Fin 512) (d : Fin 128) :
    View.ld (Val := Elt Ideal) (e' := .bf16) X (Rect.unit (s := S8192x128) off ![512, 128] inb) (ix2 r d) = X (ix2 ⟨512 * n + r.val, by omega⟩ d) := by
  subst hoff
  exact View.ld_unit_apply_of _ _ _ _ _ (ix2 ⟨512 * n + r.val, by omega⟩ d) (Fin.forall_fin_two.mpr ⟨rfl, (Nat.zero_add _).symm⟩)

theorem rows_at {κ sp} (v : View sig κ sp S8192x128 .bf16) (f : BufTy.Contents (Elt Ideal) v.ty) {off : Fin 2 → ℕ} (inb) (n : ℕ) (hn : n < 16)
    (hoff : off = ![512 * n, 0]) (r : Fin 512) (d : Fin 128) :
    View.readAt (Elt Ideal) v (Rect.unit (s := S8192x128) off S512x128.size inb).toLoadRect f (ix2 r d)
      = v.read (Elt Ideal) f (ix2 ⟨512 * n + r.val, by omega⟩ d) := by
  subst hoff
  rw [View.readAt_eq_ld]
  exact View.ld_unit_apply_of _ _ _ _ _ (ix2 ⟨512 * n + r.val, by omega⟩ d) (Fin.forall_fin_two.mpr ⟨rfl, (Nat.zero_add _).symm⟩)

/-! ## The two key blocks on the diagonal -/

section Diagonal

variable {q k : ℕ → ℕ → ℝ} {V : ℕ → ℕ → EReal} {sc : ℝ} {i : grid0.Coords} {v3 : FVec Ideal S1024x128 .f32} {kt vt : FVec Ideal S512x128 .bf16}

theorem queries_is (hsc : Ideal.ofBits .f32 0x3DB504F3#32 = (sc : EReal)) {t0 : ℕ} (h : Is (n := 1024) (m := 128) v3 fun r d => q (t0 + r) d) :
    Is (n := 1024) (m := 128) (k0_pay22 v3) fun r d => q (t0 + r) d * sc := by
  intro r d
  unfold k0_pay22
  pointwise []
  rw [h, hsc, EReal.coe_mul]

theorem zero_acc (r : Fin 1024) (d : Fin 128) : k0_pay26 (F := Ideal) (ix2 r d) = 0 := by
  unfold k0_pay26
  pointwise []

theorem zero_run (r : Fin 1024) : k0_pay27 (F := Ideal) (ix2 r 0) = 0 := by
  unfold k0_pay27
  pointwise []

theorem zero_runs (i : grid0.Coords) (r : Fin 1024) (x : Fin 128) : k0_pay25 (F := Ideal) i (ix2 r x) = 0 := by
  have h8 : (i 1).val < 8 := (i 1).isLt
  unfold k0_pay25
  pointwise []
  rw [show k0_pay23 i (ix2 r ⟨x.val, by omega⟩) = BitVec.ofNat 32 (1024 * (i 1).val + r.val) from row_word i r _, add_word,
    show (0#32 : BitVec 32) = BitVec.ofNat 32 0 from rfl, WordCmp.cmpi_slt_ofNat (by omega) (by omega), Cert.StickBreaking.select_decide, if_neg (by omega)]

/-- No key past the query block comes before a query. -/
theorem start_is : Carry q k V sc (1024 * (i 1).val) (2 * (i 1).val + 1 + 1) k0_pay26 k0_pay27 (k0_pay25 i) where
  ha r d := by rw [zero_acc, AC_zero _ _ _ _ _ (by omega)]
  hr r := by rw [zero_run, TA_zero _ _ _ (by omega), EReal.coe_zero]
  hs r x := by
    rw [zero_runs]
    simp only [RU]
    split_ifs with h
    · rw [TA_zero _ _ _ (by omega), EReal.coe_zero]
    · exact EReal.coe_zero.symm

theorem first_is (hsc : Ideal.ofBits .f32 0x3DB504F3#32 = (sc : EReal)) (h : Is (n := 1024) (m := 128) v3 fun r d => q (1024 * (i 1).val + r) d)
    (hk : Is (n := 512) (m := 128) kt fun c d => k (512 * (2 * (i 1).val + 1) + c) d)
    (hv : ∀ (c : Fin 512) (d : Fin 128), vt (ix2 c d) = V (512 * (2 * (i 1).val + 1) + c) d) :
    Carry q k V sc (1024 * (i 1).val) (2 * (i 1).val + 1)
      (k0_pay39 k0_pay26 (k0_pay31 (k0_pay23 i) keys (Scalar.muli (hiWord i) 512#32))
        (k0_pay38 (k0_pay23 i) keys k0_pay24 k0_pay27 (Scalar.muli (hiWord i) 512#32) (k0_pay28 v3 kt) (k0_pay29 v3 kt) (Scalar.ofBits .bf16 0x0000#16))
        (Scalar.ofBits .f32 0x00000000#32) vt)
      (k0_pay36 (k0_pay23 i) keys k0_pay24 k0_pay27 (Scalar.muli (hiWord i) 512#32) (k0_pay28 v3 kt) (k0_pay29 v3 kt) (Scalar.ofBits .bf16 0x0000#16))
      (k0_pay37 (k0_pay23 i) keys lanes k0_pay24 (k0_pay25 i) k0_pay27 (hiWord i) (Scalar.muli (hiWord i) 512#32) (k0_pay28 v3 kt) (k0_pay29 v3 kt)
        (Scalar.ofBits .bf16 0x0000#16)) := by
  have h8 : (i 1).val < 8 := (i 1).isLt
  have hq := queries_is hsc h
  have H := start_is (q := q) (k := k) (V := V) (sc := sc) (i := i)
  exact block_is (closed_is (keep_hi i) hq hk) (closed_weight (keep_hi i) hq hk H.hr (by omega)) hv lane_word (hiWord_eq i) (by omega) H

theorem second_is {v6 : FVec Ideal S1024x128 .bf16} {acc runs : FVec Ideal S1024x128 .f32} {run : FVec Ideal S1024x1 .f32}
    (hq : Is (n := 1024) (m := 128) v6 fun r d => q (1024 * (i 1).val + r) d * sc)
    (hk : Is (n := 512) (m := 128) kt fun c d => k (512 * (2 * (i 1).val) + c) d)
    (hv : ∀ (c : Fin 512) (d : Fin 128), vt (ix2 c d) = V (512 * (2 * (i 1).val) + c) d)
    (H : Carry q k V sc (1024 * (i 1).val) (2 * (i 1).val + 1) acc run runs) :
    Carry q k V sc (1024 * (i 1).val) (2 * (i 1).val)
      (k0_pay52 k0_pay24 acc (k0_pay40 v6 kt) (k0_pay41 v6 kt) (k0_pay42 (BitVec.ofNat 32 (i 1).val) (k0_pay23 i) keys)
        (k0_pay43 (BitVec.ofNat 32 (i 1).val) v6 (k0_pay23 i) keys kt) (k0_pay45 (BitVec.ofNat 32 (i 1).val) v6 (k0_pay23 i) keys k0_pay24 run kt)
        (k0_pay46 (BitVec.ofNat 32 (i 1).val) v6 (k0_pay23 i) keys k0_pay24 run kt) vt)
      (k0_pay50 k0_pay24 (k0_pay43 (BitVec.ofNat 32 (i 1).val) v6 (k0_pay23 i) keys kt)
        (k0_pay46 (BitVec.ofNat 32 (i 1).val) v6 (k0_pay23 i) keys k0_pay24 run kt))
      (k0_pay51 lanes runs (loWord i) (k0_pay46 (BitVec.ofNat 32 (i 1).val) v6 (k0_pay23 i) keys k0_pay24 run kt)
        (k0_pay47 (BitVec.ofNat 32 (i 1).val) lanes) (k0_pay48 run)) := by
  have h8 : (i 1).val < 8 := (i 1).isLt
  exact block_is (closed_is (keep_lo i) hq hk) (closed_weight (keep_lo i) hq hk H.hr (by omega)) hv lane_word (loWord_eq i) (by omega) H

end Diagonal

/-! ## The loop over the earlier key blocks -/

section Loop

variable {c : Dev nD}
  {i : grid0.Coords} {arg2 : Memref sig .tc .vmem S1024x128 .f32} {harg2 : arg2.IsWhole}
  {arg3 : Memref sig .tc .vmem S8192x128 .f32} {harg3 : arg3.IsWhole} {arg4 : Memref sig .tc .vmem S8192x128 .f32}
  {harg4 : arg4.IsWhole} {arg5 : Memref sig .tc .vmem S1024x128 .f32} {harg5 : arg5.IsWhole}
  {arg6 : Memref sig .tc .vmem S1024x128 .f32} {harg6 : arg6.IsWhole} {arg7 : Memref sig .tc .vmem S1024x128 .bf16}
  {harg7 : arg7.IsWhole} {arg8 : Memref sig .tc .vmem S1024x128 .f32} {harg8 : arg8.IsWhole}
  {arg9 : Memref sig .tc .vmem S8192x128 .bf16} {harg9 : arg9.IsWhole} {arg10 : Memref sig .tc .vmem S8192x128 .bf16}
  {harg10 : arg10.IsWhole}
  {v6 : FVec Ideal S1024x128 .bf16}
  {v85 : FVec Ideal S1024x128 .f32} {v96 : FVec Ideal S1024x128 .f32} {v98 : BitVec 32} {v100 : BitVec 32}
  {v104 : FVec Ideal S1024x512 .bf16} {v114 : FVec Ideal S1024x512 .bf16} {v117 : IVec S1024x512 1}
  {v120 : FVec Ideal S1024x512 .bf16} {v125 : FVec Ideal S1024x256 .bf16} {v130 : FVec Ideal S1024x1 .f32}
  {v134 : IVec S1024x128 1} {v135 : FVec Ideal S1024x1 .f32}
  {X_arg9 : BufTy.Contents (Elt Ideal) arg9.view.ty} {X_arg10 : BufTy.Contents (Elt Ideal) arg10.view.ty}

/-- The tile of 512 rows that trip `k` reads from a buffer. -/
abbrev tile (i : grid0.Coords) (k : Fin (k0_t1_loop i).trips) (v : View sig .tc .vmem S8192x128 .bf16)
    (f : BufTy.Contents (Elt Ideal) v.ty) : FVec Ideal S512x128 .bf16 :=
  View.readAt (Elt Ideal) v (Rect.unit (s := S8192x128) (k0_off2 i k) S512x128.size (k0_off2_inb i k)).toLoadRect f

/-- The key block a trip reads, as a word. -/
abbrev tripWord (i : grid0.Coords) (k : ℕ) : BitVec 32 :=
  Scalar.subi (Scalar.subi (Scalar.muli (BitVec.ofNat 32 (i 1).val) 2#32) 1#32) (Scf.iv 0#32 1#32 k)

theorem trip_carry (k : Fin (k0_t1_loop i).trips) (acc : FVec Ideal S1024x128 .f32 × FVec Ideal S1024x1 .f32 × FVec Ideal S1024x128 .f32) :
    (trip_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 k).1 acc
      = (gather acc.1 (weigh (k0_pay2 v6 (tile i k arg9.view X_arg9)) (k0_pay3 v6 (tile i k arg9.view X_arg9))
            (past (k0_pay49 k0_pay24 (k0_pay3 v6 (tile i k arg9.view X_arg9))) (mid k0_pay24 (k0_pay3 v6 (tile i k arg9.view X_arg9)) acc.2.1))
            (past (hi k0_pay24 (k0_pay3 v6 (tile i k arg9.view X_arg9))) acc.2.1)) (tile i k arg10.view X_arg10),
          k0_pay50 k0_pay24 (k0_pay3 v6 (tile i k arg9.view X_arg9)) (mid k0_pay24 (k0_pay3 v6 (tile i k arg9.view X_arg9)) acc.2.1),
          lane lanes (Scalar.addi (Scalar.muli (tripWord i k) 2#32) 0#32) (mid k0_pay24 (k0_pay3 v6 (tile i k arg9.view X_arg9)) acc.2.1)
            (lane lanes (Scalar.addi (Scalar.muli (tripWord i k) 2#32) 1#32) acc.2.1 acc.2.2)) := by
  unfold trip_k0_t1
  rfl

theorem loop_is {q k : ℕ → ℕ → ℝ} {V : ℕ → ℕ → EReal} {sc : ℝ}
    (hq : Is (n := 1024) (m := 128) v6 fun r d => q (1024 * (i 1).val + r) d * sc)
    (hk : Is (n := 8192) (m := 128) (φ := .bf16) (arg9.view.read (Elt Ideal) X_arg9) k)
    (hv : ∀ (s : Fin 8192) (d : Fin 128), (arg10.view.read (Elt Ideal) X_arg10 : FVec Ideal S8192x128 .bf16) (ix2 s d) = V s d)
    {init : FVec Ideal S1024x128 .f32 × FVec Ideal S1024x1 .f32 × FVec Ideal S1024x128 .f32}
    (H : Carry q k V sc (1024 * (i 1).val) (2 * (i 1).val) init.1 init.2.1 init.2.2) (n : ℕ) (hn : n ≤ 2 * (i 1).val) :
    Carry q k V sc (1024 * (i 1).val) (2 * (i 1).val - n)
      (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init n).1
      (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init n).2.1
      (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init n).2.2 := by
  have h8 : (i 1).val < 8 := (i 1).isLt
  induction n with
  | zero => exact H
  | succ n ih =>
    have h := ih (by omega)
    have hkk : n < (k0_t1_loop i).trips := by rw [trips_eq]; omega
    have e := st_k0_t1_succ (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init ⟨n, hkk⟩
    dsimp only at e
    rw [e]
    unfold tripR_k0_t1
    rw [trip_carry]
    have hb : 2 * (i 1).val - n = 2 * (i 1).val - (n + 1) + 1 := by omega
    have hoff : k0_off2 i ⟨n, hkk⟩ = ![512 * (2 * (i 1).val - (n + 1)), 0] := by rw [off2_eq, show 2 * (i 1).val - 1 - n = 2 * (i 1).val - (n + 1) by omega]
    have hw : tripWord i n = BitVec.ofNat 32 (2 * (i 1).val - (n + 1)) :=
      (trip_word i n (by omega)).trans (congrArg (BitVec.ofNat 32) (by omega))
    rw [hb] at h
    have hkt : Is (n := 512) (m := 128) (tile i ⟨n, hkk⟩ arg9.view X_arg9) fun r d => k (512 * (2 * (i 1).val - (n + 1)) + r) d :=
      fun r d => (rows_at arg9.view X_arg9 (k0_off2_inb i ⟨n, hkk⟩) _ (by omega) hoff r d).trans (hk _ _)
    have hvt : ∀ (r : Fin 512) (d : Fin 128), tile i ⟨n, hkk⟩ arg10.view X_arg10 (ix2 r d) = V (512 * (2 * (i 1).val - (n + 1)) + r) d :=
      fun r d => (rows_at arg10.view X_arg10 (k0_off2_inb i ⟨n, hkk⟩) _ (by omega) hoff r d).trans (hv _ _)
    exact block_is (open_is hq hkt (by omega)) (open_weight hq hkt h.hr (by omega) (by omega)) hvt lane_word hw (by omega) h

end Loop

end Cert.SbFwdEqual
-- ==== Proof.SbFwdPoint.lean ====
module

public import proofs.«01_k».proof.Proof.SbFwdLoop

/-! One grid point of the forward kernel: what it leaves for a head and a block of 1024 query rows. -/

@[expose] public section

set_option maxRecDepth 16384

noncomputable section

open Idealize.ShloMosaic Finset

namespace Cert.SbFwdEqual

open Cert.SbFwdIdeal Cert.SbFwdIdeal.Gen
open Cert.StickBreaking (Is)

/-! ## The loop's end -/

section Ends

variable {c : Dev nD}
  {i : grid0.Coords} {arg2 : Memref sig .tc .vmem S1024x128 .f32} {harg2 : arg2.IsWhole}
  {arg3 : Memref sig .tc .vmem S8192x128 .f32} {harg3 : arg3.IsWhole} {arg4 : Memref sig .tc .vmem S8192x128 .f32}
  {harg4 : arg4.IsWhole} {arg5 : Memref sig .tc .vmem S1024x128 .f32} {harg5 : arg5.IsWhole}
  {arg6 : Memref sig .tc .vmem S1024x128 .f32} {harg6 : arg6.IsWhole} {arg7 : Memref sig .tc .vmem S1024x128 .bf16}
  {harg7 : arg7.IsWhole} {arg8 : Memref sig .tc .vmem S1024x128 .f32} {harg8 : arg8.IsWhole}
  {arg9 : Memref sig .tc .vmem S8192x128 .bf16} {harg9 : arg9.IsWhole} {arg10 : Memref sig .tc .vmem S8192x128 .bf16}
  {harg10 : arg10.IsWhole}
  {v6 : FVec Ideal S1024x128 .bf16}
  {v85 : FVec Ideal S1024x128 .f32} {v96 : FVec Ideal S1024x128 .f32} {v98 : BitVec 32} {v100 : BitVec 32}
  {v104 : FVec Ideal S1024x512 .bf16} {v114 : FVec Ideal S1024x512 .bf16} {v117 : IVec S1024x512 1}
  {v120 : FVec Ideal S1024x512 .bf16} {v125 : FVec Ideal S1024x256 .bf16} {v130 : FVec Ideal S1024x1 .f32}
  {v134 : IVec S1024x128 1} {v135 : FVec Ideal S1024x1 .f32}
  {X_arg9 : BufTy.Contents (Elt Ideal) arg9.view.ty} {X_arg10 : BufTy.Contents (Elt Ideal) arg10.view.ty}
  {init : FVec Ideal S1024x128 .f32 × FVec Ideal S1024x1 .f32 × FVec Ideal S1024x128 .f32}

/-- The loop over the remaining trips makes none. -/
theorem rest_none (v171 : BitVec 32) (w : BitVec 32) : st_k0_t2 (F := Ideal) Variants.none c none i arg2 harg2 arg3 harg3 arg4 harg4 arg5 harg5 arg6 harg6 arg7 harg7 arg8 harg8 arg9 harg9 arg10 harg10 w v6 lanes k0_pay24 v85 v96 v98 v100 v104 v114 v117 v120 v125 v130 v134 v135 v171 X_arg9 X_arg10 init 0 = init := rfl

/-- A query block without earlier key blocks makes no trip. -/
theorem first_none (n : ℕ) (hn : n = 0) : st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init n = init := by
  subst hn; rfl

variable {q k : ℕ → ℕ → ℝ} {V : ℕ → ℕ → EReal} {sc : ℝ}
  (hq : Is (n := 1024) (m := 128) v6 fun r d => q (1024 * (i 1).val + r) d * sc)
  (hk : Is (n := 8192) (m := 128) (φ := .bf16) (arg9.view.read (Elt Ideal) X_arg9) k)
  (hv : ∀ (s : Fin 8192) (d : Fin 128), (arg10.view.read (Elt Ideal) X_arg10 : FVec Ideal S8192x128 .bf16) (ix2 s d) = V s d)
  (H : Carry q k V sc (1024 * (i 1).val) (2 * (i 1).val) init.1 init.2.1 init.2.2)
include hq hk hv H

theorem end_all : Carry q k V sc (1024 * (i 1).val) 0
    (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init (2 * (i 1).val)).1
    (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init (2 * (i 1).val)).2.1
    (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init (2 * (i 1).val)).2.2 := by
  have h := loop_is (hq := hq) (hk := hk) (hv := hv) (H := H) (c := c) (harg2 := harg2) (harg3 := harg3) (harg4 := harg4)
    (harg5 := harg5) (harg6 := harg6) (harg7 := harg7) (harg8 := harg8) (harg9 := harg9) (harg10 := harg10) (v85 := v85) (v96 := v96)
    (v98 := v98) (v100 := v100) (v104 := v104) (v114 := v114) (v117 := v117) (v120 := v120) (v125 := v125) (v130 := v130)
    (v134 := v134) (v135 := v135) (2 * (i 1).val) le_rfl
  rw [Nat.sub_self] at h
  exact h

theorem end_att (r : Fin 1024) (d : Fin 128) : (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init (2 * (i 1).val)).1 (ix2 r d)
    = AC q k V sc (1024 * (i 1).val + r) d 0 :=
  (end_all (hq := hq) (hk := hk) (hv := hv) (H := H) ..).ha r d

theorem end_runs (r : Fin 1024) (x : Fin 128) : (st_k0_t1 (F := Ideal) Variants.none c none i arg2 harg2 arg3 harg3 arg4 harg4 arg5 harg5 arg6 harg6 arg7 harg7 arg8 harg8 arg9 harg9 arg10 harg10 (BitVec.ofNat 32 (i 1).val) v6 lanes k0_pay24 v85 v96 v98 v100 v104 v114 v117 v120 v125 v130 v134 v135 X_arg9 X_arg10 init (2 * (i 1).val)).2.2 (ix2 r x)
    = ((RU q k sc (1024 * (i 1).val + r) x 0 : ℝ) : EReal) :=
  (end_all (hq := hq) (hk := hk) (hv := hv) (H := H) ..).hs r x

end Ends

/-! ## The block from its keys and values -/

theorem trips_word (i : grid0.Coords) : Scf.trips 0#32 (Scalar.addi 0#32 (Scalar.muli (Scalar.divsi (Scalar.subi
    (Scalar.muli (BitVec.ofNat 32 (i 1).val) 2#32) 0#32) 1#32) 1#32)) 1#32 = 2 * (i 1).val := trips_eq i

/-- A key block's rows, for the two blocks on the diagonal. -/
abbrev rowsHi (K : FVec Ideal S8192x128 .bf16) (i : grid0.Coords) : FVec Ideal S512x128 .bf16 :=
  View.ld (Val := Elt Ideal) (e' := .bf16) K (Rect.unit (s := S8192x128) (k0_off1 i 1#32) ![512, 128] (k0_off1_inb i 1))

abbrev rowsLo (K : FVec Ideal S8192x128 .bf16) (i : grid0.Coords) : FVec Ideal S512x128 .bf16 :=
  View.ld (Val := Elt Ideal) (e' := .bf16) K (Rect.unit (s := S8192x128) (k0_off1 i 0#32) ![512, 128] (k0_off1_inb i 0))

/-- The carried sums after the first of them. -/
abbrev firstAcc (i : grid0.Coords) (v3 : FVec Ideal S1024x128 .f32) (K W : FVec Ideal S8192x128 .bf16) : FVec Ideal S1024x128 .f32 :=
  (k0_pay39 k0_pay26 (k0_pay31 (k0_pay23 i) keys (Scalar.muli (hiWord i) 512#32)) (k0_pay38 (k0_pay23 i) keys k0_pay24
    k0_pay27 (Scalar.muli (hiWord i) 512#32) (k0_pay28 v3 (rowsHi K i)) (k0_pay29 v3 (rowsHi K i)) (Scalar.ofBits .bf16
    0x0000#16)) (Scalar.ofBits .f32 0x00000000#32) (rowsHi W i))

abbrev firstRun (i : grid0.Coords) (v3 : FVec Ideal S1024x128 .f32) (K : FVec Ideal S8192x128 .bf16) : FVec Ideal S1024x1 .f32 :=
  (k0_pay36 (k0_pay23 i) keys k0_pay24 k0_pay27 (Scalar.muli (hiWord i) 512#32) (k0_pay28 v3 (rowsHi K i)) (k0_pay29 v3
    (rowsHi K i)) (Scalar.ofBits .bf16 0x0000#16))

abbrev firstRuns (i : grid0.Coords) (v3 : FVec Ideal S1024x128 .f32) (K : FVec Ideal S8192x128 .bf16) : FVec Ideal S1024x128 .f32 :=
  (k0_pay37 (k0_pay23 i) keys lanes k0_pay24 (k0_pay25 i) k0_pay27 (hiWord i) (Scalar.muli (hiWord i) 512#32) (k0_pay28 v3
    (rowsHi K i)) (k0_pay29 v3 (rowsHi K i)) (Scalar.ofBits .bf16 0x0000#16))

section Both

variable {q k : ℕ → ℕ → ℝ} {V : ℕ → ℕ → EReal} {sc : ℝ} {i : grid0.Coords} {v3 : FVec Ideal S1024x128 .f32} {K W : FVec Ideal S8192x128 .bf16}

/-- The carried sums once the two key blocks on the diagonal are done. -/
theorem both_is (hsc : Ideal.ofBits .f32 0x3DB504F3#32 = (sc : EReal)) (h : Is (n := 1024) (m := 128) v3 fun r d => q (1024 * (i 1).val + r) d)
    (hK : Is (n := 8192) (m := 128) K k) (hW : ∀ (s : Fin 8192) (d : Fin 128), W (ix2 s d) = V s d) :
    Carry q k V sc (1024 * (i 1).val) (2 * (i 1).val)
      (k0_pay52 k0_pay24 (firstAcc i v3 K W) (k0_pay40 (k0_pay22 v3) (rowsLo K i)) (k0_pay41 (k0_pay22 v3) (rowsLo K i))
        (k0_pay42 (BitVec.ofNat 32 (i 1).val) (k0_pay23 i) keys) (k0_pay43 (BitVec.ofNat 32 (i 1).val) (k0_pay22 v3)
        (k0_pay23 i) keys (rowsLo K i)) (k0_pay45 (BitVec.ofNat 32 (i 1).val) (k0_pay22 v3) (k0_pay23 i) keys k0_pay24
        (firstRun i v3 K) (rowsLo K i)) (k0_pay46 (BitVec.ofNat 32 (i 1).val) (k0_pay22 v3) (k0_pay23 i) keys k0_pay24
        (firstRun i v3 K) (rowsLo K i)) (rowsLo W i))
      (k0_pay50 k0_pay24 (k0_pay43 (BitVec.ofNat 32 (i 1).val) (k0_pay22 v3) (k0_pay23 i) keys (rowsLo K i)) (k0_pay46
        (BitVec.ofNat 32 (i 1).val) (k0_pay22 v3) (k0_pay23 i) keys k0_pay24 (firstRun i v3 K) (rowsLo K i)))
      (k0_pay51 lanes (firstRuns i v3 K) (loWord i) (k0_pay46 (BitVec.ofNat 32 (i 1).val) (k0_pay22 v3) (k0_pay23 i) keys
        k0_pay24 (firstRun i v3 K) (rowsLo K i)) (k0_pay47 (BitVec.ofNat 32 (i 1).val) lanes) (k0_pay48 (firstRun i v3 K))) :=
  have h8 : (i 1).val < 8 := (i 1).isLt
  second_is (kt := rowsLo K i) (vt := rowsLo W i) (queries_is hsc h)
    (fun c d => (rows_ld K _ (2 * (i 1).val) (by omega) (off1_lo i) c d).trans (hK _ _))
    (fun c d => (rows_ld W _ (2 * (i 1).val) (by omega) (off1_lo i) c d).trans (hW _ _))
    (first_is (kt := rowsHi K i) (vt := rowsHi W i) hsc h
      (fun c d => (rows_ld K _ (2 * (i 1).val + 1) (by omega) (off1_hi i) c d).trans (hK _ _))
      (fun c d => (rows_ld W _ (2 * (i 1).val + 1) (by omega) (off1_hi i) c d).trans (hW _ _)))

end Both

/-- The gate's factor, as both programs compute it. -/
def gated (a g : EReal) : EReal := a * (g * Ideal.div 1 (1 + Ideal.exp (-g)))

theorem gate_is (acc g : FVec Ideal S1024x128 .f32) (r : Fin 1024) (d : Fin 128) : k0_pay1 acc g (ix2 r d) = gated (acc (ix2 r d)) (g (ix2 r d)) := by
  unfold k0_pay1
  pointwise []
  rw [zero_sub]
  rfl

section Cases

variable {m : (ℓ : Loc nD τ sig) → Buf (Elt Ideal) ℓ} {c : Dev nD} {t : Fin cfg0.N} {q k : ℕ → ℕ → ℝ} {V : ℕ → ℕ → EReal} {sc : ℝ}

/-- What a point leaves: the output's rows, the gated rows, the saved sums. -/
structure Left (m : (ℓ : Loc nD τ sig) → Buf (Elt Ideal) ℓ) (c : Dev nD) (t : Fin cfg0.N) (q k : ℕ → ℕ → ℝ) (V : ℕ → ℕ → EReal) (sc : ℝ) : Prop where
  att : ∀ (r : Fin 1024) (d : Fin 128), (outsAt0 m c t.val t.isLt).1 (ix2 r d) = AC q k V sc (1024 * (grid0.coords t 1).val + r) d 0
  gate : ∀ (r : Fin 1024) (d : Fin 128), (outsAt0 m c t.val t.isLt).2.1 (ix2 r d)
    = gated (AC q k V sc (1024 * (grid0.coords t 1).val + r) d 0) ((iblk m c 3 t : FVec Ideal S1024x128 .f32) (ix2 r d))
  runs : Is (n := 1024) (m := 128) (φ := .f32) (outsAt0 m c t.val t.isLt).2.2.1 fun r x => RU q k sc (1024 * (grid0.coords t 1).val + r) x 0

/-- What a head's points are given and keep: its keys and values. -/
structure Kept (m : (ℓ : Loc nD τ sig) → Buf (Elt Ideal) ℓ) (c : Dev nD) (n : ℕ) (hn : n < cfg0.N) (k : ℕ → ℕ → ℝ) (V : ℕ → ℕ → EReal) : Prop where
  keys : Is (n := 8192) (m := 128) (φ := .bf16) (outsAt0 m c n hn).2.2.2.1 k
  values : ∀ (s : Fin 8192) (d : Fin 128), ((outsAt0 m c n hn).2.2.2.2 : FVec Ideal S8192x128 .bf16) (ix2 s d) = V s d

variable (hsc : Ideal.ofBits .f32 0x3DB504F3#32 = (sc : EReal))
  (h0 : Is (n := 1024) (m := 128) (φ := .f32) (iblk m c 0 t) fun r d => q (1024 * (grid0.coords t 1).val + r) d)

section A

variable (h : t.val % 8 = 0) (hi : 2 * (grid0.coords t 1).val = 0)
  (h1 : Is (n := 8192) (m := 128) (φ := .f32) (iblk m c 1 t) k)
  (h2 : ∀ (s : Fin 8192) (d : Fin 128), (iblk m c 2 t : FVec Ideal S8192x128 .f32) (ix2 s d) = V s d)

include h1 in
theorem keys_is : Is (n := 8192) (m := 128) (φ := .bf16) (k0_pay20 (iblk m c 1 t)) k := by
  intro r d
  unfold k0_pay20
  pointwise []
  exact h1 r d

include h2 in
theorem values_is (s : Fin 8192) (d : Fin 128) : (k0_pay21 (iblk m c 2 t) : FVec Ideal S8192x128 .bf16) (ix2 s d) = V s d := by
  unfold k0_pay21
  pointwise []
  exact h2 s d

include h h1 h2 in
theorem kept_A : Kept m c t.val t.isLt k V where
  keys := by
    rw [outsAt0_A m c t h]
    frame_open
    frame_out
    exact keys_is h1
  values := by
    rw [outsAt0_A m c t h]
    frame_open
    frame_out
    exact values_is h2

include hsc h0 h hi h1 h2

theorem att_A (r : Fin 1024) (d : Fin 128) : (outsAt0 m c t.val t.isLt).1 (ix2 r d) = AC q k V sc (1024 * (grid0.coords t 1).val + r) d 0 := by
  rw [outsAt0_A m c t h]
  frame_open
  frame_out
  simp (disch := decide) only [Scf.rem_trips, trips_word, View.readAt_eq_ld, View.writes_nil, View.ld_unit_lit', Memref.IsWhole.read_unread]
  rw [rest_none, first_none _ hi]
  exact ((both_is hsc h0 (keys_is h1) (values_is h2)).ha r d).trans (by rw [hi])

theorem gate_A (r : Fin 1024) (d : Fin 128) : (outsAt0 m c t.val t.isLt).2.1 (ix2 r d)
    = gated (AC q k V sc (1024 * (grid0.coords t 1).val + r) d 0) ((iblk m c 3 t : FVec Ideal S1024x128 .f32) (ix2 r d)) := by
  rw [outsAt0_A m c t h]
  frame_open
  frame_out
  simp (disch := decide) only [Scf.rem_trips, trips_word, View.readAt_eq_ld, View.writes_nil, View.ld_unit_lit', Memref.IsWhole.read_unread]
  rw [rest_none, first_none _ hi]
  exact (gate_is _ _ r d).trans (congrArg (gated · _) (((both_is hsc h0 (keys_is h1) (values_is h2)).ha r d).trans (by rw [hi])))

theorem runs_A : Is (n := 1024) (m := 128) (φ := .f32) (outsAt0 m c t.val t.isLt).2.2.1 fun r x => RU q k sc (1024 * (grid0.coords t 1).val + r) x 0 := by
  rw [outsAt0_A m c t h]
  frame_open
  frame_out
  simp (disch := decide) only [Scf.rem_trips, trips_word, View.readAt_eq_ld, View.writes_nil, View.ld_unit_lit', Memref.IsWhole.read_unread]
  rw [rest_none, first_none _ hi]
  exact fun r x => ((both_is hsc h0 (keys_is h1) (values_is h2)).hs r x).trans (by rw [hi])

theorem left_A : Left m c t q k V sc := ⟨att_A hsc h0 h hi h1 h2, gate_A hsc h0 h hi h1 h2, runs_A hsc h0 h hi h1 h2⟩

end A

section B

variable (h : ¬ t.val % 8 = 0) (hlt : t.val - 1 < cfg0.N) (HK : Kept m c (t.val - 1) hlt k V)
include h HK

theorem kept_B : Kept m c t.val t.isLt k V where
  keys := by
    rw [outsAt0_B m c t h]
    dsimp only
    unfold sout0_B_0
    exact HK.keys
  values := by
    rw [outsAt0_B m c t h]
    dsimp only
    unfold sout0_B_1
    exact HK.values

include hsc h0

theorem att_B (r : Fin 1024) (d : Fin 128) : (outsAt0 m c t.val t.isLt).1 (ix2 r d) = AC q k V sc (1024 * (grid0.coords t 1).val + r) d 0 := by
  rw [outsAt0_B m c t h]
  frame_open
  frame_out
  simp (disch := decide) only [Scf.rem_trips, trips_word, View.readAt_eq_ld, View.writes_nil, View.ld_unit_lit', Memref.IsWhole.read_unread]
  rw [rest_none]
  simp (disch := decide) only [Memref.IsWhole.read_unread, read_unread_whole]
  exact end_att (hq := queries_is hsc h0) (hk := by rw [Memref.IsWhole.read_unread]; exact HK.keys) (hv := by rw [Memref.IsWhole.read_unread]; exact HK.values)
    (H := both_is hsc h0 HK.keys HK.values) (r := r) (d := d) ..

theorem gate_B (r : Fin 1024) (d : Fin 128) : (outsAt0 m c t.val t.isLt).2.1 (ix2 r d)
    = gated (AC q k V sc (1024 * (grid0.coords t 1).val + r) d 0) ((iblk m c 3 t : FVec Ideal S1024x128 .f32) (ix2 r d)) := by
  rw [outsAt0_B m c t h]
  frame_open
  frame_out
  simp (disch := decide) only [Scf.rem_trips, trips_word, View.readAt_eq_ld, View.writes_nil, View.ld_unit_lit', Memref.IsWhole.read_unread]
  rw [rest_none]
  simp (disch := decide) only [Memref.IsWhole.read_unread, read_unread_whole]
  exact (gate_is _ _ r d).trans (congrArg (gated · _) (end_att (hq := queries_is hsc h0) (hk := by rw [Memref.IsWhole.read_unread]; exact HK.keys)
    (hv := by rw [Memref.IsWhole.read_unread]; exact HK.values) (H := both_is hsc h0 HK.keys HK.values) (r := r) (d := d) ..))

theorem runs_B : Is (n := 1024) (m := 128) (φ := .f32) (outsAt0 m c t.val t.isLt).2.2.1 fun r x => RU q k sc (1024 * (grid0.coords t 1).val + r) x 0 := by
  rw [outsAt0_B m c t h]
  frame_open
  frame_out
  simp (disch := decide) only [Scf.rem_trips, trips_word, View.readAt_eq_ld, View.writes_nil, View.ld_unit_lit', Memref.IsWhole.read_unread]
  rw [rest_none]
  simp (disch := decide) only [Memref.IsWhole.read_unread, read_unread_whole]
  exact fun r x => end_runs (hq := queries_is hsc h0) (hk := by rw [Memref.IsWhole.read_unread]; exact HK.keys)
    (hv := by rw [Memref.IsWhole.read_unread]; exact HK.values) (H := both_is hsc h0 HK.keys HK.values) (r := r) (x := x) ..

theorem left_B : Left m c t q k V sc := ⟨att_B hsc h0 h hlt HK, gate_B hsc h0 h hlt HK, runs_B hsc h0 h hlt HK⟩

end B

end Cases

end Cert.SbFwdEqual
-- ==== Proof.SbFwdGrid.lean ====
module

public import proofs.«01_k».proof.Proof.SbFwdPoint

/-! The forward kernel's grid: eight heads by eight blocks of 1024 query rows, and the three arrays it leaves. -/

@[expose] public section

set_option maxRecDepth 16384

noncomputable section

open Idealize.ShloMosaic Finset

namespace Cert.SbFwdEqual

open Cert.SbFwdIdeal Cert.SbFwdIdeal.Gen Cert.SbFwdIdeal.Value
open Cert.StickBreaking (Is)

theorem points : cfg0.N = 64 := N_0

theorem points_lt (t : Fin cfg0.N) : t.val < 64 := lt_of_lt_of_eq t.isLt points

theorem coord_block : ∀ t : Fin cfg0.N, (grid0.coords t 1).val = t.val % 8 := (by decide +kernel : ∀ t : Fin grid0.N, _)

theorem idx : ∀ t : Fin cfg0.N, win0_0.index t = ![t.val % 8, t.val / 8] ∧ win0_1.index t = ![0, 8 + t.val / 8]
    ∧ win0_2.index t = ![0, 16 + t.val / 8] ∧ win0_3.index t = ![t.val % 8, 24 + t.val / 8] :=
  (by decide +kernel : ∀ t : Fin grid0.N, _)

/-! ## What a point is given -/

section Given

variable (m : (ℓ : Loc nD τ sig) → Buf (Elt Ideal) ℓ) (c : Dev nD) (t : Fin cfg0.N)

theorem blk0 (r : Fin 1024) (d : Fin 128) (a : Fin 8192) (b : Fin 18432) (ha : a.val = 1024 * (t.val % 8) + r.val) (hb : b.val = 0 + (t.val / 8 * 128 + d.val)) :
    iblk m c 0 t (ix2 r d) = (m (c.tc.loc main_arg0) : FVec Ideal S8192x18432 .f32) (ix2 a b) := by
  blk_ext [iblk, V_main_arg0, idx t]

theorem blk1 (r : Fin 8192) (d : Fin 128) (a : Fin 8192) (b : Fin 18432) (ha : a.val = r.val) (hb : b.val = 1024 + (t.val / 8 * 128 + d.val)) :
    iblk m c 1 t (ix2 r d) = (m (c.tc.loc main_arg0) : FVec Ideal S8192x18432 .f32) (ix2 a b) := by
  blk_ext [iblk, V_main_arg0, idx t]

theorem blk2 (r : Fin 8192) (d : Fin 128) (a : Fin 8192) (b : Fin 18432) (ha : a.val = r.val) (hb : b.val = 2048 + (t.val / 8 * 128 + d.val)) :
    iblk m c 2 t (ix2 r d) = (m (c.tc.loc main_arg0) : FVec Ideal S8192x18432 .f32) (ix2 a b) := by
  blk_ext [iblk, V_main_arg0, idx t]

theorem blk3 (r : Fin 1024) (d : Fin 128) (a : Fin 8192) (b : Fin 18432) (ha : a.val = 1024 * (t.val % 8) + r.val) (hb : b.val = 3072 + (t.val / 8 * 128 + d.val)) :
    iblk m c 3 t (ix2 r d) = (m (c.tc.loc main_arg0) : FVec Ideal S8192x18432 .f32) (ix2 a b) := by
  blk_ext [iblk, V_main_arg0, idx t]

end Given

/-! ## What every point leaves -/

/-- Every point's blocks, over a head's queries and keys (reals) and its values. -/
structure Given (m : (ℓ : Loc nD τ sig) → Buf (Elt Ideal) ℓ) (c : Dev nD) (q k : ℕ → ℕ → ℕ → ℝ) (V : ℕ → ℕ → ℕ → EReal) : Prop where
  q : ∀ t : Fin cfg0.N, Is (n := 1024) (m := 128) (φ := .f32) (iblk m c 0 t) fun r d => q (t.val / 8) (1024 * (grid0.coords t 1).val + r) d
  k : ∀ t : Fin cfg0.N, Is (n := 8192) (m := 128) (φ := .f32) (iblk m c 1 t) (k (t.val / 8))
  v : ∀ (t : Fin cfg0.N) (s : Fin 8192) (d : Fin 128), (iblk m c 2 t : FVec Ideal S8192x128 .f32) (ix2 s d) = V (t.val / 8) s d

variable {m : (ℓ : Loc nD τ sig) → Buf (Elt Ideal) ℓ} {c : Dev nD} {q k : ℕ → ℕ → ℕ → ℝ} {V : ℕ → ℕ → ℕ → EReal} {sc : ℝ}
  (H : Given m c q k V)
include H

/-- A head's keys and values stay in memory over the head's eight points. -/
theorem kept (n : ℕ) (hn : n < cfg0.N) : Kept m c n hn (k (n / 8)) (V (n / 8)) := by
  induction n with
  | zero => exact kept_A (t := ⟨0, hn⟩) rfl (H.k ⟨0, hn⟩) (H.v ⟨0, hn⟩)
  | succ n ih =>
    by_cases h : (n + 1) % 8 = 0
    · exact kept_A (t := ⟨n + 1, hn⟩) h (H.k ⟨n + 1, hn⟩) (H.v ⟨n + 1, hn⟩)
    · have e : (n + 1) / 8 = n / 8 := by omega
      rw [e]
      exact kept_B (t := ⟨n + 1, hn⟩) h (Nat.lt_of_succ_lt hn) (ih (Nat.lt_of_succ_lt hn))

theorem left (hsc : Ideal.ofBits .f32 0x3DB504F3#32 = (sc : EReal)) (t : Fin cfg0.N) : Left m c t (q (t.val / 8)) (k (t.val / 8)) (V (t.val / 8)) sc := by
  by_cases h : t.val % 8 = 0
  · exact left_A hsc (H.q t) h (by rw [coord_block, h]) (H.k t) (H.v t)
  · have e : t.val / 8 = (t.val - 1) / 8 := by omega
    have hlt : t.val - 1 < cfg0.N := lt_of_le_of_lt (Nat.sub_le _ _) t.isLt
    have HK : Kept m c (t.val - 1) hlt (k (t.val / 8)) (V (t.val / 8)) := e ▸ kept H (t.val - 1) hlt
    exact left_B hsc (H.q t) h hlt HK

/-! ## The three arrays -/

section Arrays

variable (hsc : Ideal.ofBits .f32 0x3DB504F3#32 = (sc : EReal)) (t : Fin 8192) (b : Fin 1024)

omit H in
theorem point_lt : 8 * (b.val / 128) + t.val / 1024 < cfg0.N := by rw [points]; omega

include hsc

theorem out_att : G4 m c (ix2 t b) = AC (q (b.val / 128)) (k (b.val / 128)) (V (b.val / 128)) sc t (b.val % 128) 0 := by
  have hN := point_lt t b
  have hp : pt4Of (ix2 t b) = 8 * (b.val / 128) + t.val / 1024 := by
    show 1 * (t.val / 1024 - 0) + 8 * (b.val / 128 - 0) = _
    omega
  have hl : loc4Of (ix2 t b) = ix2 ⟨t.val % 1024, Nat.mod_lt _ (by decide)⟩ ⟨b.val % 128, Nat.mod_lt _ (by decide)⟩ := by
    funext a; apply Fin.ext
    match a with
    | ⟨0, _⟩ => rfl
    | ⟨1, _⟩ => rfl
  unfold G4
  rw [dif_pos (by rw [hp]; exact hN), hl, fold0_congr m c _ _ _ (by omega) hp, ← outsAt0_sweep m c _ hN, (left H hsc ⟨_, hN⟩).att, coord_block]
  have e0 : (8 * (b.val / 128) + t.val / 1024) / 8 = b.val / 128 := by omega
  have e1 : 1024 * ((8 * (b.val / 128) + t.val / 1024) % 8) + t.val % 1024 = t.val := by omega
  simp only [e0, e1]

theorem out_gate : G5 m c (ix2 t b) = gated (AC (q (b.val / 128)) (k (b.val / 128)) (V (b.val / 128)) sc t (b.val % 128) 0)
    ((m (c.tc.loc main_arg0) : FVec Ideal S8192x18432 .f32) (ix2 t ⟨3072 + b.val, by omega⟩)) := by
  have hN := point_lt t b
  have hp : pt5Of (ix2 t b) = 8 * (b.val / 128) + t.val / 1024 := by
    show 1 * (t.val / 1024 - 0) + 8 * (b.val / 128 - 0) = _
    omega
  have hl : loc5Of (ix2 t b) = ix2 ⟨t.val % 1024, Nat.mod_lt _ (by decide)⟩ ⟨b.val % 128, Nat.mod_lt _ (by decide)⟩ := by
    funext a; apply Fin.ext
    match a with
    | ⟨0, _⟩ => rfl
    | ⟨1, _⟩ => rfl
  unfold G5
  rw [dif_pos (by rw [hp]; exact hN), hl, fold0_congr m c _ _ _ (by omega) hp, ← outsAt0_sweep m c _ hN, (left H hsc ⟨_, hN⟩).gate, coord_block,
    blk3 m c ⟨_, hN⟩ _ _ t ⟨3072 + b.val, by omega⟩ (by dsimp only; omega) (by dsimp only; omega)]
  have e0 : (8 * (b.val / 128) + t.val / 1024) / 8 = b.val / 128 := by omega
  have e1 : 1024 * ((8 * (b.val / 128) + t.val / 1024) % 8) + t.val % 1024 = t.val := by omega
  simp only [e0, e1]

theorem out_runs : G6 m c (ix2 t b) = ((RU (q (b.val / 128)) (k (b.val / 128)) sc t (b.val % 128) 0 : ℝ) : EReal) := by
  have hN := point_lt t b
  have hp : pt6Of (ix2 t b) = 8 * (b.val / 128) + t.val / 1024 := by
    show 1 * (t.val / 1024 - 0) + 8 * (b.val / 128 - 0) = _
    omega
  have hl : loc6Of (ix2 t b) = ix2 ⟨t.val % 1024, Nat.mod_lt _ (by decide)⟩ ⟨b.val % 128, Nat.mod_lt _ (by decide)⟩ := by
    funext a; apply Fin.ext
    match a with
    | ⟨0, _⟩ => rfl
    | ⟨1, _⟩ => rfl
  unfold G6
  rw [dif_pos (by rw [hp]; exact hN), hl, fold0_congr m c _ _ _ (by omega) hp, ← outsAt0_sweep m c _ hN, (left H hsc ⟨_, hN⟩).runs, coord_block]
  have e0 : (8 * (b.val / 128) + t.val / 1024) / 8 = b.val / 128 := by omega
  have e1 : 1024 * ((8 * (b.val / 128) + t.val / 1024) % 8) + t.val % 1024 = t.val := by omega
  simp only [e0, e1]

end Arrays

end Cert.SbFwdEqual
-- ==== Proof.SbFwdReference.lean ====
module

public import proofs.«01_k».proof.Proof.Entry
public import proofs.«01_k».proof.Proof.Gen.SbFwdReferenceIdeal.Run

/-! The reference's lines for the forward pass of the attention, one by one, read at an index. The scores and the weights
are real numbers; the values and the gate may be infinite. -/

@[expose] public section

set_option maxRecDepth 16384

noncomputable section

open Idealize.ShloMosaic Finset

namespace Cert.SbFwdEqual.Host

open Cert.SbFwdReferenceIdeal Cert.SbFwdReferenceIdeal.Gen Cert.SbFwdReferenceIdeal.Value
open Cert.StickBreaking (head Z SA Wt sp sum_coe' select_decide slt_word host_softplus sum_from after_sum neg_sp_neg)

section Lines

variable (x : FVec Ideal S8192x18432 .f32)

/-! ## The lines -/

def qs : FVec Ideal S8192x8x128 .f32 :=
  shapeCast _ (extractStridedSlice S8192x1024 ![0, 0] x slices_S8192x18432_S8192x1024_0_0) shapeCasts_S8192x1024_S8192x8x128

def ks : FVec Ideal S8192x8x128 .f32 :=
  shapeCast _ (extractStridedSlice S8192x1024 ![0, 1024] x slices_S8192x18432_S8192x1024_0_1024) shapeCasts_S8192x1024_S8192x8x128

def vs : FVec Ideal S8192x8x128 .f32 :=
  shapeCast _ (extractStridedSlice S8192x1024 ![0, 2048] x slices_S8192x18432_S8192x1024_0_2048) shapeCasts_S8192x1024_S8192x8x128

def gs : FVec Ideal S8192x1024 .f32 := extractStridedSlice S8192x1024 ![0, 3072] x slices_S8192x18432_S8192x1024_0_3072

def scores : FVec Ideal S8x8192x8192 .f32 :=
  mulf (Host.dotGeneral dot_S8192x8x128_S8192x8x128_S8x8192x8192_2_2_0_0_1_1 none (qs x) (ks x))
    (broadcastInDim S8x8192x8192 ![] bcast_S_S8x8192x8192 (constant S_ .f32 0x3DB504F3#32))

def zeros : FVec Ideal S8x8192x8192 .f32 := broadcastInDim S8x8192x8192 ![] bcast_S_S8x8192x8192 (constant S_ .f32 0x00000000#32)

def zeros' : FVec Ideal S8x8192x8192 .f32 := broadcastInDim S8x8192x8192 ![] bcast_S_S8x8192x8192 (id (constant S_ .f32 0x00000000#32))

def causal : IVec S8x8192x8192 1 :=
  broadcastInDim S8x8192x8192 ![1, 2] bcast_S8192x8192_S8x8192x8192_1_2
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def softplus (y : FVec Ideal S8x8192x8192 .f32) : FVec Ideal S8x8192x8192 .f32 :=
  select (cmpf .une (subf y zeros) (subf y zeros)) (addf y zeros)
    (addf (maximumf y zeros) (Host.log1p (Host.exp (Host.negf (Host.absf (subf y zeros))))))

def masked : FVec Ideal S8x8192x8192 .f32 := select causal (Host.negf (softplus (Host.negf (Host.negf (scores x))))) zeros'

def past : FVec Ideal S8x8192x8192 .f32 :=
  subf (Host.reduceWindowAdd ![1, 1, 8192] ![1, 1, 1] ![0, 0, 0] ![0, 0, 8191] (masked x)
    (broadcastInDim S_ ![] bcast_S_S_ (constant S_ .f32 0x00000000#32)) reduceWindows_S8x8192x8192_S8x8192x8192_w1s1p0_0_w1s1p0_0_w8192s1p0_8191 h_S_)
    (masked x)

def weights : FVec Ideal S8x8192x8192 .f32 :=
  select causal (Host.exp (addf (Host.negf (softplus (Host.negf (scores x)))) (past x))) zeros'

def attention : FVec Ideal S8192x1024 .f32 :=
  shapeCast _ (transpose S8192x8x128 [2, 0, 1] (Host.dotGeneral dot_S8192x8x128_S8x8192x8192_S8x128x8192_0_2_2_1_1_0 none (vs x) (weights x))
    transposes_S8x128x8192_S8192x8x128_2_0_1) shapeCasts_S8192x8x128_S8192x1024

def ones : FVec Ideal S8192x1024 .f32 := broadcastInDim S8192x1024 ![] bcast_S_S8192x1024 (constant S_ .f32 0x3F800000#32)

def gatedRows : FVec Ideal S8192x1024 .bf16 :=
  truncf .bf16 (mulf (attention x) (mulf (gs x) (Host.divf ones (addf ones (Host.exp (Host.negf (gs x))))))) bitsLt_bf16_f32

def ends : FVec Ideal S8x8192x32 .f32 :=
  Host.negf (Host.slice S8x8192x32 ![0, 0, 255] ![1, 1, 256] (past x) slicesBy_S8x8192x8192_S8x8192x32_0s1_0s1_255s256)

def padded : FVec Ideal S8x8192x128 .f32 :=
  pad S8x8192x128 ![0, 0, 0] ![0, 0, 96] ![0, 0, 0] (ends x) (sitofp .f32 (constantI S_ 32 0#32)) pads_S8x8192x32_S8x8192x128_000_000_0960 h_S_

def saved : FVec Ideal S8192x1024 .f32 :=
  shapeCast _ (transpose S8192x8x128 [1, 0, 2] (padded x) transposes_S8x8192x128_S8192x8x128_1_0_2) shapeCasts_S8192x8x128_S8192x1024

/-! ## The results are the lines -/

section Results

variable (m : (ℓ : Loc nD τ sig) → Buf (Elt Ideal) ℓ) (c : Dev nD)

theorem attention_eq : res_main_v28 m c = attention (m ((c.tc : Thread nD τ).loc main_arg0)) := rfl

theorem gated_eq : res_main_v34 m c = gatedRows (m ((c.tc : Thread nD τ).loc main_arg0)) := rfl

theorem saved_eq : res_main_v36 m c = saved (m ((c.tc : Thread nD τ).loc main_arg0)) := rfl

end Results

/-! ## The lines at an index -/

/-- An entry of a head's columns from column `o` on, counted by natural numbers. -/
def col (o h t d : ℕ) : EReal := if hh : t < 8192 ∧ o + (h * 128 + d) < 18432 then x (ix2 ⟨t, hh.1⟩ ⟨o + (h * 128 + d), hh.2⟩) else 0

theorem vs_at (t : Fin 8192) (h : Fin 8) (d : Fin 128) : vs x (ix3 t h d) = col x 2048 h t d := by
  unfold vs
  pointwise []
  rw [col, dif_pos ⟨t.isLt, by omega⟩]

theorem causal_at (h : Fin 8) (t s : Fin 8192) : causal (ix3 h t s) = BitVec.ofBool (decide (s.val < t.val)) := by
  unfold causal
  pointwise []
  exact slt_word s t

theorem zeros_at (h : Fin 8) (t s : Fin 8192) : zeros (ix3 h t s) = 0 := by
  unfold zeros
  pointwise []

theorem zeros'_at (h : Fin 8) (t s : Fin 8192) : zeros' (ix3 h t s) = 0 := zeros_at h t s

theorem softplus_at {y : FVec Ideal S8x8192x8192 .f32} {h : Fin 8} {t s : Fin 8192} {z : ℝ} (hy : y (ix3 h t s) = (z : EReal)) :
    softplus y (ix3 h t s) = ((sp z : ℝ) : EReal) := by
  unfold softplus zeros
  pointwise []
  rw [hy, host_softplus]

variable {x} {P : ℕ → ℕ → ℝ} {sc : ℝ} (hsc : Ideal.ofBits .f32 0x3DB504F3#32 = (sc : EReal))
  (HP : ∀ (t : Fin 8192) (j : Fin 18432), j.val < 2048 → x (ix2 t j) = ((P t j : ℝ) : EReal))
include HP

theorem qs_at (t : Fin 8192) (h : Fin 8) (d : Fin 128) : qs x (ix3 t h d) = ((head P 0 h t d : ℝ) : EReal) := by
  unfold qs
  pointwise []
  rw [HP _ _ (by dsimp only; omega)]
  exact congrArg (fun j => ((P t j : ℝ) : EReal)) (Nat.zero_add _).symm

theorem ks_at (t : Fin 8192) (h : Fin 8) (d : Fin 128) : ks x (ix3 t h d) = ((head P 1024 h t d : ℝ) : EReal) := by
  unfold ks
  pointwise []
  rw [HP _ _ (by dsimp only; omega)]
  rfl

include hsc

theorem scores_at (h : Fin 8) (t s : Fin 8192) : scores x (ix3 h t s) = ((Z (head P 0 h) (head P 1024 h) sc t s : ℝ) : EReal) := by
  unfold scores
  pointwise []
  rw [sum_coe' _ (fun d => head P 0 h t d * head P 1024 h s d) fun d => by rw [qs_at HP, ks_at HP, ← EReal.coe_mul], hsc, ← EReal.coe_mul]
  rfl

theorem neg_at (h : Fin 8) (t s : Fin 8192) : Host.negf (scores x) (ix3 h t s) = ((-Z (head P 0 h) (head P 1024 h) sc t s : ℝ) : EReal) := by
  pointwise []
  rw [scores_at hsc HP, ← EReal.coe_neg]

theorem neg_neg_at (h : Fin 8) (t s : Fin 8192) : Host.negf (Host.negf (scores x)) (ix3 h t s) = ((Z (head P 0 h) (head P 1024 h) sc t s : ℝ) : EReal) := by
  pointwise []
  rw [scores_at hsc HP, neg_neg]

theorem masked_at (h : Fin 8) (t s : Fin 8192) :
    masked x (ix3 h t s) = ((if s.val < t.val then -sp (Z (head P 0 h) (head P 1024 h) sc t s) else 0 : ℝ) : EReal) := by
  unfold masked
  pointwise []
  rw [causal_at, softplus_at (neg_neg_at hsc HP h t s), select_decide, zeros'_at, ← EReal.coe_neg]
  split_ifs <;> simp

theorem past_at (h : Fin 8) (t s : Fin 8192) : past x (ix3 h t s) = ((-SA (head P 0 h) (head P 1024 h) sc t s : ℝ) : EReal) := by
  unfold past
  pointwise []
  rw [sum_from (f := fun h t s => if s < t then -sp (Z (head P 0 h) (head P 1024 h) sc t s) else 0) (masked_at hsc HP) (by pointwise []) _ _ h t s,
    masked_at hsc HP, ← EReal.coe_sub, after_sum (head P 0 h) (head P 1024 h) sc t s s.isLt]

theorem weights_at (h : Fin 8) (t s : Fin 8192) : weights x (ix3 h t s) = ((Wt (head P 0 h) (head P 1024 h) sc t s : ℝ) : EReal) := by
  unfold weights
  pointwise []
  rw [causal_at, softplus_at (neg_at hsc HP h t s), past_at hsc HP, select_decide, zeros'_at, ← EReal.coe_neg, neg_sp_neg, ← EReal.coe_add, Ideal.exp_coe,
    ← sub_eq_add_neg, Wt]
  split_ifs <;> simp

theorem attention_at (t : Fin 8192) (b : Fin 1024) : attention x (ix2 t b)
    = ∑ s : Fin 8192, ((Wt (head P 0 (b.val / 128)) (head P 1024 (b.val / 128)) sc t s : ℝ) : EReal) * col x 2048 (b.val / 128) s (b.val % 128) := by
  unfold attention
  pointwise []
  exact sum_congr rfl fun s _ => by rw [vs_at, weights_at hsc HP, mul_comm]

theorem ends_at (h : Fin 8) (t : Fin 8192) (b : Fin 32) :
    ends x (ix3 h t b) = ((SA (head P 0 h) (head P 1024 h) sc t (255 + 256 * b.val) : ℝ) : EReal) := by
  unfold ends
  pointwise []
  rw [past_at hsc HP, ← EReal.coe_neg, neg_neg]

theorem padded_at (h : Fin 8) (t : Fin 8192) (d : Fin 128) :
    padded x (ix3 h t d) = ((if d.val < 32 then SA (head P 0 h) (head P 1024 h) sc t (255 + 256 * d.val) else 0 : ℝ) : EReal) := by
  have He := ends_at hsc HP
  unfold padded
  generalize ends x = e at He
  pointwise []
  split_ifs with hd
  · exact He _ _ _
  · show (((((0#32 : BitVec 32).toInt : ℤ) : ℝ)) : EReal) = _
    simp

theorem saved_at (t : Fin 8192) (b : Fin 1024) : saved x (ix2 t b)
    = ((if b.val % 128 < 32 then SA (head P 0 (b.val / 128)) (head P 1024 (b.val / 128)) sc t (255 + 256 * (b.val % 128)) else 0 : ℝ) : EReal) := by
  have Hp := padded_at hsc HP
  unfold saved
  generalize padded x = e at Hp
  pointwise []
  exact Hp _ _ _

theorem gated_at (t : Fin 8192) (b : Fin 1024) : gatedRows x (ix2 t b)
    = attention x (ix2 t b) * (x (ix2 t ⟨3072 + b.val, by omega⟩) * Ideal.div 1 (1 + Ideal.exp (-x (ix2 t ⟨3072 + b.val, by omega⟩)))) := by
  unfold gatedRows gs ones
  pointwise []

end Lines

end Cert.SbFwdEqual.Host
-- ==== Proof.SbFwdEqual.lean ====
module

public import proofs.«01_k».proof.Proof.SbFwdGrid
public import proofs.«01_k».proof.Proof.SbFwdReference
public import proofs.«01_k».proof.Proof.Equal
public import proofs.«01_k».proof.Defs

/-! The forward kernel's three arrays are the reference's three results. -/

@[expose] public section

set_option maxRecDepth 16384

noncomputable section

open Idealize.ShloMosaic Idealize.SL.Sem Finset

namespace Cert.SbFwdEqual

open Cert.SbFwdIdeal Cert.SbFwdIdeal.Gen Cert.SbFwdIdeal.Value
open Cert.StickBreaking (Is head reals reals_at real_of_lt scale_real Wt SA)

/-- The precondition's side conditions. -/
theorem finite_scores_facts : Cert.Pre_finite_scores.Facts where
  slices_S8192x18432_S8192x2048_0_0 := by decide
  bcast_S_S8192x2048 := by decide
  reducesTo_S8192x2048_S_d0_1 := by decide
  h_S_ := by decide

/-- The queries and the keys are real numbers. -/
theorem real_scores [Cert.Pre_finite_scores.Facts] (x : FVec Ideal Cert.Pre_finite_scores.S8192x18432 .f32)
    (h : Cert.Pre_finite_scores.fn (F := Ideal) x = fun _ => 1#1) (t : Fin 8192) (j : Fin 18432) (hj : j.val < 2048) :
    x (ix2 t j) = (((x (ix2 t j)).toReal : ℝ) : EReal) := by
  haveI : Subsingleton Cert.Pre_finite_scores.S_.Idx := ⟨fun a b => funext fun i => i.elim0⟩
  have := Host.reduce_andi_all _ _ _ _ _ (congrFun h ix0) (ix2 t ⟨j.val, hj⟩)
  revert this
  pointwise []
  exact real_of_lt _

/-- A row of the output, summed over all keys. -/
theorem whole_row (q k : ℕ → ℕ → ℝ) (V : ℕ → ℕ → EReal) (sc : ℝ) (t d : ℕ) :
    AC q k V sc t d 0 = ∑ s : Fin 8192, ((Wt q k sc t s : ℝ) : EReal) * V s d := by
  rw [AC, Nat.Ico_zero_eq_range, sum_range]

/-- A saved sum, as a sum over the keys behind a key. -/
theorem whole_run (q k : ℕ → ℕ → ℝ) (sc : ℝ) (t x : ℕ) : RU q k sc t x 0 = if x < 32 then SA q k sc t (255 + 256 * x) else 0 := by
  rw [RU]
  refine if_congr ⟨fun h => h.2, fun h => ⟨Nat.zero_le _, h⟩⟩ ?_ rfl
  rw [SA_eq, show 255 + 256 * x + 1 = 256 * x + 256 by omega]

section Given

variable (m : (ℓ : Loc nD τ sig) → Buf (Elt Ideal) ℓ) (c : Dev nD) {P : ℕ → ℕ → ℝ}

theorem given (HP : ∀ (t : Fin 8192) (j : Fin 18432), j.val < 2048 → (m (c.tc.loc main_arg0) : FVec Ideal S8192x18432 .f32) (ix2 t j) = ((P t j : ℝ) : EReal)) :
    Given m c (fun h => head P 0 h) (fun h => head P 1024 h) (fun h => Host.col (m (c.tc.loc main_arg0)) 2048 h) where
  q := fun t r d => by
    have ht := points_lt t
    rw [blk0 m c t r d ⟨1024 * (t.val % 8) + r.val, by omega⟩ ⟨0 + (t.val / 8 * 128 + d.val), by omega⟩ rfl rfl, HP _ _ (by dsimp only; omega), coord_block]
    rfl
  k := fun t r d => by
    have ht := points_lt t
    rw [blk1 m c t r d r ⟨1024 + (t.val / 8 * 128 + d.val), by omega⟩ rfl rfl, HP _ _ (by dsimp only; omega)]
    rfl
  v := fun t s d => by
    have ht := points_lt t
    rw [blk2 m c t s d s ⟨2048 + (t.val / 8 * 128 + d.val), by omega⟩ rfl rfl, Host.col, dif_pos ⟨s.isLt, by omega⟩]

end Given

theorem equal (m : (ℓ : Loc nD τ sig) → Buf (Elt Ideal) ℓ) (c : Dev nD) (x : FVec Ideal S8192x18432 .f32)
    (h0 : x = m (c.tc.loc main_arg0)) [Cert.Pre_finite_scores.Facts]
    (hf : Cert.Pre_finite_scores.fn (F := Ideal) (m (c.tc.loc main_arg0)) = fun _ => 1#1) :
    Host.attention x = G4 m c ∧ Host.gatedRows x = G5 m c ∧ Host.saved x = G6 m c := by
  obtain ⟨sc, hsc⟩ := scale_real
  have HP : ∀ (t : Fin 8192) (j : Fin 18432), j.val < 2048 → (m (c.tc.loc main_arg0) : FVec Ideal S8192x18432 .f32) (ix2 t j)
      = ((reals (n := 8192) (k := 18432) (m (c.tc.loc main_arg0)) t j : ℝ) : EReal) := fun t j hj => by
    rw [reals_at]; exact real_scores _ hf t j hj
  generalize reals (n := 8192) (k := 18432) (m (c.tc.loc main_arg0)) = P at HP
  have H := given m c HP
  subst h0
  have hA : ∀ (t : Fin 8192) (b : Fin 1024), Host.attention (m (c.tc.loc main_arg0)) (ix2 t b)
      = AC (head P 0 (b.val / 128)) (head P 1024 (b.val / 128)) (Host.col (m (c.tc.loc main_arg0)) 2048 (b.val / 128)) sc t (b.val % 128) 0 := fun t b =>
    (Host.attention_at hsc HP t b).trans (whole_row _ _ _ _ _ _).symm
  refine ⟨funext fun i => ?_, funext fun i => ?_, funext fun i => ?_⟩
  · rw [eq_ix2 i]
    exact (hA (i 0) (i 1)).trans (out_att H hsc (i 0) (i 1)).symm
  · rw [eq_ix2 i]
    refine (Host.gated_at (x := m (c.tc.loc main_arg0)) hsc HP (i 0) (i 1)).trans (Eq.trans ?_ (out_gate H hsc (i 0) (i 1)).symm)
    rw [hA (i 0) (i 1)]
    rfl
  · rw [eq_ix2 i]
    refine (Host.saved_at hsc HP (i 0) (i 1)).trans (Eq.trans ?_ (out_runs H hsc (i 0) (i 1)).symm)
    rw [whole_run]

/-- The reference keeps its argument, and has no semaphore at all. -/
theorem reference_frame (m : (ℓ : Loc Cert.SbFwdReferenceIdeal.nD Cert.SbFwdReferenceIdeal.τ Cert.SbFwdReferenceIdeal.sig) → Buf (Elt Ideal) ℓ)
    (ρ : Dev Cert.SbFwdReferenceIdeal.nD → PrngReg) :
    θ_run (Cert.SbFwdReferenceIdeal.defs (F := Ideal)) (onTc (τ := Cert.SbFwdReferenceIdeal.τ) (Cert.SbFwdReferenceIdeal.main (F := Ideal))) ⟨m, fun _ => 0, ρ⟩
      (fun r => (∀ c : Dev Cert.SbFwdReferenceIdeal.nD,
        r.2.mem ((c.tc : Thread Cert.SbFwdReferenceIdeal.nD Cert.SbFwdReferenceIdeal.τ).loc Cert.SbFwdReferenceIdeal.main_arg0) = m ((c.tc : Thread Cert.SbFwdReferenceIdeal.nD Cert.SbFwdReferenceIdeal.τ).loc Cert.SbFwdReferenceIdeal.main_arg0))
        ∧ r.2.sem = fun _ => 0) :=
  (θ_run _ _ _).mono (fun r h => ⟨fun c => (h c).2.2.2, sem_eq_zero_of_no_sems rfl r.2⟩) (Cert.SbFwdReferenceIdeal.Value.run m ρ)

theorem same [hPre : Cert.Pre_finite_scores.Facts] : Cert.algebraic_SbFwdIdeal_SbFwdReferenceIdeal_pre_finite_scores
    (hSbFwdIdeal := Cert.SbFwdIdeal.Gen.facts) (hSbFwdReferenceIdeal := Cert.SbFwdReferenceIdeal.Gen.facts) := by
  intro m g m' g' hpre hargs
  have E := fun c : Dev nD => equal m c _ (hargs c) (hpre c)
  refine ⟨G4 m, G5 m, G6 m, Cert.SbFwdIdeal.Value.run m g, ?_⟩
  refine (θ_run _ _ _).mono (fun r h c => ?_) (Cert.SbFwdReferenceIdeal.Value.run m' g')
  obtain ⟨h0, h1, h2, h3⟩ := h c
  exact ⟨(h0.trans (Host.attention_eq m' c)).trans (E c).1, (h1.trans (Host.gated_eq m' c)).trans (E c).2.1,
    (h2.trans (Host.saved_eq m' c)).trans (E c).2.2, h3⟩

end Cert.SbFwdEqual
-- ==== Proof.MergeBwd.lean ====
module

public import proofs.«01_k».proof.Proof.Products
public import proofs.«01_k».proof.Defs
public import proofs.«01_k».proof.Proof.Gen.MergeBwdIdeal.Value
public import proofs.«01_k».proof.Proof.Gen.MergeBwdReferenceIdeal.Run

/-! The gradients of the gated merge: of the branches, of the gates before the sigmoid, and of the gates' bias, which a
column's sixteen blocks of rows add up. -/

@[expose] public section
set_option maxRecDepth 16384
noncomputable section
open Idealize.ShloMosaic Idealize.SL.Sem Finset
namespace Cert.MergeBwdEqual
open Cert.Products

/-- The sigmoid. -/
def gate (x : EReal) : EReal := Ideal.div 1 (1 + Ideal.exp (-x))

section Results

variable (dm : FVec Ideal ⟨2, ![8192, 2048]⟩ .f32) (gp yp : FVec Ideal ⟨2, ![8192, 8192]⟩ .f32)

/-- The gradient of a branch's entry. -/
def branch (x s : ℕ) : EReal := entry dm x (s % 2048) * gate (entry gp x s)

/-- The gradient of a gate's entry before the sigmoid. -/
def grad (x s : ℕ) : EReal := entry dm x (s % 2048) * entry yp x s * gate (entry gp x s) * (1 - gate (entry gp x s))

def branches : FVec Ideal ⟨2, ![8192, 8192]⟩ .bf16 := fun i => branch dm gp (i 0).val (i 1).val

def gates : FVec Ideal ⟨2, ![8192, 8192]⟩ .bf16 := fun i => grad dm gp yp (i 0).val (i 1).val

def bias : FVec Ideal ⟨2, ![1, 8192]⟩ .f32 := fun i => ∑ x ∈ range 8192, grad dm gp yp x (i 1).val

end Results

section
open Cert.MergeBwdIdeal Cert.MergeBwdIdeal.Gen Cert.MergeBwdIdeal.Value

theorem idx : ∀ t : Fin cfg0.N, win0_0.index t = ![t.val % 16, t.val / 16 % 4] ∧ win0_1.index t = ![t.val % 16, t.val / 16]
    ∧ win0_2.index t = ![t.val % 16, t.val / 16] ∧ win0_3.index t = ![t.val % 16, t.val / 16] ∧ win0_4.index t = ![t.val % 16, t.val / 16]
    ∧ win0_5.index t = ![0, t.val / 16] :=
  (by decide +kernel : ∀ t : Fin grid0.N, _)

variable (m : (ℓ : Loc nD τ sig) → Buf (Elt Ideal) ℓ) (c : Dev nD)

theorem points_lt (t : Fin cfg0.N) : t.val < 256 := lt_of_lt_of_eq t.isLt (show cfg0.N = 256 from N_0)

theorem given0 (t : Fin cfg0.N) (r s : Fin 512) : (iblk m c 0 t : FVec Ideal S512x512 .f32) (ix2 r s)
    = entry (n := 8192) (m := 2048) (φ := .f32) (m (c.tc.loc main_arg0)) (512 * (t.val % 16) + r.val) ((512 * (t.val / 16) + s.val) % 2048) := by
  have ht := points_lt t
  rw [entry, dif_pos ⟨by omega, by omega⟩]
  blk_ext [iblk, V_main_arg0, idx t]

theorem given1 (t : Fin cfg0.N) (r s : Fin 512) : (iblk m c 1 t : FVec Ideal S512x512 .f32) (ix2 r s)
    = entry (n := 8192) (m := 8192) (φ := .f32) (m (c.tc.loc main_arg1)) (512 * (t.val % 16) + r.val) (512 * (t.val / 16) + s.val) := by
  have ht := points_lt t
  rw [entry, dif_pos ⟨by omega, by omega⟩]
  blk_ext [iblk, V_main_arg1, idx t]

theorem given2 (t : Fin cfg0.N) (r s : Fin 512) : (iblk m c 2 t : FVec Ideal S512x512 .f32) (ix2 r s)
    = entry (n := 8192) (m := 8192) (φ := .f32) (m (c.tc.loc main_arg2)) (512 * (t.val % 16) + r.val) (512 * (t.val / 16) + s.val) := by
  have ht := points_lt t
  rw [entry, dif_pos ⟨by omega, by omega⟩]
  blk_ext [iblk, V_main_arg2, idx t]

theorem gate_eq (x : FVec Ideal S512x512 .f32) (r s : Fin 512) : (k0_pay1 x : FVec Ideal S512x512 .f32) (ix2 r s) = gate (x (ix2 r s)) := by
  unfold k0_pay1 gate
  pointwise []
  rw [zero_sub]

theorem branch_eq (t : Fin cfg0.N) (r s : Fin 512) : (k0_pay3 (iblk m c 0 t) (iblk m c 1 t) : FVec Ideal S512x512 .bf16) (ix2 r s)
    = branch (m (c.tc.loc main_arg0)) (m (c.tc.loc main_arg1)) (512 * (t.val % 16) + r.val) (512 * (t.val / 16) + s.val) := by
  unfold k0_pay3 branch
  pointwise []
  rw [gate_eq, given0, given1]

theorem grad_eq (t : Fin cfg0.N) (r s : Fin 512) : (k0_pay2 (iblk m c 0 t) (iblk m c 1 t) (iblk m c 2 t) : FVec Ideal S512x512 .f32) (ix2 r s)
    = grad (m (c.tc.loc main_arg0)) (m (c.tc.loc main_arg1)) (m (c.tc.loc main_arg2)) (512 * (t.val % 16) + r.val) (512 * (t.val / 16) + s.val) := by
  unfold k0_pay2 grad
  pointwise []
  rw [gate_eq, given0, given1, given2]

theorem grad_half_eq (t : Fin cfg0.N) (r s : Fin 512) : (k0_pay4 (iblk m c 0 t) (iblk m c 1 t) (iblk m c 2 t) : FVec Ideal S512x512 .bf16) (ix2 r s)
    = grad (m (c.tc.loc main_arg0)) (m (c.tc.loc main_arg1)) (m (c.tc.loc main_arg2)) (512 * (t.val % 16) + r.val) (512 * (t.val / 16) + s.val) := by
  refine Eq.trans ?_ (grad_eq m c t r s)
  unfold k0_pay4
  pointwise []

theorem zero_eq (s : Fin 512) : (k0_pay5 : FVec Ideal S1x512 .f32) (ix2 0 s) = 0 := by
  unfold k0_pay5
  pointwise []

theorem next_eq (t : Fin cfg0.N) (S : FVec Ideal S1x512 .f32) (s : Fin 512) :
    (k0_pay6 (iblk m c 0 t) (iblk m c 1 t) (iblk m c 2 t) S : FVec Ideal S1x512 .f32) (ix2 0 s) = (S (ix2 0 s) : EReal)
      + ∑ x ∈ range 512, grad (m (c.tc.loc main_arg0)) (m (c.tc.loc main_arg1)) (m (c.tc.loc main_arg2)) (512 * (t.val % 16) + x) (512 * (t.val / 16) + s.val) := by
  rw [← Fin.sum_univ_eq_sum_range fun x => grad (m (c.tc.loc main_arg0)) (m (c.tc.loc main_arg1)) (m (c.tc.loc main_arg2)) (512 * (t.val % 16) + x) (512 * (t.val / 16) + s.val)]
  unfold k0_pay6
  pointwise []
  exact congrArg₂ (· + ·) rfl (sum_congr rfl fun x _ => grad_eq m c t x s)

theorem left (t : Fin cfg0.N) (r s : Fin 512) :
    ((outsAt0 m c t.val t.isLt).1 : FVec Ideal S512x512 .bf16) (ix2 r s)
      = branch (m (c.tc.loc main_arg0)) (m (c.tc.loc main_arg1)) (512 * (t.val % 16) + r.val) (512 * (t.val / 16) + s.val)
    ∧ ((outsAt0 m c t.val t.isLt).2.1 : FVec Ideal S512x512 .bf16) (ix2 r s)
      = grad (m (c.tc.loc main_arg0)) (m (c.tc.loc main_arg1)) (m (c.tc.loc main_arg2)) (512 * (t.val % 16) + r.val) (512 * (t.val / 16) + s.val) := by
  by_cases e : t.val % 16 = 0
  · rw [outsAt0_A m c t e]
    dsimp only
    constructor
    · frame_out
      exact branch_eq m c t r s
    · frame_out
      exact grad_half_eq m c t r s
  · rw [outsAt0_B m c t e]
    dsimp only
    constructor
    · frame_out
      exact branch_eq m c t r s
    · frame_out
      exact grad_half_eq m c t r s

/-- After each point the bias's block holds the sum of the rows since the column was begun. -/
theorem sums (n : ℕ) (hn : n < cfg0.N) (s : Fin 512) : ((outsAt0 m c n hn).2.2 : FVec Ideal S1x512 .f32) (ix2 0 s)
    = ∑ j ∈ range (n % 16 + 1), ∑ x ∈ range 512, grad (m (c.tc.loc main_arg0)) (m (c.tc.loc main_arg1)) (m (c.tc.loc main_arg2))
        (512 * ((16 * (n / 16) + j) % 16) + x) (512 * ((16 * (n / 16) + j) / 16) + s.val) := by
  refine fold (K := 16) (by decide) (fun n hn (s : Fin 512) => ((outsAt0 m c n hn).2.2 : FVec Ideal S1x512 .f32) (ix2 0 s))
    (fun n s => ∑ x ∈ range 512, grad (m (c.tc.loc main_arg0)) (m (c.tc.loc main_arg1)) (m (c.tc.loc main_arg2)) (512 * (n % 16) + x) (512 * (n / 16) + s.val))
    (fun n h e s => ?_) (fun n h h' e s => ?_) n hn s
  · rw [outsAt0_A m c ⟨n, h⟩ e]
    dsimp only
    frame_out
    refine (next_eq m c ⟨n, h⟩ _ s).trans ?_
    refine (congrArg (· + _) ?_).trans (zero_add _)
    exact zero_eq s
  · rw [outsAt0_B m c ⟨n, h⟩ e]
    dsimp only
    frame_out
    exact next_eq m c ⟨n, h⟩ _ s

theorem out3 : (dats m 0 c).arrAt 3 cfg0.N = branches (m (c.tc.loc main_arg0)) (m (c.tc.loc main_arg1)) := by
  refine (dats m 0 c).arrAt_eq_of_covers 3 _ (by decide +kernel) fun t hf y => ?_
  have ht := points_lt t
  obtain ⟨r, s, rfl⟩ : ∃ (r : Fin 512) (s : Fin 512), y = ix2 r s := exists_ix2 (n := 512) (m := 512) y
  blk_simp
  rw [after0_3]
  refine (left m c t r s).1.trans ?_
  have e0 : ((((View.whole main_v0_0).slice (win0_3.rect t)).emb (ix2 r s) 0 : Fin _) : ℕ) = 512 * (t.val % 16) + r.val := by blk_simp [idx t]; omega
  have e1 : ((((View.whole main_v0_0).slice (win0_3.rect t)).emb (ix2 r s) 1 : Fin _) : ℕ) = 512 * (t.val / 16) + s.val := by blk_simp [idx t]; omega
  unfold branches
  rw [e0, e1]

theorem out4 : (dats m 0 c).arrAt 4 cfg0.N = gates (m (c.tc.loc main_arg0)) (m (c.tc.loc main_arg1)) (m (c.tc.loc main_arg2)) := by
  refine (dats m 0 c).arrAt_eq_of_covers 4 _ (by decide +kernel) fun t hf y => ?_
  have ht := points_lt t
  obtain ⟨r, s, rfl⟩ : ∃ (r : Fin 512) (s : Fin 512), y = ix2 r s := exists_ix2 (n := 512) (m := 512) y
  blk_simp
  rw [after0_4]
  refine (left m c t r s).2.trans ?_
  have e0 : ((((View.whole main_v0_1).slice (win0_4.rect t)).emb (ix2 r s) 0 : Fin _) : ℕ) = 512 * (t.val % 16) + r.val := by blk_simp [idx t]; omega
  have e1 : ((((View.whole main_v0_1).slice (win0_4.rect t)).emb (ix2 r s) 1 : Fin _) : ℕ) = 512 * (t.val / 16) + s.val := by blk_simp [idx t]; omega
  unfold gates
  rw [e0, e1]

theorem out5 : (dats m 0 c).arrAt 5 cfg0.N = bias (m (c.tc.loc main_arg0)) (m (c.tc.loc main_arg1)) (m (c.tc.loc main_arg2)) := by
  refine (dats m 0 c).arrAt_eq_of_covers 5 _ (by decide +kernel) fun t hf y => ?_
  have e := (flush0_5 t).mp hf
  have ht := points_lt t
  obtain ⟨r, s, rfl⟩ : ∃ (r : Fin 1) (s : Fin 512), y = ix2 r s := exists_ix2 (n := 1) (m := 512) y
  obtain rfl : r = 0 := Subsingleton.elim _ _
  blk_simp
  rw [after0_5]
  refine (sums m c t.val t.isLt s).trans ?_
  have e1 : ((((View.whole main_v0_2).slice (win0_5.rect t)).emb (ix2 0 s) 1 : Fin _) : ℕ) = 512 * (t.val / 16) + s.val := by blk_simp [idx t]; omega
  unfold bias
  rw [e1, e]
  refine Eq.trans (sum_congr rfl fun j hj => sum_congr rfl fun x _ => ?_)
    (blocks 512 (fun x => grad (m (c.tc.loc main_arg0)) (m (c.tc.loc main_arg1)) (m (c.tc.loc main_arg2)) x (512 * (t.val / 16) + s.val)) 16)
  have hj' := mem_range.mp hj
  rw [show (16 * (t.val / 16) + j) % 16 = j by omega, show (16 * (t.val / 16) + j) / 16 = t.val / 16 by omega]
end

theorem reference_frame : quiescent_MergeBwdReferenceIdeal (hMergeBwdReferenceIdeal := Cert.MergeBwdReferenceIdeal.Gen.facts) := fun m ρ _ =>
  (θ_run _ _ _).mono (fun r h => ⟨fun c => (h c).2.2.2, sem_eq_zero_of_no_sems rfl r.2⟩) (Cert.MergeBwdReferenceIdeal.Value.run m ρ)

section
open Cert.MergeBwdReferenceIdeal Cert.MergeBwdReferenceIdeal.Gen

variable (dm : FVec Ideal S8192x2048 .f32) (gp yp : FVec Ideal S8192x8192 .f32)

/-! The reference's lines. -/

def ones : FVec Ideal S8192x8192 .f32 := broadcastInDim S8192x8192 ![] bcast_S_S8192x8192 (constant S_ .f32 0x3F800000#32)

def gateLine : FVec Ideal S8192x8192 .f32 := Host.divf ones (addf ones (Host.exp (Host.negf gp)))

def spread : FVec Ideal S8192x4x2048 .f32 := broadcastInDim S8192x4x2048 ![0, 2] bcast_S8192x2048_S8192x4x2048_0_2 dm

def branchLine : FVec Ideal S8192x8192 .f32 :=
  shapeCast _ (mulf (shapeCast _ (gateLine gp) shapeCasts_S8192x8192_S8192x4x2048) (spread dm)) shapeCasts_S8192x4x2048_S8192x8192

def gradLine : FVec Ideal S8192x8192 .f32 :=
  mulf (shapeCast _ (mulf (spread dm) (shapeCast _ yp shapeCasts_S8192x8192_S8192x4x2048)) shapeCasts_S8192x4x2048_S8192x8192)
    (mulf (gateLine gp) (subf ones (gateLine gp)))

def biasLine : FVec Ideal S1x8192 .f32 :=
  shapeCast _ (Host.reduceAdd (gradLine dm gp yp) (constant S_ .f32 0x00000000#32) reducesTo_S8192x8192_S8192_d0 h_S_) shapeCasts_S8192_S1x8192

theorem gateLine_at (r s : Fin 8192) : gateLine gp (ix2 r s) = gate (entry gp r s) := by
  rw [entry_eq]
  unfold gateLine ones gate
  pointwise []

theorem spread_at (r s : Fin 8192) (a : Fin 4) (b : Fin 2048) (hb : b.val = s.val % 2048) : spread dm (ix3 r a b) = entry dm r (s.val % 2048) := by
  rw [← hb, entry_eq]
  unfold spread
  pointwise []

theorem branchLine_at (r s : Fin 8192) : branchLine dm gp (ix2 r s) = branch dm gp r s := by
  have hs := spread_at dm r s
  have hg := gateLine_at gp r s
  unfold branchLine branch
  generalize spread dm = e at hs
  generalize gateLine gp = g at hg
  pointwise []
  rw [hs _ _ (by dsimp only), ← hg, mul_comm]

theorem gradLine_at (r s : Fin 8192) : gradLine dm gp yp (ix2 r s) = grad dm gp yp r s := by
  have hs := spread_at dm r s
  have hg := gateLine_at gp r s
  have hy := entry_eq yp r s
  unfold gradLine ones grad
  generalize spread dm = e at hs
  generalize gateLine gp = g at hg
  pointwise []
  rw [hs _ _ (by dsimp only), hg, hy, mul_assoc (entry dm r (s.val % 2048) * yp (ix2 r s))]

theorem biasLine_at (s : Fin 8192) : biasLine dm gp yp (ix2 0 s) = ∑ x ∈ range 8192, grad dm gp yp x s := by
  rw [← Fin.sum_univ_eq_sum_range fun x => grad dm gp yp x s]
  have hg := fun r : Fin 8192 => gradLine_at dm gp yp r s
  unfold biasLine
  generalize gradLine dm gp yp = g at hg
  pointwise []
  exact sum_congr rfl fun x _ => hg x
end

theorem same : algebraic_MergeBwdIdeal_MergeBwdReferenceIdeal (hMergeBwdIdeal := Cert.MergeBwdIdeal.Gen.facts)
    (hMergeBwdReferenceIdeal := Cert.MergeBwdReferenceIdeal.Gen.facts) := by
  intro m g m' g' _ hargs
  refine ⟨fun c => branches (m (c.tc.loc Cert.MergeBwdIdeal.main_arg0)) (m (c.tc.loc Cert.MergeBwdIdeal.main_arg1)),
    fun c => gates (m (c.tc.loc Cert.MergeBwdIdeal.main_arg0)) (m (c.tc.loc Cert.MergeBwdIdeal.main_arg1)) (m (c.tc.loc Cert.MergeBwdIdeal.main_arg2)),
    fun c => bias (m (c.tc.loc Cert.MergeBwdIdeal.main_arg0)) (m (c.tc.loc Cert.MergeBwdIdeal.main_arg1)) (m (c.tc.loc Cert.MergeBwdIdeal.main_arg2)),
    (θ_run _ _ _).mono (fun r h c => ⟨(h c).1.trans (out3 m c), (h c).2.1.trans (out4 m c), (h c).2.2.1.trans (out5 m c), (h c).2.2.2⟩)
      (Cert.MergeBwdIdeal.Value.run_blocks m g),
    (θ_run _ _ _).mono (fun r h c => ⟨(h c).1.trans ?_, (h c).2.1.trans ?_, (h c).2.2.1.trans ?_, (h c).2.2.2⟩) (Cert.MergeBwdReferenceIdeal.Value.run m' g')⟩
  all_goals
    obtain ⟨h0, h1, h2⟩ := hargs c
    rw [h0, h1]
    try rw [h2]
    funext i
    obtain ⟨r, s, rfl⟩ := exists_ix2 i
  · exact branchLine_at _ _ r s
  · exact gradLine_at _ _ _ r s
  · obtain rfl : r = 0 := Subsingleton.elim _ _
    exact biasLine_at _ _ _ s

end Cert.MergeBwdEqual
-- ==== Proof.MergeFwd.lean ====
module

public import proofs.«01_k».proof.Proof.MergeBwd
public import proofs.«01_k».proof.Proof.Gen.MergeFwdIdeal.Value
public import proofs.«01_k».proof.Proof.Gen.MergeFwdReferenceIdeal.Run

/-! The gated merge: the four branches, each times its gate's sigmoid, added up. -/

@[expose] public section
set_option maxRecDepth 16384
noncomputable section
open Idealize.ShloMosaic Idealize.SL.Sem Finset
namespace Cert.MergeFwdEqual
open Cert.Products
open Cert.MergeBwdEqual (gate)

/-- A branch's entry times its gate. -/
def term (gp yp : FVec Ideal ⟨2, ![8192, 8192]⟩ .f32) (r s : ℕ) : EReal := gate (entry gp r s) * entry yp r s

def merged (gp yp : FVec Ideal ⟨2, ![8192, 8192]⟩ .f32) : FVec Ideal ⟨2, ![8192, 2048]⟩ .bf16 := fun i =>
  term gp yp (i 0).val (0 + (i 1).val) + term gp yp (i 0).val (2048 + (i 1).val) + term gp yp (i 0).val (4096 + (i 1).val)
    + term gp yp (i 0).val (6144 + (i 1).val)

section
open Cert.MergeFwdIdeal Cert.MergeFwdIdeal.Gen Cert.MergeFwdIdeal.Value

theorem idx : ∀ t : Fin cfg0.N, (win0_0.index t = ![t.val % 16, t.val / 16] ∧ win0_1.index t = ![t.val % 16, 4 + t.val / 16]
    ∧ win0_2.index t = ![t.val % 16, 8 + t.val / 16] ∧ win0_3.index t = ![t.val % 16, 12 + t.val / 16])
    ∧ (win0_4.index t = ![t.val % 16, t.val / 16] ∧ win0_5.index t = ![t.val % 16, 4 + t.val / 16]
    ∧ win0_6.index t = ![t.val % 16, 8 + t.val / 16] ∧ win0_7.index t = ![t.val % 16, 12 + t.val / 16])
    ∧ win0_8.index t = ![t.val % 16, t.val / 16] :=
  (by decide +kernel : ∀ t : Fin grid0.N, _)

variable (m : (ℓ : Loc nD τ sig) → Buf (Elt Ideal) ℓ) (c : Dev nD) (t : Fin cfg0.N) (r s : Fin 512)

theorem points_lt (t : Fin cfg0.N) : t.val < 64 := lt_of_lt_of_eq t.isLt (show cfg0.N = 64 from N_0)

theorem gate0 : (iblk m c 0 t : FVec Ideal S512x512 .f32) (ix2 r s)
    = entry (n := 8192) (m := 8192) (φ := .f32) (m (c.tc.loc main_arg0)) (512 * (t.val % 16) + r.val) (0 + (512 * (t.val / 16) + s.val)) := by
  have ht := points_lt t
  rw [entry, dif_pos ⟨by omega, by omega⟩]
  blk_ext [iblk, V_main_arg0, (idx t).1]

theorem gate1 : (iblk m c 1 t : FVec Ideal S512x512 .f32) (ix2 r s)
    = entry (n := 8192) (m := 8192) (φ := .f32) (m (c.tc.loc main_arg0)) (512 * (t.val % 16) + r.val) (2048 + (512 * (t.val / 16) + s.val)) := by
  have ht := points_lt t
  rw [entry, dif_pos ⟨by omega, by omega⟩]
  blk_ext [iblk, V_main_arg0, (idx t).1]

theorem gate2 : (iblk m c 2 t : FVec Ideal S512x512 .f32) (ix2 r s)
    = entry (n := 8192) (m := 8192) (φ := .f32) (m (c.tc.loc main_arg0)) (512 * (t.val % 16) + r.val) (4096 + (512 * (t.val / 16) + s.val)) := by
  have ht := points_lt t
  rw [entry, dif_pos ⟨by omega, by omega⟩]
  blk_ext [iblk, V_main_arg0, (idx t).1]

theorem gate3 : (iblk m c 3 t : FVec Ideal S512x512 .f32) (ix2 r s)
    = entry (n := 8192) (m := 8192) (φ := .f32) (m (c.tc.loc main_arg0)) (512 * (t.val % 16) + r.val) (6144 + (512 * (t.val / 16) + s.val)) := by
  have ht := points_lt t
  rw [entry, dif_pos ⟨by omega, by omega⟩]
  blk_ext [iblk, V_main_arg0, (idx t).1]

theorem branch0 : (iblk m c 4 t : FVec Ideal S512x512 .f32) (ix2 r s)
    = entry (n := 8192) (m := 8192) (φ := .f32) (m (c.tc.loc main_arg1)) (512 * (t.val % 16) + r.val) (0 + (512 * (t.val / 16) + s.val)) := by
  have ht := points_lt t
  rw [entry, dif_pos ⟨by omega, by omega⟩]
  blk_ext [iblk, V_main_arg1, (idx t).2.1]

theorem branch1 : (iblk m c 5 t : FVec Ideal S512x512 .f32) (ix2 r s)
    = entry (n := 8192) (m := 8192) (φ := .f32) (m (c.tc.loc main_arg1)) (512 * (t.val % 16) + r.val) (2048 + (512 * (t.val / 16) + s.val)) := by
  have ht := points_lt t
  rw [entry, dif_pos ⟨by omega, by omega⟩]
  blk_ext [iblk, V_main_arg1, (idx t).2.1]

theorem branch2 : (iblk m c 6 t : FVec Ideal S512x512 .f32) (ix2 r s)
    = entry (n := 8192) (m := 8192) (φ := .f32) (m (c.tc.loc main_arg1)) (512 * (t.val % 16) + r.val) (4096 + (512 * (t.val / 16) + s.val)) := by
  have ht := points_lt t
  rw [entry, dif_pos ⟨by omega, by omega⟩]
  blk_ext [iblk, V_main_arg1, (idx t).2.1]

theorem branch3 : (iblk m c 7 t : FVec Ideal S512x512 .f32) (ix2 r s)
    = entry (n := 8192) (m := 8192) (φ := .f32) (m (c.tc.loc main_arg1)) (512 * (t.val % 16) + r.val) (6144 + (512 * (t.val / 16) + s.val)) := by
  have ht := points_lt t
  rw [entry, dif_pos ⟨by omega, by omega⟩]
  blk_ext [iblk, V_main_arg1, (idx t).2.1]

/-- What a point leaves, from its eight blocks. -/
theorem body_at (g0 g1 g2 g3 y0 y1 y2 y3 : FVec Ideal S512x512 .f32) :
    (k0_pay1 g3 y3 (k0_pay2 g0 g1 y0 y1) (k0_pay3 g2 y2) : FVec Ideal S512x512 .bf16) (ix2 r s)
      = gate (g0 (ix2 r s)) * y0 (ix2 r s) + gate (g1 (ix2 r s)) * y1 (ix2 r s) + gate (g2 (ix2 r s)) * y2 (ix2 r s) + gate (g3 (ix2 r s)) * y3 (ix2 r s) := by
  unfold k0_pay1 k0_pay2 k0_pay3 gate
  pointwise []
  simp only [zero_sub]

theorem out : (dats m 0 c).arrAt 8 cfg0.N = merged (m (c.tc.loc main_arg0)) (m (c.tc.loc main_arg1)) := by
  refine (dats m 0 c).arrAt_eq_of_covers 8 _ (by decide +kernel) fun t hf y => ?_
  have ht := points_lt t
  obtain ⟨r, s, rfl⟩ : ∃ (r : Fin 512) (s : Fin 512), y = ix2 r s := exists_ix2 (n := 512) (m := 512) y
  have e0 : ((((View.whole main_v0).slice (win0_8.rect t)).emb (ix2 r s) 0 : Fin _) : ℕ) = 512 * (t.val % 16) + r.val := by blk_simp [idx t]; omega
  have e1 : ((((View.whole main_v0).slice (win0_8.rect t)).emb (ix2 r s) 1 : Fin _) : ℕ) = 512 * (t.val / 16) + s.val := by blk_simp [idx t]; omega
  blk_simp
  rw [after0_8]
  frame_out
  refine (body_at r s _ _ _ _ _ _ _ _).trans ?_
  rw [gate0, gate1, gate2, gate3, branch0, branch1, branch2, branch3]
  unfold merged term
  rw [e0, e1]
end

theorem reference_frame : quiescent_MergeFwdReferenceIdeal (hMergeFwdReferenceIdeal := Cert.MergeFwdReferenceIdeal.Gen.facts) := fun m ρ _ =>
  (θ_run _ _ _).mono (fun r h => ⟨fun c => (h c).2, sem_eq_zero_of_no_sems rfl r.2⟩) (Cert.MergeFwdReferenceIdeal.Value.run m ρ)

section
open Cert.MergeFwdReferenceIdeal Cert.MergeFwdReferenceIdeal.Gen

variable (gp yp : FVec Ideal S8192x8192 .f32)

/-- The sigmoid's line. -/
def gateLine : FVec Ideal S8192x8192 .f32 :=
  Host.divf (broadcastInDim S8192x8192 ![] bcast_S_S8192x8192 (constant S_ .f32 0x3F800000#32))
    (addf (broadcastInDim S8192x8192 ![] bcast_S_S8192x8192 (constant S_ .f32 0x3F800000#32)) (Host.exp (Host.negf gp)))

/-- The line of the branches times their gates. -/
def gatedLine : FVec Ideal S8192x4x2048 .f32 :=
  mulf (shapeCast _ (gateLine gp) shapeCasts_S8192x8192_S8192x4x2048) (shapeCast _ yp shapeCasts_S8192x8192_S8192x4x2048)

def mergedLine : FVec Ideal S8192x2048 .f32 :=
  Host.reduceAdd (gatedLine gp yp) (constant S_ .f32 0x00000000#32) reducesTo_S8192x4x2048_S8192x2048_d1 h_S_

theorem gateLine_at (r s : Fin 8192) : gateLine gp (ix2 r s) = gate (gp (ix2 r s)) := by
  unfold gateLine gate
  pointwise []

theorem gatedLine_at (r : Fin 8192) (a : Fin 4) (b : Fin 2048) : gatedLine gp yp (ix3 r a b) = term gp yp r (2048 * a.val + b.val) := by
  have hg := gateLine_at gp
  unfold gatedLine term
  rw [entry, entry, dif_pos ⟨r.isLt, by omega⟩, dif_pos ⟨r.isLt, by omega⟩, ← hg]
  generalize gateLine gp = g
  pointwise []
  congr 3 <;> (apply Fin.ext; dsimp only; omega)

theorem mergedLine_at (r : Fin 8192) (b : Fin 2048) : mergedLine gp yp (ix2 r b)
    = term gp yp r (0 + b.val) + term gp yp r (2048 + b.val) + term gp yp r (4096 + b.val) + term gp yp r (6144 + b.val) := by
  have hg := fun a => gatedLine_at gp yp r a b
  unfold mergedLine
  generalize gatedLine gp yp = g at hg
  pointwise []
  rw [Fin.sum_univ_four, hg, hg, hg, hg]
  exact congrArg (fun n => term gp yp r n + _ + _ + _) (Nat.zero_add b.val)
end

theorem same : algebraic_MergeFwdIdeal_MergeFwdReferenceIdeal (hMergeFwdIdeal := Cert.MergeFwdIdeal.Gen.facts)
    (hMergeFwdReferenceIdeal := Cert.MergeFwdReferenceIdeal.Gen.facts) := by
  intro m g m' g' _ hargs
  refine ⟨fun c => merged (m (c.tc.loc Cert.MergeFwdIdeal.main_arg0)) (m (c.tc.loc Cert.MergeFwdIdeal.main_arg1)),
    (θ_run _ _ _).mono (fun r h c => ⟨(h c).1.trans (out m c), (h c).2⟩) (Cert.MergeFwdIdeal.Value.run_blocks m g),
    (θ_run _ _ _).mono (fun r h c => ⟨(h c).1.trans ?_, (h c).2⟩) (Cert.MergeFwdReferenceIdeal.Value.run m' g')⟩
  obtain ⟨h0, h1⟩ := hargs c
  rw [h0, h1]
  funext i
  obtain ⟨r, s, rfl⟩ := exists_ix2 i
  exact mergedLine_at _ _ r s

end Cert.MergeFwdEqual
-- ==== Proof.RmsFwd.lean ====
module

public import proofs.«01_k».proof.Proof.Products
public import proofs.«01_k».proof.Defs
public import proofs.«01_k».proof.Proof.Gen.RmsFwdIdeal.Value
public import proofs.«01_k».proof.Proof.Gen.RmsFwdReferenceIdeal.Run

/-! The norm before the products: a row over the root of the mean of its squares, times the norm's weights. -/

@[expose] public section
set_option maxRecDepth 16384
noncomputable section
open Idealize.ShloMosaic Idealize.SL.Sem Finset
namespace Cert.RmsFwdEqual
open Cert.Products

/-- One over the root of the mean square of a row, with the small number that keeps it off zero. -/
def scale (row : Fin 2048 → EReal) : EReal :=
  FloatOps.rsqrt (F := Ideal) (φ := .f32) (Ideal.div (∑ b : Fin 2048, row b * row b) (Ideal.ofBits .f32 0x45000000#32) + Ideal.ofBits .f32 0x358637BD#32)

def normed (x : FVec Ideal ⟨2, ![8192, 2048]⟩ .f32) (g : FVec Ideal ⟨1, ![2048]⟩ .f32) : FVec Ideal ⟨2, ![8192, 2048]⟩ .bf16 := fun i =>
  (x i : EReal) * scale (fun b => x (ix2 (i 0) b)) * g (ix1 (i 1))

section
open Cert.RmsFwdIdeal Cert.RmsFwdIdeal.Gen Cert.RmsFwdIdeal.Value

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem points_lt (t : Fin cfg0.N) : t.val < 16 := lt_of_lt_of_eq t.isLt (show cfg0.N = 16 from N_0)

theorem rows (t : Fin cfg0.N) (r : Fin 512) (s : Fin 2048) (r' : Fin 8192) (hr : r'.val = 512 * t.val + r.val) :
    (iblk m c 0 t : FVec Ideal S512x2048 .f32) (ix2 r s) = (m (c.tc.loc main_arg0) : FVec Ideal S8192x2048 .f32) (ix2 r' s) := by
  have ht := points_lt t
  blk_ext [iblk, V_main_arg0, idx t]

theorem reshaped (s : Fin 2048) : (V m c main_v0 : FVec Ideal S1x2048 .f32) (ix2 0 s) = (m (c.tc.loc main_arg1) : FVec Ideal S2048 .f32) (ix1 s) := by
  unfold V
  after_reads_at

theorem weights (t : Fin cfg0.N) (s : Fin 2048) :
    (iblk m c 1 t : FVec Ideal S1x2048 .f32) (ix2 0 s) = (m (c.tc.loc main_arg1) : FVec Ideal S2048 .f32) (ix1 s) := by
  refine Eq.trans ?_ (reshaped m c s)
  blk_ext [iblk, idx t]

/-- What a point leaves, from its rows and the weights. -/
theorem body_at (x : FVec Ideal S512x2048 .f32) (g : FVec Ideal S1x2048 .f32) (r : Fin 512) (s : Fin 2048) :
    (k0_pay1 x g : FVec Ideal S512x2048 .bf16) (ix2 r s) = (x (ix2 r s) : EReal) * scale (fun b => x (ix2 r b)) * g (ix2 0 s) := by
  unfold k0_pay1 scale
  pointwise []

theorem out : (dats m 0 c).arrAt 2 cfg0.N = normed (m (c.tc.loc main_arg0)) (m (c.tc.loc main_arg1)) := by
  refine (dats m 0 c).arrAt_eq_of_covers 2 _ (by decide +kernel) fun t hf y => ?_
  have ht := points_lt t
  obtain ⟨r, s, rfl⟩ : ∃ (r : Fin 512) (s : Fin 2048), y = ix2 r s := exists_ix2 (n := 512) (m := 2048) y
  have e0 : ((((View.whole main_v1).slice (win0_2.rect t)).emb (ix2 r s) 0 : Fin _) : ℕ) = 512 * t.val + r.val := by blk_simp [idx t]; omega
  have e1 : ((((View.whole main_v1).slice (win0_2.rect t)).emb (ix2 r s) 1 : Fin _) : ℕ) = s.val := by blk_simp [idx t]
  have e : ((View.whole main_v1).slice (win0_2.rect t)).emb (ix2 r s) = ix2 (⟨512 * t.val + r.val, by omega⟩ : Fin 8192) s := by
    funext a
    refine Fin.cases (Fin.ext e0) (fun a => ?_) a
    obtain rfl : a = 0 := Subsingleton.elim _ _
    exact Fin.ext e1
  blk_simp
  rw [after0_2]
  frame_out
  refine (body_at _ _ r s).trans ?_
  rw [e]
  unfold normed
  have hx := fun b => rows m c t r b ⟨512 * t.val + r.val, by omega⟩ rfl
  rw [weights, hx s]
  exact congrArg (fun f => _ * scale f * _) (funext hx)
end

theorem reference_frame : quiescent_RmsFwdReferenceIdeal (hRmsFwdReferenceIdeal := Cert.RmsFwdReferenceIdeal.Gen.facts) := fun m ρ _ =>
  (θ_run _ _ _).mono (fun r h => ⟨fun c => (h c).2, sem_eq_zero_of_no_sems rfl r.2⟩) (Cert.RmsFwdReferenceIdeal.Value.run m ρ)

section
open Cert.RmsFwdReferenceIdeal Cert.RmsFwdReferenceIdeal.Gen

variable (x : FVec Ideal S8192x2048 .f32) (g : FVec Ideal S2048 .f32)

/-- The line of the rows' scales. -/
def scaleLine : FVec Ideal S8192x1 .f32 :=
  Host.rsqrt (addf (Host.divf (broadcastInDim S8192x1 ![0] bcast_S8192_S8192x1_0
    (Host.reduceAdd (mulf x x) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32)))

def normedLine : FVec Ideal S8192x2048 .bf16 :=
  truncf .bf16 (mulf (mulf x (broadcastInDim S8192x2048 ![0, 1] bcast_S8192x1_S8192x2048_0_1 (scaleLine x)))
    (broadcastInDim S8192x2048 ![0, 1] bcast_S1x2048_S8192x2048_0_1 (broadcastInDim S1x2048 ![1] bcast_S2048_S1x2048_1 g))) bitsLt_bf16_f32

theorem scaleLine_at (r : Fin 8192) : scaleLine x (ix2 r 0) = scale (fun b => x (ix2 r b)) := by
  unfold scaleLine scale
  pointwise []

theorem normedLine_at (r : Fin 8192) (s : Fin 2048) : normedLine x g (ix2 r s) = normed x g (ix2 r s) := by
  have h := scaleLine_at x r
  unfold normedLine normed
  generalize scaleLine x = f at h
  pointwise []
  rw [h]
end

theorem same : algebraic_RmsFwdIdeal_RmsFwdReferenceIdeal (hRmsFwdIdeal := Cert.RmsFwdIdeal.Gen.facts)
    (hRmsFwdReferenceIdeal := Cert.RmsFwdReferenceIdeal.Gen.facts) := by
  intro m g m' g' _ hargs
  refine ⟨fun c => normed (m (c.tc.loc Cert.RmsFwdIdeal.main_arg0)) (m (c.tc.loc Cert.RmsFwdIdeal.main_arg1)),
    (θ_run _ _ _).mono (fun r h c => ⟨(h c).1.trans (out m c), (h c).2⟩) (Cert.RmsFwdIdeal.Value.run_blocks m g),
    (θ_run _ _ _).mono (fun r h c => ⟨(h c).1.trans ?_, (h c).2⟩) (Cert.RmsFwdReferenceIdeal.Value.run m' g')⟩
  obtain ⟨h0, h1⟩ := hargs c
  rw [h0, h1]
  funext i
  obtain ⟨r, s, rfl⟩ := exists_ix2 i
  exact normedLine_at _ _ r s

end Cert.RmsFwdEqual
-- ==== Proof.DilGateBwd.lean ====
module

public import proofs.«01_k».proof.Proof.MergeBwd
public import proofs.«01_k».proof.Proof.Finite
public import proofs.«01_k».proof.Pre_finite_gated
public import proofs.«01_k».proof.Proof.Gen.DilGateBwdIdeal.Value
public import proofs.«01_k».proof.Proof.Gen.DilGateBwdReferenceIdeal.Run

/-! The gate of the dilated attention backwards: the gradients of the attention and of its gate, and for every head the sum
of the attention times its gradient. -/

@[expose] public section
set_option maxRecDepth 16384
noncomputable section
open Idealize.ShloMosaic Idealize.SL.Sem Finset
namespace Cert.DilGateBwdEqual
open Cert.Products
open Cert.MergeBwdEqual (gate)

theorem gate_real (x : ℝ) : ∃ s : ℝ, gate (x : EReal) = (s : EReal) := by
  refine ⟨1 / (1 + Real.exp (-x)), ?_⟩
  have h : (1 : ℝ) + Real.exp (-x) ≠ 0 := by positivity
  unfold gate
  rw [← EReal.coe_neg, Ideal.exp_coe, ← EReal.coe_one, ← EReal.coe_add, Ideal.div_coe h, EReal.coe_one, one_mul]

theorem gate_top : gate ⊤ = 1 := by
  unfold gate
  rw [EReal.neg_top, Ideal.exp_bot, add_zero, ← EReal.coe_one, Ideal.div_coe one_ne_zero]
  norm_num

theorem gate_bot : gate ⊥ = 0 := by
  unfold gate
  rw [EReal.neg_bot, Ideal.exp_top, ← EReal.coe_one, EReal.coe_add_top]
  simp [Ideal.div]

/-- The two orders of the gate's gradient, at a real number. -/
theorem orders (a y : ℝ) (x : EReal) : ((a : EReal) * y) * gate x + (x * ((a : EReal) * y)) * (gate x * (1 - gate x))
    = ((y : EReal) * a) * (gate x * (1 + x * (1 - gate x))) := by
  induction x with
  | bot => simp [gate_bot]
  | top =>
    have h : (1 : EReal) - 1 = 0 := by rw [← EReal.coe_one, ← EReal.coe_sub, sub_self, EReal.coe_zero]
    rw [gate_top, h, mul_zero, mul_zero, mul_zero, add_zero, add_zero, mul_one, one_mul, mul_one, mul_comm]
  | coe x =>
    obtain ⟨s, hs⟩ := gate_real x
    rw [hs]
    norm_cast
    ring

section Results

variable (x : FVec Ideal ⟨2, ![8192, 18432]⟩ .f32) (a : FVec Ideal ⟨2, ![8192, 1024]⟩ .f32) (y : FVec Ideal ⟨2, ![8192, 4096]⟩ .f32)

/-- The gradient of the attention. -/
def out (r s : ℕ) : EReal := entry y r (3072 + s) * (entry x r (17408 + s) * gate (entry x r (17408 + s)))

/-- The gradient of the gate. -/
def grad (r s : ℕ) : EReal := entry y r (3072 + s) * entry a r s
  * (gate (entry x r (17408 + s)) * (1 + entry x r (17408 + s) * (1 - gate (entry x r (17408 + s)))))

/-- The sum over the columns of the head that column `s` is of. -/
def delta (r s : ℕ) : EReal := ∑ d ∈ range 128, out x y r (128 * (s / 128) + d) * entry a r (128 * (s / 128) + d)

def outs : FVec Ideal ⟨2, ![8192, 1024]⟩ .f32 := fun i => out x y (i 0).val (i 1).val

def grads : FVec Ideal ⟨2, ![8192, 1024]⟩ .bf16 := fun i => grad x a y (i 0).val (i 1).val

def deltas : FVec Ideal ⟨2, ![8192, 1024]⟩ .f32 := fun i => delta x a y (i 0).val (i 1).val

end Results

section
open Cert.DilGateBwdIdeal Cert.DilGateBwdIdeal.Gen Cert.DilGateBwdIdeal.Value

theorem idx : ∀ t : Fin cfg0.N, win0_0.index t = ![t.val, 17] ∧ win0_1.index t = ![t.val, 0] ∧ win0_2.index t = ![t.val, 3]
    ∧ win0_3.index t = ![t.val, 0] ∧ win0_4.index t = ![t.val, 0] ∧ win0_5.index t = ![t.val, 0] :=
  (by decide +kernel : ∀ t : Fin grid0.N, _)

variable (m : (ℓ : Loc nD τ sig) → Buf (Elt Ideal) ℓ) (c : Dev nD)

theorem points_lt (t : Fin cfg0.N) : t.val < 32 := lt_of_lt_of_eq t.isLt (show cfg0.N = 32 from N_0)

theorem given0 (t : Fin cfg0.N) (r : Fin 256) (s : Fin 1024) : (iblk m c 0 t : FVec Ideal S256x1024 .f32) (ix2 r s)
    = entry (n := 8192) (m := 18432) (φ := .f32) (m (c.tc.loc main_arg0)) (256 * t.val + r.val) (17408 + s.val) := by
  have ht := points_lt t
  rw [entry, dif_pos ⟨by omega, by omega⟩]
  blk_ext [iblk, V_main_arg0, idx t]

theorem given1 (t : Fin cfg0.N) (r : Fin 256) (s : Fin 1024) : (iblk m c 1 t : FVec Ideal S256x1024 .f32) (ix2 r s)
    = entry (n := 8192) (m := 1024) (φ := .f32) (m (c.tc.loc main_arg1)) (256 * t.val + r.val) s.val := by
  have ht := points_lt t
  rw [entry, dif_pos ⟨by omega, by omega⟩]
  blk_ext [iblk, V_main_arg1, idx t]

theorem given2 (t : Fin cfg0.N) (r : Fin 256) (s : Fin 1024) : (iblk m c 2 t : FVec Ideal S256x1024 .f32) (ix2 r s)
    = entry (n := 8192) (m := 4096) (φ := .f32) (m (c.tc.loc main_arg2)) (256 * t.val + r.val) (3072 + s.val) := by
  have ht := points_lt t
  rw [entry, dif_pos ⟨by omega, by omega⟩]
  blk_ext [iblk, V_main_arg2, idx t]

theorem gate_eq (x : FVec Ideal S256x1024 .f32) (r : Fin 256) (s : Fin 1024) : (k0_pay3 x : FVec Ideal S256x1024 .f32) (ix2 r s) = gate (x (ix2 r s)) := by
  unfold k0_pay3 gate
  pointwise []
  rw [zero_sub]

theorem out_eq (t : Fin cfg0.N) (r : Fin 256) (s : Fin 1024) : (k0_pay5 (iblk m c 0 t) (iblk m c 2 t) : FVec Ideal S256x1024 .f32) (ix2 r s)
    = out (m (c.tc.loc main_arg0)) (m (c.tc.loc main_arg2)) (256 * t.val + r.val) s.val := by
  unfold k0_pay5 out
  pointwise []
  rw [gate_eq, given0, given2]

theorem grad_eq (t : Fin cfg0.N) (r : Fin 256) (s : Fin 1024) :
    (k0_pay2 (iblk m c 1 t) (iblk m c 2 t) (k0_pay4 (iblk m c 0 t)) : FVec Ideal S256x1024 .bf16) (ix2 r s)
      = grad (m (c.tc.loc main_arg0)) (m (c.tc.loc main_arg1)) (m (c.tc.loc main_arg2)) (256 * t.val + r.val) s.val := by
  unfold k0_pay2 k0_pay4 grad
  pointwise []
  rw [gate_eq, given0, given1, given2]

theorem prod_eq (t : Fin cfg0.N) (r : Fin 256) (s : Fin 1024) :
    (k0_pay6 (iblk m c 0 t) (iblk m c 1 t) (iblk m c 2 t) : FVec Ideal S256x1024 .f32) (ix2 r s)
      = out (m (c.tc.loc main_arg0)) (m (c.tc.loc main_arg2)) (256 * t.val + r.val) s.val
        * entry (n := 8192) (m := 1024) (φ := .f32) (m (c.tc.loc main_arg1)) (256 * t.val + r.val) s.val := by
  unfold k0_pay6
  pointwise []
  rw [out_eq, given1]

set_option maxHeartbeats 1600000 in
/-- The sums of the heads' columns, laid side by side. -/
theorem heads (x a y : Vec Ideal S256x1024 .f32) (r : Fin 256) (h : Fin 8) (d : Fin 128) :
    (k0_pay1 (k0_pay6 x a y) (k0_pay7 x a y) (k0_pay8 x a y) (k0_pay9 x a y) (k0_pay10 x a y) (k0_pay11 x a y) : FVec Ideal S256x1024 .f32)
      (ix2 r ⟨128 * h.val + d.val, by omega⟩) = ∑ e : Fin 128, (k0_pay6 x a y : FVec Ideal S256x1024 .f32) (ix2 r ⟨128 * h.val + e.val, by omega⟩) := by
  unfold k0_pay1 k0_pay7 k0_pay8 k0_pay9 k0_pay10 k0_pay11
  generalize k0_pay6 x a y = p
  fin_cases h
  all_goals
    pointwise []
  all_goals
    split_ifs <;> first | omega | rfl

theorem delta_eq (t : Fin cfg0.N) (r : Fin 256) (s : Fin 1024) :
    (k0_pay1 (k0_pay6 (iblk m c 0 t) (iblk m c 1 t) (iblk m c 2 t)) (k0_pay7 (iblk m c 0 t) (iblk m c 1 t) (iblk m c 2 t))
      (k0_pay8 (iblk m c 0 t) (iblk m c 1 t) (iblk m c 2 t)) (k0_pay9 (iblk m c 0 t) (iblk m c 1 t) (iblk m c 2 t))
      (k0_pay10 (iblk m c 0 t) (iblk m c 1 t) (iblk m c 2 t)) (k0_pay11 (iblk m c 0 t) (iblk m c 1 t) (iblk m c 2 t)) : FVec Ideal S256x1024 .f32)
      (ix2 r s) = delta (m (c.tc.loc main_arg0)) (m (c.tc.loc main_arg1)) (m (c.tc.loc main_arg2)) (256 * t.val + r.val) s.val := by
  obtain ⟨h, d, rfl⟩ : ∃ (h : Fin 8) (d : Fin 128), s = ⟨128 * h.val + d.val, by omega⟩ :=
    ⟨⟨s.val / 128, by omega⟩, ⟨s.val % 128, by omega⟩, Fin.ext (by dsimp only; omega)⟩
  refine (heads _ _ _ r h d).trans ?_
  unfold delta
  dsimp only
  rw [show (128 * h.val + d.val) / 128 = h.val by omega,
    ← Fin.sum_univ_eq_sum_range fun e => out (m (c.tc.loc main_arg0)) (m (c.tc.loc main_arg2)) (256 * t.val + r.val) (128 * h.val + e)
      * entry (n := 8192) (m := 1024) (φ := .f32) (m (c.tc.loc main_arg1)) (256 * t.val + r.val) (128 * h.val + e)]
  exact sum_congr rfl fun e _ => prod_eq m c t r ⟨128 * h.val + e.val, by omega⟩

theorem out3 : (dats m 0 c).arrAt 3 cfg0.N = outs (m (c.tc.loc main_arg0)) (m (c.tc.loc main_arg2)) := by
  refine (dats m 0 c).arrAt_eq_of_covers 3 _ (by decide +kernel) fun t hf y => ?_
  have ht := points_lt t
  obtain ⟨r, s, rfl⟩ : ∃ (r : Fin 256) (s : Fin 1024), y = ix2 r s := exists_ix2 (n := 256) (m := 1024) y
  have e0 : ((((View.whole main_v0_0).slice (win0_3.rect t)).emb (ix2 r s) 0 : Fin _) : ℕ) = 256 * t.val + r.val := by blk_simp [idx t]; omega
  have e1 : ((((View.whole main_v0_0).slice (win0_3.rect t)).emb (ix2 r s) 1 : Fin _) : ℕ) = s.val := by blk_simp [idx t]
  blk_simp
  rw [after0_3]
  frame_out
  refine (out_eq m c t r s).trans ?_
  unfold outs
  rw [e0, e1]

theorem out4 : (dats m 0 c).arrAt 4 cfg0.N = grads (m (c.tc.loc main_arg0)) (m (c.tc.loc main_arg1)) (m (c.tc.loc main_arg2)) := by
  refine (dats m 0 c).arrAt_eq_of_covers 4 _ (by decide +kernel) fun t hf y => ?_
  have ht := points_lt t
  obtain ⟨r, s, rfl⟩ : ∃ (r : Fin 256) (s : Fin 1024), y = ix2 r s := exists_ix2 (n := 256) (m := 1024) y
  have e0 : ((((View.whole main_v0_1).slice (win0_4.rect t)).emb (ix2 r s) 0 : Fin _) : ℕ) = 256 * t.val + r.val := by blk_simp [idx t]; omega
  have e1 : ((((View.whole main_v0_1).slice (win0_4.rect t)).emb (ix2 r s) 1 : Fin _) : ℕ) = s.val := by blk_simp [idx t]
  blk_simp
  rw [after0_4]
  frame_out
  refine (grad_eq m c t r s).trans ?_
  unfold grads
  rw [e0, e1]

theorem out5 : (dats m 0 c).arrAt 5 cfg0.N = deltas (m (c.tc.loc main_arg0)) (m (c.tc.loc main_arg1)) (m (c.tc.loc main_arg2)) := by
  refine (dats m 0 c).arrAt_eq_of_covers 5 _ (by decide +kernel) fun t hf y => ?_
  have ht := points_lt t
  obtain ⟨r, s, rfl⟩ : ∃ (r : Fin 256) (s : Fin 1024), y = ix2 r s := exists_ix2 (n := 256) (m := 1024) y
  have e0 : ((((View.whole main_v0_2).slice (win0_5.rect t)).emb (ix2 r s) 0 : Fin _) : ℕ) = 256 * t.val + r.val := by blk_simp [idx t]; omega
  have e1 : ((((View.whole main_v0_2).slice (win0_5.rect t)).emb (ix2 r s) 1 : Fin _) : ℕ) = s.val := by blk_simp [idx t]
  blk_simp
  rw [after0_5]
  frame_out
  refine (delta_eq m c t r s).trans ?_
  unfold deltas
  rw [e0, e1]
end

/-- The precondition's side conditions. -/
theorem finite_gated_facts : Cert.Pre_finite_gated.Facts where
  bcast_S_S8192x1024 := by decide
  reducesTo_S8192x1024_S_d0_1 := by decide
  h_S_ := by decide
  slices_S8192x4096_S8192x1024_0_3072 := by decide

/-- What the precondition says: the attention and the columns of its gradient are real numbers. -/
theorem real_entries [Cert.Pre_finite_gated.Facts] (x : FVec Ideal Cert.Pre_finite_gated.S8192x18432 .f32) (a : FVec Ideal Cert.Pre_finite_gated.S8192x1024 .f32)
    (y : FVec Ideal Cert.Pre_finite_gated.S8192x4096 .f32) (h : Cert.Pre_finite_gated.fn (F := Ideal) x a y = fun _ => 1#1) (r : Fin 8192) (s : Fin 1024) :
    (a (ix2 r s) : EReal) = (((a (ix2 r s)).toReal : ℝ) : EReal)
    ∧ (y (ix2 r ⟨3072 + s.val, by omega⟩) : EReal) = (((y (ix2 r ⟨3072 + s.val, by omega⟩)).toReal : ℝ) : EReal) := by
  haveI : Subsingleton Cert.Pre_finite_gated.S_.Idx := ⟨fun a b => funext fun i => i.elim0⟩
  obtain ⟨h0, h1⟩ := Cert.StickBreaking.and_one (congrFun h ix0)
  constructor
  · have := Host.reduce_andi_all _ _ _ _ _ h0 (ix2 r s)
    revert this
    pointwise []
    exact Cert.StickBreaking.real_of_lt _
  · have := Host.reduce_andi_all _ _ _ _ _ h1 (ix2 r s)
    revert this
    pointwise []
    exact Cert.StickBreaking.real_of_lt _

theorem reference_frame (m : (ℓ : Loc Cert.DilGateBwdReferenceIdeal.nD Cert.DilGateBwdReferenceIdeal.τ Cert.DilGateBwdReferenceIdeal.sig) → Buf (Elt Ideal) ℓ)
    (ρ : Dev Cert.DilGateBwdReferenceIdeal.nD → PrngReg) :
    θ_run (Cert.DilGateBwdReferenceIdeal.defs (F := Ideal)) (onTc (τ := Cert.DilGateBwdReferenceIdeal.τ) (Cert.DilGateBwdReferenceIdeal.main (F := Ideal))) ⟨m, fun _ => 0, ρ⟩
      (fun r => (∀ c : Dev Cert.DilGateBwdReferenceIdeal.nD,
          r.2.mem (c.tc.loc Cert.DilGateBwdReferenceIdeal.main_arg0) = m (c.tc.loc Cert.DilGateBwdReferenceIdeal.main_arg0)
          ∧ r.2.mem (c.tc.loc Cert.DilGateBwdReferenceIdeal.main_arg1) = m (c.tc.loc Cert.DilGateBwdReferenceIdeal.main_arg1)
          ∧ r.2.mem (c.tc.loc Cert.DilGateBwdReferenceIdeal.main_arg2) = m (c.tc.loc Cert.DilGateBwdReferenceIdeal.main_arg2))
        ∧ r.2.sem = fun _ => 0) :=
  (θ_run _ _ _).mono (fun r h => ⟨fun c => (h c).2.2.2, sem_eq_zero_of_no_sems rfl r.2⟩) (Cert.DilGateBwdReferenceIdeal.Value.run m ρ)

section
open Cert.DilGateBwdReferenceIdeal Cert.DilGateBwdReferenceIdeal.Gen

variable (x : FVec Ideal S8192x18432 .f32) (a : FVec Ideal S8192x1024 .f32) (y : FVec Ideal S8192x4096 .f32)

/-! The reference's lines. -/

def ones : FVec Ideal S8192x1024 .f32 := broadcastInDim S8192x1024 ![] bcast_S_S8192x1024 (constant S_ .f32 0x3F800000#32)

def gateCols : FVec Ideal S8192x1024 .f32 := extractStridedSlice S8192x1024 ![0, 17408] x slices_S8192x18432_S8192x1024_0_17408

def dyCols : FVec Ideal S8192x1024 .f32 := extractStridedSlice S8192x1024 ![0, 3072] y slices_S8192x4096_S8192x1024_0_3072

def gateLine : FVec Ideal S8192x1024 .f32 := Host.divf ones (addf ones (Host.exp (Host.negf (gateCols x))))

def outLine : FVec Ideal S8192x1024 .f32 := mulf (dyCols y) (mulf (gateCols x) (gateLine x))

def gradLine : FVec Ideal S8192x1024 .bf16 :=
  truncf .bf16 (addf (mulf (mulf a (dyCols y)) (gateLine x)) (mulf (mulf (gateCols x) (mulf a (dyCols y))) (mulf (gateLine x) (subf ones (gateLine x))))) bitsLt_bf16_f32

def headLine : FVec Ideal S8192x8 .f32 :=
  Host.reduceAdd (shapeCast _ (mulf (outLine x y) a) shapeCasts_S8192x1024_S8192x8x128) (constant S_ .f32 0x00000000#32) reducesTo_S8192x8x128_S8192x8_d2 h_S_

def deltaLine : FVec Ideal S8192x1024 .f32 :=
  shapeCast _ (broadcastInDim S8192x8x128 ![0, 1, 2] bcast_S8192x8x1_S8192x8x128_0_1_2
    (broadcastInDim S8192x8x1 ![0, 1] bcast_S8192x8_S8192x8x1_0_1 (headLine x a y))) shapeCasts_S8192x8x128_S8192x1024

theorem gateCols_at (r : Fin 8192) (s : Fin 1024) : gateCols x (ix2 r s) = entry x r (17408 + s.val) := by
  rw [entry, dif_pos ⟨r.isLt, by omega⟩]
  unfold gateCols
  pointwise []

theorem dyCols_at (r : Fin 8192) (s : Fin 1024) : dyCols y (ix2 r s) = entry y r (3072 + s.val) := by
  rw [entry, dif_pos ⟨r.isLt, by omega⟩]
  unfold dyCols
  pointwise []

theorem gateLine_at (r : Fin 8192) (s : Fin 1024) : gateLine x (ix2 r s) = gate (entry x r (17408 + s.val)) := by
  rw [← gateCols_at]
  unfold gateLine ones gate
  generalize gateCols x = g
  pointwise []

theorem outLine_at (r : Fin 8192) (s : Fin 1024) : outLine x y (ix2 r s) = out x y r s.val := by
  have h0 := gateCols_at x r s
  have h1 := gateLine_at x r s
  have h2 := dyCols_at y r s
  unfold outLine out
  rw [← h1, ← h0, ← h2]
  generalize gateLine x = g
  generalize gateCols x = f
  generalize dyCols y = d
  pointwise []

theorem gradLine_at [Cert.Pre_finite_gated.Facts] (h : Cert.Pre_finite_gated.fn (F := Ideal) x a y = fun _ => 1#1) (r : Fin 8192) (s : Fin 1024) :
    gradLine x a y (ix2 r s) = grad x a y r s.val := by
  have h0 := gateCols_at x r s
  have h1 := gateLine_at x r s
  have h2 := dyCols_at y r s
  have ha := entry_eq a r s
  have hy : entry y r (3072 + s.val) = y (ix2 r ⟨3072 + s.val, by omega⟩) := by rw [entry, dif_pos ⟨r.isLt, by omega⟩]
  obtain ⟨ra, ry⟩ := real_entries x a y h r s
  unfold gradLine ones grad
  generalize gateLine x = g at h1
  generalize gateCols x = f at h0
  generalize dyCols y = d at h2
  pointwise []
  rw [h0, h1, h2, ha, hy, ra, ry]
  exact orders _ _ _

theorem headLine_at (r : Fin 8192) (h : Fin 8) : headLine x a y (ix2 r h) = ∑ d ∈ range 128, out x y r (128 * h.val + d) * entry a r (128 * h.val + d) := by
  have ho := outLine_at x y r
  have ha := entry_eq a r
  rw [← Fin.sum_univ_eq_sum_range fun d => out x y r (128 * h.val + d) * entry a r (128 * h.val + d)]
  unfold headLine
  generalize outLine x y = f at ho
  pointwise []
  refine sum_congr rfl fun d _ => ?_
  have e : ∀ (n : ℕ) (hn : n < 1024), n = 128 * h.val + d.val → f (ix2 r ⟨n, hn⟩) * a (ix2 r ⟨n, hn⟩) = out x y r (128 * h.val + d.val) * entry a r (128 * h.val + d.val) := by
    rintro n hn rfl
    rw [ho, ← ha]
  exact e _ _ (by omega)

theorem deltaLine_at (r : Fin 8192) (s : Fin 1024) : deltaLine x a y (ix2 r s) = delta x a y r s.val := by
  have hh := headLine_at x a y r
  unfold deltaLine delta
  generalize headLine x a y = f at hh
  pointwise []
  exact hh _
end

theorem same [hPre : Cert.Pre_finite_gated.Facts] : algebraic_DilGateBwdIdeal_DilGateBwdReferenceIdeal_pre_finite_gated
    (hDilGateBwdIdeal := Cert.DilGateBwdIdeal.Gen.facts) (hDilGateBwdReferenceIdeal := Cert.DilGateBwdReferenceIdeal.Gen.facts) := by
  intro m g m' g' hpre hargs
  refine ⟨fun c => outs (m (c.tc.loc Cert.DilGateBwdIdeal.main_arg0)) (m (c.tc.loc Cert.DilGateBwdIdeal.main_arg2)),
    fun c => grads (m (c.tc.loc Cert.DilGateBwdIdeal.main_arg0)) (m (c.tc.loc Cert.DilGateBwdIdeal.main_arg1)) (m (c.tc.loc Cert.DilGateBwdIdeal.main_arg2)),
    fun c => deltas (m (c.tc.loc Cert.DilGateBwdIdeal.main_arg0)) (m (c.tc.loc Cert.DilGateBwdIdeal.main_arg1)) (m (c.tc.loc Cert.DilGateBwdIdeal.main_arg2)),
    (θ_run _ _ _).mono (fun r h c => ⟨(h c).1.trans (out3 m c), (h c).2.1.trans (out4 m c), (h c).2.2.1.trans (out5 m c), (h c).2.2.2⟩)
      (Cert.DilGateBwdIdeal.Value.run_blocks m g),
    (θ_run _ _ _).mono (fun r h c => ⟨(h c).1.trans ?_, (h c).2.1.trans ?_, (h c).2.2.1.trans ?_, (h c).2.2.2⟩) (Cert.DilGateBwdReferenceIdeal.Value.run m' g')⟩
  all_goals
    obtain ⟨h0, h1, h2⟩ := hargs c
    rw [h0, h2]
    try rw [h1]
    funext i
    obtain ⟨r, s, rfl⟩ := exists_ix2 i
  · exact outLine_at _ _ r s
  · exact gradLine_at _ _ _ (hpre c) r s
  · exact deltaLine_at _ _ _ r s

end Cert.DilGateBwdEqual
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.InProjDx.Frame
public import proofs.«01_k».proof.Proof.Gen.InProjDxIdeal.Frame
public import proofs.«01_k».proof.Proof.Gen.InProjDxIdeal.Value
public import proofs.«01_k».proof.Proof.Gen.InProjDxReferenceIdeal.Run
public import proofs.«01_k».proof.Proof.Gen.InProjDw.Frame
public import proofs.«01_k».proof.Proof.Gen.InProjDwIdeal.Frame
public import proofs.«01_k».proof.Proof.Gen.InProjDwIdeal.Value
public import proofs.«01_k».proof.Proof.Gen.InProjDwReferenceIdeal.Run
public import proofs.«01_k».proof.Proof.Gen.GateProjDx.Frame
public import proofs.«01_k».proof.Proof.Gen.GateProjDxIdeal.Frame
public import proofs.«01_k».proof.Proof.Gen.GateProjDxIdeal.Value
public import proofs.«01_k».proof.Proof.Gen.GateProjDxReferenceIdeal.Run
public import proofs.«01_k».proof.Proof.Gen.GateProjDw.Frame
public import proofs.«01_k».proof.Proof.Gen.GateProjDwIdeal.Frame
public import proofs.«01_k».proof.Proof.Gen.GateProjDwIdeal.Value
public import proofs.«01_k».proof.Proof.Gen.GateProjDwReferenceIdeal.Run
public import proofs.«01_k».proof.Proof.Gen.BranchProjDx.Frame
public import proofs.«01_k».proof.Proof.Gen.BranchProjDxIdeal.Frame
public import proofs.«01_k».proof.Proof.Gen.BranchProjDxIdeal.Value
public import proofs.«01_k».proof.Proof.Gen.BranchProjDxReferenceIdeal.Run
public import proofs.«01_k».proof.Proof.Gen.BranchProjDw.Frame
public import proofs.«01_k».proof.Proof.Gen.BranchProjDwIdeal.Frame
public import proofs.«01_k».proof.Proof.Gen.BranchProjDwIdeal.Value
public import proofs.«01_k».proof.Proof.Gen.BranchProjDwReferenceIdeal.Run
public import proofs.«01_k».proof.Proof.Gen.OutProjDx.Frame
public import proofs.«01_k».proof.Proof.Gen.OutProjDxIdeal.Frame
public import proofs.«01_k».proof.Proof.Gen.OutProjDxIdeal.Value
public import proofs.«01_k».proof.Proof.Gen.OutProjDxReferenceIdeal.Run
public import proofs.«01_k».proof.Proof.Gen.OutProjDw.Frame
public import proofs.«01_k».proof.Proof.Gen.OutProjDwIdeal.Frame
public import proofs.«01_k».proof.Proof.Gen.OutProjDwIdeal.Value
public import proofs.«01_k».proof.Proof.Gen.OutProjDwReferenceIdeal.Run
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.GateProj.Frame
public import proofs.«01_k».proof.Proof.Gen.GateProjIdeal.Frame
public import proofs.«01_k».proof.Proof.Gen.GateProjIdeal.Value
public import proofs.«01_k».proof.Proof.Gen.GateProjReferenceIdeal.Run
public import proofs.«01_k».proof.Proof.Gen.BranchProj.Frame
public import proofs.«01_k».proof.Proof.Gen.BranchProjIdeal.Frame
public import proofs.«01_k».proof.Proof.Gen.BranchProjIdeal.Value
public import proofs.«01_k».proof.Proof.Gen.BranchProjReferenceIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.SbFwd.Frame
public import proofs.«01_k».proof.Proof.Gen.SbFwdIdeal.Frame
public import proofs.«01_k».proof.Proof.Gen.SbFwdIdeal.Value
public import proofs.«01_k».proof.Proof.Gen.SbFwdReferenceIdeal.Run
public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdReferenceIdeal.Run
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdReferenceIdeal.Run
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdReferenceIdeal.Run
public import proofs.«01_k».proof.Proof.Gen.DilGateBwd.Frame
public import proofs.«01_k».proof.Proof.Gen.DilGateBwdIdeal.Frame
public import proofs.«01_k».proof.Proof.Gen.DilGateBwdIdeal.Value
public import proofs.«01_k».proof.Proof.Gen.DilGateBwdReferenceIdeal.Run
public import proofs.«01_k».proof.Proof.Equal
public import proofs.«01_k».proof.Proof.InProjDx
public import proofs.«01_k».proof.Proof.InProjDw
public import proofs.«01_k».proof.Proof.GateProjDx
public import proofs.«01_k».proof.Proof.GateProjDw
public import proofs.«01_k».proof.Proof.BranchProjDx
public import proofs.«01_k».proof.Proof.BranchProjDw
public import proofs.«01_k».proof.Proof.OutProjDx
public import proofs.«01_k».proof.Proof.OutProjDw
public import proofs.«01_k».proof.Proof.InProj
public import proofs.«01_k».proof.Proof.GateProj
public import proofs.«01_k».proof.Proof.BranchProj
public import proofs.«01_k».proof.Proof.OutProj
public import proofs.«01_k».proof.Proof.SbFwdEqual
public import proofs.«01_k».proof.Proof.MergeBwd
public import proofs.«01_k».proof.Proof.MergeFwd
public import proofs.«01_k».proof.Proof.RmsFwd
public import proofs.«01_k».proof.Proof.DilGateBwd
public import Idealize.ShloMosaic.Adequacy
public import Idealize.ShloMosaic.Init

@[expose] public section

noncomputable section

namespace Cert.Proof

open Idealize.ShloMosaic Idealize.SL.Sem

/-- The reference keeps its arguments, and has no semaphore at all. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => ⟨(h c).2.2.2.2.1, (h c).2.2.2.2.2⟩, sem_eq_zero_of_no_sems rfl r.2⟩)
    (Cert.ReferenceIdeal.Value.run m ρ)

theorem same [hPre : Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hargs
  have E := fun c : Dev Cert.KernelIdeal.nD =>
    Cert.StickBreaking.equal m c (StableHlo.launchContents m' c) (hargs c).1 (hargs c).2 (hpre c)
  refine ⟨Cert.KernelIdeal.Value.G7 m, Cert.KernelIdeal.Value.G8 m, Cert.KernelIdeal.Value.G9 m, Cert.KernelIdeal.Value.G10 m,
    Cert.KernelIdeal.Value.run m g, ?_⟩
  refine (θ_run _ _ _).mono (fun r h c => ?_) (Cert.ReferenceIdeal.Value.run m' g')
  obtain ⟨h0, h1, h2, h3, h4, h5⟩ := h c
  exact ⟨h0.trans (E c).1, h1.trans (E c).2.1, h2.trans (E c).2.2.1, h3.trans (E c).2.2.2, h4, h5⟩

theorem claim : Cert.Claim :=
  ⟨Cert.Kernel.Gen.facts, Cert.KernelIdeal.Gen.facts, Cert.ReferenceIdeal.Gen.facts,
    Cert.InProjDx.Gen.facts, Cert.InProjDxIdeal.Gen.facts, Cert.InProjDxReferenceIdeal.Gen.facts,
    Cert.InProjDw.Gen.facts, Cert.InProjDwIdeal.Gen.facts, Cert.InProjDwReferenceIdeal.Gen.facts,
    Cert.GateProjDx.Gen.facts, Cert.GateProjDxIdeal.Gen.facts, Cert.GateProjDxReferenceIdeal.Gen.facts,
    Cert.GateProjDw.Gen.facts, Cert.GateProjDwIdeal.Gen.facts, Cert.GateProjDwReferenceIdeal.Gen.facts,
    Cert.BranchProjDx.Gen.facts, Cert.BranchProjDxIdeal.Gen.facts, Cert.BranchProjDxReferenceIdeal.Gen.facts,
    Cert.BranchProjDw.Gen.facts, Cert.BranchProjDwIdeal.Gen.facts, Cert.BranchProjDwReferenceIdeal.Gen.facts,
    Cert.OutProjDx.Gen.facts, Cert.OutProjDxIdeal.Gen.facts, Cert.OutProjDxReferenceIdeal.Gen.facts,
    Cert.OutProjDw.Gen.facts, Cert.OutProjDwIdeal.Gen.facts, Cert.OutProjDwReferenceIdeal.Gen.facts,
    Cert.InProj.Gen.facts, Cert.InProjIdeal.Gen.facts, Cert.InProjReferenceIdeal.Gen.facts,
    Cert.GateProj.Gen.facts, Cert.GateProjIdeal.Gen.facts, Cert.GateProjReferenceIdeal.Gen.facts,
    Cert.BranchProj.Gen.facts, Cert.BranchProjIdeal.Gen.facts, Cert.BranchProjReferenceIdeal.Gen.facts,
    Cert.OutProj.Gen.facts, Cert.OutProjIdeal.Gen.facts, Cert.OutProjReferenceIdeal.Gen.facts,
    Cert.SbFwd.Gen.facts, Cert.SbFwdIdeal.Gen.facts, Cert.SbFwdReferenceIdeal.Gen.facts,
    Cert.MergeBwd.Gen.facts, Cert.MergeBwdIdeal.Gen.facts, Cert.MergeBwdReferenceIdeal.Gen.facts,
    Cert.MergeFwd.Gen.facts, Cert.MergeFwdIdeal.Gen.facts, Cert.MergeFwdReferenceIdeal.Gen.facts,
    Cert.RmsFwd.Gen.facts, Cert.RmsFwdIdeal.Gen.facts, Cert.RmsFwdReferenceIdeal.Gen.facts,
    Cert.DilGateBwd.Gen.facts, Cert.DilGateBwdIdeal.Gen.facts, Cert.DilGateBwdReferenceIdeal.Gen.facts,
    Cert.StickBreaking.finite_facts, Cert.SbFwdEqual.finite_scores_facts, Cert.DilGateBwdEqual.finite_gated_facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.InProjDx.Gen.frame m ρ, fun m ρ _ => Cert.InProjDxIdeal.Gen.frame m ρ, Cert.InProjDxEqual.reference_frame,
    fun m ρ _ => Cert.InProjDw.Gen.frame m ρ, fun m ρ _ => Cert.InProjDwIdeal.Gen.frame m ρ, Cert.InProjDwEqual.reference_frame,
    fun m ρ _ => Cert.GateProjDx.Gen.frame m ρ, fun m ρ _ => Cert.GateProjDxIdeal.Gen.frame m ρ, Cert.GateProjDxEqual.reference_frame,
    fun m ρ _ => Cert.GateProjDw.Gen.frame m ρ, fun m ρ _ => Cert.GateProjDwIdeal.Gen.frame m ρ, Cert.GateProjDwEqual.reference_frame,
    fun m ρ _ => Cert.BranchProjDx.Gen.frame m ρ, fun m ρ _ => Cert.BranchProjDxIdeal.Gen.frame m ρ, Cert.BranchProjDxEqual.reference_frame,
    fun m ρ _ => Cert.BranchProjDw.Gen.frame m ρ, fun m ρ _ => Cert.BranchProjDwIdeal.Gen.frame m ρ, Cert.BranchProjDwEqual.reference_frame,
    fun m ρ _ => Cert.OutProjDx.Gen.frame m ρ, fun m ρ _ => Cert.OutProjDxIdeal.Gen.frame m ρ, Cert.OutProjDxEqual.reference_frame,
    fun m ρ _ => Cert.OutProjDw.Gen.frame m ρ, fun m ρ _ => Cert.OutProjDwIdeal.Gen.frame m ρ, Cert.OutProjDwEqual.reference_frame,
    fun m ρ _ => Cert.InProj.Gen.frame m ρ, fun m ρ _ => Cert.InProjIdeal.Gen.frame m ρ, Cert.InProjEqual.reference_frame,
    fun m ρ _ => Cert.GateProj.Gen.frame m ρ, fun m ρ _ => Cert.GateProjIdeal.Gen.frame m ρ, Cert.GateProjEqual.reference_frame,
    fun m ρ _ => Cert.BranchProj.Gen.frame m ρ, fun m ρ _ => Cert.BranchProjIdeal.Gen.frame m ρ, Cert.BranchProjEqual.reference_frame,
    fun m ρ _ => Cert.OutProj.Gen.frame m ρ, fun m ρ _ => Cert.OutProjIdeal.Gen.frame m ρ, Cert.OutProjEqual.reference_frame,
    fun m ρ _ => Cert.SbFwd.Gen.frame m ρ, fun m ρ _ => Cert.SbFwdIdeal.Gen.frame m ρ, fun m ρ _ => Cert.SbFwdIdeal.Gen.frame m ρ,
    fun m ρ _ => Cert.SbFwdEqual.reference_frame m ρ, fun m ρ _ => Cert.SbFwdEqual.reference_frame m ρ,
    fun m ρ _ => Cert.MergeBwd.Gen.frame m ρ, fun m ρ _ => Cert.MergeBwdIdeal.Gen.frame m ρ, Cert.MergeBwdEqual.reference_frame,
    fun m ρ _ => Cert.MergeFwd.Gen.frame m ρ, fun m ρ _ => Cert.MergeFwdIdeal.Gen.frame m ρ, Cert.MergeFwdEqual.reference_frame,
    fun m ρ _ => Cert.RmsFwd.Gen.frame m ρ, fun m ρ _ => Cert.RmsFwdIdeal.Gen.frame m ρ, Cert.RmsFwdEqual.reference_frame,
    fun m ρ _ => Cert.DilGateBwd.Gen.frame m ρ, fun m ρ _ => Cert.DilGateBwdIdeal.Gen.frame m ρ, fun m ρ _ => Cert.DilGateBwdIdeal.Gen.frame m ρ,
    fun m ρ _ => Cert.DilGateBwdEqual.reference_frame m ρ, fun m ρ _ => Cert.DilGateBwdEqual.reference_frame m ρ,
    trivial, same (hPre := Cert.StickBreaking.finite_facts),
    trivial, Cert.InProjDxEqual.same,
    trivial, Cert.InProjDwEqual.same,
    trivial, Cert.GateProjDxEqual.same,
    trivial, Cert.GateProjDwEqual.same,
    trivial, Cert.BranchProjDxEqual.same,
    trivial, Cert.BranchProjDwEqual.same,
    trivial, Cert.OutProjDxEqual.same,
    trivial, Cert.OutProjDwEqual.same,
    trivial, Cert.InProjEqual.same,
    trivial, Cert.GateProjEqual.same,
    trivial, Cert.BranchProjEqual.same,
    trivial, Cert.OutProjEqual.same,
    trivial, Cert.SbFwdEqual.same (hPre := Cert.SbFwdEqual.finite_scores_facts),
    trivial, Cert.MergeBwdEqual.same,
    trivial, Cert.MergeFwdEqual.same,
    trivial, Cert.RmsFwdEqual.same,
    trivial, Cert.DilGateBwdEqual.same (hPre := Cert.DilGateBwdEqual.finite_gated_facts)⟩

end Cert.Proof

end
